-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_OutFfn (m : (ℓ : Loc Cert.OutFfn.nD Cert.OutFfn.τ Cert.OutFfn.sig) → Buf (Elt Bits) ℓ) : Prop :=
  True

def Pre_OutFfnIdeal (m : (ℓ : Loc Cert.OutFfnIdeal.nD Cert.OutFfnIdeal.τ Cert.OutFfnIdeal.sig) → Buf (Elt Ideal) ℓ) : Prop :=
  True

def Pre_OutFfnReferenceIdeal (m : (ℓ : Loc Cert.OutFfnReferenceIdeal.nD Cert.OutFfnReferenceIdeal.τ Cert.OutFfnReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbReferenceIdeal (m : (ℓ : Loc Cert.SbReferenceIdeal.nD Cert.SbReferenceIdeal.τ Cert.SbReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_OutFfn [hOutFfn : Cert.OutFfn.Facts] : Prop :=
  ∀ (m : (ℓ : Loc Cert.OutFfn.nD Cert.OutFfn.τ Cert.OutFfn.sig) → Buf (Elt Bits) ℓ) (g : Dev Cert.OutFfn.nD → PrngReg), Pre_OutFfn m →
    θ_run (Cert.OutFfn.defs (F := Bits)) (onTc (τ := Cert.OutFfn.τ) (Cert.OutFfn.main (F := Bits))) ⟨m, fun _ => 0, g⟩ (fun r => (∀ c : Dev Cert.OutFfn.nD,
      r.2.mem ((c.tc : Thread Cert.OutFfn.nD Cert.OutFfn.τ).loc Cert.OutFfn.main_arg0) = m ((c.tc : Thread Cert.OutFfn.nD Cert.OutFfn.τ).loc Cert.OutFfn.main_arg0)
      ∧ r.2.mem ((c.tc : Thread Cert.OutFfn.nD Cert.OutFfn.τ).loc Cert.OutFfn.main_arg1) = m ((c.tc : Thread Cert.OutFfn.nD Cert.OutFfn.τ).loc Cert.OutFfn.main_arg1)
      ∧ r.2.mem ((c.tc : Thread Cert.OutFfn.nD Cert.OutFfn.τ).loc Cert.OutFfn.main_arg2) = m ((c.tc : Thread Cert.OutFfn.nD Cert.OutFfn.τ).loc Cert.OutFfn.main_arg2)
      ∧ r.2.mem ((c.tc : Thread Cert.OutFfn.nD Cert.OutFfn.τ).loc Cert.OutFfn.main_arg3) = m ((c.tc : Thread Cert.OutFfn.nD Cert.OutFfn.τ).loc Cert.OutFfn.main_arg3)
      ∧ r.2.mem ((c.tc : Thread Cert.OutFfn.nD Cert.OutFfn.τ).loc Cert.OutFfn.main_arg4) = m ((c.tc : Thread Cert.OutFfn.nD Cert.OutFfn.τ).loc Cert.OutFfn.main_arg4)
      ∧ r.2.mem ((c.tc : Thread Cert.OutFfn.nD Cert.OutFfn.τ).loc Cert.OutFfn.main_arg5) = m ((c.tc : Thread Cert.OutFfn.nD Cert.OutFfn.τ).loc Cert.OutFfn.main_arg5)
      ∧ r.2.mem ((c.tc : Thread Cert.OutFfn.nD Cert.OutFfn.τ).loc Cert.OutFfn.main_arg6) = m ((c.tc : Thread Cert.OutFfn.nD Cert.OutFfn.τ).loc Cert.OutFfn.main_arg6)
      ∧ r.2.mem ((c.tc : Thread Cert.OutFfn.nD Cert.OutFfn.τ).loc Cert.OutFfn.main_arg7) = m ((c.tc : Thread Cert.OutFfn.nD Cert.OutFfn.τ).loc Cert.OutFfn.main_arg7)
      ∧ r.2.mem ((c.tc : Thread Cert.OutFfn.nD Cert.OutFfn.τ).loc Cert.OutFfn.main_arg8) = m ((c.tc : Thread Cert.OutFfn.nD Cert.OutFfn.τ).loc Cert.OutFfn.main_arg8)
      ∧ r.2.mem ((c.tc : Thread Cert.OutFfn.nD Cert.OutFfn.τ).loc Cert.OutFfn.main_arg9) = m ((c.tc : Thread Cert.OutFfn.nD Cert.OutFfn.τ).loc Cert.OutFfn.main_arg9)
      ∧ r.2.mem ((c.tc : Thread Cert.OutFfn.nD Cert.OutFfn.τ).loc Cert.OutFfn.main_arg10) = m ((c.tc : Thread Cert.OutFfn.nD Cert.OutFfn.τ).loc Cert.OutFfn.main_arg10))
      ∧ r.2.sem = fun _ => 0)

def quiescent_OutFfnIdeal [hOutFfnIdeal : Cert.OutFfnIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg), Pre_OutFfnIdeal m →
    θ_run (Cert.OutFfnIdeal.defs (F := Ideal)) (onTc (τ := Cert.OutFfnIdeal.τ) (Cert.OutFfnIdeal.main (F := Ideal))) ⟨m, fun _ => 0, g⟩ (fun r => (∀ c : Dev Cert.OutFfnIdeal.nD,
      r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
      ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
      ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
      ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
      ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
      ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
      ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6)
      ∧ r.2.mem ((c.tc : Thread Cert.OutFfnIdeal.nD Cert.OutFfnIdeal.τ).loc Cert.OutFfnIdeal.main_arg7) = m ((c.tc : Thread Cert.OutFfnIdeal.nD Cert.OutFfnIdeal.τ).loc Cert.OutFfnIdeal.main_arg7)
      ∧ r.2.mem ((c.tc : Thread Cert.OutFfnIdeal.nD Cert.OutFfnIdeal.τ).loc Cert.OutFfnIdeal.main_arg8) = m ((c.tc : Thread Cert.OutFfnIdeal.nD Cert.OutFfnIdeal.τ).loc Cert.OutFfnIdeal.main_arg8)
      ∧ r.2.mem ((c.tc : Thread Cert.OutFfnIdeal.nD Cert.OutFfnIdeal.τ).loc Cert.OutFfnIdeal.main_arg9) = m ((c.tc : Thread Cert.OutFfnIdeal.nD Cert.OutFfnIdeal.τ).loc Cert.OutFfnIdeal.main_arg9)
      ∧ r.2.mem ((c.tc : Thread Cert.OutFfnIdeal.nD Cert.OutFfnIdeal.τ).loc Cert.OutFfnIdeal.main_arg10) = m ((c.tc : Thread Cert.OutFfnIdeal.nD Cert.OutFfnIdeal.τ).loc Cert.OutFfnIdeal.main_arg10))
      ∧ r.2.sem = fun _ => 0)

def quiescent_OutFfnReferenceIdeal [hOutFfnReferenceIdeal : Cert.OutFfnReferenceIdeal.Facts] : Prop :=
  ∀ (m : (ℓ : Loc Cert.OutFfnReferenceIdeal.nD Cert.OutFfnReferenceIdeal.τ Cert.OutFfnReferenceIdeal.sig) → Buf (Elt Ideal) ℓ) (g : Dev Cert.OutFfnReferenceIdeal.nD → PrngReg), Pre_OutFfnReferenceIdeal m →
    θ_run (Cert.OutFfnReferenceIdeal.defs (F := Ideal)) (onTc (τ := Cert.OutFfnReferenceIdeal.τ) (Cert.OutFfnReferenceIdeal.main (F := Ideal))) ⟨m, fun _ => 0, g⟩ (fun r => (∀ c : Dev Cert.OutFfnReferenceIdeal.nD,
      r.2.mem ((c.tc : Thread Cert.OutFfnReferenceIdeal.nD Cert.OutFfnReferenceIdeal.τ).loc Cert.OutFfnReferenceIdeal.main_arg0) = m ((c.tc : Thread Cert.OutFfnReferenceIdeal.nD Cert.OutFfnReferenceIdeal.τ).loc Cert.OutFfnReferenceIdeal.main_arg0)
      ∧ r.2.mem ((c.tc : Thread Cert.OutFfnReferenceIdeal.nD Cert.OutFfnReferenceIdeal.τ).loc Cert.OutFfnReferenceIdeal.main_arg1) = m ((c.tc : Thread Cert.OutFfnReferenceIdeal.nD Cert.OutFfnReferenceIdeal.τ).loc Cert.OutFfnReferenceIdeal.main_arg1)
      ∧ r.2.mem ((c.tc : Thread Cert.OutFfnReferenceIdeal.nD Cert.OutFfnReferenceIdeal.τ).loc Cert.OutFfnReferenceIdeal.main_arg2) = m ((c.tc : Thread Cert.OutFfnReferenceIdeal.nD Cert.OutFfnReferenceIdeal.τ).loc Cert.OutFfnReferenceIdeal.main_arg2)
      ∧ r.2.mem ((c.tc : Thread Cert.OutFfnReferenceIdeal.nD Cert.OutFfnReferenceIdeal.τ).loc Cert.OutFfnReferenceIdeal.main_arg3) = m ((c.tc : Thread Cert.OutFfnReferenceIdeal.nD Cert.OutFfnReferenceIdeal.τ).loc Cert.OutFfnReferenceIdeal.main_arg3)
      ∧ r.2.mem ((c.tc : Thread Cert.OutFfnReferenceIdeal.nD Cert.OutFfnReferenceIdeal.τ).loc Cert.OutFfnReferenceIdeal.main_arg4) = m ((c.tc : Thread Cert.OutFfnReferenceIdeal.nD Cert.OutFfnReferenceIdeal.τ).loc Cert.OutFfnReferenceIdeal.main_arg4)
      ∧ r.2.mem ((c.tc : Thread Cert.OutFfnReferenceIdeal.nD Cert.OutFfnReferenceIdeal.τ).loc Cert.OutFfnReferenceIdeal.main_arg5) = m ((c.tc : Thread Cert.OutFfnReferenceIdeal.nD Cert.OutFfnReferenceIdeal.τ).loc Cert.OutFfnReferenceIdeal.main_arg5)
      ∧ r.2.mem ((c.tc : Thread Cert.OutFfnReferenceIdeal.nD Cert.OutFfnReferenceIdeal.τ).loc Cert.OutFfnReferenceIdeal.main_arg6) = m ((c.tc : Thread Cert.OutFfnReferenceIdeal.nD Cert.OutFfnReferenceIdeal.τ).loc Cert.OutFfnReferenceIdeal.main_arg6)
      ∧ r.2.mem ((c.tc : Thread Cert.OutFfnReferenceIdeal.nD Cert.OutFfnReferenceIdeal.τ).loc Cert.OutFfnReferenceIdeal.main_arg7) = m ((c.tc : Thread Cert.OutFfnReferenceIdeal.nD Cert.OutFfnReferenceIdeal.τ).loc Cert.OutFfnReferenceIdeal.main_arg7)
      ∧ r.2.mem ((c.tc : Thread Cert.OutFfnReferenceIdeal.nD Cert.OutFfnReferenceIdeal.τ).loc Cert.OutFfnReferenceIdeal.main_arg8) = m ((c.tc : Thread Cert.OutFfnReferenceIdeal.nD Cert.OutFfnReferenceIdeal.τ).loc Cert.OutFfnReferenceIdeal.main_arg8)
      ∧ r.2.mem ((c.tc : Thread Cert.OutFfnReferenceIdeal.nD Cert.OutFfnReferenceIdeal.τ).loc Cert.OutFfnReferenceIdeal.main_arg9) = m ((c.tc : Thread Cert.OutFfnReferenceIdeal.nD Cert.OutFfnReferenceIdeal.τ).loc Cert.OutFfnReferenceIdeal.main_arg9)
      ∧ r.2.mem ((c.tc : Thread Cert.OutFfnReferenceIdeal.nD Cert.OutFfnReferenceIdeal.τ).loc Cert.OutFfnReferenceIdeal.main_arg10) = m ((c.tc : Thread Cert.OutFfnReferenceIdeal.nD Cert.OutFfnReferenceIdeal.τ).loc Cert.OutFfnReferenceIdeal.main_arg10))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ r.2.sem = fun _ => 0)

def quiescent_SbReferenceIdeal [hSbReferenceIdeal : Cert.SbReferenceIdeal.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_OutFfn_OutFfnIdeal : Prop :=
  True

def algebraic_OutFfnIdeal_OutFfnReferenceIdeal [hOutFfnIdeal : Cert.OutFfnIdeal.Facts] [hOutFfnReferenceIdeal : Cert.OutFfnReferenceIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg)
    (m' : (ℓ : Loc Cert.OutFfnReferenceIdeal.nD Cert.OutFfnReferenceIdeal.τ Cert.OutFfnReferenceIdeal.sig) → Buf (Elt Ideal) ℓ) (g' : Dev Cert.OutFfnReferenceIdeal.nD → PrngReg), Pre_OutFfnIdeal m →
    (∀ c : Dev Cert.OutFfnIdeal.nD,
      m' ((c.tc : Thread Cert.OutFfnReferenceIdeal.nD Cert.OutFfnReferenceIdeal.τ).loc Cert.OutFfnReferenceIdeal.main_arg0) = m ((c.tc : Thread Cert.OutFfnIdeal.nD Cert.OutFfnIdeal.τ).loc Cert.OutFfnIdeal.main_arg0)
      ∧ m' ((c.tc : Thread Cert.OutFfnReferenceIdeal.nD Cert.OutFfnReferenceIdeal.τ).loc Cert.OutFfnReferenceIdeal.main_arg1) = m ((c.tc : Thread Cert.OutFfnIdeal.nD Cert.OutFfnIdeal.τ).loc Cert.OutFfnIdeal.main_arg1)
      ∧ m' ((c.tc : Thread Cert.OutFfnReferenceIdeal.nD Cert.OutFfnReferenceIdeal.τ).loc Cert.OutFfnReferenceIdeal.main_arg2) = m ((c.tc : Thread Cert.OutFfnIdeal.nD Cert.OutFfnIdeal.τ).loc Cert.OutFfnIdeal.main_arg2)
      ∧ m' ((c.tc : Thread Cert.OutFfnReferenceIdeal.nD Cert.OutFfnReferenceIdeal.τ).loc Cert.OutFfnReferenceIdeal.main_arg3) = m ((c.tc : Thread Cert.OutFfnIdeal.nD Cert.OutFfnIdeal.τ).loc Cert.OutFfnIdeal.main_arg3)
      ∧ m' ((c.tc : Thread Cert.OutFfnReferenceIdeal.nD Cert.OutFfnReferenceIdeal.τ).loc Cert.OutFfnReferenceIdeal.main_arg4) = m ((c.tc : Thread Cert.OutFfnIdeal.nD Cert.OutFfnIdeal.τ).loc Cert.OutFfnIdeal.main_arg4)
      ∧ m' ((c.tc : Thread Cert.OutFfnReferenceIdeal.nD Cert.OutFfnReferenceIdeal.τ).loc Cert.OutFfnReferenceIdeal.main_arg5) = m ((c.tc : Thread Cert.OutFfnIdeal.nD Cert.OutFfnIdeal.τ).loc Cert.OutFfnIdeal.main_arg5)
      ∧ m' ((c.tc : Thread Cert.OutFfnReferenceIdeal.nD Cert.OutFfnReferenceIdeal.τ).loc Cert.OutFfnReferenceIdeal.main_arg6) = m ((c.tc : Thread Cert.OutFfnIdeal.nD Cert.OutFfnIdeal.τ).loc Cert.OutFfnIdeal.main_arg6)
      ∧ m' ((c.tc : Thread Cert.OutFfnReferenceIdeal.nD Cert.OutFfnReferenceIdeal.τ).loc Cert.OutFfnReferenceIdeal.main_arg7) = m ((c.tc : Thread Cert.OutFfnIdeal.nD Cert.OutFfnIdeal.τ).loc Cert.OutFfnIdeal.main_arg7)
      ∧ m' ((c.tc : Thread Cert.OutFfnReferenceIdeal.nD Cert.OutFfnReferenceIdeal.τ).loc Cert.OutFfnReferenceIdeal.main_arg8) = m ((c.tc : Thread Cert.OutFfnIdeal.nD Cert.OutFfnIdeal.τ).loc Cert.OutFfnIdeal.main_arg8)
      ∧ m' ((c.tc : Thread Cert.OutFfnReferenceIdeal.nD Cert.OutFfnReferenceIdeal.τ).loc Cert.OutFfnReferenceIdeal.main_arg9) = m ((c.tc : Thread Cert.OutFfnIdeal.nD Cert.OutFfnIdeal.τ).loc Cert.OutFfnIdeal.main_arg9)
      ∧ m' ((c.tc : Thread Cert.OutFfnReferenceIdeal.nD Cert.OutFfnReferenceIdeal.τ).loc Cert.OutFfnReferenceIdeal.main_arg10) = m ((c.tc : Thread Cert.OutFfnIdeal.nD Cert.OutFfnIdeal.τ).loc Cert.OutFfnIdeal.main_arg10)) →
    ∃ (v0 : (c : Dev Cert.OutFfnIdeal.nD) → Buf (Elt Ideal) ((c.tc : Thread Cert.OutFfnIdeal.nD Cert.OutFfnIdeal.τ).loc Cert.OutFfnIdeal.main_v7)),
      θ_run (Cert.OutFfnIdeal.defs (F := Ideal)) (onTc (τ := Cert.OutFfnIdeal.τ) (Cert.OutFfnIdeal.main (F := Ideal))) ⟨m, fun _ => 0, g⟩ (fun r => ∀ c : Dev Cert.OutFfnIdeal.nD,
          r.2.mem ((c.tc : Thread Cert.OutFfnIdeal.nD Cert.OutFfnIdeal.τ).loc Cert.OutFfnIdeal.main_v7) = v0 c
          ∧ r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
          ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
          ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
          ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
          ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
          ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
          ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6)
          ∧ r.2.mem ((c.tc : Thread Cert.OutFfnIdeal.nD Cert.OutFfnIdeal.τ).loc Cert.OutFfnIdeal.main_arg7) = m ((c.tc : Thread Cert.OutFfnIdeal.nD Cert.OutFfnIdeal.τ).loc Cert.OutFfnIdeal.main_arg7)
          ∧ r.2.mem ((c.tc : Thread Cert.OutFfnIdeal.nD Cert.OutFfnIdeal.τ).loc Cert.OutFfnIdeal.main_arg8) = m ((c.tc : Thread Cert.OutFfnIdeal.nD Cert.OutFfnIdeal.τ).loc Cert.OutFfnIdeal.main_arg8)
          ∧ r.2.mem ((c.tc : Thread Cert.OutFfnIdeal.nD Cert.OutFfnIdeal.τ).loc Cert.OutFfnIdeal.main_arg9) = m ((c.tc : Thread Cert.OutFfnIdeal.nD Cert.OutFfnIdeal.τ).loc Cert.OutFfnIdeal.main_arg9)
          ∧ r.2.mem ((c.tc : Thread Cert.OutFfnIdeal.nD Cert.OutFfnIdeal.τ).loc Cert.OutFfnIdeal.main_arg10) = m ((c.tc : Thread Cert.OutFfnIdeal.nD Cert.OutFfnIdeal.τ).loc Cert.OutFfnIdeal.main_arg10))
      ∧ θ_run (Cert.OutFfnReferenceIdeal.defs (F := Ideal)) (onTc (τ := Cert.OutFfnReferenceIdeal.τ) (Cert.OutFfnReferenceIdeal.main (F := Ideal))) ⟨m', fun _ => 0, g'⟩ (fun r => ∀ c : Dev Cert.OutFfnReferenceIdeal.nD,
          r.2.mem ((c.tc : Thread Cert.OutFfnReferenceIdeal.nD Cert.OutFfnReferenceIdeal.τ).loc Cert.OutFfnReferenceIdeal.main_v56) = v0 c
          ∧ r.2.mem ((c.tc : Thread Cert.OutFfnReferenceIdeal.nD Cert.OutFfnReferenceIdeal.τ).loc Cert.OutFfnReferenceIdeal.main_arg0) = m' ((c.tc : Thread Cert.OutFfnReferenceIdeal.nD Cert.OutFfnReferenceIdeal.τ).loc Cert.OutFfnReferenceIdeal.main_arg0)
          ∧ r.2.mem ((c.tc : Thread Cert.OutFfnReferenceIdeal.nD Cert.OutFfnReferenceIdeal.τ).loc Cert.OutFfnReferenceIdeal.main_arg1) = m' ((c.tc : Thread Cert.OutFfnReferenceIdeal.nD Cert.OutFfnReferenceIdeal.τ).loc Cert.OutFfnReferenceIdeal.main_arg1)
          ∧ r.2.mem ((c.tc : Thread Cert.OutFfnReferenceIdeal.nD Cert.OutFfnReferenceIdeal.τ).loc Cert.OutFfnReferenceIdeal.main_arg2) = m' ((c.tc : Thread Cert.OutFfnReferenceIdeal.nD Cert.OutFfnReferenceIdeal.τ).loc Cert.OutFfnReferenceIdeal.main_arg2)
          ∧ r.2.mem ((c.tc : Thread Cert.OutFfnReferenceIdeal.nD Cert.OutFfnReferenceIdeal.τ).loc Cert.OutFfnReferenceIdeal.main_arg3) = m' ((c.tc : Thread Cert.OutFfnReferenceIdeal.nD Cert.OutFfnReferenceIdeal.τ).loc Cert.OutFfnReferenceIdeal.main_arg3)
          ∧ r.2.mem ((c.tc : Thread Cert.OutFfnReferenceIdeal.nD Cert.OutFfnReferenceIdeal.τ).loc Cert.OutFfnReferenceIdeal.main_arg4) = m' ((c.tc : Thread Cert.OutFfnReferenceIdeal.nD Cert.OutFfnReferenceIdeal.τ).loc Cert.OutFfnReferenceIdeal.main_arg4)
          ∧ r.2.mem ((c.tc : Thread Cert.OutFfnReferenceIdeal.nD Cert.OutFfnReferenceIdeal.τ).loc Cert.OutFfnReferenceIdeal.main_arg5) = m' ((c.tc : Thread Cert.OutFfnReferenceIdeal.nD Cert.OutFfnReferenceIdeal.τ).loc Cert.OutFfnReferenceIdeal.main_arg5)
          ∧ r.2.mem ((c.tc : Thread Cert.OutFfnReferenceIdeal.nD Cert.OutFfnReferenceIdeal.τ).loc Cert.OutFfnReferenceIdeal.main_arg6) = m' ((c.tc : Thread Cert.OutFfnReferenceIdeal.nD Cert.OutFfnReferenceIdeal.τ).loc Cert.OutFfnReferenceIdeal.main_arg6)
          ∧ r.2.mem ((c.tc : Thread Cert.OutFfnReferenceIdeal.nD Cert.OutFfnReferenceIdeal.τ).loc Cert.OutFfnReferenceIdeal.main_arg7) = m' ((c.tc : Thread Cert.OutFfnReferenceIdeal.nD Cert.OutFfnReferenceIdeal.τ).loc Cert.OutFfnReferenceIdeal.main_arg7)
          ∧ r.2.mem ((c.tc : Thread Cert.OutFfnReferenceIdeal.nD Cert.OutFfnReferenceIdeal.τ).loc Cert.OutFfnReferenceIdeal.main_arg8) = m' ((c.tc : Thread Cert.OutFfnReferenceIdeal.nD Cert.OutFfnReferenceIdeal.τ).loc Cert.OutFfnReferenceIdeal.main_arg8)
          ∧ r.2.mem ((c.tc : Thread Cert.OutFfnReferenceIdeal.nD Cert.OutFfnReferenceIdeal.τ).loc Cert.OutFfnReferenceIdeal.main_arg9) = m' ((c.tc : Thread Cert.OutFfnReferenceIdeal.nD Cert.OutFfnReferenceIdeal.τ).loc Cert.OutFfnReferenceIdeal.main_arg9)
          ∧ r.2.mem ((c.tc : Thread Cert.OutFfnReferenceIdeal.nD Cert.OutFfnReferenceIdeal.τ).loc Cert.OutFfnReferenceIdeal.main_arg10) = m' ((c.tc : Thread Cert.OutFfnReferenceIdeal.nD Cert.OutFfnReferenceIdeal.τ).loc Cert.OutFfnReferenceIdeal.main_arg10))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v9_0)) (v1 : (c : Dev Cert.InProjIdeal.nD) → Buf (Elt Ideal) ((c.tc : Thread Cert.InProjIdeal.nD Cert.InProjIdeal.τ).loc Cert.InProjIdeal.main_v9_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v9_0) = v0 c
          ∧ r.2.mem ((c.tc : Thread Cert.InProjIdeal.nD Cert.InProjIdeal.τ).loc Cert.InProjIdeal.main_v9_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v20) = v0 c
          ∧ r.2.mem ((c.tc : Thread Cert.InProjReferenceIdeal.nD Cert.InProjReferenceIdeal.τ).loc Cert.InProjReferenceIdeal.main_v21) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_Sb_SbIdeal : Prop :=
  IdealRules.named_const.Statement Cert.SbIdeal.κ "qk" .f32 0x3E38AA3B#32 (((1 / 8) * (Real.log 2)⁻¹ : ℝ) : EReal)
  ∧ IdealRules.named_const.Statement Cert.SbIdeal.κ "log2e" .f32 0x3FB8AA3B#32 (((Real.log 2)⁻¹ : ℝ) : EReal)
  ∧ IdealRules.named_const.Statement Cert.SbIdeal.κ "mask" .f32 0xF149F2CA#32 ⊥

def algebraic_SbIdeal_SbReferenceIdeal [hSbIdeal : Cert.SbIdeal.Facts] [hSbReferenceIdeal : Cert.SbReferenceIdeal.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbReferenceIdeal.nD Cert.SbReferenceIdeal.τ Cert.SbReferenceIdeal.sig) → Buf (Elt Ideal) ℓ) (g' : Dev Cert.SbReferenceIdeal.nD → PrngReg), Pre_SbIdeal m →
    (∀ c : Dev Cert.SbIdeal.nD,
      m' ((c.tc : Thread Cert.SbReferenceIdeal.nD Cert.SbReferenceIdeal.τ).loc Cert.SbReferenceIdeal.main_arg0) = m ((c.tc : Thread Cert.SbIdeal.nD Cert.SbIdeal.τ).loc Cert.SbIdeal.main_arg0)
      ∧ m' ((c.tc : Thread Cert.SbReferenceIdeal.nD Cert.SbReferenceIdeal.τ).loc Cert.SbReferenceIdeal.main_arg1) = m ((c.tc : Thread Cert.SbIdeal.nD Cert.SbIdeal.τ).loc Cert.SbIdeal.main_arg1)) →
    ∃ (v0 : (c : Dev Cert.SbIdeal.nD) → Buf (Elt Ideal) ((c.tc : Thread Cert.SbIdeal.nD Cert.SbIdeal.τ).loc Cert.SbIdeal.main_v8)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v8) = v0 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ θ_run (Cert.SbReferenceIdeal.defs (F := Ideal)) (onTc (τ := Cert.SbReferenceIdeal.τ) (Cert.SbReferenceIdeal.main (F := Ideal))) ⟨m', fun _ => 0, g'⟩ (fun r => ∀ c : Dev Cert.SbReferenceIdeal.nD,
          r.2.mem ((c.tc : Thread Cert.SbReferenceIdeal.nD Cert.SbReferenceIdeal.τ).loc Cert.SbReferenceIdeal.main_v42) = v0 c
          ∧ r.2.mem ((c.tc : Thread Cert.SbReferenceIdeal.nD Cert.SbReferenceIdeal.τ).loc Cert.SbReferenceIdeal.main_arg0) = m' ((c.tc : Thread Cert.SbReferenceIdeal.nD Cert.SbReferenceIdeal.τ).loc Cert.SbReferenceIdeal.main_arg0)
          ∧ r.2.mem ((c.tc : Thread Cert.SbReferenceIdeal.nD Cert.SbReferenceIdeal.τ).loc Cert.SbReferenceIdeal.main_arg1) = m' ((c.tc : Thread Cert.SbReferenceIdeal.nD Cert.SbReferenceIdeal.τ).loc Cert.SbReferenceIdeal.main_arg1))

def Claim : Prop :=
  ∃ (hKernel : Cert.Kernel.Facts) (hKernelIdeal : Cert.KernelIdeal.Facts) (hReferenceIdeal : Cert.ReferenceIdeal.Facts) (hOutFfn : Cert.OutFfn.Facts) (hOutFfnIdeal : Cert.OutFfnIdeal.Facts) (hOutFfnReferenceIdeal : Cert.OutFfnReferenceIdeal.Facts) (hInProj : Cert.InProj.Facts) (hInProjIdeal : Cert.InProjIdeal.Facts) (hInProjReferenceIdeal : Cert.InProjReferenceIdeal.Facts) (hSb : Cert.Sb.Facts) (hSbIdeal : Cert.SbIdeal.Facts) (hSbReferenceIdeal : Cert.SbReferenceIdeal.Facts),
    quiescent_Kernel (hKernel := hKernel)
    ∧ quiescent_KernelIdeal (hKernelIdeal := hKernelIdeal)
    ∧ quiescent_ReferenceIdeal (hReferenceIdeal := hReferenceIdeal)
    ∧ quiescent_OutFfn (hOutFfn := hOutFfn)
    ∧ quiescent_OutFfnIdeal (hOutFfnIdeal := hOutFfnIdeal)
    ∧ quiescent_OutFfnReferenceIdeal (hOutFfnReferenceIdeal := hOutFfnReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_Sb (hSb := hSb)
    ∧ quiescent_SbIdeal (hSbIdeal := hSbIdeal)
    ∧ quiescent_SbReferenceIdeal (hSbReferenceIdeal := hSbReferenceIdeal)
    ∧ preserves_Kernel_KernelIdeal
    ∧ algebraic_KernelIdeal_ReferenceIdeal (hKernelIdeal := hKernelIdeal) (hReferenceIdeal := hReferenceIdeal)
    ∧ preserves_OutFfn_OutFfnIdeal
    ∧ algebraic_OutFfnIdeal_OutFfnReferenceIdeal (hOutFfnIdeal := hOutFfnIdeal) (hOutFfnReferenceIdeal := hOutFfnReferenceIdeal)
    ∧ preserves_InProj_InProjIdeal
    ∧ algebraic_InProjIdeal_InProjReferenceIdeal (hInProjIdeal := hInProjIdeal) (hInProjReferenceIdeal := hInProjReferenceIdeal)
    ∧ preserves_Sb_SbIdeal
    ∧ algebraic_SbIdeal_SbReferenceIdeal (hSbIdeal := hSbIdeal) (hSbReferenceIdeal := hSbReferenceIdeal)
-- ==== Kernel.lean ====
abbrev S16x4096x3072 : Shape := ⟨3, ![16, 4096, 3072]⟩
abbrev S16x8x4096 : Shape := ⟨3, ![16, 8, 4096]⟩
abbrev S4x1024 : Shape := ⟨2, ![4, 1024]⟩
abbrev S1024 : Shape := ⟨1, ![1024]⟩
abbrev S8 : Shape := ⟨1, ![8]⟩
abbrev S512 : Shape := ⟨1, ![512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S16 : Shape := ⟨1, ![16]⟩
abbrev S16x1 : Shape := ⟨2, ![16, 1]⟩
abbrev S_ : Shape := ⟨0, ![]⟩
abbrev S1x512 : Shape := ⟨2, ![1, 512]⟩
abbrev S16x512 : Shape := ⟨2, ![16, 512]⟩
abbrev S1x1024 : Shape := ⟨2, ![1, 1024]⟩
abbrev S16x1024 : Shape := ⟨2, ![16, 1024]⟩
abbrev S8x64 : Shape := ⟨2, ![8, 64]⟩
abbrev S384 : Shape := ⟨1, ![384]⟩
abbrev S384x1 : Shape := ⟨2, ![384, 1]⟩
abbrev S144 : Shape := ⟨1, ![144]⟩
abbrev S1x144 : Shape := ⟨2, ![1, 144]⟩
abbrev S384x144 : Shape := ⟨2, ![384, 144]⟩
abbrev S8x1 : Shape := ⟨2, ![8, 1]⟩
abbrev S16x4096x512 : Shape := ⟨3, ![16, 4096, 512]⟩
abbrev S1x512x1024 : Shape := ⟨3, ![1, 512, 1024]⟩
abbrev S1x512x512 : Shape := ⟨3, ![1, 512, 512]⟩
abbrev S1x8x512 : Shape := ⟨3, ![1, 8, 512]⟩
abbrev S528x1024 : Shape := ⟨2, ![528, 1024]⟩
abbrev S2x128x256 : Shape := ⟨3, ![2, 128, 256]⟩
abbrev S512x1024 : Shape := ⟨2, ![512, 1024]⟩
abbrev S144x1024 : Shape := ⟨2, ![144, 1024]⟩
abbrev S384x1024 : Shape := ⟨2, ![384, 1024]⟩
abbrev S128x1024 : Shape := ⟨2, ![128, 1024]⟩
abbrev S128x512 : Shape := ⟨2, ![128, 512]⟩
abbrev S128x256 : Shape := ⟨2, ![128, 256]⟩
abbrev S1x8x128 : Shape := ⟨3, ![1, 8, 128]⟩
abbrev S8x128 : Shape := ⟨2, ![8, 128]⟩
abbrev S16x128 : Shape := ⟨2, ![16, 128]⟩
abbrev S1x128x256 : Shape := ⟨3, ![1, 128, 256]⟩
abbrev S1x256 : Shape := ⟨2, ![1, 256]⟩
abbrev S256x128 : Shape := ⟨2, ![256, 128]⟩
abbrev S1x128x512 : Shape := ⟨3, ![1, 128, 512]⟩

abbrev nBuf : Space → Nat
  | .hbm => 130
  | .vmem => 20
  | .smem => 0
  | _ => 0

abbrev hbmTy0_0 (i : Nat) : BufTy := match i % 128 with
  | 0 => ⟨S16x4096x3072, .bf16⟩
  | 1 => ⟨S16x8x4096, .f32⟩
  | 2 => ⟨S4x1024, .f32⟩
  | 3 => ⟨S1024, .f32⟩
  | 4 => ⟨S8, .f32⟩
  | 5 => ⟨S8, .f32⟩
  | 6 => ⟨S8, .f32⟩
  | 7 => ⟨S512, .f32⟩
  | 8 => ⟨S128, .i32⟩
  | 9 => ⟨S128x1, .i32⟩
  | 10 => ⟨S1x128, .i32⟩
  | 11 => ⟨S128x128, .i32⟩
  | 12 => ⟨S128x128, .i32⟩
  | 13 => ⟨S128x128, .i1⟩
  | 14 => ⟨S128x128, .bf16⟩
  | 15 => ⟨S16, .i32⟩
  | 16 => ⟨S16x1, .i32⟩
  | 17 => ⟨S512, .i32⟩
  | 18 => ⟨S_, .i32⟩
  | 19 => ⟨S_, .i32⟩
  | 20 => ⟨S512, .i32⟩
  | 21 => ⟨S512, .i32⟩
  | 22 => ⟨S512, .i32⟩
  | 23 => ⟨S_, .i32⟩
  | 24 => ⟨S512, .i32⟩
  | 25 => ⟨S512, .i1⟩
  | 26 => ⟨S512, .i32⟩
  | 27 => ⟨S512, .i32⟩
  | 28 => ⟨S_, .i32⟩
  | 29 => ⟨S512, .i32⟩
  | 30 => ⟨S512, .i1⟩
  | 31 => ⟨S512, .i1⟩
  | 32 => ⟨S_, .i32⟩
  | 33 => ⟨S512, .i32⟩
  | 34 => ⟨S512, .i32⟩
  | 35 => ⟨S512, .i32⟩
  | 36 => ⟨S1x512, .i32⟩
  | 37 => ⟨S16x512, .i32⟩
  | 38 => ⟨S16x512, .i32⟩
  | 39 => ⟨S16x512, .i1⟩
  | 40 => ⟨S16x512, .bf16⟩
  | 41 => ⟨S16x1, .i32⟩
  | 42 => ⟨S1024, .i32⟩
  | 43 => ⟨S_, .i32⟩
  | 44 => ⟨S_, .i32⟩
  | 45 => ⟨S1024, .i32⟩
  | 46 => ⟨S1024, .i32⟩
  | 47 => ⟨S1024, .i32⟩
  | 48 => ⟨S_, .i32⟩
  | 49 => ⟨S1024, .i32⟩
  | 50 => ⟨S1024, .i1⟩
  | 51 => ⟨S1024, .i32⟩
  | 52 => ⟨S1024, .i32⟩
  | 53 => ⟨S_, .i32⟩
  | 54 => ⟨S1024, .i32⟩
  | 55 => ⟨S1024, .i1⟩
  | 56 => ⟨S1024, .i1⟩
  | 57 => ⟨S_, .i32⟩
  | 58 => ⟨S1024, .i32⟩
  | 59 => ⟨S1024, .i32⟩
  | 60 => ⟨S1024, .i32⟩
  | 61 => ⟨S1x1024, .i32⟩
  | 62 => ⟨S16x1024, .i32⟩
  | 63 => ⟨S16x1024, .i32⟩
  | 64 => ⟨S16x1024, .i1⟩
  | 65 => ⟨S16x1024, .bf16⟩
  | 66 => ⟨S8x64, .f32⟩
  | 67 => ⟨S512, .f32⟩
  | 68 => ⟨S1x512, .f32⟩
  | 69 => ⟨S384, .i32⟩
  | 70 => ⟨S_, .i32⟩
  | 71 => ⟨S_, .i32⟩
  | 72 => ⟨S384, .i32⟩
  | 73 => ⟨S384, .i32⟩
  | 74 => ⟨S384, .i32⟩
  | 75 => ⟨S_, .i32⟩
  | 76 => ⟨S384, .i32⟩
  | 77 => ⟨S384, .i1⟩
  | 78 => ⟨S384, .i32⟩
  | 79 => ⟨S384, .i32⟩
  | 80 => ⟨S_, .i32⟩
  | 81 => ⟨S384, .i32⟩
  | 82 => ⟨S384, .i1⟩
  | 83 => ⟨S384, .i1⟩
  | 84 => ⟨S_, .i32⟩
  | 85 => ⟨S384, .i32⟩
  | 86 => ⟨S384, .i32⟩
  | 87 => ⟨S384, .i32⟩
  | 88 => ⟨S384, .i32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S384, .i32⟩
  | 96 => ⟨S384, .i32⟩
  | 97 => ⟨S_, .i32⟩
  | 98 => ⟨S384, .i32⟩
  | 99 => ⟨S384, .i1⟩
  | 100 => ⟨S_, .i32⟩
  | 101 => ⟨S384, .i32⟩
  | 102 => ⟨S384, .i1⟩
  | 103 => ⟨S_, .i32⟩
  | 104 => ⟨S_, .i1⟩
  | 105 => ⟨S384, .i1⟩
  | 106 => ⟨S384, .i1⟩
  | 107 => ⟨S384, .i1⟩
  | 108 => ⟨S384, .i32⟩
  | 109 => ⟨S384, .i32⟩
  | 110 => ⟨S384, .i32⟩
  | 111 => ⟨S_, .i32⟩
  | 112 => ⟨S384, .i32⟩
  | 113 => ⟨S384, .i32⟩
  | 114 => ⟨S_, .i32⟩
  | 115 => ⟨S384, .i32⟩
  | 116 => ⟨S384, .i32⟩
  | 117 => ⟨S384, .i32⟩
  | 118 => ⟨S384x1, .i32⟩
  | 119 => ⟨S144, .i32⟩
  | 120 => ⟨S1x144, .i32⟩
  | 121 => ⟨S384x144, .i32⟩
  | 122 => ⟨S384x144, .i32⟩
  | 123 => ⟨S384x144, .i1⟩
  | 124 => ⟨S384x144, .bf16⟩
  | 125 => ⟨S1x1024, .f32⟩
  | 126 => ⟨S8x1, .f32⟩
  | 127 => ⟨S8x1, .f32⟩
  | _ => ⟨S16x4096x3072, .bf16⟩

abbrev hbmTy0_1 (i : Nat) : BufTy := match i % 128 with
  | 0 => ⟨S1x512, .f32⟩
  | 1 => ⟨S16x4096x512, .bf16⟩
  | _ => ⟨S16x4096x3072, .bf16⟩

abbrev hbmTy (i : Nat) : BufTy := match i / 128 with
  | 0 => hbmTy0_0 i
  | 1 => hbmTy0_1 i
  | _ => ⟨S16x4096x3072, .bf16⟩

abbrev bufTy : (tb : Table) → Fin (tcTables nBuf tb) → BufTy
  | .hbm, ⟨i, _⟩ => hbmTy i
  | .local _ .vmem, ⟨0, _⟩ => ⟨S1x512x1024, .bf16⟩
  | .local _ .vmem, ⟨1, _⟩ => ⟨S1x512x1024, .bf16⟩
  | .local _ .vmem, ⟨2, _⟩ => ⟨S1x512x512, .bf16⟩
  | .local _ .vmem, ⟨3, _⟩ => ⟨S1x512x512, .bf16⟩
  | .local _ .vmem, ⟨4, _⟩ => ⟨S1x8x512, .f32⟩
  | .local _ .vmem, ⟨5, _⟩ => ⟨S1x8x512, .f32⟩
  | .local _ .vmem, ⟨6, _⟩ => ⟨S4x1024, .f32⟩
  | .local _ .vmem, ⟨7, _⟩ => ⟨S1x1024, .f32⟩
  | .local _ .vmem, ⟨8, _⟩ => ⟨S8x1, .f32⟩
  | .local _ .vmem, ⟨9, _⟩ => ⟨S8x1, .f32⟩
  | .local _ .vmem, ⟨10, _⟩ => ⟨S1x512, .f32⟩
  | .local _ .vmem, ⟨11, _⟩ => ⟨S1x512, .f32⟩
  | .local _ .vmem, ⟨12, _⟩ => ⟨S128x128, .bf16⟩
  | .local _ .vmem, ⟨13, _⟩ => ⟨S16x512, .bf16⟩
  | .local _ .vmem, ⟨14, _⟩ => ⟨S16x1024, .bf16⟩
  | .local _ .vmem, ⟨15, _⟩ => ⟨S384x144, .bf16⟩
  | .local _ .vmem, ⟨16, _⟩ => ⟨S1x512x512, .bf16⟩
  | .local _ .vmem, ⟨17, _⟩ => ⟨S1x512x512, .bf16⟩
  | .local _ .vmem, ⟨18, _⟩ => ⟨S528x1024, .bf16⟩
  | .local _ .vmem, ⟨19, _⟩ => ⟨S2x128x256, .f32⟩
  | _, _ => ⟨S16x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_0 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_c : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_0 : Ref sig .tc := ⟨.hbm, 57, rfl⟩
abbrev main_call1_v12 : Ref sig .tc := ⟨.hbm, 58, rfl⟩
abbrev main_call1_v13 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_c_1 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_c : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_0 : Ref sig .tc := ⟨.hbm, 84, rfl⟩
abbrev main_call2_v12 : Ref sig .tc := ⟨.hbm, 85, rfl⟩
abbrev main_call2_v13 : Ref sig .tc := ⟨.hbm, 86, rfl⟩
abbrev main_v28 : Ref sig .tc := ⟨.hbm, 87, rfl⟩
abbrev main_v29 : Ref sig .tc := ⟨.hbm, 88, rfl⟩
abbrev main_c_2 : Ref sig .tc := ⟨.hbm, 89, rfl⟩
abbrev main_call3_v0 : Ref sig .tc := ⟨.hbm, 90, rfl⟩
abbrev main_call3_c : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_c_1 : Ref sig .tc := ⟨.hbm, 97, rfl⟩
abbrev main_call3_v5 : Ref sig .tc := ⟨.hbm, 98, rfl⟩
abbrev main_call3_v6 : Ref sig .tc := ⟨.hbm, 99, rfl⟩
abbrev main_call3_c_2 : Ref sig .tc := ⟨.hbm, 100, rfl⟩
abbrev main_call3_v7 : Ref sig .tc := ⟨.hbm, 101, rfl⟩
abbrev main_call3_v8 : Ref sig .tc := ⟨.hbm, 102, rfl⟩
abbrev main_call3_c_3 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_v30 : Ref sig .tc := ⟨.hbm, 110, rfl⟩
abbrev main_c_3 : Ref sig .tc := ⟨.hbm, 111, rfl⟩
abbrev main_v31 : Ref sig .tc := ⟨.hbm, 112, rfl⟩
abbrev main_v32 : Ref sig .tc := ⟨.hbm, 113, rfl⟩
abbrev main_c_4 : Ref sig .tc := ⟨.hbm, 114, rfl⟩
abbrev main_v33 : Ref sig .tc := ⟨.hbm, 115, rfl⟩
abbrev main_v34 : Ref sig .tc := ⟨.hbm, 116, rfl⟩
abbrev main_v35 : Ref sig .tc := ⟨.hbm, 117, rfl⟩
abbrev main_v36 : Ref sig .tc := ⟨.hbm, 118, rfl⟩
abbrev main_v37 : Ref sig .tc := ⟨.hbm, 119, rfl⟩
abbrev main_v38 : Ref sig .tc := ⟨.hbm, 120, rfl⟩
abbrev main_v39 : Ref sig .tc := ⟨.hbm, 121, rfl⟩
abbrev main_v40 : Ref sig .tc := ⟨.hbm, 122, rfl⟩
abbrev main_v41 : Ref sig .tc := ⟨.hbm, 123, rfl⟩
abbrev main_v42 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S16x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S384x144 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S16x4096x3072 : Shape := ⟨3, ![16, 4096, 3072]⟩
abbrev S16x8x4096 : Shape := ⟨3, ![16, 8, 4096]⟩
abbrev S4x1024 : Shape := ⟨2, ![4, 1024]⟩
abbrev S1024 : Shape := ⟨1, ![1024]⟩
abbrev S8 : Shape := ⟨1, ![8]⟩
abbrev S512 : Shape := ⟨1, ![512]⟩
abbrev S16x4096x1024 : Shape := ⟨3, ![16, 4096, 1024]⟩
abbrev S16x4096x512 : Shape := ⟨3, ![16, 4096, 512]⟩
abbrev S16x4096x8 : Shape := ⟨3, ![16, 4096, 8]⟩
abbrev S_ : Shape := ⟨0, ![]⟩
abbrev S16x4099x1024 : Shape := ⟨3, ![16, 4099, 1024]⟩
abbrev S1x1024 : Shape := ⟨2, ![1, 1024]⟩
abbrev S1x1x1024 : Shape := ⟨3, ![1, 1, 1024]⟩
abbrev S16x4096x8x64 : Shape := ⟨4, ![16, 4096, 8, 64]⟩
abbrev S16x4096x256 : Shape := ⟨3, ![16, 4096, 256]⟩
abbrev S16x4096x2x128 : Shape := ⟨4, ![16, 4096, 2, 128]⟩
abbrev S1x1x8 : Shape := ⟨3, ![1, 1, 8]⟩
abbrev S16x4096x8x1 : Shape := ⟨4, ![16, 4096, 8, 1]⟩
abbrev S16x32x128x2x4x64 : Shape := ⟨6, ![16, 32, 128, 2, 4, 64]⟩
abbrev S16x32x128x2x4 : Shape := ⟨5, ![16, 32, 128, 2, 4]⟩
abbrev S16x32x2x4x128 : Shape := ⟨5, ![16, 32, 2, 4, 128]⟩
abbrev S128x128 : Shape := ⟨2, ![128, 128]⟩
abbrev S16x32x2x4x128x1 : Shape := ⟨6, ![16, 32, 2, 4, 128, 1]⟩
abbrev S16x32x2x4x1x128 : Shape := ⟨6, ![16, 32, 2, 4, 1, 128]⟩
abbrev S16x32x2x4x128x128 : Shape := ⟨6, ![16, 32, 2, 4, 128, 128]⟩
abbrev S16x32x128x2x128 : Shape := ⟨5, ![16, 32, 128, 2, 128]⟩
abbrev S16x32x2x128x128 : Shape := ⟨5, ![16, 32, 2, 128, 128]⟩
abbrev S16x32x2x1x128x128 : Shape := ⟨6, ![16, 32, 2, 1, 128, 128]⟩
abbrev S16x32x2x4x64x128 : Shape := ⟨6, ![16, 32, 2, 4, 64, 128]⟩
abbrev S16x32x2x4x1 : Shape := ⟨5, ![16, 32, 2, 4, 1]⟩
abbrev S16x32x128x2x4x1 : Shape := ⟨6, ![16, 32, 128, 2, 4, 1]⟩
abbrev S32x32x32 : Shape := ⟨3, ![32, 32, 32]⟩
abbrev S16x32x2x4 : Shape := ⟨4, ![16, 32, 2, 4]⟩
abbrev S16x2x4x32 : Shape := ⟨4, ![16, 2, 4, 32]⟩
abbrev S16x2x4x1x1x32 : Shape := ⟨6, ![16, 2, 4, 1, 1, 32]⟩
abbrev S16x2x4x32x32x32 : Shape := ⟨6, ![16, 2, 4, 32, 32, 32]⟩
abbrev S16x2x4x32x32 : Shape := ⟨5, ![16, 2, 4, 32, 32]⟩
abbrev S32x32 : Shape := ⟨2, ![32, 32]⟩
abbrev S16x2x4x64x128x32 : Shape := ⟨6, ![16, 2, 4, 64, 128, 32]⟩
abbrev S8x1 : Shape := ⟨2, ![8, 1]⟩
abbrev S1x1x8x1 : Shape := ⟨4, ![1, 1, 8, 1]⟩
abbrev S16x4096x2x256 : Shape := ⟨4, ![16, 4096, 2, 256]⟩
abbrev S16x4096x2 : Shape := ⟨3, ![16, 4096, 2]⟩
abbrev S16x4096x2x1 : Shape := ⟨4, ![16, 4096, 2, 1]⟩
abbrev S1x1x512 : Shape := ⟨3, ![1, 1, 512]⟩

abbrev nBuf : Space → Nat
  | .hbm => 196
  | .vmem => 0
  | .smem => 0
  | _ => 0

abbrev hbmTy0_0 (i : Nat) : BufTy := match i % 128 with
  | 0 => ⟨S16x4096x3072, .bf16⟩
  | 1 => ⟨S16x8x4096, .f32⟩
  | 2 => ⟨S4x1024, .f32⟩
  | 3 => ⟨S1024, .f32⟩
  | 4 => ⟨S8, .f32⟩
  | 5 => ⟨S8, .f32⟩
  | 6 => ⟨S8, .f32⟩
  | 7 => ⟨S512, .f32⟩
  | 8 => ⟨S16x4096x1024, .bf16⟩
  | 9 => ⟨S16x4096x1024, .f32⟩
  | 10 => ⟨S16x4096x512, .bf16⟩
  | 11 => ⟨S16x4096x512, .f32⟩
  | 12 => ⟨S16x4096x8, .f32⟩
  | 13 => ⟨S_, .i32⟩
  | 14 => ⟨S_, .f32⟩
  | 15 => ⟨S16x4099x1024, .f32⟩
  | 16 => ⟨S1x1024, .f32⟩
  | 17 => ⟨S1024, .f32⟩
  | 18 => ⟨S16x4096x1024, .f32⟩
  | 19 => ⟨S1x1x1024, .f32⟩
  | 20 => ⟨S16x4096x1024, .f32⟩
  | 21 => ⟨S16x4096x1024, .f32⟩
  | 22 => ⟨S1x1x1024, .f32⟩
  | 23 => ⟨S16x4096x1024, .f32⟩
  | 24 => ⟨S16x4096x1024, .f32⟩
  | 25 => ⟨S1x1024, .f32⟩
  | 26 => ⟨S1024, .f32⟩
  | 27 => ⟨S16x4096x1024, .f32⟩
  | 28 => ⟨S1x1x1024, .f32⟩
  | 29 => ⟨S16x4096x1024, .f32⟩
  | 30 => ⟨S16x4096x1024, .f32⟩
  | 31 => ⟨S16x4096x1024, .f32⟩
  | 32 => ⟨S1x1024, .f32⟩
  | 33 => ⟨S1024, .f32⟩
  | 34 => ⟨S16x4096x1024, .f32⟩
  | 35 => ⟨S1x1x1024, .f32⟩
  | 36 => ⟨S16x4096x1024, .f32⟩
  | 37 => ⟨S16x4096x1024, .f32⟩
  | 38 => ⟨S16x4096x1024, .f32⟩
  | 39 => ⟨S1x1024, .f32⟩
  | 40 => ⟨S1024, .f32⟩
  | 41 => ⟨S16x4096x1024, .f32⟩
  | 42 => ⟨S1x1x1024, .f32⟩
  | 43 => ⟨S16x4096x1024, .f32⟩
  | 44 => ⟨S16x4096x1024, .f32⟩
  | 45 => ⟨S16x4096x1024, .f32⟩
  | 46 => ⟨S16x4096x1024, .f32⟩
  | 47 => ⟨S16x4096x1024, .f32⟩
  | 48 => ⟨S_, .f32⟩
  | 49 => ⟨S16x4096x1024, .f32⟩
  | 50 => ⟨S16x4096x1024, .f32⟩
  | 51 => ⟨S_, .f32⟩
  | 52 => ⟨S16x4096x1024, .f32⟩
  | 53 => ⟨S16x4096x1024, .f32⟩
  | 54 => ⟨S16x4096x1024, .f32⟩
  | 55 => ⟨S16x4096x512, .f32⟩
  | 56 => ⟨S16x4096x8x64, .f32⟩
  | 57 => ⟨S16x4096x256, .f32⟩
  | 58 => ⟨S16x4096x2x128, .f32⟩
  | 59 => ⟨S16x4096x256, .f32⟩
  | 60 => ⟨S16x4096x2x128, .f32⟩
  | 61 => ⟨S1x1x8, .f32⟩
  | 62 => ⟨S16x4096x8, .f32⟩
  | 63 => ⟨S16x4096x8, .f32⟩
  | 64 => ⟨S_, .f32⟩
  | 65 => ⟨S16x4096x8, .f32⟩
  | 66 => ⟨S16x4096x8, .f32⟩
  | 67 => ⟨S16x4096x8, .f32⟩
  | 68 => ⟨S16x4096x8, .f32⟩
  | 69 => ⟨S16x4096x8, .i1⟩
  | 70 => ⟨S16x4096x8, .f32⟩
  | 71 => ⟨S16x4096x8, .f32⟩
  | 72 => ⟨S16x4096x8, .f32⟩
  | 73 => ⟨S16x4096x8, .f32⟩
  | 74 => ⟨S16x4096x8, .f32⟩
  | 75 => ⟨S16x4096x8, .f32⟩
  | 76 => ⟨S16x4096x8, .f32⟩
  | 77 => ⟨S16x4096x8, .f32⟩
  | 78 => ⟨S8, .f32⟩
  | 79 => ⟨S8, .f32⟩
  | 80 => ⟨S16x4096x8x1, .f32⟩
  | 81 => ⟨S16x4096x8x64, .f32⟩
  | 82 => ⟨S16x4096x8x64, .f32⟩
  | 83 => ⟨S16x32x128x2x4x64, .f32⟩
  | 84 => ⟨S1x1x8, .f32⟩
  | 85 => ⟨S16x4096x8, .f32⟩
  | 86 => ⟨S16x4096x8, .f32⟩
  | 87 => ⟨S16x32x128x2x4, .f32⟩
  | 88 => ⟨S16x32x2x4x128, .f32⟩
  | 89 => ⟨S_, .f32⟩
  | 90 => ⟨S_, .f32⟩
  | 91 => ⟨S16x32x2x4x128, .f32⟩
  | 92 => ⟨S128x128, .i32⟩
  | 93 => ⟨S128x128, .i32⟩
  | 94 => ⟨S128x128, .i1⟩
  | 95 => ⟨S16x32x2x4x128x1, .f32⟩
  | 96 => ⟨S16x32x2x4x1x128, .f32⟩
  | 97 => ⟨S16x32x2x4x128x128, .f32⟩
  | 98 => ⟨S16x32x2x4x128x128, .f32⟩
  | 99 => ⟨S16x32x2x4x128x128, .f32⟩
  | 100 => ⟨S_, .f32⟩
  | 101 => ⟨S_, .f32⟩
  | 102 => ⟨S16x32x2x4x128x128, .i1⟩
  | 103 => ⟨S16x32x2x4x128x128, .f32⟩
  | 104 => ⟨S16x32x2x4x128x128, .f32⟩
  | 105 => ⟨S16x32x2x4x128x128, .f32⟩
  | 106 => ⟨S16x32x128x2x128, .f32⟩
  | 107 => ⟨S16x32x128x2x128, .f32⟩
  | 108 => ⟨S16x32x2x128x128, .f32⟩
  | 109 => ⟨S16x32x2x1x128x128, .f32⟩
  | 110 => ⟨S16x32x2x4x128x128, .f32⟩
  | 111 => ⟨S16x32x2x4x128x128, .f32⟩
  | 112 => ⟨S16x32x2x4x64x128, .f32⟩
  | 113 => ⟨S16x32x128x2x4x64, .f32⟩
  | 114 => ⟨S16x32x2x4x1, .f32⟩
  | 115 => ⟨S16x32x2x4x128, .f32⟩
  | 116 => ⟨S16x32x2x4x128, .f32⟩
  | 117 => ⟨S16x32x2x4x128, .f32⟩
  | 118 => ⟨S16x32x128x2x4, .f32⟩
  | 119 => ⟨S16x32x128x2x4x1, .f32⟩
  | 120 => ⟨S16x32x128x2x4x64, .f32⟩
  | 121 => ⟨S16x32x128x2x4x64, .f32⟩
  | 122 => ⟨S16x32x2x4x64x128, .f32⟩
  | 123 => ⟨S32x32x32, .i32⟩
  | 124 => ⟨S32x32x32, .i32⟩
  | 125 => ⟨S32x32x32, .i32⟩
  | 126 => ⟨S32x32x32, .i1⟩
  | 127 => ⟨S32x32x32, .i1⟩
  | _ => ⟨S16x4096x3072, .bf16⟩

abbrev hbmTy0_1 (i : Nat) : BufTy := match i % 128 with
  | 0 => ⟨S32x32x32, .i1⟩
  | 1 => ⟨S16x32x2x4x1, .f32⟩
  | 2 => ⟨S16x32x2x4, .f32⟩
  | 3 => ⟨S16x2x4x32, .f32⟩
  | 4 => ⟨S16x2x4x1x1x32, .f32⟩
  | 5 => ⟨S_, .f32⟩
  | 6 => ⟨S_, .f32⟩
  | 7 => ⟨S16x2x4x32x32x32, .i1⟩
  | 8 => ⟨S16x2x4x32x32x32, .f32⟩
  | 9 => ⟨S16x2x4x32x32x32, .f32⟩
  | 10 => ⟨S16x2x4x32x32x32, .f32⟩
  | 11 => ⟨S_, .f32⟩
  | 12 => ⟨S16x2x4x32x32, .f32⟩
  | 13 => ⟨S32x32, .i32⟩
  | 14 => ⟨S32x32, .i32⟩
  | 15 => ⟨S32x32, .i1⟩
  | 16 => ⟨S16x2x4x32x32, .f32⟩
  | 17 => ⟨S_, .f32⟩
  | 18 => ⟨S_, .f32⟩
  | 19 => ⟨S16x2x4x32x32, .i1⟩
  | 20 => ⟨S16x2x4x32x32, .f32⟩
  | 21 => ⟨S16x2x4x32x32, .f32⟩
  | 22 => ⟨S16x2x4x64x128x32, .f32⟩
  | 23 => ⟨S16x32x2x4x64x128, .f32⟩
  | 24 => ⟨S16x32x2x4x64x128, .f32⟩
  | 25 => ⟨S16x32x128x2x4x64, .f32⟩
  | 26 => ⟨S16x32x2x4x128, .f32⟩
  | 27 => ⟨S16x32x128x2x4, .f32⟩
  | 28 => ⟨S16x32x128x2x4x1, .f32⟩
  | 29 => ⟨S16x32x128x2x4x64, .f32⟩
  | 30 => ⟨S16x32x128x2x4x64, .f32⟩
  | 31 => ⟨S16x32x128x2x4x64, .f32⟩
  | 32 => ⟨S16x4096x8x64, .f32⟩
  | 33 => ⟨S8x1, .f32⟩
  | 34 => ⟨S1x1x8x1, .f32⟩
  | 35 => ⟨S16x4096x8x64, .f32⟩
  | 36 => ⟨S16x4096x8x64, .f32⟩
  | 37 => ⟨S16x4096x8x64, .f32⟩
  | 38 => ⟨S16x4096x512, .f32⟩
  | 39 => ⟨S16x4096x512, .f32⟩
  | 40 => ⟨S16x4096x512, .f32⟩
  | 41 => ⟨S_, .f32⟩
  | 42 => ⟨S16x4096x512, .f32⟩
  | 43 => ⟨S16x4096x512, .f32⟩
  | 44 => ⟨S_, .f32⟩
  | 45 => ⟨S16x4096x512, .f32⟩
  | 46 => ⟨S16x4096x512, .f32⟩
  | 47 => ⟨S16x4096x512, .f32⟩
  | 48 => ⟨S16x4096x512, .f32⟩
  | 49 => ⟨S16x4096x2x256, .f32⟩
  | 50 => ⟨S16x4096x2x256, .f32⟩
  | 51 => ⟨S_, .f32⟩
  | 52 => ⟨S16x4096x2, .f32⟩
  | 53 => ⟨S16x4096x2x1, .f32⟩
  | 54 => ⟨S_, .f32⟩
  | 55 => ⟨S16x4096x2x1, .f32⟩
  | 56 => ⟨S16x4096x2x1, .f32⟩
  | 57 => ⟨S_, .f32⟩
  | 58 => ⟨S16x4096x2x1, .f32⟩
  | 59 => ⟨S16x4096x2x1, .f32⟩
  | 60 => ⟨S16x4096x2x1, .f32⟩
  | 61 => ⟨S16x4096x2x256, .f32⟩
  | 62 => ⟨S16x4096x2x256, .f32⟩
  | 63 => ⟨S16x4096x512, .f32⟩
  | 64 => ⟨S1x1x512, .f32⟩
  | 65 => ⟨S16x4096x512, .f32⟩
  | 66 => ⟨S16x4096x512, .f32⟩
  | 67 => ⟨S16x4096x512, .bf16⟩
  | _ => ⟨S16x4096x3072, .bf16⟩

abbrev hbmTy (i : Nat) : BufTy := match i / 128 with
  | 0 => hbmTy0_0 i
  | 1 => hbmTy0_1 i
  | _ => ⟨S16x4096x3072, .bf16⟩

abbrev bufTy : (tb : Table) → Fin (tcTables nBuf tb) → BufTy
  | .hbm, ⟨i, _⟩ => hbmTy i
  | _, _ => ⟨S16x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst : Ref sig .tc := ⟨.hbm, 48, rfl⟩
abbrev main_v38 : Ref sig .tc := ⟨.hbm, 49, rfl⟩
abbrev main_v39 : Ref sig .tc := ⟨.hbm, 50, rfl⟩
abbrev main_cst_0 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_call2_call0_cst : Ref sig .tc := ⟨.hbm, 89, rfl⟩
abbrev main_call2_call0_v0 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_1 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_2 : Ref sig .tc := ⟨.hbm, 133, rfl⟩
abbrev main_call4_v0 : Ref sig .tc := ⟨.hbm, 134, rfl⟩
abbrev main_call4_v1 : Ref sig .tc := ⟨.hbm, 135, rfl⟩
abbrev main_call4_v2 : Ref sig .tc := ⟨.hbm, 136, rfl⟩
abbrev main_call4_v3 : Ref sig .tc := ⟨.hbm, 137, rfl⟩
abbrev main_v102 : Ref sig .tc := ⟨.hbm, 138, rfl⟩
abbrev main_cst_3 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_4 : Ref sig .tc := ⟨.hbm, 145, rfl⟩
abbrev main_call5_v0 : Ref sig .tc := ⟨.hbm, 146, rfl⟩
abbrev main_call5_v1 : Ref sig .tc := ⟨.hbm, 147, rfl⟩
abbrev main_call5_v2 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_cst_5 : Ref sig .tc := ⟨.hbm, 169, rfl⟩
abbrev main_v128 : Ref sig .tc := ⟨.hbm, 170, rfl⟩
abbrev main_v129 : Ref sig .tc := ⟨.hbm, 171, rfl⟩
abbrev main_cst_6 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_cst_7 : Ref sig .tc := ⟨.hbm, 179, rfl⟩
abbrev main_v136 : Ref sig .tc := ⟨.hbm, 180, rfl⟩
abbrev main_v137 : Ref sig .tc := ⟨.hbm, 181, rfl⟩
abbrev main_cst_8 : Ref sig .tc := ⟨.hbm, 182, rfl⟩
abbrev main_v138 : Ref sig .tc := ⟨.hbm, 183, rfl⟩
abbrev main_v139 : Ref sig .tc := ⟨.hbm, 184, rfl⟩
abbrev main_cst_9 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩

abbrev nD : Nat := 1
abbrev τ : Topo := Topo.v7x

variable {F : FTy → Type} [FloatOps F]
-- ==== OutFfn.lean ====
abbrev S16x4096x1024 : Shape := ⟨3, ![16, 4096, 1024]⟩
abbrev S16x4096x512 : Shape := ⟨3, ![16, 4096, 512]⟩
abbrev S16x4096x256 : Shape := ⟨3, ![16, 4096, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1x1024x1024 : Shape := ⟨3, ![1, 1024, 1024]⟩
abbrev S1x1024x512 : Shape := ⟨3, ![1, 1024, 512]⟩
abbrev S1x1024x256 : Shape := ⟨3, ![1, 1024, 256]⟩
abbrev S1024x512 : Shape := ⟨2, ![1024, 512]⟩
abbrev S512x1024 : Shape := ⟨2, ![512, 1024]⟩
abbrev S1024x256 : Shape := ⟨2, ![1024, 256]⟩
abbrev S256x1024 : Shape := ⟨2, ![256, 1024]⟩
abbrev S1024x1 : Shape := ⟨2, ![1024, 1]⟩
abbrev S1024x1536 : Shape := ⟨2, ![1024, 1536]⟩
abbrev S1536x1024 : Shape := ⟨2, ![1536, 1024]⟩
abbrev S1024x1280 : Shape := ⟨2, ![1024, 1280]⟩
abbrev S1280x1024 : Shape := ⟨2, ![1280, 1024]⟩

abbrev nBuf : Space → Nat
  | .hbm => 19
  | .vmem => 17
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .bf16⟩
  | .hbm, ⟨2, _⟩ => ⟨S16x4096x256, .bf16⟩
  | .hbm, ⟨3, _⟩ => ⟨S16x4096x256, .bf16⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024, .f32⟩
  | .hbm, ⟨11, _⟩ => ⟨S1024x1024, .bf16⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S16x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x2816, .bf16⟩
  | .local _ .vmem, ⟨12, _⟩ => ⟨S1024x2816, .bf16⟩
  | .local _ .vmem, ⟨13, _⟩ => ⟨S2816x1024, .bf16⟩
  | .local _ .vmem, ⟨14, _⟩ => ⟨S1x1024, .f32⟩
  | .local _ .vmem, ⟨15, _⟩ => ⟨S1x1024x1024, .f32⟩
  | .local _ .vmem, ⟨16, _⟩ => ⟨S1x1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== OutFfnReferenceIdeal.lean ====
abbrev S16x4096x1024 : Shape := ⟨3, ![16, 4096, 1024]⟩
abbrev S16x4096x512 : Shape := ⟨3, ![16, 4096, 512]⟩
abbrev S16x4096x256 : Shape := ⟨3, ![16, 4096, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x2816 : Shape := ⟨3, ![16, 4096, 2816]⟩

abbrev nBuf : Space → Nat
  | .hbm => 79
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .bf16⟩
  | .hbm, ⟨2, _⟩ => ⟨S16x4096x256, .bf16⟩
  | .hbm, ⟨3, _⟩ => ⟨S16x4096x256, .bf16⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024, .f32⟩
  | .hbm, ⟨11, _⟩ => ⟨S16x4096x512, .f32⟩
  | .hbm, ⟨12, _⟩ => ⟨S16x4096x256, .f32⟩
  | .hbm, ⟨13, _⟩ => ⟨S16x4096x256, .f32⟩
  | .hbm, ⟨14, _⟩ => ⟨S16x4096x1024, .f32⟩
  | .hbm, ⟨15, _⟩ => ⟨S16x4096x1024, .f32⟩
  | .hbm, ⟨16, _⟩ => ⟨S16x4096x1024, .f32⟩
  | .hbm, ⟨17, _⟩ => ⟨S_, .f32⟩
  | .hbm, ⟨18, _⟩ => ⟨S16x4096, .f32⟩
  | .hbm, ⟨19, _⟩ => ⟨S16x4096x1, .f32⟩
  | .hbm, ⟨20, _⟩ => ⟨S_, .f32⟩
  | .hbm, ⟨21, _⟩ => ⟨S16x4096x1, .f32⟩
  | .hbm, ⟨22, _⟩ => ⟨S16x4096x1, .f32⟩
  | .hbm, ⟨23, _⟩ => ⟨S_, .f32⟩
  | .hbm, ⟨24, _⟩ => ⟨S16x4096x1, .f32⟩
  | .hbm, ⟨25, _⟩ => ⟨S16x4096x1, .f32⟩
  | .hbm, ⟨26, _⟩ => ⟨S16x4096x1, .f32⟩
  | .hbm, ⟨27, _⟩ => ⟨S16x4096x1024, .f32⟩
  | .hbm, ⟨28, _⟩ => ⟨S16x4096x1024, .f32⟩
  | .hbm, ⟨29, _⟩ => ⟨S1x1x1024, .f32⟩
  | .hbm, ⟨30, _⟩ => ⟨S16x4096x1024, .f32⟩
  | .hbm, ⟨31, _⟩ => ⟨S16x4096x1024, .f32⟩
  | .hbm, ⟨32, _⟩ => ⟨S16x4096x1024, .f32⟩
  | .hbm, ⟨33, _⟩ => ⟨S16x4096x1024, .f32⟩
  | .hbm, ⟨34, _⟩ => ⟨S_, .f32⟩
  | .hbm, ⟨35, _⟩ => ⟨S16x4096, .f32⟩
  | .hbm, ⟨36, _⟩ => ⟨S16x4096x1, .f32⟩
  | .hbm, ⟨37, _⟩ => ⟨S_, .f32⟩
  | .hbm, ⟨38, _⟩ => ⟨S16x4096x1, .f32⟩
  | .hbm, ⟨39, _⟩ => ⟨S16x4096x1, .f32⟩
  | .hbm, ⟨40, _⟩ => ⟨S_, .f32⟩
  | .hbm, ⟨41, _⟩ => ⟨S16x4096x1, .f32⟩
  | .hbm, ⟨42, _⟩ => ⟨S16x4096x1, .f32⟩
  | .hbm, ⟨43, _⟩ => ⟨S16x4096x1, .f32⟩
  | .hbm, ⟨44, _⟩ => ⟨S16x4096x1024, .f32⟩
  | .hbm, ⟨45, _⟩ => ⟨S16x4096x1024, .f32⟩
  | .hbm, ⟨46, _⟩ => ⟨S1x1x1024, .f32⟩
  | .hbm, ⟨47, _⟩ => ⟨S16x4096x1024, .f32⟩
  | .hbm, ⟨48, _⟩ => ⟨S16x4096x1024, .f32⟩
  | .hbm, ⟨49, _⟩ => ⟨S16x4096x2816, .f32⟩
  | .hbm, ⟨50, _⟩ => ⟨S16x4096x2816, .f32⟩
  | .hbm, ⟨51, _⟩ => ⟨S16x4096x2816, .f32⟩
  | .hbm, ⟨52, _⟩ => ⟨S_, .f32⟩
  | .hbm, ⟨53, _⟩ => ⟨S16x4096x2816, .f32⟩
  | .hbm, ⟨54, _⟩ => ⟨S16x4096x2816, .f32⟩
  | .hbm, ⟨55, _⟩ => ⟨S_, .f32⟩
  | .hbm, ⟨56, _⟩ => ⟨S16x4096x2816, .f32⟩
  | .hbm, ⟨57, _⟩ => ⟨S16x4096x2816, .f32⟩
  | .hbm, ⟨58, _⟩ => ⟨S16x4096x2816, .f32⟩
  | .hbm, ⟨59, _⟩ => ⟨S16x4096x2816, .f32⟩
  | .hbm, ⟨60, _⟩ => ⟨S16x4096x2816, .f32⟩
  | .hbm, ⟨61, _⟩ => ⟨S16x4096x1024, .f32⟩
  | .hbm, ⟨62, _⟩ => ⟨S16x4096x1024, .f32⟩
  | .hbm, ⟨63, _⟩ => ⟨S_, .f32⟩
  | .hbm, ⟨64, _⟩ => ⟨S16x4096, .f32⟩
  | .hbm, ⟨65, _⟩ => ⟨S16x4096x1, .f32⟩
  | .hbm, ⟨66, _⟩ => ⟨S_, .f32⟩
  | .hbm, ⟨67, _⟩ => ⟨S16x4096x1, .f32⟩
  | .hbm, ⟨68, _⟩ => ⟨S16x4096x1, .f32⟩
  | .hbm, ⟨69, _⟩ => ⟨S_, .f32⟩
  | .hbm, ⟨70, _⟩ => ⟨S16x4096x1, .f32⟩
  | .hbm, ⟨71, _⟩ => ⟨S16x4096x1, .f32⟩
  | .hbm, ⟨72, _⟩ => ⟨S16x4096x1, .f32⟩
  | .hbm, ⟨73, _⟩ => ⟨S16x4096x1024, .f32⟩
  | .hbm, ⟨74, _⟩ => ⟨S16x4096x1024, .f32⟩
  | .hbm, ⟨75, _⟩ => ⟨S1x1x1024, .f32⟩
  | .hbm, ⟨76, _⟩ => ⟨S16x4096x1024, .f32⟩
  | .hbm, ⟨77, _⟩ => ⟨S16x4096x1024, .f32⟩
  | .hbm, ⟨78, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== InProj.lean ====
abbrev S16x4096x1024 : Shape := ⟨3, ![16, 4096, 1024]⟩
abbrev S1024 : Shape := ⟨1, ![1024]⟩
abbrev S1024x3080 : Shape := ⟨2, ![1024, 3080]⟩
abbrev S1024x1024 : Shape := ⟨2, ![1024, 1024]⟩
abbrev S1024x512 : Shape := ⟨2, ![1024, 512]⟩
abbrev S1024x1536 : Shape := ⟨2, ![1024, 1536]⟩
abbrev S1024x3072 : Shape := ⟨2, ![1024, 3072]⟩
abbrev S1024x8 : Shape := ⟨2, ![1024, 8]⟩
abbrev S1x1024 : Shape := ⟨2, ![1, 1024]⟩
abbrev S8x1024 : Shape := ⟨2, ![8, 1024]⟩
abbrev S16x4096x3072 : Shape := ⟨3, ![16, 4096, 3072]⟩
abbrev S16x8x4096 : Shape := ⟨3, ![16, 8, 4096]⟩
abbrev S1x1024x1024 : Shape := ⟨3, ![1, 1024, 1024]⟩
abbrev S1x1024x3072 : Shape := ⟨3, ![1, 1024, 3072]⟩
abbrev S1x8x1024 : Shape := ⟨3, ![1, 8, 1024]⟩
abbrev S1024x1 : Shape := ⟨2, ![1024, 1]⟩
abbrev S1x1024x512 : Shape := ⟨3, ![1, 1024, 512]⟩

abbrev nBuf : Space → Nat
  | .hbm => 14
  | .vmem => 9
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x3080, .f32⟩
  | .hbm, ⟨3, _⟩ => ⟨S1024x1024, .f32⟩
  | .hbm, ⟨4, _⟩ => ⟨S1024x512, .f32⟩
  | .hbm, ⟨5, _⟩ => ⟨S1024x1536, .f32⟩
  | .hbm, ⟨6, _⟩ => ⟨S1024x3072, .f32⟩
  | .hbm, ⟨7, _⟩ => ⟨S1024x3072, .bf16⟩
  | .hbm, ⟨8, _⟩ => ⟨S1024x8, .f32⟩
  | .hbm, ⟨9, _⟩ => ⟨S1024x8, .bf16⟩
  | .hbm, ⟨10, _⟩ => ⟨S1x1024, .f32⟩
  | .hbm, ⟨11, _⟩ => ⟨S8x1024, .bf16⟩
  | .hbm, ⟨12, _⟩ => ⟨S16x4096x3072, .bf16⟩
  | .hbm, ⟨13, _⟩ => ⟨S16x8x4096, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x3072, .bf16⟩
  | .local _ .vmem, ⟨4, _⟩ => ⟨S8x1024, .bf16⟩
  | .local _ .vmem, ⟨5, _⟩ => ⟨S1x1024x3072, .bf16⟩
  | .local _ .vmem, ⟨6, _⟩ => ⟨S1x1024x3072, .bf16⟩
  | .local _ .vmem, ⟨7, _⟩ => ⟨S1x8x1024, .f32⟩
  | .local _ .vmem, ⟨8, _⟩ => ⟨S1x8x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjReferenceIdeal.lean ====
abbrev S16x4096x1024 : Shape := ⟨3, ![16, 4096, 1024]⟩
abbrev S1024 : Shape := ⟨1, ![1024]⟩
abbrev S1024x3080 : Shape := ⟨2, ![1024, 3080]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x3080 : Shape := ⟨3, ![16, 4096, 3080]⟩
abbrev S16x4096x512 : Shape := ⟨3, ![16, 4096, 512]⟩
abbrev S16x4096x8 : Shape := ⟨3, ![16, 4096, 8]⟩
abbrev S16x4096x768 : Shape := ⟨3, ![16, 4096, 768]⟩
abbrev S16x4096x3072 : Shape := ⟨3, ![16, 4096, 3072]⟩
abbrev S16x8x4096 : Shape := ⟨3, ![16, 8, 4096]⟩

abbrev nBuf : Space → Nat
  | .hbm => 28
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x3080, .f32⟩
  | .hbm, ⟨3, _⟩ => ⟨S16x4096x1024, .f32⟩
  | .hbm, ⟨4, _⟩ => ⟨S_, .f32⟩
  | .hbm, ⟨5, _⟩ => ⟨S16x4096, .f32⟩
  | .hbm, ⟨6, _⟩ => ⟨S16x4096x1, .f32⟩
  | .hbm, ⟨7, _⟩ => ⟨S_, .f32⟩
  | .hbm, ⟨8, _⟩ => ⟨S16x4096x1, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S16x4096x1, .f32⟩
  | .hbm, ⟨13, _⟩ => ⟨S16x4096x1, .f32⟩
  | .hbm, ⟨14, _⟩ => ⟨S16x4096x1024, .f32⟩
  | .hbm, ⟨15, _⟩ => ⟨S16x4096x1024, .f32⟩
  | .hbm, ⟨16, _⟩ => ⟨S1x1x1024, .f32⟩
  | .hbm, ⟨17, _⟩ => ⟨S16x4096x1024, .f32⟩
  | .hbm, ⟨18, _⟩ => ⟨S16x4096x1024, .f32⟩
  | .hbm, ⟨19, _⟩ => ⟨S16x4096x3080, .f32⟩
  | .hbm, ⟨20, _⟩ => ⟨S16x4096x512, .f32⟩
  | .hbm, ⟨21, _⟩ => ⟨S16x4096x1024, .f32⟩
  | .hbm, ⟨22, _⟩ => ⟨S16x4096x8, .f32⟩
  | .hbm, ⟨23, _⟩ => ⟨S16x4096x768, .f32⟩
  | .hbm, ⟨24, _⟩ => ⟨S16x4096x768, .f32⟩
  | .hbm, ⟨25, _⟩ => ⟨S16x4096x3072, .f32⟩
  | .hbm, ⟨26, _⟩ => ⟨S16x4096x3072, .bf16⟩
  | .hbm, ⟨27, _⟩ => ⟨S16x8x4096, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Sb.lean ====
abbrev S16x4096x3072 : Shape := ⟨3, ![16, 4096, 3072]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S16x4096x256 : Shape := ⟨3, ![16, 4096, 256]⟩
abbrev S1x256x256 : Shape := ⟨3, ![1, 256, 256]⟩
abbrev S1x4096x256 : Shape := ⟨3, ![1, 4096, 256]⟩
abbrev S256x1024 : Shape := ⟨2, ![256, 1024]⟩
abbrev S16x256x256 : Shape := ⟨3, ![16, 256, 256]⟩
abbrev S8x1024 : Shape := ⟨2, ![8, 1024]⟩
abbrev S1x1024 : Shape := ⟨2, ![1, 1024]⟩
abbrev S1x64x256 : Shape := ⟨3, ![1, 64, 256]⟩
abbrev S64x256 : Shape := ⟨2, ![64, 256]⟩

abbrev nBuf : Space → Nat
  | .hbm => 11
  | .vmem => 16
  | .smem => 0
  | _ => 0

abbrev bufTy : (tb : Table) → Fin (tcTables nBuf tb) → BufTy
  | .hbm, ⟨0, _⟩ => ⟨S16x4096x3072, .bf16⟩
  | .hbm, ⟨1, _⟩ => ⟨S256, .f32⟩
  | .hbm, ⟨2, _⟩ => ⟨S256, .i32⟩
  | .hbm, ⟨3, _⟩ => ⟨S256x1, .i32⟩
  | .hbm, ⟨4, _⟩ => ⟨S1x256, .i32⟩
  | .hbm, ⟨5, _⟩ => ⟨S256x256, .i32⟩
  | .hbm, ⟨6, _⟩ => ⟨S256x256, .i32⟩
  | .hbm, ⟨7, _⟩ => ⟨S256x256, .i1⟩
  | .hbm, ⟨8, _⟩ => ⟨S256x256, .bf16⟩
  | .hbm, ⟨9, _⟩ => ⟨S1x256, .f32⟩
  | .hbm, ⟨10, _⟩ => ⟨S16x4096x256, .bf16⟩
  | .local _ .vmem, ⟨0, _⟩ => ⟨S1x256x256, .bf16⟩
  | .local _ .vmem, ⟨1, _⟩ => ⟨S1x256x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x256, .f32⟩
  | .local _ .vmem, ⟨7, _⟩ => ⟨S256x256, .bf16⟩
  | .local _ .vmem, ⟨8, _⟩ => ⟨S1x256x256, .bf16⟩
  | .local _ .vmem, ⟨9, _⟩ => ⟨S1x256x256, .bf16⟩
  | .local _ .vmem, ⟨10, _⟩ => ⟨S256x1024, .bf16⟩
  | .local _ .vmem, ⟨11, _⟩ => ⟨S16x256x256, .bf16⟩
  | .local _ .vmem, ⟨12, _⟩ => ⟨S256x1024, .f32⟩
  | .local _ .vmem, ⟨13, _⟩ => ⟨S256x1024, .f32⟩
  | .local _ .vmem, ⟨14, _⟩ => ⟨S256x256, .f32⟩
  | .local _ .vmem, ⟨15, _⟩ => ⟨S8x1024, .f32⟩
  | _, _ => ⟨S16x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_93 : BitVec 32 := 0#32
  let c16_i32 : BitVec 32 := 16#32
  let v222 : BitVec 32 := Scalar.addi c0_i32_93 c16_i32
  let c1_i32_94 : BitVec 32 := 1#32
  ⟨c0_i32_93, v222, c1_i32_94⟩
def k0_mult1 (k0_t1 : Fin k0_t1_loop.trips) : BitVec 32 :=
  let c0_i32_93 : BitVec 32 := 0#32
  let c1_i32_94 : BitVec 32 := 1#32
  let arg14 : BitVec 32 := Scf.iv c0_i32_93 c1_i32_94 k0_t1
  let c256_i32_96 : BitVec 32 := 256#32
  let v223 : BitVec 32 := Scalar.muli arg14 c256_i32_96
  v223
def k0_off1 (k0_t1 : Fin k0_t1_loop.trips) : Fin 3 → Nat :=
  let c0_97 : Index := 0#32
  let c0_i32_93 : BitVec 32 := 0#32
  let c1_i32_94 : BitVec 32 := 1#32
  let arg14 : BitVec 32 := Scf.iv c0_i32_93 c1_i32_94 k0_t1
  let c256_i32_96 : BitVec 32 := 256#32
  let v223 : BitVec 32 := Scalar.muli arg14 c256_i32_96
  let v224 : BitVec 32 := v223
  let v225 : Index := Scalar.indexCast v224
  let c0_98 : Index := 0#32
  ![0, v225.toNat, 0]
def k0_off2 (k0_t1 : Fin k0_t1_loop.trips) : Fin 3 → Nat :=
  let c0_i32_93 : BitVec 32 := 0#32
  let c1_i32_94 : BitVec 32 := 1#32
  let arg14 : BitVec 32 := Scf.iv c0_i32_93 c1_i32_94 k0_t1
  let v231 : Index := Scalar.indexCast arg14
  let c0_99 : Index := 0#32
  let c0_100 : Index := 0#32
  ![v231.toNat, 0, 0]
def k0_mult2 (i : grid0.Coords) : BitVec 32 :=
  let arg1 : BitVec 32 := BitVec.ofNat 32 (i 1).val
  let c256_i32_16 : BitVec 32 := 256#32
  let v59 : BitVec 32 := Scalar.muli arg1 c256_i32_16
  v59
def k0_off3 (i : grid0.Coords) : Fin 3 → Nat :=
  let c0_17 : Index := 0#32
  let arg1 : BitVec 32 := BitVec.ofNat 32 (i 1).val
  let c256_i32_16 : BitVec 32 := 256#32
  let v59 : BitVec 32 := Scalar.muli arg1 c256_i32_16
  let v60 : BitVec 32 := v59
  let v61 : Index := Scalar.indexCast v60
  let c0_18 : Index := 0#32
  ![0, v61.toNat, 0]
def k0_mult3 (i : grid0.Coords) : BitVec 32 :=
  let arg1 : BitVec 32 := BitVec.ofNat 32 (i 1).val
  let c1_i32 : BitVec 32 := 1#32
  let v69 : BitVec 32 := Scalar.subi arg1 c1_i32
  let c0_i32_24 : BitVec 32 := 0#32
  let v70 : BitVec 32 := Scalar.maxsi v69 c0_i32_24
  let c256_i32_25 : BitVec 32 := 256#32
  let v71 : BitVec 32 := Scalar.muli v70 c256_i32_25
  v71
def k0_off4 (i : grid0.Coords) : Fin 3 → Nat :=
  let c0_26 : Index := 0#32
  let arg1 : BitVec 32 := BitVec.ofNat 32 (i 1).val
  let c1_i32 : BitVec 32 := 1#32
  let v69 : BitVec 32 := Scalar.subi arg1 c1_i32
  let c0_i32_24 : BitVec 32 := 0#32
  let v70 : BitVec 32 := Scalar.maxsi v69 c0_i32_24
  let c256_i32_25 : BitVec 32 := 256#32
  let v71 : BitVec 32 := Scalar.muli v70 c256_i32_25
  let v72 : BitVec 32 := v71
  let v73 : Index := Scalar.indexCast v72
  let c0_27 : Index := 0#32
  ![0, v73.toNat, 0]
def k0_off5 (i : grid0.Coords) : Fin 3 → Nat :=
  let arg1 : BitVec 32 := BitVec.ofNat 32 (i 1).val
  let v109 : Index := Scalar.indexCast arg1
  let c0_45 : Index := 0#32
  let c0_46 : Index := 0#32
  ![v109.toNat, 0, 0]
def k0_off6 (i : grid0.Coords) : Fin 3 → Nat :=
  let arg1 : BitVec 32 := BitVec.ofNat 32 (i 1).val
  let v117 : Index := Scalar.indexCast arg1
  let c64 : Index := 64#32
  let c0_48 : Index := 0#32
  ![v117.toNat, 64, 0]
def k0_off7 (i : grid0.Coords) : Fin 3 → Nat :=
  let arg1 : BitVec 32 := BitVec.ofNat 32 (i 1).val
  let v125 : Index := Scalar.indexCast arg1
  let c128 : Index := 128#32
  let c0_50 : Index := 0#32
  ![v125.toNat, 128, 0]
def k0_off8 (i : grid0.Coords) : Fin 3 → Nat :=
  let arg1 : BitVec 32 := BitVec.ofNat 32 (i 1).val
  let v133 : Index := Scalar.indexCast arg1
  let c192 : Index := 192#32
  let c0_52 : Index := 0#32
  ![v133.toNat, 192, 0]
@[reducible] def k0_t2_loop (i : grid0.Coords) : Scf.Loop 32 :=
  let c0_i32_62 : BitVec 32 := 0#32
  let arg1 : BitVec 32 := BitVec.ofNat 32 (i 1).val
  let c0_i32_56 : BitVec 32 := 0#32
  let v150 : BitVec 1 := Scalar.cmpi .sgt arg1 c0_i32_56
  let v151 : BitVec 32 := Scalar.extui v150
  let c0_i32_57 : BitVec 32 := 0#32
  let v152 : BitVec 1 := Scalar.cmpi .slt arg1 c0_i32_57
  let v153 : BitVec 32 := Scalar.extui v152
  let v154 : BitVec 32 := Scalar.subi v151 v153
  let c4_i32 : BitVec 32 := 4#32
  let c0_i32_58 : BitVec 32 := 0#32
  let v155 : BitVec 1 := Scalar.cmpi .sgt c4_i32 c0_i32_58
  let v156 : BitVec 32 := Scalar.extui v155
  let c0_i32_59 : BitVec 32 := 0#32
  let v157 : BitVec 1 := Scalar.cmpi .slt c4_i32 c0_i32_59
  let v158 : BitVec 32 := Scalar.extui v157
  let v159 : BitVec 32 := Scalar.subi v156 v158
  let v160 : BitVec 1 := Scalar.cmpi .ne v154 v159
  let v161 : BitVec 32 := Scalar.remsi arg1 c4_i32
  let c0_i32_60 : BitVec 32 := 0#32
  let v162 : BitVec 1 := Scalar.cmpi .ne v161 c0_i32_60
  let v163 : BitVec 1 := Scalar.andi v160 v162
  let v149 : BitVec 32 := Scalar.divsi arg1 c4_i32
  let c1_i32_61 : BitVec 32 := 1#32
  let v164 : BitVec 32 := Scalar.subi v149 c1_i32_61
  let v165 : BitVec 32 := Scalar.select v163 v164 v149
  let v166 : BitVec 32 := Scalar.subi v165 c0_i32_62
  let c1_i32_63 : BitVec 32 := 1#32
  let v168 : BitVec 32 := Scalar.divsi v166 c1_i32_63
  let v169 : BitVec 32 := Scalar.muli v168 c1_i32_63
  let v170 : BitVec 32 := Scalar.addi c0_i32_62 v169
  let c1_i32_64 : BitVec 32 := 1#32
  ⟨c0_i32_62, v170, c1_i32_64⟩
def k0_mult4 (i : grid0.Coords) (k0_t2 : Fin (k0_t2_loop i).trips) : BitVec 32 :=
  let arg1 : BitVec 32 := BitVec.ofNat 32 (i 1).val
  let c1_i32_94 : BitVec 32 := 1#32
  let v225 : BitVec 32 := Scalar.subi arg1 c1_i32_94
  let c4_i32_95 : BitVec 32 := 4#32
  let c0_i32_62 : BitVec 32 := 0#32
  let c1_i32_64 : BitVec 32 := 1#32
  let arg14 : BitVec 32 := Scf.iv c0_i32_62 c1_i32_64 k0_t2
  let v226 : BitVec 32 := Scalar.muli c4_i32_95 arg14
  let v227 : BitVec 32 := Scalar.subi v225 v226
  let c1_i32_96 : BitVec 32 := 1#32
  let v228 : BitVec 32 := Scalar.subi v227 c1_i32_96
  let c256_i32_97 : BitVec 32 := 256#32
  let v229 : BitVec 32 := Scalar.muli v228 c256_i32_97
  v229
def k0_off9 (i : grid0.Coords) (k0_t2 : Fin (k0_t2_loop i).trips) (c1_i32_94 : BitVec 32) : Fin 3 → Nat :=
  let c0_98 : Index := 0#32
  let arg1 : BitVec 32 := BitVec.ofNat 32 (i 1).val
  let v225 : BitVec 32 := Scalar.subi arg1 c1_i32_94
  let c4_i32_95 : BitVec 32 := 4#32
  let c0_i32_62 : BitVec 32 := 0#32
  let c1_i32_64 : BitVec 32 := 1#32
  let arg14 : BitVec 32 := Scf.iv c0_i32_62 c1_i32_64 k0_t2
  let v226 : BitVec 32 := Scalar.muli c4_i32_95 arg14
  let v227 : BitVec 32 := Scalar.subi v225 v226
  let c1_i32_96 : BitVec 32 := 1#32
  let v228 : BitVec 32 := Scalar.subi v227 c1_i32_96
  let c256_i32_97 : BitVec 32 := 256#32
  let v229 : BitVec 32 := Scalar.muli v228 c256_i32_97
  let v230 : BitVec 32 := v229
  let v231 : Index := Scalar.indexCast v230
  let c0_99 : Index := 0#32
  ![0, v231.toNat, 0]
def k0_off10 (i : grid0.Coords) (k0_t2 : Fin (k0_t2_loop i).trips) (c1_i32_94 : BitVec 32) : Fin 3 → Nat :=
  let arg1 : BitVec 32 := BitVec.ofNat 32 (i 1).val
  let v225 : BitVec 32 := Scalar.subi arg1 c1_i32_94
  let c4_i32_95 : BitVec 32 := 4#32
  let c0_i32_62 : BitVec 32 := 0#32
  let c1_i32_64 : BitVec 32 := 1#32
  let arg14 : BitVec 32 := Scf.iv c0_i32_62 c1_i32_64 k0_t2
  let v226 : BitVec 32 := Scalar.muli c4_i32_95 arg14
  let v227 : BitVec 32 := Scalar.subi v225 v226
  let v262 : Index := Scalar.indexCast v227
  let c0_114 : Index := 0#32
  let c0_115 : Index := 0#32
  ![v262.toNat, 0, 0]
def k0_off11 (i : grid0.Coords) (k0_t2 : Fin (k0_t2_loop i).trips) (c1_i32_94 : BitVec 32) : Fin 3 → Nat :=
  let arg1 : BitVec 32 := BitVec.ofNat 32 (i 1).val
  let v225 : BitVec 32 := Scalar.subi arg1 c1_i32_94
  let c4_i32_95 : BitVec 32 := 4#32
  let c0_i32_62 : BitVec 32 := 0#32
  let c1_i32_64 : BitVec 32 := 1#32
  let arg14 : BitVec 32 := Scf.iv c0_i32_62 c1_i32_64 k0_t2
  let v226 : BitVec 32 := Scalar.muli c4_i32_95 arg14
  let v227 : BitVec 32 := Scalar.subi v225 v226
  let v270 : Index := Scalar.indexCast v227
  let c64_117 : Index := 64#32
  let c0_118 : Index := 0#32
  ![v270.toNat, 64, 0]
def k0_off12 (i : grid0.Coords) (k0_t2 : Fin (k0_t2_loop i).trips) (c1_i32_94 : BitVec 32) : Fin 3 → Nat :=
  let arg1 : BitVec 32 := BitVec.ofNat 32 (i 1).val
  let v225 : BitVec 32 := Scalar.subi arg1 c1_i32_94
  let c4_i32_95 : BitVec 32 := 4#32
  let c0_i32_62 : BitVec 32 := 0#32
  let c1_i32_64 : BitVec 32 := 1#32
  let arg14 : BitVec 32 := Scf.iv c0_i32_62 c1_i32_64 k0_t2
  let v226 : BitVec 32 := Scalar.muli c4_i32_95 arg14
  let v227 : BitVec 32 := Scalar.subi v225 v226
  let v278 : Index := Scalar.indexCast v227
  let c128_120 : Index := 128#32
  let c0_121 : Index := 0#32
  ![v278.toNat, 128, 0]
def k0_off13 (i : grid0.Coords) (k0_t2 : Fin (k0_t2_loop i).trips) (c1_i32_94 : BitVec 32) : Fin 3 → Nat :=
  let arg1 : BitVec 32 := BitVec.ofNat 32 (i 1).val
  let v225 : BitVec 32 := Scalar.subi arg1 c1_i32_94
  let c4_i32_95 : BitVec 32 := 4#32
  let c0_i32_62 : BitVec 32 := 0#32
  let c1_i32_64 : BitVec 32 := 1#32
  let arg14 : BitVec 32 := Scf.iv c0_i32_62 c1_i32_64 k0_t2
  let v226 : BitVec 32 := Scalar.muli c4_i32_95 arg14
  let v227 : BitVec 32 := Scalar.subi v225 v226
  let v286 : Index := Scalar.indexCast v227
  let c192_123 : Index := 192#32
  let c0_124 : Index := 0#32
  ![v286.toNat, 192, 0]
def k0_mult5 (i : grid0.Coords) (k0_t2 : Fin (k0_t2_loop i).trips) : BitVec 32 :=
  let arg1 : BitVec 32 := BitVec.ofNat 32 (i 1).val
  let c1_i32_94 : BitVec 32 := 1#32
  let v225 : BitVec 32 := Scalar.subi arg1 c1_i32_94
  let c4_i32_95 : BitVec 32 := 4#32
  let c0_i32_62 : BitVec 32 := 0#32
  let c1_i32_64 : BitVec 32 := 1#32
  let arg14 : BitVec 32 := Scf.iv c0_i32_62 c1_i32_64 k0_t2
  let v226 : BitVec 32 := Scalar.muli c4_i32_95 arg14
  let v227 : BitVec 32 := Scalar.subi v225 v226
  let c2_i32_130 : BitVec 32 := 2#32
  let v304 : BitVec 32 := Scalar.subi v227 c2_i32_130
  let c0_i32_131 : BitVec 32 := 0#32
  let v305 : BitVec 32 := Scalar.maxsi v304 c0_i32_131
  let c256_i32_132 : BitVec 32 := 256#32
  let v306 : BitVec 32 := Scalar.muli v305 c256_i32_132
  v306
def k0_off14 (i : grid0.Coords) (k0_t2 : Fin (k0_t2_loop i).trips) (c1_i32_94 : BitVec 32) : Fin 3 → Nat :=
  let c0_133 : Index := 0#32
  let arg1 : BitVec 32 := BitVec.ofNat 32 (i 1).val
  let v225 : BitVec 32 := Scalar.subi arg1 c1_i32_94
  let c4_i32_95 : BitVec 32 := 4#32
  let c0_i32_62 : BitVec 32 := 0#32
  let c1_i32_64 : BitVec 32 := 1#32
  let arg14 : BitVec 32 := Scf.iv c0_i32_62 c1_i32_64 k0_t2
  let v226 : BitVec 32 := Scalar.muli c4_i32_95 arg14
  let v227 : BitVec 32 := Scalar.subi v225 v226
  let c2_i32_130 : BitVec 32 := 2#32
  let v304 : BitVec 32 := Scalar.subi v227 c2_i32_130
  let c0_i32_131 : BitVec 32 := 0#32
  let v305 : BitVec 32 := Scalar.maxsi v304 c0_i32_131
  let c256_i32_132 : BitVec 32 := 256#32
  let v306 : BitVec 32 := Scalar.muli v305 c256_i32_132
  let v307 : BitVec 32 := v306
  let v308 : Index := Scalar.indexCast v307
  let c0_134 : Index := 0#32
  ![0, v308.toNat, 0]
def k0_off15 (i : grid0.Coords) (k0_t2 : Fin (k0_t2_loop i).trips) (c1_i32_94 : BitVec 32) : Fin 3 → Nat :=
  let arg1 : BitVec 32 := BitVec.ofNat 32 (i 1).val
  let v225 : BitVec 32 := Scalar.subi arg1 c1_i32_94
  let c4_i32_95 : BitVec 32 := 4#32
  let c0_i32_62 : BitVec 32 := 0#32
  let c1_i32_64 : BitVec 32 := 1#32
  let arg14 : BitVec 32 := Scf.iv c0_i32_62 c1_i32_64 k0_t2
  let v226 : BitVec 32 := Scalar.muli c4_i32_95 arg14
  let v227 : BitVec 32 := Scalar.subi v225 v226
  let c1_i32_140 : BitVec 32 := 1#32
  let v316 : BitVec 32 := Scalar.subi v227 c1_i32_140
  let v340 : Index := Scalar.indexCast v316
  let c0_150 : Index := 0#32
  let c0_151 : Index := 0#32
  ![v340.toNat, 0, 0]
def k0_off16 (i : grid0.Coords) (k0_t2 : Fin (k0_t2_loop i).trips) (c1_i32_94 : BitVec 32) : Fin 3 → Nat :=
  let arg1 : BitVec 32 := BitVec.ofNat 32 (i 1).val
  let v225 : BitVec 32 := Scalar.subi arg1 c1_i32_94
  let c4_i32_95 : BitVec 32 := 4#32
  let c0_i32_62 : BitVec 32 := 0#32
  let c1_i32_64 : BitVec 32 := 1#32
  let arg14 : BitVec 32 := Scf.iv c0_i32_62 c1_i32_64 k0_t2
  let v226 : BitVec 32 := Scalar.muli c4_i32_95 arg14
  let v227 : BitVec 32 := Scalar.subi v225 v226
  let c1_i32_140 : BitVec 32 := 1#32
  let v316 : BitVec 32 := Scalar.subi v227 c1_i32_140
  let v348 : Index := Scalar.indexCast v316
  let c64_153 : Index := 64#32
  let c0_154 : Index := 0#32
  ![v348.toNat, 64, 0]
def k0_off17 (i : grid0.Coords) (k0_t2 : Fin (k0_t2_loop i).trips) (c1_i32_94 : BitVec 32) : Fin 3 → Nat :=
  let arg1 : BitVec 32 := BitVec.ofNat 32 (i 1).val
  let v225 : BitVec 32 := Scalar.subi arg1 c1_i32_94
  let c4_i32_95 : BitVec 32 := 4#32
  let c0_i32_62 : BitVec 32 := 0#32
  let c1_i32_64 : BitVec 32 := 1#32
  let arg14 : BitVec 32 := Scf.iv c0_i32_62 c1_i32_64 k0_t2
  let v226 : BitVec 32 := Scalar.muli c4_i32_95 arg14
  let v227 : BitVec 32 := Scalar.subi v225 v226
  let c1_i32_140 : BitVec 32 := 1#32
  let v316 : BitVec 32 := Scalar.subi v227 c1_i32_140
  let v356 : Index := Scalar.indexCast v316
  let c128_156 : Index := 128#32
  let c0_157 : Index := 0#32
  ![v356.toNat, 128, 0]
def k0_off18 (i : grid0.Coords) (k0_t2 : Fin (k0_t2_loop i).trips) (c1_i32_94 : BitVec 32) : Fin 3 → Nat :=
  let arg1 : BitVec 32 := BitVec.ofNat 32 (i 1).val
  let v225 : BitVec 32 := Scalar.subi arg1 c1_i32_94
  let c4_i32_95 : BitVec 32 := 4#32
  let c0_i32_62 : BitVec 32 := 0#32
  let c1_i32_64 : BitVec 32 := 1#32
  let arg14 : BitVec 32 := Scf.iv c0_i32_62 c1_i32_64 k0_t2
  let v226 : BitVec 32 := Scalar.muli c4_i32_95 arg14
  let v227 : BitVec 32 := Scalar.subi v225 v226
  let c1_i32_140 : BitVec 32 := 1#32
  let v316 : BitVec 32 := Scalar.subi v227 c1_i32_140
  let v364 : Index := Scalar.indexCast v316
  let c192_159 : Index := 192#32
  let c0_160 : Index := 0#32
  ![v364.toNat, 192, 0]
def k0_mult6 (i : grid0.Coords) (k0_t2 : Fin (k0_t2_loop i).trips) : BitVec 32 :=
  let arg1 : BitVec 32 := BitVec.ofNat 32 (i 1).val
  let c3_i32 : BitVec 32 := 3#32
  let v222 : BitVec 32 := Scalar.subi arg1 c3_i32
  let c4_i32_93 : BitVec 32 := 4#32
  let c0_i32_62 : BitVec 32 := 0#32
  let c1_i32_64 : BitVec 32 := 1#32
  let arg14 : BitVec 32 := Scf.iv c0_i32_62 c1_i32_64 k0_t2
  let v223 : BitVec 32 := Scalar.muli c4_i32_93 arg14
  let v224 : BitVec 32 := Scalar.subi v222 v223
  let c1_i32_166 : BitVec 32 := 1#32
  let v382 : BitVec 32 := Scalar.subi v224 c1_i32_166
  let c256_i32_167 : BitVec 32 := 256#32
  let v383 : BitVec 32 := Scalar.muli v382 c256_i32_167
  v383
def k0_mult7 (i : grid0.Coords) (k0_t2 : Fin (k0_t2_loop i).trips) : BitVec 32 :=
  let arg1 : BitVec 32 := BitVec.ofNat 32 (i 1).val
  let c3_i32 : BitVec 32 := 3#32
  let v222 : BitVec 32 := Scalar.subi arg1 c3_i32
  let c4_i32_93 : BitVec 32 := 4#32
  let c0_i32_62 : BitVec 32 := 0#32
  let c1_i32_64 : BitVec 32 := 1#32
  let arg14 : BitVec 32 := Scf.iv c0_i32_62 c1_i32_64 k0_t2
  let v223 : BitVec 32 := Scalar.muli c4_i32_93 arg14
  let v224 : BitVec 32 := Scalar.subi v222 v223
  let c2_i32_200 : BitVec 32 := 2#32
  let v458 : BitVec 32 := Scalar.subi v224 c2_i32_200
  let c0_i32_201 : BitVec 32 := 0#32
  let v459 : BitVec 32 := Scalar.maxsi v458 c0_i32_201
  let c256_i32_202 : BitVec 32 := 256#32
  let v460 : BitVec 32 := Scalar.muli v459 c256_i32_202
  v460
@[reducible] def k0_t3_loop (i : grid0.Coords) : Scf.Loop 32 :=
  let c0_i32_62 : BitVec 32 := 0#32
  let arg1 : BitVec 32 := BitVec.ofNat 32 (i 1).val
  let c0_i32_56 : BitVec 32 := 0#32
  let v150 : BitVec 1 := Scalar.cmpi .sgt arg1 c0_i32_56
  let v151 : BitVec 32 := Scalar.extui v150
  let c0_i32_57 : BitVec 32 := 0#32
  let v152 : BitVec 1 := Scalar.cmpi .slt arg1 c0_i32_57
  let v153 : BitVec 32 := Scalar.extui v152
  let v154 : BitVec 32 := Scalar.subi v151 v153
  let c4_i32 : BitVec 32 := 4#32
  let c0_i32_58 : BitVec 32 := 0#32
  let v155 : BitVec 1 := Scalar.cmpi .sgt c4_i32 c0_i32_58
  let v156 : BitVec 32 := Scalar.extui v155
  let c0_i32_59 : BitVec 32 := 0#32
  let v157 : BitVec 1 := Scalar.cmpi .slt c4_i32 c0_i32_59
  let v158 : BitVec 32 := Scalar.extui v157
  let v159 : BitVec 32 := Scalar.subi v156 v158
  let v160 : BitVec 1 := Scalar.cmpi .ne v154 v159
  let v161 : BitVec 32 := Scalar.remsi arg1 c4_i32
  let c0_i32_60 : BitVec 32 := 0#32
  let v162 : BitVec 1 := Scalar.cmpi .ne v161 c0_i32_60
  let v163 : BitVec 1 := Scalar.andi v160 v162
  let v149 : BitVec 32 := Scalar.divsi arg1 c4_i32
  let c1_i32_61 : BitVec 32 := 1#32
  let v164 : BitVec 32 := Scalar.subi v149 c1_i32_61
  let v165 : BitVec 32 := Scalar.select v163 v164 v149
  let v166 : BitVec 32 := Scalar.subi v165 c0_i32_62
  let c1_i32_63 : BitVec 32 := 1#32
  let v168 : BitVec 32 := Scalar.divsi v166 c1_i32_63
  let v169 : BitVec 32 := Scalar.muli v168 c1_i32_63
  let v170 : BitVec 32 := Scalar.addi c0_i32_62 v169
  let v167 : BitVec 32 := Scalar.addi c0_i32_62 v166
  let c1_i32_65 : BitVec 32 := 1#32
  ⟨v170, v167, c1_i32_65⟩
def k0_mult8 (i : grid0.Coords) (k0_t3 : Fin (k0_t3_loop i).trips) : BitVec 32 :=
  let arg1 : BitVec 32 := BitVec.ofNat 32 (i 1).val
  let c1_i32_94 : BitVec 32 := 1#32
  let v225 : BitVec 32 := Scalar.subi arg1 c1_i32_94
  let c4_i32_95 : BitVec 32 := 4#32
  let c0_i32_62 : BitVec 32 := 0#32
  let c0_i32_56 : BitVec 32 := 0#32
  let v150 : BitVec 1 := Scalar.cmpi .sgt arg1 c0_i32_56
  let v151 : BitVec 32 := Scalar.extui v150
  let c0_i32_57 : BitVec 32 := 0#32
  let v152 : BitVec 1 := Scalar.cmpi .slt arg1 c0_i32_57
  let v153 : BitVec 32 := Scalar.extui v152
  let v154 : BitVec 32 := Scalar.subi v151 v153
  let c4_i32 : BitVec 32 := 4#32
  let c0_i32_58 : BitVec 32 := 0#32
  let v155 : BitVec 1 := Scalar.cmpi .sgt c4_i32 c0_i32_58
  let v156 : BitVec 32 := Scalar.extui v155
  let c0_i32_59 : BitVec 32 := 0#32
  let v157 : BitVec 1 := Scalar.cmpi .slt c4_i32 c0_i32_59
  let v158 : BitVec 32 := Scalar.extui v157
  let v159 : BitVec 32 := Scalar.subi v156 v158
  let v160 : BitVec 1 := Scalar.cmpi .ne v154 v159
  let v161 : BitVec 32 := Scalar.remsi arg1 c4_i32
  let c0_i32_60 : BitVec 32 := 0#32
  let v162 : BitVec 1 := Scalar.cmpi .ne v161 c0_i32_60
  let v163 : BitVec 1 := Scalar.andi v160 v162
  let v149 : BitVec 32 := Scalar.divsi arg1 c4_i32
  let c1_i32_61 : BitVec 32 := 1#32
  let v164 : BitVec 32 := Scalar.subi v149 c1_i32_61
  let v165 : BitVec 32 := Scalar.select v163 v164 v149
  let v166 : BitVec 32 := Scalar.subi v165 c0_i32_62
  let c1_i32_63 : BitVec 32 := 1#32
  let v168 : BitVec 32 := Scalar.divsi v166 c1_i32_63
  let v169 : BitVec 32 := Scalar.muli v168 c1_i32_63
  let v170 : BitVec 32 := Scalar.addi c0_i32_62 v169
  let c1_i32_65 : BitVec 32 := 1#32
  let arg14 : BitVec 32 := Scf.iv v170 c1_i32_65 k0_t3
  let v226 : BitVec 32 := Scalar.muli c4_i32_95 arg14
  let v227 : BitVec 32 := Scalar.subi v225 v226
  let c1_i32_96 : BitVec 32 := 1#32
  let v228 : BitVec 32 := Scalar.subi v227 c1_i32_96
  let c256_i32_97 : BitVec 32 := 256#32
  let v229 : BitVec 32 := Scalar.muli v228 c256_i32_97
  v229
def k0_off19 (i : grid0.Coords) (k0_t3 : Fin (k0_t3_loop i).trips) (c1_i32_94 : BitVec 32) : Fin 3 → Nat :=
  let c0_98 : Index := 0#32
  let arg1 : BitVec 32 := BitVec.ofNat 32 (i 1).val
  let v225 : BitVec 32 := Scalar.subi arg1 c1_i32_94
  let c4_i32_95 : BitVec 32 := 4#32
  let c0_i32_62 : BitVec 32 := 0#32
  let c0_i32_56 : BitVec 32 := 0#32
  let v150 : BitVec 1 := Scalar.cmpi .sgt arg1 c0_i32_56
  let v151 : BitVec 32 := Scalar.extui v150
  let c0_i32_57 : BitVec 32 := 0#32
  let v152 : BitVec 1 := Scalar.cmpi .slt arg1 c0_i32_57
  let v153 : BitVec 32 := Scalar.extui v152
  let v154 : BitVec 32 := Scalar.subi v151 v153
  let c4_i32 : BitVec 32 := 4#32
  let c0_i32_58 : BitVec 32 := 0#32
  let v155 : BitVec 1 := Scalar.cmpi .sgt c4_i32 c0_i32_58
  let v156 : BitVec 32 := Scalar.extui v155
  let c0_i32_59 : BitVec 32 := 0#32
  let v157 : BitVec 1 := Scalar.cmpi .slt c4_i32 c0_i32_59
  let v158 : BitVec 32 := Scalar.extui v157
  let v159 : BitVec 32 := Scalar.subi v156 v158
  let v160 : BitVec 1 := Scalar.cmpi .ne v154 v159
  let v161 : BitVec 32 := Scalar.remsi arg1 c4_i32
  let c0_i32_60 : BitVec 32 := 0#32
  let v162 : BitVec 1 := Scalar.cmpi .ne v161 c0_i32_60
  let v163 : BitVec 1 := Scalar.andi v160 v162
  let v149 : BitVec 32 := Scalar.divsi arg1 c4_i32
  let c1_i32_61 : BitVec 32 := 1#32
  let v164 : BitVec 32 := Scalar.subi v149 c1_i32_61
  let v165 : BitVec 32 := Scalar.select v163 v164 v149
  let v166 : BitVec 32 := Scalar.subi v165 c0_i32_62
  let c1_i32_63 : BitVec 32 := 1#32
  let v168 : BitVec 32 := Scalar.divsi v166 c1_i32_63
  let v169 : BitVec 32 := Scalar.muli v168 c1_i32_63
  let v170 : BitVec 32 := Scalar.addi c0_i32_62 v169
  let c1_i32_65 : BitVec 32 := 1#32
  let arg14 : BitVec 32 := Scf.iv v170 c1_i32_65 k0_t3
  let v226 : BitVec 32 := Scalar.muli c4_i32_95 arg14
  let v227 : BitVec 32 := Scalar.subi v225 v226
  let c1_i32_96 : BitVec 32 := 1#32
  let v228 : BitVec 32 := Scalar.subi v227 c1_i32_96
  let c256_i32_97 : BitVec 32 := 256#32
  let v229 : BitVec 32 := Scalar.muli v228 c256_i32_97
  let v230 : BitVec 32 := v229
  let v231 : Index := Scalar.indexCast v230
  let c0_99 : Index := 0#32
  ![0, v231.toNat, 0]
def k0_off20 (i : grid0.Coords) (k0_t3 : Fin (k0_t3_loop i).trips) (c1_i32_94 : BitVec 32) : Fin 3 → Nat :=
  let arg1 : BitVec 32 := BitVec.ofNat 32 (i 1).val
  let v225 : BitVec 32 := Scalar.subi arg1 c1_i32_94
  let c4_i32_95 : BitVec 32 := 4#32
  let c0_i32_62 : BitVec 32 := 0#32
  let c0_i32_56 : BitVec 32 := 0#32
  let v150 : BitVec 1 := Scalar.cmpi .sgt arg1 c0_i32_56
  let v151 : BitVec 32 := Scalar.extui v150
  let c0_i32_57 : BitVec 32 := 0#32
  let v152 : BitVec 1 := Scalar.cmpi .slt arg1 c0_i32_57
  let v153 : BitVec 32 := Scalar.extui v152
  let v154 : BitVec 32 := Scalar.subi v151 v153
  let c4_i32 : BitVec 32 := 4#32
  let c0_i32_58 : BitVec 32 := 0#32
  let v155 : BitVec 1 := Scalar.cmpi .sgt c4_i32 c0_i32_58
  let v156 : BitVec 32 := Scalar.extui v155
  let c0_i32_59 : BitVec 32 := 0#32
  let v157 : BitVec 1 := Scalar.cmpi .slt c4_i32 c0_i32_59
  let v158 : BitVec 32 := Scalar.extui v157
  let v159 : BitVec 32 := Scalar.subi v156 v158
  let v160 : BitVec 1 := Scalar.cmpi .ne v154 v159
  let v161 : BitVec 32 := Scalar.remsi arg1 c4_i32
  let c0_i32_60 : BitVec 32 := 0#32
  let v162 : BitVec 1 := Scalar.cmpi .ne v161 c0_i32_60
  let v163 : BitVec 1 := Scalar.andi v160 v162
  let v149 : BitVec 32 := Scalar.divsi arg1 c4_i32
  let c1_i32_61 : BitVec 32 := 1#32
  let v164 : BitVec 32 := Scalar.subi v149 c1_i32_61
  let v165 : BitVec 32 := Scalar.select v163 v164 v149
  let v166 : BitVec 32 := Scalar.subi v165 c0_i32_62
  let c1_i32_63 : BitVec 32 := 1#32
  let v168 : BitVec 32 := Scalar.divsi v166 c1_i32_63
  let v169 : BitVec 32 := Scalar.muli v168 c1_i32_63
  let v170 : BitVec 32 := Scalar.addi c0_i32_62 v169
  let c1_i32_65 : BitVec 32 := 1#32
  let arg14 : BitVec 32 := Scf.iv v170 c1_i32_65 k0_t3
  let v226 : BitVec 32 := Scalar.muli c4_i32_95 arg14
  let v227 : BitVec 32 := Scalar.subi v225 v226
  let v262 : Index := Scalar.indexCast v227
  let c0_114 : Index := 0#32
  let c0_115 : Index := 0#32
  ![v262.toNat, 0, 0]
def k0_off21 (i : grid0.Coords) (k0_t3 : Fin (k0_t3_loop i).trips) (c1_i32_94 : BitVec 32) : Fin 3 → Nat :=
  let arg1 : BitVec 32 := BitVec.ofNat 32 (i 1).val
  let v225 : BitVec 32 := Scalar.subi arg1 c1_i32_94
  let c4_i32_95 : BitVec 32 := 4#32
  let c0_i32_62 : BitVec 32 := 0#32
  let c0_i32_56 : BitVec 32 := 0#32
  let v150 : BitVec 1 := Scalar.cmpi .sgt arg1 c0_i32_56
  let v151 : BitVec 32 := Scalar.extui v150
  let c0_i32_57 : BitVec 32 := 0#32
  let v152 : BitVec 1 := Scalar.cmpi .slt arg1 c0_i32_57
  let v153 : BitVec 32 := Scalar.extui v152
  let v154 : BitVec 32 := Scalar.subi v151 v153
  let c4_i32 : BitVec 32 := 4#32
  let c0_i32_58 : BitVec 32 := 0#32
  let v155 : BitVec 1 := Scalar.cmpi .sgt c4_i32 c0_i32_58
  let v156 : BitVec 32 := Scalar.extui v155
  let c0_i32_59 : BitVec 32 := 0#32
  let v157 : BitVec 1 := Scalar.cmpi .slt c4_i32 c0_i32_59
  let v158 : BitVec 32 := Scalar.extui v157
  let v159 : BitVec 32 := Scalar.subi v156 v158
  let v160 : BitVec 1 := Scalar.cmpi .ne v154 v159
  let v161 : BitVec 32 := Scalar.remsi arg1 c4_i32
  let c0_i32_60 : BitVec 32 := 0#32
  let v162 : BitVec 1 := Scalar.cmpi .ne v161 c0_i32_60
  let v163 : BitVec 1 := Scalar.andi v160 v162
  let v149 : BitVec 32 := Scalar.divsi arg1 c4_i32
  let c1_i32_61 : BitVec 32 := 1#32
  let v164 : BitVec 32 := Scalar.subi v149 c1_i32_61
  let v165 : BitVec 32 := Scalar.select v163 v164 v149
  let v166 : BitVec 32 := Scalar.subi v165 c0_i32_62
  let c1_i32_63 : BitVec 32 := 1#32
  let v168 : BitVec 32 := Scalar.divsi v166 c1_i32_63
  let v169 : BitVec 32 := Scalar.muli v168 c1_i32_63
  let v170 : BitVec 32 := Scalar.addi c0_i32_62 v169
  let c1_i32_65 : BitVec 32 := 1#32
  let arg14 : BitVec 32 := Scf.iv v170 c1_i32_65 k0_t3
  let v226 : BitVec 32 := Scalar.muli c4_i32_95 arg14
  let v227 : BitVec 32 := Scalar.subi v225 v226
  let v270 : Index := Scalar.indexCast v227
  let c64_117 : Index := 64#32
  let c0_118 : Index := 0#32
  ![v270.toNat, 64, 0]
def k0_off22 (i : grid0.Coords) (k0_t3 : Fin (k0_t3_loop i).trips) (c1_i32_94 : BitVec 32) : Fin 3 → Nat :=
  let arg1 : BitVec 32 := BitVec.ofNat 32 (i 1).val
  let v225 : BitVec 32 := Scalar.subi arg1 c1_i32_94
  let c4_i32_95 : BitVec 32 := 4#32
  let c0_i32_62 : BitVec 32 := 0#32
  let c0_i32_56 : BitVec 32 := 0#32
  let v150 : BitVec 1 := Scalar.cmpi .sgt arg1 c0_i32_56
  let v151 : BitVec 32 := Scalar.extui v150
  let c0_i32_57 : BitVec 32 := 0#32
  let v152 : BitVec 1 := Scalar.cmpi .slt arg1 c0_i32_57
  let v153 : BitVec 32 := Scalar.extui v152
  let v154 : BitVec 32 := Scalar.subi v151 v153
  let c4_i32 : BitVec 32 := 4#32
  let c0_i32_58 : BitVec 32 := 0#32
  let v155 : BitVec 1 := Scalar.cmpi .sgt c4_i32 c0_i32_58
  let v156 : BitVec 32 := Scalar.extui v155
  let c0_i32_59 : BitVec 32 := 0#32
  let v157 : BitVec 1 := Scalar.cmpi .slt c4_i32 c0_i32_59
  let v158 : BitVec 32 := Scalar.extui v157
  let v159 : BitVec 32 := Scalar.subi v156 v158
  let v160 : BitVec 1 := Scalar.cmpi .ne v154 v159
  let v161 : BitVec 32 := Scalar.remsi arg1 c4_i32
  let c0_i32_60 : BitVec 32 := 0#32
  let v162 : BitVec 1 := Scalar.cmpi .ne v161 c0_i32_60
  let v163 : BitVec 1 := Scalar.andi v160 v162
  let v149 : BitVec 32 := Scalar.divsi arg1 c4_i32
  let c1_i32_61 : BitVec 32 := 1#32
  let v164 : BitVec 32 := Scalar.subi v149 c1_i32_61
  let v165 : BitVec 32 := Scalar.select v163 v164 v149
  let v166 : BitVec 32 := Scalar.subi v165 c0_i32_62
  let c1_i32_63 : BitVec 32 := 1#32
  let v168 : BitVec 32 := Scalar.divsi v166 c1_i32_63
  let v169 : BitVec 32 := Scalar.muli v168 c1_i32_63
  let v170 : BitVec 32 := Scalar.addi c0_i32_62 v169
  let c1_i32_65 : BitVec 32 := 1#32
  let arg14 : BitVec 32 := Scf.iv v170 c1_i32_65 k0_t3
  let v226 : BitVec 32 := Scalar.muli c4_i32_95 arg14
  let v227 : BitVec 32 := Scalar.subi v225 v226
  let v278 : Index := Scalar.indexCast v227
  let c128_120 : Index := 128#32
  let c0_121 : Index := 0#32
  ![v278.toNat, 128, 0]
def k0_off23 (i : grid0.Coords) (k0_t3 : Fin (k0_t3_loop i).trips) (c1_i32_94 : BitVec 32) : Fin 3 → Nat :=
  let arg1 : BitVec 32 := BitVec.ofNat 32 (i 1).val
  let v225 : BitVec 32 := Scalar.subi arg1 c1_i32_94
  let c4_i32_95 : BitVec 32 := 4#32
  let c0_i32_62 : BitVec 32 := 0#32
  let c0_i32_56 : BitVec 32 := 0#32
  let v150 : BitVec 1 := Scalar.cmpi .sgt arg1 c0_i32_56
  let v151 : BitVec 32 := Scalar.extui v150
  let c0_i32_57 : BitVec 32 := 0#32
  let v152 : BitVec 1 := Scalar.cmpi .slt arg1 c0_i32_57
  let v153 : BitVec 32 := Scalar.extui v152
  let v154 : BitVec 32 := Scalar.subi v151 v153
  let c4_i32 : BitVec 32 := 4#32
  let c0_i32_58 : BitVec 32 := 0#32
  let v155 : BitVec 1 := Scalar.cmpi .sgt c4_i32 c0_i32_58
  let v156 : BitVec 32 := Scalar.extui v155
  let c0_i32_59 : BitVec 32 := 0#32
  let v157 : BitVec 1 := Scalar.cmpi .slt c4_i32 c0_i32_59
  let v158 : BitVec 32 := Scalar.extui v157
  let v159 : BitVec 32 := Scalar.subi v156 v158
  let v160 : BitVec 1 := Scalar.cmpi .ne v154 v159
  let v161 : BitVec 32 := Scalar.remsi arg1 c4_i32
  let c0_i32_60 : BitVec 32 := 0#32
  let v162 : BitVec 1 := Scalar.cmpi .ne v161 c0_i32_60
  let v163 : BitVec 1 := Scalar.andi v160 v162
  let v149 : BitVec 32 := Scalar.divsi arg1 c4_i32
  let c1_i32_61 : BitVec 32 := 1#32
  let v164 : BitVec 32 := Scalar.subi v149 c1_i32_61
  let v165 : BitVec 32 := Scalar.select v163 v164 v149
  let v166 : BitVec 32 := Scalar.subi v165 c0_i32_62
  let c1_i32_63 : BitVec 32 := 1#32
  let v168 : BitVec 32 := Scalar.divsi v166 c1_i32_63
  let v169 : BitVec 32 := Scalar.muli v168 c1_i32_63
  let v170 : BitVec 32 := Scalar.addi c0_i32_62 v169
  let c1_i32_65 : BitVec 32 := 1#32
  let arg14 : BitVec 32 := Scf.iv v170 c1_i32_65 k0_t3
  let v226 : BitVec 32 := Scalar.muli c4_i32_95 arg14
  let v227 : BitVec 32 := Scalar.subi v225 v226
  let v286 : Index := Scalar.indexCast v227
  let c192_123 : Index := 192#32
  let c0_124 : Index := 0#32
  ![v286.toNat, 192, 0]
def k0_mult9 (i : grid0.Coords) (k0_t3 : Fin (k0_t3_loop i).trips) : BitVec 32 :=
  let arg1 : BitVec 32 := BitVec.ofNat 32 (i 1).val
  let c1_i32_94 : BitVec 32 := 1#32
  let v225 : BitVec 32 := Scalar.subi arg1 c1_i32_94
  let c4_i32_95 : BitVec 32 := 4#32
  let c0_i32_62 : BitVec 32 := 0#32
  let c0_i32_56 : BitVec 32 := 0#32
  let v150 : BitVec 1 := Scalar.cmpi .sgt arg1 c0_i32_56
  let v151 : BitVec 32 := Scalar.extui v150
  let c0_i32_57 : BitVec 32 := 0#32
  let v152 : BitVec 1 := Scalar.cmpi .slt arg1 c0_i32_57
  let v153 : BitVec 32 := Scalar.extui v152
  let v154 : BitVec 32 := Scalar.subi v151 v153
  let c4_i32 : BitVec 32 := 4#32
  let c0_i32_58 : BitVec 32 := 0#32
  let v155 : BitVec 1 := Scalar.cmpi .sgt c4_i32 c0_i32_58
  let v156 : BitVec 32 := Scalar.extui v155
  let c0_i32_59 : BitVec 32 := 0#32
  let v157 : BitVec 1 := Scalar.cmpi .slt c4_i32 c0_i32_59
  let v158 : BitVec 32 := Scalar.extui v157
  let v159 : BitVec 32 := Scalar.subi v156 v158
  let v160 : BitVec 1 := Scalar.cmpi .ne v154 v159
  let v161 : BitVec 32 := Scalar.remsi arg1 c4_i32
  let c0_i32_60 : BitVec 32 := 0#32
  let v162 : BitVec 1 := Scalar.cmpi .ne v161 c0_i32_60
  let v163 : BitVec 1 := Scalar.andi v160 v162
  let v149 : BitVec 32 := Scalar.divsi arg1 c4_i32
  let c1_i32_61 : BitVec 32 := 1#32
  let v164 : BitVec 32 := Scalar.subi v149 c1_i32_61
  let v165 : BitVec 32 := Scalar.select v163 v164 v149
  let v166 : BitVec 32 := Scalar.subi v165 c0_i32_62
  let c1_i32_63 : BitVec 32 := 1#32
  let v168 : BitVec 32 := Scalar.divsi v166 c1_i32_63
  let v169 : BitVec 32 := Scalar.muli v168 c1_i32_63
  let v170 : BitVec 32 := Scalar.addi c0_i32_62 v169
  let c1_i32_65 : BitVec 32 := 1#32
  let arg14 : BitVec 32 := Scf.iv v170 c1_i32_65 k0_t3
  let v226 : BitVec 32 := Scalar.muli c4_i32_95 arg14
  let v227 : BitVec 32 := Scalar.subi v225 v226
  let c2_i32_130 : BitVec 32 := 2#32
  let v304 : BitVec 32 := Scalar.subi v227 c2_i32_130
  let c0_i32_131 : BitVec 32 := 0#32
  let v305 : BitVec 32 := Scalar.maxsi v304 c0_i32_131
  let c256_i32_132 : BitVec 32 := 256#32
  let v306 : BitVec 32 := Scalar.muli v305 c256_i32_132
  v306
def k0_off24 (i : grid0.Coords) (k0_t3 : Fin (k0_t3_loop i).trips) (c1_i32_94 : BitVec 32) : Fin 3 → Nat :=
  let c0_133 : Index := 0#32
  let arg1 : BitVec 32 := BitVec.ofNat 32 (i 1).val
  let v225 : BitVec 32 := Scalar.subi arg1 c1_i32_94
  let c4_i32_95 : BitVec 32 := 4#32
  let c0_i32_62 : BitVec 32 := 0#32
  let c0_i32_56 : BitVec 32 := 0#32
  let v150 : BitVec 1 := Scalar.cmpi .sgt arg1 c0_i32_56
  let v151 : BitVec 32 := Scalar.extui v150
  let c0_i32_57 : BitVec 32 := 0#32
  let v152 : BitVec 1 := Scalar.cmpi .slt arg1 c0_i32_57
  let v153 : BitVec 32 := Scalar.extui v152
  let v154 : BitVec 32 := Scalar.subi v151 v153
  let c4_i32 : BitVec 32 := 4#32
  let c0_i32_58 : BitVec 32 := 0#32
  let v155 : BitVec 1 := Scalar.cmpi .sgt c4_i32 c0_i32_58
  let v156 : BitVec 32 := Scalar.extui v155
  let c0_i32_59 : BitVec 32 := 0#32
  let v157 : BitVec 1 := Scalar.cmpi .slt c4_i32 c0_i32_59
  let v158 : BitVec 32 := Scalar.extui v157
  let v159 : BitVec 32 := Scalar.subi v156 v158
  let v160 : BitVec 1 := Scalar.cmpi .ne v154 v159
  let v161 : BitVec 32 := Scalar.remsi arg1 c4_i32
  let c0_i32_60 : BitVec 32 := 0#32
  let v162 : BitVec 1 := Scalar.cmpi .ne v161 c0_i32_60
  let v163 : BitVec 1 := Scalar.andi v160 v162
  let v149 : BitVec 32 := Scalar.divsi arg1 c4_i32
  let c1_i32_61 : BitVec 32 := 1#32
  let v164 : BitVec 32 := Scalar.subi v149 c1_i32_61
  let v165 : BitVec 32 := Scalar.select v163 v164 v149
  let v166 : BitVec 32 := Scalar.subi v165 c0_i32_62
  let c1_i32_63 : BitVec 32 := 1#32
  let v168 : BitVec 32 := Scalar.divsi v166 c1_i32_63
  let v169 : BitVec 32 := Scalar.muli v168 c1_i32_63
  let v170 : BitVec 32 := Scalar.addi c0_i32_62 v169
  let c1_i32_65 : BitVec 32 := 1#32
  let arg14 : BitVec 32 := Scf.iv v170 c1_i32_65 k0_t3
  let v226 : BitVec 32 := Scalar.muli c4_i32_95 arg14
  let v227 : BitVec 32 := Scalar.subi v225 v226
  let c2_i32_130 : BitVec 32 := 2#32
  let v304 : BitVec 32 := Scalar.subi v227 c2_i32_130
  let c0_i32_131 : BitVec 32 := 0#32
  let v305 : BitVec 32 := Scalar.maxsi v304 c0_i32_131
  let c256_i32_132 : BitVec 32 := 256#32
  let v306 : BitVec 32 := Scalar.muli v305 c256_i32_132
  let v307 : BitVec 32 := v306
  let v308 : Index := Scalar.indexCast v307
  let c0_134 : Index := 0#32
  ![0, v308.toNat, 0]
def k0_off25 (i : grid0.Coords) (k0_t3 : Fin (k0_t3_loop i).trips) (c1_i32_94 : BitVec 32) : Fin 3 → Nat :=
  let arg1 : BitVec 32 := BitVec.ofNat 32 (i 1).val
  let v225 : BitVec 32 := Scalar.subi arg1 c1_i32_94
  let c4_i32_95 : BitVec 32 := 4#32
  let c0_i32_62 : BitVec 32 := 0#32
  let c0_i32_56 : BitVec 32 := 0#32
  let v150 : BitVec 1 := Scalar.cmpi .sgt arg1 c0_i32_56
  let v151 : BitVec 32 := Scalar.extui v150
  let c0_i32_57 : BitVec 32 := 0#32
  let v152 : BitVec 1 := Scalar.cmpi .slt arg1 c0_i32_57
  let v153 : BitVec 32 := Scalar.extui v152
  let v154 : BitVec 32 := Scalar.subi v151 v153
  let c4_i32 : BitVec 32 := 4#32
  let c0_i32_58 : BitVec 32 := 0#32
  let v155 : BitVec 1 := Scalar.cmpi .sgt c4_i32 c0_i32_58
  let v156 : BitVec 32 := Scalar.extui v155
  let c0_i32_59 : BitVec 32 := 0#32
  let v157 : BitVec 1 := Scalar.cmpi .slt c4_i32 c0_i32_59
  let v158 : BitVec 32 := Scalar.extui v157
  let v159 : BitVec 32 := Scalar.subi v156 v158
  let v160 : BitVec 1 := Scalar.cmpi .ne v154 v159
  let v161 : BitVec 32 := Scalar.remsi arg1 c4_i32
  let c0_i32_60 : BitVec 32 := 0#32
  let v162 : BitVec 1 := Scalar.cmpi .ne v161 c0_i32_60
  let v163 : BitVec 1 := Scalar.andi v160 v162
  let v149 : BitVec 32 := Scalar.divsi arg1 c4_i32
  let c1_i32_61 : BitVec 32 := 1#32
  let v164 : BitVec 32 := Scalar.subi v149 c1_i32_61
  let v165 : BitVec 32 := Scalar.select v163 v164 v149
  let v166 : BitVec 32 := Scalar.subi v165 c0_i32_62
  let c1_i32_63 : BitVec 32 := 1#32
  let v168 : BitVec 32 := Scalar.divsi v166 c1_i32_63
  let v169 : BitVec 32 := Scalar.muli v168 c1_i32_63
  let v170 : BitVec 32 := Scalar.addi c0_i32_62 v169
  let c1_i32_65 : BitVec 32 := 1#32
  let arg14 : BitVec 32 := Scf.iv v170 c1_i32_65 k0_t3
  let v226 : BitVec 32 := Scalar.muli c4_i32_95 arg14
  let v227 : BitVec 32 := Scalar.subi v225 v226
  let c1_i32_140 : BitVec 32 := 1#32
  let v316 : BitVec 32 := Scalar.subi v227 c1_i32_140
  let v340 : Index := Scalar.indexCast v316
  let c0_150 : Index := 0#32
  let c0_151 : Index := 0#32
  ![v340.toNat, 0, 0]
def k0_off26 (i : grid0.Coords) (k0_t3 : Fin (k0_t3_loop i).trips) (c1_i32_94 : BitVec 32) : Fin 3 → Nat :=
  let arg1 : BitVec 32 := BitVec.ofNat 32 (i 1).val
  let v225 : BitVec 32 := Scalar.subi arg1 c1_i32_94
  let c4_i32_95 : BitVec 32 := 4#32
  let c0_i32_62 : BitVec 32 := 0#32
  let c0_i32_56 : BitVec 32 := 0#32
  let v150 : BitVec 1 := Scalar.cmpi .sgt arg1 c0_i32_56
  let v151 : BitVec 32 := Scalar.extui v150
  let c0_i32_57 : BitVec 32 := 0#32
  let v152 : BitVec 1 := Scalar.cmpi .slt arg1 c0_i32_57
  let v153 : BitVec 32 := Scalar.extui v152
  let v154 : BitVec 32 := Scalar.subi v151 v153
  let c4_i32 : BitVec 32 := 4#32
  let c0_i32_58 : BitVec 32 := 0#32
  let v155 : BitVec 1 := Scalar.cmpi .sgt c4_i32 c0_i32_58
  let v156 : BitVec 32 := Scalar.extui v155
  let c0_i32_59 : BitVec 32 := 0#32
  let v157 : BitVec 1 := Scalar.cmpi .slt c4_i32 c0_i32_59
  let v158 : BitVec 32 := Scalar.extui v157
  let v159 : BitVec 32 := Scalar.subi v156 v158
  let v160 : BitVec 1 := Scalar.cmpi .ne v154 v159
  let v161 : BitVec 32 := Scalar.remsi arg1 c4_i32
  let c0_i32_60 : BitVec 32 := 0#32
  let v162 : BitVec 1 := Scalar.cmpi .ne v161 c0_i32_60
  let v163 : BitVec 1 := Scalar.andi v160 v162
  let v149 : BitVec 32 := Scalar.divsi arg1 c4_i32
  let c1_i32_61 : BitVec 32 := 1#32
  let v164 : BitVec 32 := Scalar.subi v149 c1_i32_61
  let v165 : BitVec 32 := Scalar.select v163 v164 v149
  let v166 : BitVec 32 := Scalar.subi v165 c0_i32_62
  let c1_i32_63 : BitVec 32 := 1#32
  let v168 : BitVec 32 := Scalar.divsi v166 c1_i32_63
  let v169 : BitVec 32 := Scalar.muli v168 c1_i32_63
  let v170 : BitVec 32 := Scalar.addi c0_i32_62 v169
  let c1_i32_65 : BitVec 32 := 1#32
  let arg14 : BitVec 32 := Scf.iv v170 c1_i32_65 k0_t3
  let v226 : BitVec 32 := Scalar.muli c4_i32_95 arg14
  let v227 : BitVec 32 := Scalar.subi v225 v226
  let c1_i32_140 : BitVec 32 := 1#32
  let v316 : BitVec 32 := Scalar.subi v227 c1_i32_140
  let v348 : Index := Scalar.indexCast v316
  let c64_153 : Index := 64#32
  let c0_154 : Index := 0#32
  ![v348.toNat, 64, 0]
def k0_off27 (i : grid0.Coords) (k0_t3 : Fin (k0_t3_loop i).trips) (c1_i32_94 : BitVec 32) : Fin 3 → Nat :=
  let arg1 : BitVec 32 := BitVec.ofNat 32 (i 1).val
  let v225 : BitVec 32 := Scalar.subi arg1 c1_i32_94
  let c4_i32_95 : BitVec 32 := 4#32
  let c0_i32_62 : BitVec 32 := 0#32
  let c0_i32_56 : BitVec 32 := 0#32
  let v150 : BitVec 1 := Scalar.cmpi .sgt arg1 c0_i32_56
  let v151 : BitVec 32 := Scalar.extui v150
  let c0_i32_57 : BitVec 32 := 0#32
  let v152 : BitVec 1 := Scalar.cmpi .slt arg1 c0_i32_57
  let v153 : BitVec 32 := Scalar.extui v152
  let v154 : BitVec 32 := Scalar.subi v151 v153
  let c4_i32 : BitVec 32 := 4#32
  let c0_i32_58 : BitVec 32 := 0#32
  let v155 : BitVec 1 := Scalar.cmpi .sgt c4_i32 c0_i32_58
  let v156 : BitVec 32 := Scalar.extui v155
  let c0_i32_59 : BitVec 32 := 0#32
  let v157 : BitVec 1 := Scalar.cmpi .slt c4_i32 c0_i32_59
  let v158 : BitVec 32 := Scalar.extui v157
  let v159 : BitVec 32 := Scalar.subi v156 v158
  let v160 : BitVec 1 := Scalar.cmpi .ne v154 v159
  let v161 : BitVec 32 := Scalar.remsi arg1 c4_i32
  let c0_i32_60 : BitVec 32 := 0#32
  let v162 : BitVec 1 := Scalar.cmpi .ne v161 c0_i32_60
  let v163 : BitVec 1 := Scalar.andi v160 v162
  let v149 : BitVec 32 := Scalar.divsi arg1 c4_i32
  let c1_i32_61 : BitVec 32 := 1#32
  let v164 : BitVec 32 := Scalar.subi v149 c1_i32_61
  let v165 : BitVec 32 := Scalar.select v163 v164 v149
  let v166 : BitVec 32 := Scalar.subi v165 c0_i32_62
  let c1_i32_63 : BitVec 32 := 1#32
  let v168 : BitVec 32 := Scalar.divsi v166 c1_i32_63
  let v169 : BitVec 32 := Scalar.muli v168 c1_i32_63
  let v170 : BitVec 32 := Scalar.addi c0_i32_62 v169
  let c1_i32_65 : BitVec 32 := 1#32
  let arg14 : BitVec 32 := Scf.iv v170 c1_i32_65 k0_t3
  let v226 : BitVec 32 := Scalar.muli c4_i32_95 arg14
  let v227 : BitVec 32 := Scalar.subi v225 v226
  let c1_i32_140 : BitVec 32 := 1#32
  let v316 : BitVec 32 := Scalar.subi v227 c1_i32_140
  let v356 : Index := Scalar.indexCast v316
  let c128_156 : Index := 128#32
  let c0_157 : Index := 0#32
  ![v356.toNat, 128, 0]
def k0_off28 (i : grid0.Coords) (k0_t3 : Fin (k0_t3_loop i).trips) (c1_i32_94 : BitVec 32) : Fin 3 → Nat :=
  let arg1 : BitVec 32 := BitVec.ofNat 32 (i 1).val
  let v225 : BitVec 32 := Scalar.subi arg1 c1_i32_94
  let c4_i32_95 : BitVec 32 := 4#32
  let c0_i32_62 : BitVec 32 := 0#32
  let c0_i32_56 : BitVec 32 := 0#32
  let v150 : BitVec 1 := Scalar.cmpi .sgt arg1 c0_i32_56
  let v151 : BitVec 32 := Scalar.extui v150
  let c0_i32_57 : BitVec 32 := 0#32
  let v152 : BitVec 1 := Scalar.cmpi .slt arg1 c0_i32_57
  let v153 : BitVec 32 := Scalar.extui v152
  let v154 : BitVec 32 := Scalar.subi v151 v153
  let c4_i32 : BitVec 32 := 4#32
  let c0_i32_58 : BitVec 32 := 0#32
  let v155 : BitVec 1 := Scalar.cmpi .sgt c4_i32 c0_i32_58
  let v156 : BitVec 32 := Scalar.extui v155
  let c0_i32_59 : BitVec 32 := 0#32
  let v157 : BitVec 1 := Scalar.cmpi .slt c4_i32 c0_i32_59
  let v158 : BitVec 32 := Scalar.extui v157
  let v159 : BitVec 32 := Scalar.subi v156 v158
  let v160 : BitVec 1 := Scalar.cmpi .ne v154 v159
  let v161 : BitVec 32 := Scalar.remsi arg1 c4_i32
  let c0_i32_60 : BitVec 32 := 0#32
  let v162 : BitVec 1 := Scalar.cmpi .ne v161 c0_i32_60
  let v163 : BitVec 1 := Scalar.andi v160 v162
  let v149 : BitVec 32 := Scalar.divsi arg1 c4_i32
  let c1_i32_61 : BitVec 32 := 1#32
  let v164 : BitVec 32 := Scalar.subi v149 c1_i32_61
  let v165 : BitVec 32 := Scalar.select v163 v164 v149
  let v166 : BitVec 32 := Scalar.subi v165 c0_i32_62
  let c1_i32_63 : BitVec 32 := 1#32
  let v168 : BitVec 32 := Scalar.divsi v166 c1_i32_63
  let v169 : BitVec 32 := Scalar.muli v168 c1_i32_63
  let v170 : BitVec 32 := Scalar.addi c0_i32_62 v169
  let c1_i32_65 : BitVec 32 := 1#32
  let arg14 : BitVec 32 := Scf.iv v170 c1_i32_65 k0_t3
  let v226 : BitVec 32 := Scalar.muli c4_i32_95 arg14
  let v227 : BitVec 32 := Scalar.subi v225 v226
  let c1_i32_140 : BitVec 32 := 1#32
  let v316 : BitVec 32 := Scalar.subi v227 c1_i32_140
  let v364 : Index := Scalar.indexCast v316
  let c192_159 : Index := 192#32
  let c0_160 : Index := 0#32
  ![v364.toNat, 192, 0]
def k0_mult10 (i : grid0.Coords) (k0_t3 : Fin (k0_t3_loop i).trips) : BitVec 32 :=
  let arg1 : BitVec 32 := BitVec.ofNat 32 (i 1).val
  let c3_i32 : BitVec 32 := 3#32
  let v222 : BitVec 32 := Scalar.subi arg1 c3_i32
  let c4_i32_93 : BitVec 32 := 4#32
  let c0_i32_62 : BitVec 32 := 0#32
  let c0_i32_56 : BitVec 32 := 0#32
  let v150 : BitVec 1 := Scalar.cmpi .sgt arg1 c0_i32_56
  let v151 : BitVec 32 := Scalar.extui v150
  let c0_i32_57 : BitVec 32 := 0#32
  let v152 : BitVec 1 := Scalar.cmpi .slt arg1 c0_i32_57
  let v153 : BitVec 32 := Scalar.extui v152
  let v154 : BitVec 32 := Scalar.subi v151 v153
  let c4_i32 : BitVec 32 := 4#32
  let c0_i32_58 : BitVec 32 := 0#32
  let v155 : BitVec 1 := Scalar.cmpi .sgt c4_i32 c0_i32_58
  let v156 : BitVec 32 := Scalar.extui v155
  let c0_i32_59 : BitVec 32 := 0#32
  let v157 : BitVec 1 := Scalar.cmpi .slt c4_i32 c0_i32_59
  let v158 : BitVec 32 := Scalar.extui v157
  let v159 : BitVec 32 := Scalar.subi v156 v158
  let v160 : BitVec 1 := Scalar.cmpi .ne v154 v159
  let v161 : BitVec 32 := Scalar.remsi arg1 c4_i32
  let c0_i32_60 : BitVec 32 := 0#32
  let v162 : BitVec 1 := Scalar.cmpi .ne v161 c0_i32_60
  let v163 : BitVec 1 := Scalar.andi v160 v162
  let v149 : BitVec 32 := Scalar.divsi arg1 c4_i32
  let c1_i32_61 : BitVec 32 := 1#32
  let v164 : BitVec 32 := Scalar.subi v149 c1_i32_61
  let v165 : BitVec 32 := Scalar.select v163 v164 v149
  let v166 : BitVec 32 := Scalar.subi v165 c0_i32_62
  let c1_i32_63 : BitVec 32 := 1#32
  let v168 : BitVec 32 := Scalar.divsi v166 c1_i32_63
  let v169 : BitVec 32 := Scalar.muli v168 c1_i32_63
  let v170 : BitVec 32 := Scalar.addi c0_i32_62 v169
  let c1_i32_65 : BitVec 32 := 1#32
  let arg14 : BitVec 32 := Scf.iv v170 c1_i32_65 k0_t3
  let v223 : BitVec 32 := Scalar.muli c4_i32_93 arg14
  let v224 : BitVec 32 := Scalar.subi v222 v223
  let c1_i32_166 : BitVec 32 := 1#32
  let v382 : BitVec 32 := Scalar.subi v224 c1_i32_166
  let c256_i32_167 : BitVec 32 := 256#32
  let v383 : BitVec 32 := Scalar.muli v382 c256_i32_167
  v383
def k0_mult11 (i : grid0.Coords) (k0_t3 : Fin (k0_t3_loop i).trips) : BitVec 32 :=
  let arg1 : BitVec 32 := BitVec.ofNat 32 (i 1).val
  let c3_i32 : BitVec 32 := 3#32
  let v222 : BitVec 32 := Scalar.subi arg1 c3_i32
  let c4_i32_93 : BitVec 32 := 4#32
  let c0_i32_62 : BitVec 32 := 0#32
  let c0_i32_56 : BitVec 32 := 0#32
  let v150 : BitVec 1 := Scalar.cmpi .sgt arg1 c0_i32_56
  let v151 : BitVec 32 := Scalar.extui v150
  let c0_i32_57 : BitVec 32 := 0#32
  let v152 : BitVec 1 := Scalar.cmpi .slt arg1 c0_i32_57
  let v153 : BitVec 32 := Scalar.extui v152
  let v154 : BitVec 32 := Scalar.subi v151 v153
  let c4_i32 : BitVec 32 := 4#32
  let c0_i32_58 : BitVec 32 := 0#32
  let v155 : BitVec 1 := Scalar.cmpi .sgt c4_i32 c0_i32_58
  let v156 : BitVec 32 := Scalar.extui v155
  let c0_i32_59 : BitVec 32 := 0#32
  let v157 : BitVec 1 := Scalar.cmpi .slt c4_i32 c0_i32_59
  let v158 : BitVec 32 := Scalar.extui v157
  let v159 : BitVec 32 := Scalar.subi v156 v158
  let v160 : BitVec 1 := Scalar.cmpi .ne v154 v159
  let v161 : BitVec 32 := Scalar.remsi arg1 c4_i32
  let c0_i32_60 : BitVec 32 := 0#32
  let v162 : BitVec 1 := Scalar.cmpi .ne v161 c0_i32_60
  let v163 : BitVec 1 := Scalar.andi v160 v162
  let v149 : BitVec 32 := Scalar.divsi arg1 c4_i32
  let c1_i32_61 : BitVec 32 := 1#32
  let v164 : BitVec 32 := Scalar.subi v149 c1_i32_61
  let v165 : BitVec 32 := Scalar.select v163 v164 v149
  let v166 : BitVec 32 := Scalar.subi v165 c0_i32_62
  let c1_i32_63 : BitVec 32 := 1#32
  let v168 : BitVec 32 := Scalar.divsi v166 c1_i32_63
  let v169 : BitVec 32 := Scalar.muli v168 c1_i32_63
  let v170 : BitVec 32 := Scalar.addi c0_i32_62 v169
  let c1_i32_65 : BitVec 32 := 1#32
  let arg14 : BitVec 32 := Scf.iv v170 c1_i32_65 k0_t3
  let v223 : BitVec 32 := Scalar.muli c4_i32_93 arg14
  let v224 : BitVec 32 := Scalar.subi v222 v223
  let c2_i32_200 : BitVec 32 := 2#32
  let v458 : BitVec 32 := Scalar.subi v224 c2_i32_200
  let c0_i32_201 : BitVec 32 := 0#32
  let v459 : BitVec 32 := Scalar.maxsi v458 c0_i32_201
  let c256_i32_202 : BitVec 32 := 256#32
  let v460 : BitVec 32 := Scalar.muli v459 c256_i32_202
  v460
def k0_cond2 (i : grid0.Coords) : BitVec 1 :=
  let arg1 : BitVec 32 := BitVec.ofNat 32 (i 1).val
  let c4_i32_68 : BitVec 32 := 4#32
  let c0_i32_69 : BitVec 32 := 0#32
  let v176 : BitVec 1 := Scalar.cmpi .eq c4_i32_68 c0_i32_69
  let c1_i32_70 : BitVec 32 := 1#32
  let v177 : BitVec 32 := Scalar.select v176 c1_i32_70 c4_i32_68
  let v178 : BitVec 32 := Scalar.remsi arg1 v177
  let c0_i32_72 : BitVec 32 := 0#32
  let v180 : BitVec 1 := Scalar.cmpi .slt v178 c0_i32_72
  let c0_i32_73 : BitVec 32 := 0#32
  let v181 : BitVec 1 := Scalar.cmpi .slt v177 c0_i32_73
  let v182 : BitVec 1 := Scalar.xori v180 v181
  let c0_i32_71 : BitVec 32 := 0#32
  let v179 : BitVec 1 := Scalar.cmpi .ne v178 c0_i32_71
  let v183 : BitVec 1 := Scalar.andi v182 v179
  let v184 : BitVec 32 := Scalar.addi v178 v177
  let v185 : BitVec 32 := Scalar.select v183 v184 v178
  let c2_i32 : BitVec 32 := 2#32
  let v186 : BitVec 1 := Scalar.cmpi .sge v185 c2_i32
  let v187 : BitVec 32 := Scalar.extui v186
  let c0_i32_74 : BitVec 32 := 0#32
  let v188 : BitVec 1 := Scalar.cmpi .ne v187 c0_i32_74
  v188

def k0_mult12 (i : grid0.Coords) : BitVec 32 :=
  let arg1 : BitVec 32 := BitVec.ofNat 32 (i 1).val
  let c4_i32_68 : BitVec 32 := 4#32
  let c0_i32_69 : BitVec 32 := 0#32
  let v176 : BitVec 1 := Scalar.cmpi .eq c4_i32_68 c0_i32_69
  let c1_i32_70 : BitVec 32 := 1#32
  let v177 : BitVec 32 := Scalar.select v176 c1_i32_70 c4_i32_68
  let v178 : BitVec 32 := Scalar.remsi arg1 v177
  let c0_i32_72 : BitVec 32 := 0#32
  let v180 : BitVec 1 := Scalar.cmpi .slt v178 c0_i32_72
  let c0_i32_73 : BitVec 32 := 0#32
  let v181 : BitVec 1 := Scalar.cmpi .slt v177 c0_i32_73
  let v182 : BitVec 1 := Scalar.xori v180 v181
  let c0_i32_71 : BitVec 32 := 0#32
  let v179 : BitVec 1 := Scalar.cmpi .ne v178 c0_i32_71
  let v183 : BitVec 1 := Scalar.andi v182 v179
  let v184 : BitVec 32 := Scalar.addi v178 v177
  let v185 : BitVec 32 := Scalar.select v183 v184 v178
  let c1_i32_93 : BitVec 32 := 1#32
  let v222 : BitVec 32 := Scalar.subi v185 c1_i32_93
  let c1_i32_96 : BitVec 32 := 1#32
  let v224 : BitVec 32 := Scalar.subi v222 c1_i32_96
  let c256_i32_97 : BitVec 32 := 256#32
  let v225 : BitVec 32 := Scalar.muli v224 c256_i32_97
  v225
def k0_off29 (i : grid0.Coords) : Fin 3 → Nat :=
  let c0_98 : Index := 0#32
  let arg1 : BitVec 32 := BitVec.ofNat 32 (i 1).val
  let c4_i32_68 : BitVec 32 := 4#32
  let c0_i32_69 : BitVec 32 := 0#32
  let v176 : BitVec 1 := Scalar.cmpi .eq c4_i32_68 c0_i32_69
  let c1_i32_70 : BitVec 32 := 1#32
  let v177 : BitVec 32 := Scalar.select v176 c1_i32_70 c4_i32_68
  let v178 : BitVec 32 := Scalar.remsi arg1 v177
  let c0_i32_72 : BitVec 32 := 0#32
  let v180 : BitVec 1 := Scalar.cmpi .slt v178 c0_i32_72
  let c0_i32_73 : BitVec 32 := 0#32
  let v181 : BitVec 1 := Scalar.cmpi .slt v177 c0_i32_73
  let v182 : BitVec 1 := Scalar.xori v180 v181
  let c0_i32_71 : BitVec 32 := 0#32
  let v179 : BitVec 1 := Scalar.cmpi .ne v178 c0_i32_71
  let v183 : BitVec 1 := Scalar.andi v182 v179
  let v184 : BitVec 32 := Scalar.addi v178 v177
  let v185 : BitVec 32 := Scalar.select v183 v184 v178
  let c1_i32_93 : BitVec 32 := 1#32
  let v222 : BitVec 32 := Scalar.subi v185 c1_i32_93
  let c1_i32_96 : BitVec 32 := 1#32
  let v224 : BitVec 32 := Scalar.subi v222 c1_i32_96
  let c256_i32_97 : BitVec 32 := 256#32
  let v225 : BitVec 32 := Scalar.muli v224 c256_i32_97
  let v226 : BitVec 32 := v225
  let v227 : Index := Scalar.indexCast v226
  let c0_99 : Index := 0#32
  ![0, v227.toNat, 0]
def k0_off30 (i : grid0.Coords) : Fin 3 → Nat :=
  let arg1 : BitVec 32 := BitVec.ofNat 32 (i 1).val
  let c4_i32_68 : BitVec 32 := 4#32
  let c0_i32_69 : BitVec 32 := 0#32
  let v176 : BitVec 1 := Scalar.cmpi .eq c4_i32_68 c0_i32_69
  let c1_i32_70 : BitVec 32 := 1#32
  let v177 : BitVec 32 := Scalar.select v176 c1_i32_70 c4_i32_68
  let v178 : BitVec 32 := Scalar.remsi arg1 v177
  let c0_i32_72 : BitVec 32 := 0#32
  let v180 : BitVec 1 := Scalar.cmpi .slt v178 c0_i32_72
  let c0_i32_73 : BitVec 32 := 0#32
  let v181 : BitVec 1 := Scalar.cmpi .slt v177 c0_i32_73
  let v182 : BitVec 1 := Scalar.xori v180 v181
  let c0_i32_71 : BitVec 32 := 0#32
  let v179 : BitVec 1 := Scalar.cmpi .ne v178 c0_i32_71
  let v183 : BitVec 1 := Scalar.andi v182 v179
  let v184 : BitVec 32 := Scalar.addi v178 v177
  let v185 : BitVec 32 := Scalar.select v183 v184 v178
  let c1_i32_93 : BitVec 32 := 1#32
  let v222 : BitVec 32 := Scalar.subi v185 c1_i32_93
  let v258 : Index := Scalar.indexCast v222
  let c0_114 : Index := 0#32
  let c0_115 : Index := 0#32
  ![v258.toNat, 0, 0]
def k0_off31 (i : grid0.Coords) : Fin 3 → Nat :=
  let arg1 : BitVec 32 := BitVec.ofNat 32 (i 1).val
  let c4_i32_68 : BitVec 32 := 4#32
  let c0_i32_69 : BitVec 32 := 0#32
  let v176 : BitVec 1 := Scalar.cmpi .eq c4_i32_68 c0_i32_69
  let c1_i32_70 : BitVec 32 := 1#32
  let v177 : BitVec 32 := Scalar.select v176 c1_i32_70 c4_i32_68
  let v178 : BitVec 32 := Scalar.remsi arg1 v177
  let c0_i32_72 : BitVec 32 := 0#32
  let v180 : BitVec 1 := Scalar.cmpi .slt v178 c0_i32_72
  let c0_i32_73 : BitVec 32 := 0#32
  let v181 : BitVec 1 := Scalar.cmpi .slt v177 c0_i32_73
  let v182 : BitVec 1 := Scalar.xori v180 v181
  let c0_i32_71 : BitVec 32 := 0#32
  let v179 : BitVec 1 := Scalar.cmpi .ne v178 c0_i32_71
  let v183 : BitVec 1 := Scalar.andi v182 v179
  let v184 : BitVec 32 := Scalar.addi v178 v177
  let v185 : BitVec 32 := Scalar.select v183 v184 v178
  let c1_i32_93 : BitVec 32 := 1#32
  let v222 : BitVec 32 := Scalar.subi v185 c1_i32_93
  let v266 : Index := Scalar.indexCast v222
  let c64_117 : Index := 64#32
  let c0_118 : Index := 0#32
  ![v266.toNat, 64, 0]
def k0_off32 (i : grid0.Coords) : Fin 3 → Nat :=
  let arg1 : BitVec 32 := BitVec.ofNat 32 (i 1).val
  let c4_i32_68 : BitVec 32 := 4#32
  let c0_i32_69 : BitVec 32 := 0#32
  let v176 : BitVec 1 := Scalar.cmpi .eq c4_i32_68 c0_i32_69
  let c1_i32_70 : BitVec 32 := 1#32
  let v177 : BitVec 32 := Scalar.select v176 c1_i32_70 c4_i32_68
  let v178 : BitVec 32 := Scalar.remsi arg1 v177
  let c0_i32_72 : BitVec 32 := 0#32
  let v180 : BitVec 1 := Scalar.cmpi .slt v178 c0_i32_72
  let c0_i32_73 : BitVec 32 := 0#32
  let v181 : BitVec 1 := Scalar.cmpi .slt v177 c0_i32_73
  let v182 : BitVec 1 := Scalar.xori v180 v181
  let c0_i32_71 : BitVec 32 := 0#32
  let v179 : BitVec 1 := Scalar.cmpi .ne v178 c0_i32_71
  let v183 : BitVec 1 := Scalar.andi v182 v179
  let v184 : BitVec 32 := Scalar.addi v178 v177
  let v185 : BitVec 32 := Scalar.select v183 v184 v178
  let c1_i32_93 : BitVec 32 := 1#32
  let v222 : BitVec 32 := Scalar.subi v185 c1_i32_93
  let v274 : Index := Scalar.indexCast v222
  let c128_120 : Index := 128#32
  let c0_121 : Index := 0#32
  ![v274.toNat, 128, 0]
def k0_off33 (i : grid0.Coords) : Fin 3 → Nat :=
  let arg1 : BitVec 32 := BitVec.ofNat 32 (i 1).val
  let c4_i32_68 : BitVec 32 := 4#32
  let c0_i32_69 : BitVec 32 := 0#32
  let v176 : BitVec 1 := Scalar.cmpi .eq c4_i32_68 c0_i32_69
  let c1_i32_70 : BitVec 32 := 1#32
  let v177 : BitVec 32 := Scalar.select v176 c1_i32_70 c4_i32_68
  let v178 : BitVec 32 := Scalar.remsi arg1 v177
  let c0_i32_72 : BitVec 32 := 0#32
  let v180 : BitVec 1 := Scalar.cmpi .slt v178 c0_i32_72
  let c0_i32_73 : BitVec 32 := 0#32
  let v181 : BitVec 1 := Scalar.cmpi .slt v177 c0_i32_73
  let v182 : BitVec 1 := Scalar.xori v180 v181
  let c0_i32_71 : BitVec 32 := 0#32
  let v179 : BitVec 1 := Scalar.cmpi .ne v178 c0_i32_71
  let v183 : BitVec 1 := Scalar.andi v182 v179
  let v184 : BitVec 32 := Scalar.addi v178 v177
  let v185 : BitVec 32 := Scalar.select v183 v184 v178
  let c1_i32_93 : BitVec 32 := 1#32
  let v222 : BitVec 32 := Scalar.subi v185 c1_i32_93
  let v282 : Index := Scalar.indexCast v222
  let c192_123 : Index := 192#32
  let c0_124 : Index := 0#32
  ![v282.toNat, 192, 0]
def k0_mult13 (i : grid0.Coords) : BitVec 32 :=
  let arg1 : BitVec 32 := BitVec.ofNat 32 (i 1).val
  let c4_i32_68 : BitVec 32 := 4#32
  let c0_i32_69 : BitVec 32 := 0#32
  let v176 : BitVec 1 := Scalar.cmpi .eq c4_i32_68 c0_i32_69
  let c1_i32_70 : BitVec 32 := 1#32
  let v177 : BitVec 32 := Scalar.select v176 c1_i32_70 c4_i32_68
  let v178 : BitVec 32 := Scalar.remsi arg1 v177
  let c0_i32_72 : BitVec 32 := 0#32
  let v180 : BitVec 1 := Scalar.cmpi .slt v178 c0_i32_72
  let c0_i32_73 : BitVec 32 := 0#32
  let v181 : BitVec 1 := Scalar.cmpi .slt v177 c0_i32_73
  let v182 : BitVec 1 := Scalar.xori v180 v181
  let c0_i32_71 : BitVec 32 := 0#32
  let v179 : BitVec 1 := Scalar.cmpi .ne v178 c0_i32_71
  let v183 : BitVec 1 := Scalar.andi v182 v179
  let v184 : BitVec 32 := Scalar.addi v178 v177
  let v185 : BitVec 32 := Scalar.select v183 v184 v178
  let c1_i32_93 : BitVec 32 := 1#32
  let v222 : BitVec 32 := Scalar.subi v185 c1_i32_93
  let c2_i32_130 : BitVec 32 := 2#32
  let v300 : BitVec 32 := Scalar.subi v222 c2_i32_130
  let c0_i32_131 : BitVec 32 := 0#32
  let v301 : BitVec 32 := Scalar.maxsi v300 c0_i32_131
  let c256_i32_132 : BitVec 32 := 256#32
  let v302 : BitVec 32 := Scalar.muli v301 c256_i32_132
  v302
def k0_off34 (i : grid0.Coords) : Fin 3 → Nat :=
  let c0_133 : Index := 0#32
  let arg1 : BitVec 32 := BitVec.ofNat 32 (i 1).val
  let c4_i32_68 : BitVec 32 := 4#32
  let c0_i32_69 : BitVec 32 := 0#32
  let v176 : BitVec 1 := Scalar.cmpi .eq c4_i32_68 c0_i32_69
  let c1_i32_70 : BitVec 32 := 1#32
  let v177 : BitVec 32 := Scalar.select v176 c1_i32_70 c4_i32_68
  let v178 : BitVec 32 := Scalar.remsi arg1 v177
  let c0_i32_72 : BitVec 32 := 0#32
  let v180 : BitVec 1 := Scalar.cmpi .slt v178 c0_i32_72
  let c0_i32_73 : BitVec 32 := 0#32
  let v181 : BitVec 1 := Scalar.cmpi .slt v177 c0_i32_73
  let v182 : BitVec 1 := Scalar.xori v180 v181
  let c0_i32_71 : BitVec 32 := 0#32
  let v179 : BitVec 1 := Scalar.cmpi .ne v178 c0_i32_71
  let v183 : BitVec 1 := Scalar.andi v182 v179
  let v184 : BitVec 32 := Scalar.addi v178 v177
  let v185 : BitVec 32 := Scalar.select v183 v184 v178
  let c1_i32_93 : BitVec 32 := 1#32
  let v222 : BitVec 32 := Scalar.subi v185 c1_i32_93
  let c2_i32_130 : BitVec 32 := 2#32
  let v300 : BitVec 32 := Scalar.subi v222 c2_i32_130
  let c0_i32_131 : BitVec 32 := 0#32
  let v301 : BitVec 32 := Scalar.maxsi v300 c0_i32_131
  let c256_i32_132 : BitVec 32 := 256#32
  let v302 : BitVec 32 := Scalar.muli v301 c256_i32_132
  let v303 : BitVec 32 := v302
  let v304 : Index := Scalar.indexCast v303
  let c0_134 : Index := 0#32
  ![0, v304.toNat, 0]
def k0_off35 (i : grid0.Coords) : Fin 3 → Nat :=
  let arg1 : BitVec 32 := BitVec.ofNat 32 (i 1).val
  let c4_i32_68 : BitVec 32 := 4#32
  let c0_i32_69 : BitVec 32 := 0#32
  let v176 : BitVec 1 := Scalar.cmpi .eq c4_i32_68 c0_i32_69
  let c1_i32_70 : BitVec 32 := 1#32
  let v177 : BitVec 32 := Scalar.select v176 c1_i32_70 c4_i32_68
  let v178 : BitVec 32 := Scalar.remsi arg1 v177
  let c0_i32_72 : BitVec 32 := 0#32
  let v180 : BitVec 1 := Scalar.cmpi .slt v178 c0_i32_72
  let c0_i32_73 : BitVec 32 := 0#32
  let v181 : BitVec 1 := Scalar.cmpi .slt v177 c0_i32_73
  let v182 : BitVec 1 := Scalar.xori v180 v181
  let c0_i32_71 : BitVec 32 := 0#32
  let v179 : BitVec 1 := Scalar.cmpi .ne v178 c0_i32_71
  let v183 : BitVec 1 := Scalar.andi v182 v179
  let v184 : BitVec 32 := Scalar.addi v178 v177
  let v185 : BitVec 32 := Scalar.select v183 v184 v178
  let c1_i32_93 : BitVec 32 := 1#32
  let v222 : BitVec 32 := Scalar.subi v185 c1_i32_93
  let c1_i32_140 : BitVec 32 := 1#32
  let v312 : BitVec 32 := Scalar.subi v222 c1_i32_140
  let v336 : Index := Scalar.indexCast v312
  let c0_150 : Index := 0#32
  let c0_151 : Index := 0#32
  ![v336.toNat, 0, 0]
def k0_off36 (i : grid0.Coords) : Fin 3 → Nat :=
  let arg1 : BitVec 32 := BitVec.ofNat 32 (i 1).val
  let c4_i32_68 : BitVec 32 := 4#32
  let c0_i32_69 : BitVec 32 := 0#32
  let v176 : BitVec 1 := Scalar.cmpi .eq c4_i32_68 c0_i32_69
  let c1_i32_70 : BitVec 32 := 1#32
  let v177 : BitVec 32 := Scalar.select v176 c1_i32_70 c4_i32_68
  let v178 : BitVec 32 := Scalar.remsi arg1 v177
  let c0_i32_72 : BitVec 32 := 0#32
  let v180 : BitVec 1 := Scalar.cmpi .slt v178 c0_i32_72
  let c0_i32_73 : BitVec 32 := 0#32
  let v181 : BitVec 1 := Scalar.cmpi .slt v177 c0_i32_73
  let v182 : BitVec 1 := Scalar.xori v180 v181
  let c0_i32_71 : BitVec 32 := 0#32
  let v179 : BitVec 1 := Scalar.cmpi .ne v178 c0_i32_71
  let v183 : BitVec 1 := Scalar.andi v182 v179
  let v184 : BitVec 32 := Scalar.addi v178 v177
  let v185 : BitVec 32 := Scalar.select v183 v184 v178
  let c1_i32_93 : BitVec 32 := 1#32
  let v222 : BitVec 32 := Scalar.subi v185 c1_i32_93
  let c1_i32_140 : BitVec 32 := 1#32
  let v312 : BitVec 32 := Scalar.subi v222 c1_i32_140
  let v344 : Index := Scalar.indexCast v312
  let c64_153 : Index := 64#32
  let c0_154 : Index := 0#32
  ![v344.toNat, 64, 0]
def k0_off37 (i : grid0.Coords) : Fin 3 → Nat :=
  let arg1 : BitVec 32 := BitVec.ofNat 32 (i 1).val
  let c4_i32_68 : BitVec 32 := 4#32
  let c0_i32_69 : BitVec 32 := 0#32
  let v176 : BitVec 1 := Scalar.cmpi .eq c4_i32_68 c0_i32_69
  let c1_i32_70 : BitVec 32 := 1#32
  let v177 : BitVec 32 := Scalar.select v176 c1_i32_70 c4_i32_68
  let v178 : BitVec 32 := Scalar.remsi arg1 v177
  let c0_i32_72 : BitVec 32 := 0#32
  let v180 : BitVec 1 := Scalar.cmpi .slt v178 c0_i32_72
  let c0_i32_73 : BitVec 32 := 0#32
  let v181 : BitVec 1 := Scalar.cmpi .slt v177 c0_i32_73
  let v182 : BitVec 1 := Scalar.xori v180 v181
  let c0_i32_71 : BitVec 32 := 0#32
  let v179 : BitVec 1 := Scalar.cmpi .ne v178 c0_i32_71
  let v183 : BitVec 1 := Scalar.andi v182 v179
  let v184 : BitVec 32 := Scalar.addi v178 v177
  let v185 : BitVec 32 := Scalar.select v183 v184 v178
  let c1_i32_93 : BitVec 32 := 1#32
  let v222 : BitVec 32 := Scalar.subi v185 c1_i32_93
  let c1_i32_140 : BitVec 32 := 1#32
  let v312 : BitVec 32 := Scalar.subi v222 c1_i32_140
  let v352 : Index := Scalar.indexCast v312
  let c128_156 : Index := 128#32
  let c0_157 : Index := 0#32
  ![v352.toNat, 128, 0]
def k0_off38 (i : grid0.Coords) : Fin 3 → Nat :=
  let arg1 : BitVec 32 := BitVec.ofNat 32 (i 1).val
  let c4_i32_68 : BitVec 32 := 4#32
  let c0_i32_69 : BitVec 32 := 0#32
  let v176 : BitVec 1 := Scalar.cmpi .eq c4_i32_68 c0_i32_69
  let c1_i32_70 : BitVec 32 := 1#32
  let v177 : BitVec 32 := Scalar.select v176 c1_i32_70 c4_i32_68
  let v178 : BitVec 32 := Scalar.remsi arg1 v177
  let c0_i32_72 : BitVec 32 := 0#32
  let v180 : BitVec 1 := Scalar.cmpi .slt v178 c0_i32_72
  let c0_i32_73 : BitVec 32 := 0#32
  let v181 : BitVec 1 := Scalar.cmpi .slt v177 c0_i32_73
  let v182 : BitVec 1 := Scalar.xori v180 v181
  let c0_i32_71 : BitVec 32 := 0#32
  let v179 : BitVec 1 := Scalar.cmpi .ne v178 c0_i32_71
  let v183 : BitVec 1 := Scalar.andi v182 v179
  let v184 : BitVec 32 := Scalar.addi v178 v177
  let v185 : BitVec 32 := Scalar.select v183 v184 v178
  let c1_i32_93 : BitVec 32 := 1#32
  let v222 : BitVec 32 := Scalar.subi v185 c1_i32_93
  let c1_i32_140 : BitVec 32 := 1#32
  let v312 : BitVec 32 := Scalar.subi v222 c1_i32_140
  let v360 : Index := Scalar.indexCast v312
  let c192_159 : Index := 192#32
  let c0_160 : Index := 0#32
  ![v360.toNat, 192, 0]
def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c7_i32 : BitVec 32 := 7#32
  let c0_i32_0 : BitVec 32 := 0#32
  ![arg0.toNat, c0_i32.toNat, c7_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c8_i32 : BitVec 32 := 8#32
  let c0_i32_0 : BitVec 32 := 0#32
  ![arg0.toNat, c0_i32.toNat, c8_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SbIdeal.lean ====
variable {F : FTy → Type} [FloatOps F] [Named F]
def κ : String → Option EReal := fun
  | "log2e" => some (((Real.log 2)⁻¹ : ℝ) : EReal)
  | "mask" => some ⊥
  | "qk" => some (((1 / 8) * (Real.log 2)⁻¹ : ℝ) : EReal)
  | _ => none
-- ==== SbReferenceIdeal.lean ====
abbrev S16x4096x3072 : Shape := ⟨3, ![16, 4096, 3072]⟩
abbrev S256 : Shape := ⟨1, ![256]⟩
abbrev S16x4096x768 : Shape := ⟨3, ![16, 4096, 768]⟩
abbrev S16x4096x256 : Shape := ⟨3, ![16, 4096, 256]⟩
abbrev S16x4096x4x64 : Shape := ⟨4, ![16, 4096, 4, 64]⟩
abbrev S16x4x4096x64 : Shape := ⟨4, ![16, 4, 4096, 64]⟩
abbrev S16x4x4096x4096 : Shape := ⟨4, ![16, 4, 4096, 4096]⟩
abbrev S_ : Shape := ⟨0, ![]⟩
abbrev S4096x4096 : Shape := ⟨2, ![4096, 4096]⟩
abbrev S16x4096 : Shape := ⟨2, ![16, 4096]⟩
abbrev S16x4096x1 : Shape := ⟨3, ![16, 4096, 1]⟩
abbrev S1x1x256 : Shape := ⟨3, ![1, 1, 256]⟩

abbrev nBuf : Space → Nat
  | .hbm => 89
  | .vmem => 0
  | .smem => 0
  | _ => 0

abbrev bufTy : (tb : Table) → Fin (tcTables nBuf tb) → BufTy
  | .hbm, ⟨0, _⟩ => ⟨S16x4096x3072, .bf16⟩
  | .hbm, ⟨1, _⟩ => ⟨S256, .f32⟩
  | .hbm, ⟨2, _⟩ => ⟨S16x4096x3072, .f32⟩
  | .hbm, ⟨3, _⟩ => ⟨S16x4096x768, .f32⟩
  | .hbm, ⟨4, _⟩ => ⟨S16x4096x256, .f32⟩
  | .hbm, ⟨5, _⟩ => ⟨S16x4096x4x64, .f32⟩
  | .hbm, ⟨6, _⟩ => ⟨S16x4x4096x64, .f32⟩
  | .hbm, ⟨7, _⟩ => ⟨S16x4096x256, .f32⟩
  | .hbm, ⟨8, _⟩ => ⟨S16x4096x4x64, .f32⟩
  | .hbm, ⟨9, _⟩ => ⟨S16x4x4096x64, .f32⟩
  | .hbm, ⟨10, _⟩ => ⟨S16x4096x256, .f32⟩
  | .hbm, ⟨11, _⟩ => ⟨S16x4096x4x64, .f32⟩
  | .hbm, ⟨12, _⟩ => ⟨S16x4x4096x64, .f32⟩
  | .hbm, ⟨13, _⟩ => ⟨S16x4x4096x4096, .f32⟩
  | .hbm, ⟨14, _⟩ => ⟨S_, .f32⟩
  | .hbm, ⟨15, _⟩ => ⟨S16x4x4096x4096, .f32⟩
  | .hbm, ⟨16, _⟩ => ⟨S16x4x4096x4096, .f32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S16x4x4096x4096, .f32⟩
  | .hbm, ⟨21, _⟩ => ⟨S16x4x4096x4096, .f32⟩
  | .hbm, ⟨22, _⟩ => ⟨S_, .f32⟩
  | .hbm, ⟨23, _⟩ => ⟨S16x4x4096x4096, .f32⟩
  | .hbm, ⟨24, _⟩ => ⟨S16x4x4096x4096, .f32⟩
  | .hbm, ⟨25, _⟩ => ⟨S16x4x4096x4096, .f32⟩
  | .hbm, ⟨26, _⟩ => ⟨S16x4x4096x4096, .f32⟩
  | .hbm, ⟨27, _⟩ => ⟨S16x4x4096x4096, .i1⟩
  | .hbm, ⟨28, _⟩ => ⟨S16x4x4096x4096, .f32⟩
  | .hbm, ⟨29, _⟩ => ⟨S16x4x4096x4096, .f32⟩
  | .hbm, ⟨30, _⟩ => ⟨S16x4x4096x4096, .f32⟩
  | .hbm, ⟨31, _⟩ => ⟨S16x4x4096x4096, .f32⟩
  | .hbm, ⟨32, _⟩ => ⟨S16x4x4096x4096, .f32⟩
  | .hbm, ⟨33, _⟩ => ⟨S16x4x4096x4096, .f32⟩
  | .hbm, ⟨34, _⟩ => ⟨S16x4x4096x4096, .f32⟩
  | .hbm, ⟨35, _⟩ => ⟨S16x4x4096x4096, .f32⟩
  | .hbm, ⟨36, _⟩ => ⟨S16x4x4096x4096, .f32⟩
  | .hbm, ⟨37, _⟩ => ⟨S_, .f32⟩
  | .hbm, ⟨38, _⟩ => ⟨S_, .f32⟩
  | .hbm, ⟨39, _⟩ => ⟨S16x4x4096x4096, .i1⟩
  | .hbm, ⟨40, _⟩ => ⟨S16x4x4096x4096, .f32⟩
  | .hbm, ⟨41, _⟩ => ⟨S16x4x4096x4096, .f32⟩
  | .hbm, ⟨42, _⟩ => ⟨S_, .f32⟩
  | .hbm, ⟨43, _⟩ => ⟨S_, .f32⟩
  | .hbm, ⟨44, _⟩ => ⟨S16x4x4096x4096, .f32⟩
  | .hbm, ⟨45, _⟩ => ⟨S16x4x4096x4096, .f32⟩
  | .hbm, ⟨46, _⟩ => ⟨S16x4x4096x4096, .f32⟩
  | .hbm, ⟨47, _⟩ => ⟨S_, .f32⟩
  | .hbm, ⟨48, _⟩ => ⟨S16x4x4096x4096, .f32⟩
  | .hbm, ⟨49, _⟩ => ⟨S16x4x4096x4096, .f32⟩
  | .hbm, ⟨50, _⟩ => ⟨S16x4x4096x4096, .f32⟩
  | .hbm, ⟨51, _⟩ => ⟨S16x4x4096x4096, .f32⟩
  | .hbm, ⟨52, _⟩ => ⟨S16x4x4096x4096, .i1⟩
  | .hbm, ⟨53, _⟩ => ⟨S16x4x4096x4096, .f32⟩
  | .hbm, ⟨54, _⟩ => ⟨S16x4x4096x4096, .f32⟩
  | .hbm, ⟨55, _⟩ => ⟨S16x4x4096x4096, .f32⟩
  | .hbm, ⟨56, _⟩ => ⟨S16x4x4096x4096, .f32⟩
  | .hbm, ⟨57, _⟩ => ⟨S16x4x4096x4096, .f32⟩
  | .hbm, ⟨58, _⟩ => ⟨S16x4x4096x4096, .f32⟩
  | .hbm, ⟨59, _⟩ => ⟨S16x4x4096x4096, .f32⟩
  | .hbm, ⟨60, _⟩ => ⟨S16x4x4096x4096, .f32⟩
  | .hbm, ⟨61, _⟩ => ⟨S16x4x4096x4096, .f32⟩
  | .hbm, ⟨62, _⟩ => ⟨S16x4x4096x4096, .f32⟩
  | .hbm, ⟨63, _⟩ => ⟨S16x4x4096x4096, .f32⟩
  | .hbm, ⟨64, _⟩ => ⟨S_, .f32⟩
  | .hbm, ⟨65, _⟩ => ⟨S_, .f32⟩
  | .hbm, ⟨66, _⟩ => ⟨S16x4x4096x4096, .i1⟩
  | .hbm, ⟨67, _⟩ => ⟨S16x4x4096x4096, .f32⟩
  | .hbm, ⟨68, _⟩ => ⟨S16x4x4096x4096, .f32⟩
  | .hbm, ⟨69, _⟩ => ⟨S16x4x4096x64, .f32⟩
  | .hbm, ⟨70, _⟩ => ⟨S16x4096x4x64, .f32⟩
  | .hbm, ⟨71, _⟩ => ⟨S16x4096x256, .f32⟩
  | .hbm, ⟨72, _⟩ => ⟨S16x4096x256, .f32⟩
  | .hbm, ⟨73, _⟩ => ⟨S_, .f32⟩
  | .hbm, ⟨74, _⟩ => ⟨S16x4096, .f32⟩
  | .hbm, ⟨75, _⟩ => ⟨S16x4096x1, .f32⟩
  | .hbm, ⟨76, _⟩ => ⟨S_, .f32⟩
  | .hbm, ⟨77, _⟩ => ⟨S16x4096x1, .f32⟩
  | .hbm, ⟨78, _⟩ => ⟨S16x4096x1, .f32⟩
  | .hbm, ⟨79, _⟩ => ⟨S_, .f32⟩
  | .hbm, ⟨80, _⟩ => ⟨S16x4096x1, .f32⟩
  | .hbm, ⟨81, _⟩ => ⟨S16x4096x1, .f32⟩
  | .hbm, ⟨82, _⟩ => ⟨S16x4096x1, .f32⟩
  | .hbm, ⟨83, _⟩ => ⟨S16x4096x256, .f32⟩
  | .hbm, ⟨84, _⟩ => ⟨S16x4096x256, .f32⟩
  | .hbm, ⟨85, _⟩ => ⟨S1x1x256, .f32⟩
  | .hbm, ⟨86, _⟩ => ⟨S16x4096x256, .f32⟩
  | .hbm, ⟨87, _⟩ => ⟨S16x4096x256, .f32⟩
  | .hbm, ⟨88, _⟩ => ⟨S16x4096x256, .bf16⟩
  | _, _ => ⟨S16x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_call2_cst : Ref sig .tc := ⟨.hbm, 42, rfl⟩
abbrev main_call2_v0 : Ref sig .tc := ⟨.hbm, 43, rfl⟩
abbrev main_v20 : Ref sig .tc := ⟨.hbm, 44, rfl⟩
abbrev main_v21 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_cst_2 : Ref sig .tc := ⟨.hbm, 73, rfl⟩
abbrev main_v30 : Ref sig .tc := ⟨.hbm, 74, rfl⟩
abbrev main_v31 : Ref sig .tc := ⟨.hbm, 75, rfl⟩
abbrev main_cst_3 : Ref sig .tc := ⟨.hbm, 76, rfl⟩
abbrev main_v32 : Ref sig .tc := ⟨.hbm, 77, rfl⟩
abbrev main_v33 : Ref sig .tc := ⟨.hbm, 78, rfl⟩
abbrev main_cst_4 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩

abbrev nD : Nat := 1
abbrev τ : Topo := Topo.v7x

variable {F : FTy → Type} [FloatOps F]
-- ==== Proof.SbFrame.lean ====
module

public import proofs.«01_k».proof.Proof.Gen.Sb.Frame
public import proofs.«01_k».proof.Proof.Gen.Sb.Skeleton
public import Idealize.ShloMosaic.Lib.Exec
public import Idealize.ShloMosaic.Lib.Tactic
public import Idealize.ShloMosaic.Lib.Claim

/-!
# The frame of stick-breaking attention, as printed

The body leaves its five input windows as they were; of the output window and of the six scratch arrays it is only said that
the body ends with some contents in them. That is enough for the pipeline to run to its end and for the program's arguments to
be unchanged.
-/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

namespace Cert.Sb.Hand

open Cert.Sb Cert.Sb.Gen

variable {F : FTy → Type} [FloatOps F]

local notation "𝕄" => MT nD τ sig Unit (Elt F) ℕ (UR sig nD τ) ℕ

/-- The loop over the trips left over makes none. -/
theorem rest_trips : ∀ i : grid0.Coords, (k0_t3_loop i).trips = 0 := by decide +kernel

section
variable (c : Dev nD) (i : grid0.Coords)
variable {arg2 : Memref sig .tc .vmem S1x256x256 .bf16} (harg2 : arg2.IsWhole) {arg3 : Memref sig .tc .vmem S1x4096x256 .bf16} (harg3 : arg3.IsWhole) {arg4 : Memref sig .tc .vmem S1x4096x256 .bf16} (harg4 : arg4.IsWhole) {arg5 : Memref sig .tc .vmem S1x256 .f32} (harg5 : arg5.IsWhole) {arg6 : Memref sig .tc .vmem S256x256 .bf16} (harg6 : arg6.IsWhole) {arg7 : Memref sig .tc .vmem S1x256x256 .bf16} (harg7 : arg7.IsWhole) {arg8 : Memref sig .tc .vmem S256x1024 .bf16} (harg8 : arg8.IsWhole) {arg9 : Memref sig .tc .vmem S16x256x256 .bf16} (harg9 : arg9.IsWhole) {arg10 : Memref sig .tc .vmem S256x1024 .f32} (harg10 : arg10.IsWhole) {arg11 : Memref sig .tc .vmem S256x1024 .f32} (harg11 : arg11.IsWhole) {arg12 : Memref sig .tc .vmem S256x256 .f32} (harg12 : arg12.IsWhole) {arg13 : Memref sig .tc .vmem S8x1024 .f32} (harg13 : arg13.IsWhole)

/-- A buffer at some contents. -/
def some {s : Shape} {e : EltTy} (m : Memref sig .tc .vmem s e) : sProp 𝕄 :=
  iprop(∃ f, (m.view.loc (c : Thread nD τ) ↦[m.view.set]{fullShare} f))

/-- What the pair loop holds before and after a trip. -/
def pairInv (xk : Vec F S1x4096x256 .bf16) (ut : Vec F S256x256 .bf16) : sProp 𝕄 := iprop(
  (arg3.view.loc (c : Thread nD τ) ↦[arg3.view.set]{fullShare} harg3.unread xk)
  ∗ (arg6.view.loc (c : Thread nD τ) ↦[arg6.view.set]{fullShare} harg6.unread ut)
  ∗ some c arg8 ∗ some c arg9 ∗ some c arg10 ∗ some c arg11 ∗ some c arg12)

/-- A trip of the pair loop. -/
theorem pair_trip (E : Set ℕ) (a1 c4 v149 v154 c0 : BitVec 32) (v148 : FVec F S1x1024 .f32) (k : Fin (k0_t2_loop i).trips)
    (xk : Vec F S1x4096x256 .bf16) (ut : Vec F S256x256 .bf16) (cr : FVec F S1x1024 .f32) :
    pairInv (arg8 := arg8) (arg9 := arg9) (arg10 := arg10) (arg11 := arg11) (arg12 := arg12) c harg3 harg6 xk ut
    ⊢ wp frame (wpE (defs₀ (F := F)) Variants.none c none) E
      (k0_t2_body (F := F) i arg2 harg2 arg3 harg3 arg4 harg4 arg5 harg5 arg6 harg6 arg7 harg7 arg8 harg8 arg9 harg9 arg10 harg10 arg11 harg11 arg12 harg12 arg13 harg13 a1 v148 c4 v149 v154 c0 k cr)
      (fun _ => pairInv (arg8 := arg8) (arg9 := arg9) (arg10 := arg10) (arg11 := arg11) (arg12 := arg12) c harg3 harg6 xk ut) := by
  unfold k0_t2_body
  simp only [k0_part1_eq_skeleton, k0_part2_eq_skeleton, k0_part3_eq_skeleton, k0_part4_eq_skeleton, k0_part5_eq_skeleton, k0_part6_eq_skeleton, k0_part7_eq_skeleton]
  unfold pairInv some
  iintro ⟨H3, H6, ⟨%f8, H8⟩, ⟨%f9, H9⟩, ⟨%f10, H10⟩, ⟨%f11, H11⟩, ⟨%f12, H12⟩⟩
  sl_exec
  sl_step
  isplitl [H3]; · iexact H3
  isplitl [H6]; · iexact H6
  isplitl [H8]; · iexists _; iexact H8
  isplitl [H9]; · iexists _; iexact H9
  isplitl [H10]; · iexists _; iexact H10
  isplitl [H11]; · iexists _; iexact H11
  iexists _; iexact H12

/-- What the loop that turns the value blocks holds before and after a trip. -/
def turnInv (xv : Vec F S1x4096x256 .bf16) : sProp 𝕄 := iprop(
  (arg4.view.loc (c : Thread nD τ) ↦[arg4.view.set]{fullShare} harg4.unread xv) ∗ some c arg9)

/-- A trip of it. -/
theorem turn_trip (E : Set ℕ) (h1 : k0_cond1 i = 1#1) (k : Fin k0_t1_loop.trips) (xv : Vec F S1x4096x256 .bf16) (a : Unit) :
    turnInv (arg9 := arg9) c harg4 xv
    ⊢ wp frame (wpE (defs₀ (F := F)) Variants.none c none) E
      (k0_t1_body (F := F) i arg2 harg2 arg3 harg3 arg4 harg4 arg5 harg5 arg6 harg6 arg7 harg7 arg8 harg8 arg9 harg9 arg10 harg10 arg11 harg11 arg12 harg12 arg13 harg13 h1 k a)
      (fun _ => turnInv (arg9 := arg9) c harg4 xv) := by
  unfold k0_t1_body turnInv some
  iintro ⟨H4, ⟨%f9, H9⟩⟩
  sl_exec
  sl_step
  isplitl [H4]; · iexact H4
  iexists _; iexact H9

/-- The body's inputs, at contents, -/
def inputs (xq : Vec F S1x256x256 .bf16) (xk xv : Vec F S1x4096x256 .bf16) (nw : Vec F S1x256 .f32) (ut : Vec F S256x256 .bf16) : sProp 𝕄 := iprop(
  (arg2.view.loc (c : Thread nD τ) ↦[arg2.view.set]{fullShare} harg2.unread xq)
  ∗ (arg3.view.loc (c : Thread nD τ) ↦[arg3.view.set]{fullShare} harg3.unread xk)
  ∗ (arg4.view.loc (c : Thread nD τ) ↦[arg4.view.set]{fullShare} harg4.unread xv)
  ∗ (arg5.view.loc (c : Thread nD τ) ↦[arg5.view.set]{fullShare} harg5.unread nw)
  ∗ (arg6.view.loc (c : Thread nD τ) ↦[arg6.view.set]{fullShare} harg6.unread ut))

/-- and its other buffers. -/
def others : sProp 𝕄 := iprop(
  some c arg7 ∗ some c arg8 ∗ some c arg9 ∗ some c arg10 ∗ some c arg11 ∗ some c arg12 ∗ some c arg13)

/-- The first part, turning the value blocks where a batch begins. -/
theorem start (E : Set ℕ) (xq : Vec F S1x256x256 .bf16) (xv : Vec F S1x4096x256 .bf16) :
    (iprop((arg2.view.loc (c : Thread nD τ) ↦[arg2.view.set]{fullShare} harg2.unread xq)
      ∗ (arg4.view.loc (c : Thread nD τ) ↦[arg4.view.set]{fullShare} harg4.unread xv)
      ∗ some c arg8 ∗ some c arg9) : sProp 𝕄)
    ⊢ wp frame (wpE (defs₀ (F := F)) Variants.none c none) E
      (k0_part20 (F := F) i arg2 harg2 arg3 harg3 arg4 harg4 arg5 harg5 arg6 harg6 arg7 harg7 arg8 harg8 arg9 harg9 arg10 harg10 arg11 harg11 arg12 harg12 arg13 harg13)
      (fun r => iprop((arg2.view.loc (c : Thread nD τ) ↦[arg2.view.set]{fullShare} harg2.unread xq)
      ∗ (arg4.view.loc (c : Thread nD τ) ↦[arg4.view.set]{fullShare} harg4.unread xv)
      ∗ some c arg8 ∗ some c arg9 ∗ ⌜r.1 = BitVec.ofNat 32 (i 1).val⌝)) := by
  rw [k0_part20_eq_skeleton]
  unfold k0_part20_skel some
  iintro ⟨H2, H4, ⟨%f8, H8⟩, ⟨%f9, H9⟩⟩
  by_cases h1 : k0_cond1 i = 1#1
  · let L : LoopInv frame (wpE (defs₀ (F := F)) Variants.none c none) E k0_t1_loop.lb k0_t1_loop.ub k0_t1_loop.st (k0_t1_ok i h1) ()
        (k0_t1_body (F := F) i arg2 harg2 arg3 harg3 arg4 harg4 arg5 harg5 arg6 harg6 arg7 harg7 arg8 harg8 arg9 harg9 arg10 harg10 arg11 harg11 arg12 harg12 arg13 harg13 h1) :=
      { inv := fun _ _ => turnInv (arg9 := arg9) c harg4 xv
        step := fun k a => turn_trip (arg2 := arg2) (arg3 := arg3) (arg5 := arg5) (arg6 := arg6) (arg7 := arg7) (arg8 := arg8) (arg9 := arg9) (arg10 := arg10) (arg11 := arg11) (arg12 := arg12) (arg13 := arg13) c i harg2 harg3 harg4 harg5 harg6 harg7 harg8 harg9 harg10 harg11 harg12 harg13 E h1 k xv a }
    sl_exec
    sl_step
    isplitl [H2]; · iexact H2
    isplitl [H4]; · iexact H4
    isplitl [H8]; · iexists _; iexact H8
    isplitl [H9]; · iexists _; iexact H9
    ipureintro; rfl
  · sl_exec
    sl_step
    isplitl [H2]; · iexact H2
    isplitl [H4]; · iexact H4
    isplitl [H8]; · iexists _; iexact H8
    isplitl [H9]; · iexists _; iexact H9
    ipureintro; rfl

/-- The walk over the pairs of blocks. -/
theorem walk (E : Set ℕ) (v148 : FVec F S1x1024 .f32) (a1 c4 v149 v154 c0 : BitVec 32) (ha : a1 = BitVec.ofNat 32 (i 1).val)
    (xk : Vec F S1x4096x256 .bf16) (ut : Vec F S256x256 .bf16) :
    (iprop(pairInv (arg8 := arg8) (arg9 := arg9) (arg10 := arg10) (arg11 := arg11) (arg12 := arg12) c harg3 harg6 xk ut ∗ some c arg13) : sProp 𝕄)
    ⊢ wp frame (wpE (defs₀ (F := F)) Variants.none c none) E
      (k0_part24 (F := F) i arg2 harg2 arg3 harg3 arg4 harg4 arg5 harg5 arg6 harg6 arg7 harg7 arg8 harg8 arg9 harg9 arg10 harg10 arg11 harg11 arg12 harg12 arg13 harg13 a1 v148 c4 v149 v154 c0)
      (fun _ => iprop(pairInv (arg8 := arg8) (arg9 := arg9) (arg10 := arg10) (arg11 := arg11) (arg12 := arg12) c harg3 harg6 xk ut ∗ some c arg13)) := by
  subst ha
  have htr : (k0_t3_loop i).trips = 0 := rest_trips i
  let L : LoopInv frame (wpE (defs₀ (F := F)) Variants.none c none) E (k0_t2_loop i).lb (k0_t2_loop i).ub (k0_t2_loop i).st (k0_t2_ok i) v148
      (k0_t2_body (F := F) i arg2 harg2 arg3 harg3 arg4 harg4 arg5 harg5 arg6 harg6 arg7 harg7 arg8 harg8 arg9 harg9 arg10 harg10 arg11 harg11 arg12 harg12 arg13 harg13 (BitVec.ofNat 32 (i 1).val) v148 c4 v149 v154 c0) :=
    { inv := fun _ _ => pairInv (arg8 := arg8) (arg9 := arg9) (arg10 := arg10) (arg11 := arg11) (arg12 := arg12) c harg3 harg6 xk ut
      step := fun k cr => pair_trip (arg2 := arg2) (arg4 := arg4) (arg5 := arg5) (arg7 := arg7) (arg8 := arg8) (arg9 := arg9) (arg10 := arg10) (arg11 := arg11) (arg12 := arg12) (arg13 := arg13) c i harg2 harg3 harg4 harg5 harg6 harg7 harg8 harg9 harg10 harg11 harg12 harg13 E
        (BitVec.ofNat 32 (i 1).val) c4 v149 v154 c0 v148 k xk ut cr }
  rw [k0_part24_eq_skeleton]
  unfold k0_part24_skel
  simp only [k0_part18_eq_skeleton]
  unfold k0_part18_skel
  simp only [k0_part15_eq_skeleton, k0_part16_eq_skeleton, k0_part17_eq_skeleton]
  unfold pairInv some
  iintro ⟨⟨H3, H6, ⟨%f8, H8⟩, ⟨%f9, H9⟩, ⟨%f10, H10⟩, ⟨%f11, H11⟩, ⟨%f12, H12⟩⟩, ⟨%f13, H13⟩⟩
  by_cases h2 : k0_cond2 i = 1#1
  all_goals
    sl_exec
    sl_step
    isplitl [H3 H6 H8 H9 H10 H11 H12]
    · isplitl [H3]; · iexact H3
      isplitl [H6]; · iexact H6
      isplitl [H8]; · iexists _; iexact H8
      isplitl [H9]; · iexists _; iexact H9
      isplitl [H10]; · iexists _; iexact H10
      isplitl [H11]; · iexists _; iexact H11
      iexists _; iexact H12
    iexists _; iexact H13

set_option maxHeartbeats 4000000 in
/-- The body, whole. -/
theorem body (E : Set ℕ) (xq : Vec F S1x256x256 .bf16) (xk xv : Vec F S1x4096x256 .bf16) (nw : Vec F S1x256 .f32) (ut : Vec F S256x256 .bf16) :
    (iprop(inputs c harg2 harg3 harg4 harg5 harg6 xq xk xv nw ut
      ∗ others (F := F) (arg7 := arg7) (arg8 := arg8) (arg9 := arg9) (arg10 := arg10) (arg11 := arg11) (arg12 := arg12) (arg13 := arg13) c) : sProp 𝕄)
    ⊢ wp frame (wpE (defs₀ (F := F)) Variants.none c none) E
      (cc0_sb_attn (F := F) i arg2 harg2 arg3 harg3 arg4 harg4 arg5 harg5 arg6 harg6 arg7 harg7 arg8 harg8 arg9 harg9 arg10 harg10 arg11 harg11 arg12 harg12 arg13 harg13)
      (fun _ => iprop(inputs c harg2 harg3 harg4 harg5 harg6 xq xk xv nw ut
        ∗ others (F := F) (arg7 := arg7) (arg8 := arg8) (arg9 := arg9) (arg10 := arg10) (arg11 := arg11) (arg12 := arg12) (arg13 := arg13) c)) := by
  rw [cc0_sb_attn_eq_skeleton]
  unfold cc0_sb_attn_skel
  simp only [k0_part19_eq_skeleton, k0_part21_eq_skeleton, k0_part22_eq_skeleton, k0_part23_eq_skeleton]
  have hs := start (arg2 := arg2) (arg3 := arg3) (arg4 := arg4) (arg5 := arg5) (arg6 := arg6) (arg7 := arg7) (arg8 := arg8) (arg9 := arg9) (arg10 := arg10) (arg11 := arg11) (arg12 := arg12) (arg13 := arg13) c i harg2 harg3 harg4 harg5 harg6 harg7 harg8 harg9 harg10 harg11 harg12 harg13 E xq xv
  have hw := fun v148 a1 c4 v149 v154 c0 ha => walk (arg2 := arg2) (arg3 := arg3) (arg4 := arg4) (arg5 := arg5) (arg6 := arg6) (arg7 := arg7) (arg8 := arg8) (arg9 := arg9) (arg10 := arg10) (arg11 := arg11) (arg12 := arg12) (arg13 := arg13) c i harg2 harg3 harg4 harg5 harg6 harg7 harg8 harg9 harg10 harg11 harg12 harg13 E v148 a1 c4 v149 v154 c0 ha xk ut
  unfold inputs others some
  unfold some at hs
  unfold pairInv some at hw
  iintro ⟨⟨H2, H3, H4, H5, H6⟩, ⟨%f7, H7⟩, ⟨%f8, H8⟩, ⟨%f9, H9⟩, ⟨%f10, H10⟩, ⟨%f11, H11⟩, ⟨%f12, H12⟩, ⟨%f13, H13⟩⟩
  sl_exec
  sl_step
  isplitl [H5 Hk0_part20_0 Hk0_part20_1 Hk0_part24_0 Hk0_part24_1]
  · isplitl [Hk0_part20_0]; · iexact Hk0_part20_0
    isplitl [Hk0_part24_0]; · iexact Hk0_part24_0
    isplitl [Hk0_part20_1]; · iexact Hk0_part20_1
    isplitl [H5]; · iexact H5
    iexact Hk0_part24_1
  isplitl [H7]; · iexists _; iexact H7
  isplitl [Hk0_part24_2]; · iexists _; iexact Hk0_part24_2
  isplitl [Hk0_part24_3]; · iexists _; iexact Hk0_part24_3
  isplitl [Hk0_part24_4]; · iexists _; iexact Hk0_part24_4
  isplitl [Hk0_part24_5]; · iexists _; iexact Hk0_part24_5
  isplitl [Hk0_part24_6]; · iexists _; iexact Hk0_part24_6
  iexists _; iexact Hk0_part24_7

end

/-! ## The run of the pipeline -/

variable (m : (ℓ : Loc nD τ sig) → Buf (Elt F) ℓ) (ρ : Dev nD → PrngReg)

/-- Nothing is said of the output window. -/
def forgets : Fin 6 → Bool := fun w => w.val == 5

/-- The proof data: inputs at their blocks, the scratch arrays at some contents throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]

/-- Each input's staging buffer holds its block when the body starts. -/
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare d))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ (∃ d, owns (c : Thread nD τ) (win0_5.stage (cfg0.slots t 5)) fullShare d))

/-- The scratch arrays as the pipeline hands them over. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-- A buffer at named contents is one that reads them, -/
theorem owns_read (c : Dev nD) {s : Shape} {e : EltTy} {m : Memref sig .tc .vmem s e} (h : m.IsWhole) (x : Vec F s e) :
    owns (c : Thread nD τ) m fullShare x ⊢ (m.view.loc (c : Thread nD τ) ↦[m.view.set]{fullShare} h.unread x : sProp 𝕄) := by
  unfold owns
  iintro ⟨%f, %hf, H⟩
  obtain rfl := h.eq_unread hf
  iexact H

theorem read_owns (c : Dev nD) {s : Shape} {e : EltTy} {m : Memref sig .tc .vmem s e} (h : m.IsWhole) (x : Vec F s e) :
    (m.view.loc (c : Thread nD τ) ↦[m.view.set]{fullShare} h.unread x : sProp 𝕄) ⊢ owns (c : Thread nD τ) m fullShare x := by
  unfold owns
  iintro H
  iexists _; isplitr; · ipureintro; exact h.read_unread x
  iexact H

/-- and a buffer at some contents likewise. -/
theorem owns_some (c : Dev nD) {s : Shape} {e : EltTy} (m : Memref sig .tc .vmem s e) :
    (iprop(∃ d, owns (c : Thread nD τ) m fullShare d) : sProp 𝕄) ⊢ some c m := by
  unfold owns some
  iintro ⟨%d, %f, %hf, H⟩
  iexists _; iexact H

theorem some_owns (c : Dev nD) {s : Shape} {e : EltTy} (m : Memref sig .tc .vmem s e) :
    some c m ⊢ (iprop(∃ d, owns (c : Thread nD τ) m fullShare d) : sProp 𝕄) := by
  unfold owns some
  iintro ⟨%f, H⟩
  iexists _, _; isplitr; swap; · iexact H
  ipureintro; rfl

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl, after_0, after_1, after_2, after_3, after_4,
    show (dats m 0 c).Φ t.succ = Pipeline.ΦA spec0 c from rfl, show (dats m 0 c).Φ t.castSucc = Pipeline.ΦA spec0 c from rfl, scratch_eq]
  have hb := body (F := F) c (grid0.coords t) (hstage0_0 ((cfg0.slots t 0).cast nbuf0_0)) (hstage0_1 ((cfg0.slots t 1).cast nbuf0_1))
    (hstage0_2 ((cfg0.slots t 2).cast nbuf0_2)) (hstage0_3 ((cfg0.slots t 3).cast nbuf0_3)) (hstage0_4 ((cfg0.slots t 4).cast nbuf0_4))
    (hstage0_5 ((cfg0.slots t 5).cast nbuf0_5)) (Memref.isWhole_whole cc0_scratch0) (Memref.isWhole_whole cc0_scratch1)
    (Memref.isWhole_whole cc0_scratch2) (Memref.isWhole_whole cc0_scratch3) (Memref.isWhole_whole cc0_scratch4) (Memref.isWhole_whole cc0_scratch5)
    Set.univ (iblk m c 0 t) (iblk m c 1 t) (iblk m c 2 t) (iblk m c 3 t) (iblk m c 4 t)
  iintro ⟨⟨⟨HS0, HS1, HS2, HS3, HS4, HS5⟩, Hg⟩, Ho, ⟨%d0, H0⟩, ⟨%d1, H1⟩, ⟨%d2, H2⟩, ⟨%d3, H3⟩, ⟨%d4, H4⟩, H5⟩
  iapply (wp_wand_r frame (wpE (defs₀ (F := F)) Variants.none c none) Set.univ)
  isplitl [HS0 HS1 HS2 HS3 HS4 HS5 H0 H1 H2 H3 H4 H5]
  · iapply hb
    unfold inputs others
    isplitl [H0 H1 H2 H3 H4]
    · isplitl [H0]; · iapply (owns_read c _ _); iexact H0
      isplitl [H1]; · iapply (owns_read c _ _); iexact H1
      isplitl [H2]; · iapply (owns_read c _ _); iexact H2
      isplitl [H3]; · iapply (owns_read c _ _); iexact H3
      iapply (owns_read c _ _); iexact H4
    isplitl [H5]; · iapply (owns_some c _); iexact H5
    isplitl [HS0]; · iapply (owns_some c _); iexact HS0
    isplitl [HS1]; · iapply (owns_some c _); iexact HS1
    isplitl [HS2]; · iapply (owns_some c _); iexact HS2
    isplitl [HS3]; · iapply (owns_some c _); iexact HS3
    isplitl [HS4]; · iapply (owns_some c _); iexact HS4
    iapply (owns_some c _); iexact HS5
  unfold inputs others
  iintro %_ ⟨⟨H0, H1, H2, H3, H4⟩, H5, HS0, HS1, HS2, HS3, HS4, HS5⟩
  isplitl [HS0 HS1 HS2 HS3 HS4 HS5 Hg]
  · isplitl [HS0 HS1 HS2 HS3 HS4 HS5]
    · isplitl [HS0]; · iapply (some_owns c _); iexact HS0
      isplitl [HS1]; · iapply (some_owns c _); iexact HS1
      isplitl [HS2]; · iapply (some_owns c _); iexact HS2
      isplitl [HS3]; · iapply (some_owns c _); iexact HS3
      isplitl [HS4]; · iapply (some_owns c _); iexact HS4
      iapply (some_owns c _); iexact HS5
    iexact Hg
  isplitl [Ho]; · iexact Ho
  isplitl [H0]; · iapply (read_owns c _ _); iexact H0
  isplitl [H1]; · iapply (read_owns c _ _); iexact H1
  isplitl [H2]; · iapply (read_owns c _ _); iexact H2
  isplitl [H3]; · iapply (read_owns c _ _); iexact H3
  isplitl [H4]; · iapply (read_owns c _ _); iexact H4
  iapply (some_owns c _); iexact H5

theorem defs₀_row (t : Fin cfg0.N) :
    defs₀ (F := F) .tc cfg0.body (cfg0.bodyArgs t (cfg0.slots t)) = bodyAt0 t := by
  unfold defs₀; rw [Defs.onTc_tc]

/-- The pipeline's obligation for the body. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The program runs to its end, and its semaphore counters are zero there. -/
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hin := fun _ => .rfl) (hout := fun _ => .rfl)

/-- Its arguments are unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((Pipeline.RDat.FramePost.arr_in h.1 c 2 rfl).trans (A_eq m c 2)).trans (V_main_arg0 m c),
    ((h.1 c).2 main_arg1 (Pipeline.mem_restRefs_of main_arg1 (by decide) (by decide))).trans (V_main_arg1 m c)⟩) (run_main m ρ)

/-- The frame: it ends without fault, its arguments unchanged and its counters zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main m ρ))

end Cert.Sb.Hand

end
-- ==== Proof.SbModel.lean ====
module

public import proofs.«01_k».proof.Proof.Gen.SbIdeal.Frame
public import proofs.«01_k».proof.Proof.Gen.SbIdeal.Skeleton

/-!
# The stick-breaking kernel, as a function

What the body of the stick-breaking kernel computes, with its buffers left out. The body walks the key blocks from
the diagonal block down to block 0; between two blocks it holds an accumulator, the scores of the next block (they
are formed one block ahead) and the sum of the gate costs of the keys already walked.
-/

@[expose] public section

set_option maxRecDepth 16384

noncomputable section

open Idealize.ShloMosaic Idealize.ShloMosaic.TcCoe Idealize.ShloMosaic.Tactic

namespace Cert.SbIdeal.Hand

open Cert.SbIdeal Cert.SbIdeal.Gen

variable {F : FTy → Type} [FloatOps F] [Named F]

/-! ## Where the body loads and stores -/

/-- The pair loop makes a trip for every four key blocks below the diagonal one. -/
theorem t2_trips : ∀ i : grid0.Coords, (k0_t2_loop i).trips = (i 1).val / 4 := by decide +kernel
/-- The loop for the trips left over makes none. -/
theorem t3_trips : ∀ i : grid0.Coords, (k0_t3_loop i).trips = 0 := by decide +kernel
/-- Turning the value blocks makes a trip for each of them. -/
theorem t1_trips : k0_t1_loop.trips = 16 := by decide +kernel

/-- Where key block `j` starts. -/
def kOff (j : ℕ) : Fin 3 → ℕ := ![0, 256 * (j % 16), 0]
/-- Where head `h` of turned value block `j` starts. -/
def vOff (j h : ℕ) : Fin 3 → ℕ := ![j % 16, 64 * (h % 4), 0]

theorem off1_eq : ∀ k : Fin k0_t1_loop.trips, k0_off1 k = kOff k.val := by decide +kernel
theorem off2_eq : ∀ k : Fin k0_t1_loop.trips, k0_off2 k = ![k.val, 0, 0] := by decide +kernel
theorem off3_eq : ∀ i : grid0.Coords, k0_off3 i = kOff (i 1).val := by decide +kernel
theorem off4_eq : ∀ i : grid0.Coords, k0_off4 i = kOff ((i 1).val - 1) := by decide +kernel
theorem off5_eq : ∀ i : grid0.Coords, k0_off5 i = vOff (i 1).val 0 ∧ k0_off6 i = vOff (i 1).val 1
    ∧ k0_off7 i = vOff (i 1).val 2 ∧ k0_off8 i = vOff (i 1).val 3 := by decide +kernel

/-- The offsets of the first two steps of a trip of the pair loop, -/
theorem off_first : ∀ (i : grid0.Coords) (k : Fin (k0_t2_loop i).trips),
    k0_off9 i k 1#32 = kOff ((i 1).val - 1 - 4 * k.val - 1)
    ∧ (k0_off10 i k 1#32 = vOff ((i 1).val - 1 - 4 * k.val) 0 ∧ k0_off11 i k 1#32 = vOff ((i 1).val - 1 - 4 * k.val) 1
      ∧ k0_off12 i k 1#32 = vOff ((i 1).val - 1 - 4 * k.val) 2 ∧ k0_off13 i k 1#32 = vOff ((i 1).val - 1 - 4 * k.val) 3)
    ∧ k0_off14 i k 1#32 = kOff ((i 1).val - 1 - 4 * k.val - 2)
    ∧ (k0_off15 i k 1#32 = vOff ((i 1).val - 1 - 4 * k.val - 1) 0 ∧ k0_off16 i k 1#32 = vOff ((i 1).val - 1 - 4 * k.val - 1) 1
      ∧ k0_off17 i k 1#32 = vOff ((i 1).val - 1 - 4 * k.val - 1) 2 ∧ k0_off18 i k 1#32 = vOff ((i 1).val - 1 - 4 * k.val - 1) 3) := by
  decide +kernel

/-- and of its last two. -/
theorem off_second : ∀ (i : grid0.Coords) (k : Fin (k0_t2_loop i).trips),
    k0_off9 i k 3#32 = kOff ((i 1).val - 3 - 4 * k.val - 1)
    ∧ (k0_off10 i k 3#32 = vOff ((i 1).val - 3 - 4 * k.val) 0 ∧ k0_off11 i k 3#32 = vOff ((i 1).val - 3 - 4 * k.val) 1
      ∧ k0_off12 i k 3#32 = vOff ((i 1).val - 3 - 4 * k.val) 2 ∧ k0_off13 i k 3#32 = vOff ((i 1).val - 3 - 4 * k.val) 3)
    ∧ k0_off14 i k 3#32 = kOff ((i 1).val - 3 - 4 * k.val - 2)
    ∧ (k0_off15 i k 3#32 = vOff ((i 1).val - 3 - 4 * k.val - 1) 0 ∧ k0_off16 i k 3#32 = vOff ((i 1).val - 3 - 4 * k.val - 1) 1
      ∧ k0_off17 i k 3#32 = vOff ((i 1).val - 3 - 4 * k.val - 1) 2 ∧ k0_off18 i k 3#32 = vOff ((i 1).val - 3 - 4 * k.val - 1) 3) := by
  decide +kernel

/-- The offsets of the two steps after the loop, where two or three blocks are left. -/
theorem off_rest : ∀ i : grid0.Coords, k0_cond2 i = 1#1 →
    k0_off29 i = kOff ((i 1).val % 4 - 1 - 1)
    ∧ (k0_off30 i = vOff ((i 1).val % 4 - 1) 0 ∧ k0_off31 i = vOff ((i 1).val % 4 - 1) 1
      ∧ k0_off32 i = vOff ((i 1).val % 4 - 1) 2 ∧ k0_off33 i = vOff ((i 1).val % 4 - 1) 3)
    ∧ k0_off34 i = kOff ((i 1).val % 4 - 1 - 2)
    ∧ (k0_off35 i = vOff ((i 1).val % 4 - 1 - 1) 0 ∧ k0_off36 i = vOff ((i 1).val % 4 - 1 - 1) 1
      ∧ k0_off37 i = vOff ((i 1).val % 4 - 1 - 1) 2 ∧ k0_off38 i = vOff ((i 1).val % 4 - 1 - 1) 3) := by
  decide +kernel

theorem cond1_iff : ∀ i : grid0.Coords, k0_cond1 i = 1#1 ↔ (i 1).val = 0 := by decide +kernel
theorem cond2_iff : ∀ i : grid0.Coords, k0_cond2 i = 1#1 ↔ 2 ≤ (i 1).val % 4 := by decide +kernel

/-! ## One step, two steps, the walk -/

/-- What is held between two key blocks. -/
structure St (F : FTy → Type) where
  acc : Vec F S256x256 .f32
  za : Vec F S256x1024 .f32
  cr : FVec F S1x1024 .f32

section
variable (K : ℕ → Vec F S1x256x256 .bf16) (V : ℕ → ℕ → Vec F S1x64x256 .bf16)
  (wq : Vec F S256x1024 .bf16) (ut : Vec F S256x256 .bf16)

/-- The scores of key block `j`. -/
def score (j : ℕ) : Vec F S256x1024 .f32 := k0_pay17 (K j) wq

/-- The accumulator with block `j` added, `z` its scores, -/
def stepAcc (j : ℕ) (z : Vec F S256x1024 .f32) (cr : FVec F S1x1024 .f32) (acc : Vec F S256x256 .f32) : Vec F S256x256 .f32 :=
  k0_pay23 (k0_pay20 z ut) (k0_pay21 cr) (k0_pay22 z ut (V j 0)) (V j 1) (V j 2) (V j 3) acc

/-- and the gate costs with the block's own added. -/
def stepCar (z : Vec F S256x1024 .f32) (cr : FVec F S1x1024 .f32) : FVec F S1x1024 .f32 :=
  k0_pay24 cr (k0_pay18 z) (k0_pay19 z ut)

/-- Blocks `j` and `j − 1`. -/
def two (j : ℕ) (s : St F) : St F where
  acc := stepAcc V ut (j - 1) (score K wq (j - 1)) (stepCar ut s.za s.cr) (stepAcc V ut j s.za s.cr s.acc)
  za := score K wq (j - 2)
  cr := stepCar ut (score K wq (j - 1)) (stepCar ut s.za s.cr)

/-- The diagonal block `q`. -/
def diag (q : ℕ) : St F where
  acc := k0_pay95 (k0_pay92 k0_pay86 (k0_pay87 (K q) wq) ut) k0_pay93 (k0_pay94 (V q 0)) (V q 1) (V q 2) (V q 3)
  za := score K wq (q - 1)
  cr := k0_pay96 k0_pay89 (k0_pay90 k0_pay86 (k0_pay87 (K q) wq)) (k0_pay91 k0_pay86 (k0_pay87 (K q) wq) ut)

/-- The walk: the diagonal block and `2 n` blocks below it. -/
def walk (q : ℕ) : ℕ → St F
  | 0 => diag K V wq ut q
  | n + 1 => two K V wq ut (q - 1 - 2 * n) (walk q n)

/-- The accumulator after every block. -/
def total (q : ℕ) : Vec F S256x256 .f32 :=
  if q % 2 = 1 then stepAcc V ut 0 (walk K V wq ut q (q / 2)).za (walk K V wq ut q (q / 2)).cr (walk K V wq ut q (q / 2)).acc
  else (walk K V wq ut q (q / 2)).acc

end

/-! ## The blocks, from the windows -/

theorem kOff_inb (j : ℕ) : ∀ a, kOff j a + S1x256x256.size a ≤ S1x4096x256.size a := by
  have := Nat.mod_lt j (by decide : 16 > 0)
  refine Fin.forall_fin_succ.mpr ⟨Nat.le_refl 1, Fin.forall_fin_two.mpr ⟨?_, Nat.le_refl 256⟩⟩
  show 256 * (j % 16) + 256 ≤ 4096
  omega

theorem vOff_inb (j h : ℕ) : ∀ a, vOff j h a + S1x64x256.size a ≤ S16x256x256.size a := by
  have := Nat.mod_lt j (by decide : 16 > 0)
  have := Nat.mod_lt h (by decide : 4 > 0)
  refine Fin.forall_fin_succ.mpr ⟨?_, Fin.forall_fin_two.mpr ⟨?_, Nat.le_refl 256⟩⟩
  · show j % 16 + 1 ≤ 16
    omega
  · show 64 * (h % 4) + 64 ≤ 256
    omega

/-- Key block `j` of a window of keys (of values, as well). -/
def kblk (x : Vec F S1x4096x256 .bf16) (j : ℕ) : Vec F S1x256x256 .bf16 := fun y =>
  x ((Rect.unit (s := S1x4096x256) (kOff j) S1x256x256.size (kOff_inb j)).toLoadRect.idx y)

/-- The place in its block of an entry of the turned values. -/
def inBlk (y : S16x256x256.Idx) : S1x256x256.Idx
  | ⟨0, _⟩ => (⟨0, by decide⟩ : Fin 1)
  | ⟨1, _⟩ => (y 1 : Fin 256)
  | ⟨2, _⟩ => (y 2 : Fin 256)

/-- Every value block, turned so that its keys run along the second axis. -/
def turned (x : Vec F S1x4096x256 .bf16) : Vec F S16x256x256 .bf16 := fun y =>
  k0_pay79 (kblk x (y 0).val) (inBlk y)

/-- Head `h` of turned value block `j`. -/
def vblk (vt : Vec F S16x256x256 .bf16) (j h : ℕ) : Vec F S1x64x256 .bf16 := fun y =>
  vt ((Rect.unit (s := S16x256x256) (vOff j h) S1x64x256.size (vOff_inb j h)).toLoadRect.idx y)

/-- The queries, each head on its own columns and zero on the others' rows. -/
def wide (x : Vec F S1x256x256 .bf16) : Vec F S256x1024 .bf16 :=
  View.canon (Val := Elt F) (s := S256x1024) (e := .bf16)
    [⟨Rect.unit ![0, 768] S256x256.size inb_S256x1024_S256x256_0_768,
        k0_pay85 (k0_pay80 x) (iota .tc S256x256 32 [0] iota_S256x256_d0_w32)⟩,
      ⟨Rect.unit ![0, 512] S256x256.size inb_S256x1024_S256x256_0_512, k0_pay84 (k0_pay80 x) k0_pay83⟩,
      ⟨Rect.unit ![0, 256] S256x256.size inb_S256x1024_S256x256_0_256, k0_pay82 x⟩,
      ⟨Rect.unit ![0, 0] S256x256.size inb_S256x1024_S256x256_0_0, k0_pay81 x⟩]

/-- What one grid point writes: the queries `q`, the keys, the turned values, the norm weights and the triangle. -/
def model (q : ℕ) (xq : Vec F S1x256x256 .bf16) (xk : Vec F S1x4096x256 .bf16) (vt : Vec F S16x256x256 .bf16)
    (nw : Vec F S1x256 .f32) (ut : Vec F S256x256 .bf16) : Vec F S1x256x256 .bf16 :=
  k0_pay2 (total (kblk xk) (vblk vt) (wide xq) ut q) nw

end Cert.SbIdeal.Hand
end
-- ==== Proof.SbRun.lean ====
module

public import proofs.«01_k».proof.Proof.SbModel
public import Idealize.ShloMosaic.Lib.Pipeline.Value
public import Idealize.ShloMosaic.Lib.Pointwise
public import Idealize.ShloMosaic.Lib.VecWindow

/-!
# The stick-breaking kernel's body, run

Each loop's trip, each branch and then the whole body of the stick-breaking kernel leave in its buffers what the
model of the kernel says.
-/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

namespace Cert.SbIdeal.Hand

open Cert.SbIdeal Cert.SbIdeal.Gen

variable {F : FTy → Type} [FloatOps F] [Named F]

local notation "𝕄" => MT nD τ sig Unit (Elt F) ℕ (UR sig nD τ) ℕ

/-! ## Reading a block -/

/-- A load at key block `j` reads it, -/
theorem readK {m : Memref sig .tc .vmem S1x4096x256 .bf16} (h : m.IsWhole) (x : Vec F S1x4096x256 .bf16) {off : Fin 3 → ℕ}
    (inb : ∀ a, off a + S1x256x256.size a ≤ S1x4096x256.size a) (j : ℕ) (ho : off = kOff j) :
    m.view.readAt (Elt F) (Rect.unit (s := S1x4096x256) off S1x256x256.size inb).toLoadRect (h.unread x) = kblk x j := by
  subst ho
  funext y
  show m.view.read (Elt F) (h.unread x) _ = _
  rw [h.read_unread]
  rfl

/-- and one at head `h` of turned value block `j` reads that. -/
theorem readV {m : Memref sig .tc .vmem S16x256x256 .bf16} (f : m.view.ty.Contents (Elt F)) {vt : Vec F S16x256x256 .bf16}
    (hf : m.view.read (Elt F) f = vt) {off : Fin 3 → ℕ}
    (inb : ∀ a, off a + S1x64x256.size a ≤ S16x256x256.size a) (j h : ℕ) (ho : off = vOff j h) :
    m.view.readAt (Elt F) (Rect.unit (s := S16x256x256) off S1x64x256.size inb).toLoadRect f = vblk vt j h := by
  subst ho hf
  rfl

/-- A load of the whole query window reads it. -/
theorem readQ {m : Memref sig .tc .vmem S1x256x256 .bf16} (h : m.IsWhole) (x : Vec F S1x256x256 .bf16)
    (inb : ∀ a, (![0, 0, 0] : Fin 3 → ℕ) a + S1x256x256.size a ≤ S1x256x256.size a) :
    m.view.readAt (Elt F) (Rect.unit (s := S1x256x256) ![0, 0, 0] S1x256x256.size inb).toLoadRect (h.unread x) = x :=
  (View.readAt_full m.view (h.unread x) inb).trans (h.read_unread x)

section
variable {e : EltTy} (v : View sig .tc .vmem S256x1024 e) (u : View sig .tc .vmem S256x256 e)

/-- Whole loads and stores of a wide buffer and of a square one, at the sizes the body writes out. -/
theorem rd_wide (f : v.ty.Contents (Elt F)) (inb : ∀ a, (![0, 0] : Fin 2 → ℕ) a + (![256, 1024] : Fin 2 → ℕ) a ≤ S256x1024.size a) :
    v.readAt (Elt F) (Rect.unit (s := S256x1024) ![0, 0] ![256, 1024] inb).toLoadRect f = v.read (Elt F) f := View.readAt_full v f inb

theorem rd_sq (f : u.ty.Contents (Elt F)) (inb : ∀ a, (![0, 0] : Fin 2 → ℕ) a + (![256, 256] : Fin 2 → ℕ) a ≤ S256x256.size a) :
    u.readAt (Elt F) (Rect.unit (s := S256x256) ![0, 0] ![256, 256] inb).toLoadRect f = u.read (Elt F) f := View.readAt_full u f inb

theorem cov_wide (inb inb' : ∀ a, (![0, 0] : Fin 2 → ℕ) a + (![256, 1024] : Fin 2 → ℕ) a ≤ S256x1024.size a)
    (w : (Rect.unit (s := S256x1024) ![0, 0] ![256, 1024] inb').shape.Idx → Elt F e) (L : List (View.Piece (Elt F) S256x1024 e)) :
    v.readCov (⟨Rect.unit (s := S256x1024) ![0, 0] ![256, 1024] inb', w⟩ :: L) (Rect.unit (s := S256x1024) ![0, 0] ![256, 1024] inb).toLoadRect = w :=
  View.readCov_full v inb inb' w L

theorem cov_sq (inb inb' : ∀ a, (![0, 0] : Fin 2 → ℕ) a + (![256, 256] : Fin 2 → ℕ) a ≤ S256x256.size a)
    (w : (Rect.unit (s := S256x256) ![0, 0] ![256, 256] inb').shape.Idx → Elt F e) (L : List (View.Piece (Elt F) S256x256 e)) :
    u.readCov (⟨Rect.unit (s := S256x256) ![0, 0] ![256, 256] inb', w⟩ :: L) (Rect.unit (s := S256x256) ![0, 0] ![256, 256] inb).toLoadRect = w :=
  View.readCov_full u inb inb' w L

theorem wr_wide (f : v.ty.Contents (Elt F)) (inb' : ∀ a, (![0, 0] : Fin 2 → ℕ) a + (![256, 1024] : Fin 2 → ℕ) a ≤ S256x1024.size a)
    (w : (Rect.unit (s := S256x1024) ![0, 0] ![256, 1024] inb').shape.Idx → Elt F e) (L : List (View.Piece (Elt F) S256x1024 e)) :
    v.read (Elt F) (v.writes (Elt F) f (⟨Rect.unit (s := S256x1024) ![0, 0] ![256, 1024] inb', w⟩ :: L)) = w :=
  View.read_writes_full v f inb' w L

theorem wr_sq (f : u.ty.Contents (Elt F)) (inb' : ∀ a, (![0, 0] : Fin 2 → ℕ) a + (![256, 256] : Fin 2 → ℕ) a ≤ S256x256.size a)
    (w : (Rect.unit (s := S256x256) ![0, 0] ![256, 256] inb').shape.Idx → Elt F e) (L : List (View.Piece (Elt F) S256x256 e)) :
    u.read (Elt F) (u.writes (Elt F) f (⟨Rect.unit (s := S256x256) ![0, 0] ![256, 256] inb', w⟩ :: L)) = w :=
  View.read_writes_full u f inb' w L
end

variable (c : Dev nD) (i : grid0.Coords)
variable {arg2 : Memref sig .tc .vmem S1x256x256 .bf16} (harg2 : arg2.IsWhole) {arg3 : Memref sig .tc .vmem S1x4096x256 .bf16} (harg3 : arg3.IsWhole) {arg4 : Memref sig .tc .vmem S1x4096x256 .bf16} (harg4 : arg4.IsWhole) {arg5 : Memref sig .tc .vmem S1x256 .f32} (harg5 : arg5.IsWhole) {arg6 : Memref sig .tc .vmem S256x256 .bf16} (harg6 : arg6.IsWhole) {arg7 : Memref sig .tc .vmem S1x256x256 .bf16} (harg7 : arg7.IsWhole) {arg8 : Memref sig .tc .vmem S256x1024 .bf16} (harg8 : arg8.IsWhole) {arg9 : Memref sig .tc .vmem S16x256x256 .bf16} (harg9 : arg9.IsWhole) {arg10 : Memref sig .tc .vmem S256x1024 .f32} (harg10 : arg10.IsWhole) {arg11 : Memref sig .tc .vmem S256x1024 .f32} (harg11 : arg11.IsWhole) {arg12 : Memref sig .tc .vmem S256x256 .f32} (harg12 : arg12.IsWhole) {arg13 : Memref sig .tc .vmem S8x1024 .f32} (harg13 : arg13.IsWhole)

/-! ## One trip of the pair loop -/

/-- What the pair loop holds before a trip: state `s`, its carry the loop's own. -/
def inv (s : St F) (xk : Vec F S1x4096x256 .bf16) (ut : Vec F S256x256 .bf16) (wq : Vec F S256x1024 .bf16) (vt : Vec F S16x256x256 .bf16)
    (cr : FVec F S1x1024 .f32) : sProp 𝕄 := iprop(
  (arg3.view.loc (c : Thread nD τ) ↦[arg3.view.set]{fullShare} harg3.unread xk)
  ∗ (arg6.view.loc (c : Thread nD τ) ↦[arg6.view.set]{fullShare} harg6.unread ut)
  ∗ (∃ f, ⌜arg8.view.read (Elt F) f = wq⌝ ∗ (arg8.view.loc (c : Thread nD τ) ↦[arg8.view.set]{fullShare} f))
  ∗ (∃ f, ⌜arg9.view.read (Elt F) f = vt⌝ ∗ (arg9.view.loc (c : Thread nD τ) ↦[arg9.view.set]{fullShare} f))
  ∗ (∃ f, ⌜arg10.view.read (Elt F) f = s.za⌝ ∗ (arg10.view.loc (c : Thread nD τ) ↦[arg10.view.set]{fullShare} f))
  ∗ (∃ f, (arg11.view.loc (c : Thread nD τ) ↦[arg11.view.set]{fullShare} f))
  ∗ (∃ f, ⌜arg12.view.read (Elt F) f = s.acc⌝ ∗ (arg12.view.loc (c : Thread nD τ) ↦[arg12.view.set]{fullShare} f))
  ∗ ⌜cr = s.cr⌝)

/-- A trip of the pair loop walks four blocks. -/
theorem trip2 (E : Set ℕ) (a1 c4 v149 v154 c0 : BitVec 32) (v148 : FVec F S1x1024 .f32) (k : Fin (k0_t2_loop i).trips)
    (s : St F) (xk : Vec F S1x4096x256 .bf16) (ut : Vec F S256x256 .bf16) (wq : Vec F S256x1024 .bf16) (vt : Vec F S16x256x256 .bf16)
    (cr : FVec F S1x1024 .f32) :
    inv (arg8 := arg8) (arg9 := arg9) (arg10 := arg10) (arg11 := arg11) (arg12 := arg12) c harg3 harg6 s xk ut wq vt cr
    ⊢ wp frame (wpE (defs₀ (F := F)) Variants.none c none) E
      (k0_t2_body (F := F) i arg2 harg2 arg3 harg3 arg4 harg4 arg5 harg5 arg6 harg6 arg7 harg7 arg8 harg8 arg9 harg9 arg10 harg10 arg11 harg11 arg12 harg12 arg13 harg13 a1 v148 c4 v149 v154 c0 k cr)
      (fun cr' => inv (arg8 := arg8) (arg9 := arg9) (arg10 := arg10) (arg11 := arg11) (arg12 := arg12) c harg3 harg6
        (two (kblk xk) (vblk vt) wq ut ((i 1).val - 3 - 4 * k.val) (two (kblk xk) (vblk vt) wq ut ((i 1).val - 1 - 4 * k.val) s)) xk ut wq vt cr') := by
  obtain ⟨e9, ⟨e10, e11, e12, e13⟩, e14, e15, e16, e17, e18⟩ := off_first i k
  obtain ⟨d9, ⟨d10, d11, d12, d13⟩, d14, d15, d16, d17, d18⟩ := off_second i k
  unfold k0_t2_body
  simp only [k0_part1_eq_skeleton, k0_part2_eq_skeleton, k0_part3_eq_skeleton, k0_part4_eq_skeleton, k0_part5_eq_skeleton, k0_part6_eq_skeleton, k0_part7_eq_skeleton]
  unfold inv
  iintro ⟨H3, H6, ⟨%f8, %h8, H8⟩, ⟨%f9, %h9, H9⟩, ⟨%f10, %h10, H10⟩, ⟨%f11, H11⟩, ⟨%f12, %h12, H12⟩, %hcr⟩
  sl_exec
  sl_step
  subst hcr
  isplitl [H3]; · iexact H3
  isplitl [H6]; · iexact H6
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro
    rw [wr_wide, rd_wide, h8, readK harg3 xk _ _ d14]
    rfl
  isplitl [H11]
  · iexists _; iexact H11
  isplitl [H12]
  · iexists _; isplitr; swap; · iexact H12
    ipureintro
    repeat delta trip2.sl.v317 trip2.sl.v393 trip2.sl.v471 trip2.sl.v373 trip2.sl.v449 trip2.sl.v527 trip2.sl.r trip2.sl.r_1 trip2.sl.r_2 trip2.sl.r_3 trip2.sl.r_4 trip2.sl.r_5 trip2.sl.r_6 trip2.sl.r_7 trip2.sl.r_8 trip2.sl.r_9 trip2.sl.r_10 trip2.sl.r_11 trip2.sl.r_12 trip2.sl.r_13 trip2.sl.r_14 trip2.sl.r_15 trip2.sl.r_16 trip2.sl.r_17 trip2.sl.r_18 trip2.sl.r_19 trip2.sl.r_20 trip2.sl.H10_1 trip2.sl.H11_1 trip2.sl.H11_2 trip2.sl.H12_1 trip2.sl.H12_2 trip2.sl.H12_3 trip2.sl.v316 trip2.sl.v470
    simp only [two, stepAcc, stepCar, score,
      rd_wide, rd_sq, cov_wide, cov_sq, wr_wide, wr_sq, Memref.IsWhole.read_unread, h8, h10, h12,
      readK harg3 xk _ _ e9, readK harg3 xk _ _ e14, readK harg3 xk _ _ d9, readV f9 h9 _ _ _ e10, readV f9 h9 _ _ _ e11,
      readV f9 h9 _ _ _ e12, readV f9 h9 _ _ _ e13, readV f9 h9 _ _ _ e15, readV f9 h9 _ _ _ e16, readV f9 h9 _ _ _ e17,
      readV f9 h9 _ _ _ e18, readV f9 h9 _ _ _ d10, readV f9 h9 _ _ _ d11, readV f9 h9 _ _ _ d12, readV f9 h9 _ _ _ d13,
      readV f9 h9 _ _ _ d15, readV f9 h9 _ _ _ d16, readV f9 h9 _ _ _ d17, readV f9 h9 _ _ _ d18]
    rfl
  ipureintro
  repeat delta trip2.sl.v317 trip2.sl.v393 trip2.sl.v471 trip2.sl.v373 trip2.sl.v449 trip2.sl.v527 trip2.sl.r trip2.sl.r_1 trip2.sl.r_2 trip2.sl.r_3 trip2.sl.r_4 trip2.sl.r_5 trip2.sl.r_6 trip2.sl.r_7 trip2.sl.r_8 trip2.sl.r_9 trip2.sl.r_10 trip2.sl.r_11 trip2.sl.r_12 trip2.sl.r_13 trip2.sl.r_14 trip2.sl.r_15 trip2.sl.r_16 trip2.sl.r_17 trip2.sl.r_18 trip2.sl.r_19 trip2.sl.r_20 trip2.sl.H10_1 trip2.sl.H11_1 trip2.sl.H11_2 trip2.sl.H12_1 trip2.sl.H12_2 trip2.sl.H12_3 trip2.sl.v316 trip2.sl.v470
  simp only [two, stepAcc, stepCar, score,
    rd_wide, rd_sq, cov_wide, cov_sq, wr_wide, wr_sq, Memref.IsWhole.read_unread, h8, h10, h12,
    readK harg3 xk _ _ e9, readK harg3 xk _ _ e14, readK harg3 xk _ _ d9]
  rfl

/-! ## Turning the value blocks -/

/-- Before trip `k` of the first loop the first `k` value blocks are turned. -/
def inv1 (k : ℕ) (xv : Vec F S1x4096x256 .bf16) : sProp 𝕄 := iprop(
  (arg4.view.loc (c : Thread nD τ) ↦[arg4.view.set]{fullShare} harg4.unread xv)
  ∗ (∃ f, ⌜∀ y, (y 0).val < k → arg9.view.read (Elt F) f y = turned xv y⌝ ∗ (arg9.view.loc (c : Thread nD τ) ↦[arg9.view.set]{fullShare} f)))

/-- A trip of it turns one. -/
theorem trip1 (E : Set ℕ) (h1 : k0_cond1 i = 1#1) (k : Fin k0_t1_loop.trips) (xv : Vec F S1x4096x256 .bf16) (acc : Unit) :
    inv1 (arg9 := arg9) c harg4 k.val xv
    ⊢ wp frame (wpE (defs₀ (F := F)) Variants.none c none) E
      (k0_t1_body (F := F) i arg2 harg2 arg3 harg3 arg4 harg4 arg5 harg5 arg6 harg6 arg7 harg7 arg8 harg8 arg9 harg9 arg10 harg10 arg11 harg11 arg12 harg12 arg13 harg13 h1 k acc)
      (fun _ => inv1 (arg9 := arg9) c harg4 (k.val + 1) xv) := by
  unfold k0_t1_body inv1
  iintro ⟨H4, ⟨%f9, %h9, H9⟩⟩
  sl_exec
  sl_step
  isplitl [H4]; · iexact H4
  iexists _; isplitr; swap; · iexact H9
  ipureintro
  intro y hy
  rw [readK harg4 xv _ _ (off1_eq k)]
  by_cases e : (y 0).val = k.val
  · refine (View.read_writes_cons_unit_of_mem arg9.view f9 (s := S16x256x256) _ _ _ y (inBlk y) (off2_eq k)
      (Fin.forall_fin_succ.mpr ⟨e, Fin.forall_fin_two.mpr ⟨(Nat.zero_add _).symm, (Nat.zero_add _).symm⟩⟩)).trans ?_
    unfold turned
    rw [e]
  · have out : (y 0).val < k.val ∨ k.val + 1 ≤ (y 0).val := by omega
    refine (View.read_writes_cons_unit_of_not_mem arg9.view f9 (s := S16x256x256) _ _ _ y (off2_eq k) 0 (by exact out)).trans ?_
    rw [View.writes_nil]
    exact h9 y (by omega)

/-! ## The carry's row -/

/-- A load of the carry's row after a store of it. -/
theorem cov_row {e : EltTy} (v : View sig .tc .vmem S8x1024 e)
    (inb inb' : ∀ a, (![0, 0] : Fin 2 → ℕ) a + (![1, 1024] : Fin 2 → ℕ) a ≤ S8x1024.size a)
    (w : (Rect.unit (s := S8x1024) ![0, 0] ![1, 1024] inb').shape.Idx → Elt F e) (L : List (View.Piece (Elt F) S8x1024 e)) :
    v.readCov (⟨Rect.unit (s := S8x1024) ![0, 0] ![1, 1024] inb', w⟩ :: L) (Rect.unit (s := S8x1024) ![0, 0] ![1, 1024] inb).toLoadRect = w :=
  View.readCov_cons_toLoadRect v (Rect.unit (s := S8x1024) ![0, 0] ![1, 1024] inb') w L

theorem pay101_eq (x : FVec F S1x1024 .f32) : k0_pay101 x = x := shapeCast_self _ _
theorem pay102_eq (x : FVec F S1x1024 .f32) : k0_pay102 x = x := shapeCast_self _ _

/-- The carry's row of `arg13`. -/
def row (f : arg13.view.ty.Contents (Elt F)) : FVec F S1x1024 .f32 :=
  arg13.view.readAt (Elt F) (Rect.unit (s := S8x1024) ![0, 0] S1x1024.size inb_S8x1024_S1x1024_0_0).toLoadRect f

theorem row_writes (f : arg13.view.ty.Contents (Elt F)) (w : FVec F S1x1024 .f32) (L : List (View.Piece (Elt F) S8x1024 .f32)) :
    row (arg13 := arg13) (arg13.view.writes (Elt F) f (⟨Rect.unit (s := S8x1024) ![0, 0] S1x1024.size inb_S8x1024_S1x1024_0_0, w⟩ :: L)) = w := by
  funext y
  exact View.read_writes_cons_emb arg13.view f (Rect.unit (s := S8x1024) ![0, 0] S1x1024.size inb_S8x1024_S1x1024_0_0) w L y

/-! ## The walk, whole -/

/-- The word the body tests for an odd point, as it computes it. -/
theorem odd_word : ∀ i : grid0.Coords,
    Scalar.remsi (Scalar.select (Scalar.andi (Scalar.xori
        (Scalar.cmpi .slt (Scalar.remsi (BitVec.ofNat 32 (i 1).val) (Scalar.select (Scalar.cmpi .eq 4#32 0#32) 1#32 4#32)) 0#32)
        (Scalar.cmpi .slt (Scalar.select (Scalar.cmpi .eq 4#32 0#32) 1#32 4#32) 0#32))
        (Scalar.cmpi .ne (Scalar.remsi (BitVec.ofNat 32 (i 1).val) (Scalar.select (Scalar.cmpi .eq 4#32 0#32) 1#32 4#32)) 0#32))
      (Scalar.addi (Scalar.remsi (BitVec.ofNat 32 (i 1).val) (Scalar.select (Scalar.cmpi .eq 4#32 0#32) 1#32 4#32)) (Scalar.select (Scalar.cmpi .eq 4#32 0#32) 1#32 4#32))
      (Scalar.remsi (BitVec.ofNat 32 (i 1).val) (Scalar.select (Scalar.cmpi .eq 4#32 0#32) 1#32 4#32)))
      (Scalar.select (Scalar.cmpi .eq 2#32 0#32) 1#32 2#32) = BitVec.ofNat 32 ((i 1).val % 2) := by decide +kernel

set_option maxHeartbeats 4000000 in
/-- From the diagonal block's state the loop and the steps after it walk every pair of blocks. -/
theorem part24 (E : Set ℕ) (v148 : FVec F S1x1024 .f32) (v149 v154 : BitVec 32)
    (xk : Vec F S1x4096x256 .bf16) (ut : Vec F S256x256 .bf16) (xq : Vec F S1x256x256 .bf16) (xv : Vec F S1x4096x256 .bf16) :
    iprop(inv (arg8 := arg8) (arg9 := arg9) (arg10 := arg10) (arg11 := arg11) (arg12 := arg12) c harg3 harg6 (diag (kblk xk) (vblk (turned xv)) (wide xq) ut (i 1).val) xk ut (wide xq) (turned xv) v148
      ∗ (∃ f, (arg13.view.loc (c : Thread nD τ) ↦[arg13.view.set]{fullShare} f)))
    ⊢ wp frame (wpE (defs₀ (F := F)) Variants.none c none) E
      (k0_part24 (F := F) i arg2 harg2 arg3 harg3 arg4 harg4 arg5 harg5 arg6 harg6 arg7 harg7 arg8 harg8 arg9 harg9 arg10 harg10 arg11 harg11 arg12 harg12 arg13 harg13 (BitVec.ofNat 32 (i 1).val) v148 4#32 v149 v154 0#32)
      (fun r => iprop(inv (arg8 := arg8) (arg9 := arg9) (arg10 := arg10) (arg11 := arg11) (arg12 := arg12) c harg3 harg6 (walk (kblk xk) (vblk (turned xv)) (wide xq) ut (i 1).val ((i 1).val / 2)) xk ut (wide xq) (turned xv)
          (walk (kblk xk) (vblk (turned xv)) (wide xq) ut (i 1).val ((i 1).val / 2)).cr
        ∗ (∃ f, ⌜row (arg13 := arg13) f = (walk (kblk xk) (vblk (turned xv)) (wide xq) ut (i 1).val ((i 1).val / 2)).cr⌝
            ∗ (arg13.view.loc (c : Thread nD τ) ↦[arg13.view.set]{fullShare} f))
        ∗ ⌜r = ⟨2#32, BitVec.ofNat 32 ((i 1).val % 2), 0#32⟩⌝)) := by
  have htr : (k0_t3_loop i).trips = 0 := t3_trips i
  let L : LoopInv frame (wpE (defs₀ (F := F)) Variants.none c none) E (k0_t2_loop i).lb (k0_t2_loop i).ub (k0_t2_loop i).st (k0_t2_ok i) v148
      (k0_t2_body (F := F) i arg2 harg2 arg3 harg3 arg4 harg4 arg5 harg5 arg6 harg6 arg7 harg7 arg8 harg8 arg9 harg9 arg10 harg10 arg11 harg11 arg12 harg12 arg13 harg13 (BitVec.ofNat 32 (i 1).val) v148 4#32 v149 v154 0#32) :=
    { inv := fun k cr => inv (arg8 := arg8) (arg9 := arg9) (arg10 := arg10) (arg11 := arg11) (arg12 := arg12) c harg3 harg6 (walk (kblk xk) (vblk (turned xv)) (wide xq) ut (i 1).val (2 * k)) xk ut (wide xq) (turned xv) cr
      step := fun k cr => by
        have h := trip2 (arg2 := arg2) (arg4 := arg4) (arg5 := arg5) (arg7 := arg7) (arg8 := arg8) (arg9 := arg9) (arg10 := arg10) (arg11 := arg11) (arg12 := arg12) (arg13 := arg13) c i harg2 harg3 harg4 harg5 harg6 harg7 harg8 harg9 harg10 harg11 harg12 harg13 E
          (BitVec.ofNat 32 (i 1).val) 4#32 v149 v154 0#32 v148 k (walk (kblk xk) (vblk (turned xv)) (wide xq) ut (i 1).val (2 * k.val)) xk ut (wide xq) (turned xv) cr
        have e1 : (i 1).val - 1 - 2 * (2 * k.val) = (i 1).val - 1 - 4 * k.val := by omega
        have e2 : (i 1).val - 1 - 2 * (2 * k.val + 1) = (i 1).val - 3 - 4 * k.val := by omega
        rw [show 2 * (k.val + 1) = 2 * k.val + 1 + 1 by omega, walk, walk, e1, e2]
        exact h }
  rw [k0_part24_eq_skeleton]
  unfold k0_part24_skel
  simp only [k0_part18_eq_skeleton]
  unfold k0_part18_skel
  simp only [k0_part15_eq_skeleton, k0_part16_eq_skeleton, k0_part17_eq_skeleton]
  unfold inv
  iintro ⟨⟨H3, H6, ⟨%f8, %h8, H8⟩, ⟨%f9, %h9, H9⟩, ⟨%f10, %h10, H10⟩, ⟨%f11, H11⟩, ⟨%f12, %h12, H12⟩, %hcr⟩, ⟨%f13, H13⟩⟩
  have et := t2_trips i
  have hlt : (i 1).val < 16 := (i 1).isLt
  by_cases h2 : k0_cond2 i = 1#1
  · obtain ⟨e9, ⟨e10, e11, e12, e13⟩, e14, e15, e16, e17, e18⟩ := off_rest i h2
    have hq := (cond2_iff i).mp h2
    have en : (i 1).val / 2 = 2 * (k0_t2_loop i).trips + 1 := by omega
    have eb : (i 1).val - 1 - 2 * (2 * (k0_t2_loop i).trips) = (i 1).val % 4 - 1 := by omega
    sl_exec
    sl_step
    rw [en, walk, eb]
    isplitl [H3 H6 H8 H9 H10 H11 H12]
    · isplitl [H3]; · iexact H3
      isplitl [H6]; · iexact H6
      isplitl [H8]
      · iexists _; isplitr; swap; · iexact H8
        ipureintro; exact hL2
      isplitl [H9]
      · iexists _; isplitr; swap; · iexact H9
        ipureintro; exact hL4
      isplitl [H10]
      · iexists _; isplitr; swap; · iexact H10
        ipureintro
        rw [wr_wide, rd_wide, hL2, readK harg3 xk _ _ e14]
        rfl
      isplitl [H11]
      · iexists _; iexact H11
      isplitl [H12]
      · iexists _; isplitr; swap; · iexact H12
        ipureintro
        repeat delta part24.sl.r part24.sl.r_1 part24.sl.r_2 part24.sl.r_3 part24.sl.r_4 part24.sl.r_5 part24.sl.r_6 part24.sl.r_7 part24.sl.r_8 part24.sl.r_9 part24.sl.r_10 part24.sl.v313 part24.sl.v369 part24.sl.v312 part24.sl.v222 part24.sl.v223 part24.sl.v300 part24.sl.H11_1 part24.sl.H12_1 part24.sl.H13_1
        simp only [two, stepAcc, stepCar, score,
          rd_wide, rd_sq, cov_wide, cov_sq, cov_row, wr_wide, wr_sq, Memref.IsWhole.read_unread, pay101_eq, pay102_eq, hL2, hL6, hL9,
          readK harg3 xk _ _ e9, readK harg3 xk _ _ e14, readV fL1 hL4 _ _ _ e10, readV fL1 hL4 _ _ _ e11,
          readV fL1 hL4 _ _ _ e12, readV fL1 hL4 _ _ _ e13, readV fL1 hL4 _ _ _ e15, readV fL1 hL4 _ _ _ e16, readV fL1 hL4 _ _ _ e17,
          readV fL1 hL4 _ _ _ e18]
        rfl
      ipureintro; rfl
    isplitl [H13]
    · iexists _; isplitr; swap; · iexact H13
      ipureintro
      refine (row_writes (arg13 := arg13) _ _ _).trans ?_
      repeat delta part24.sl.r part24.sl.r_1 part24.sl.r_2 part24.sl.r_3 part24.sl.r_4 part24.sl.r_5 part24.sl.r_6 part24.sl.r_7 part24.sl.r_8 part24.sl.r_9 part24.sl.r_10 part24.sl.v313 part24.sl.v369 part24.sl.v312 part24.sl.v222 part24.sl.v223 part24.sl.v300 part24.sl.H11_1 part24.sl.H12_1 part24.sl.H13_1
      simp only [two, stepAcc, stepCar, score,
        rd_wide, rd_sq, cov_wide, cov_sq, cov_row, wr_wide, wr_sq, Memref.IsWhole.read_unread, pay101_eq, pay102_eq, hL2, hL6, hL9,
        readK harg3 xk _ _ e9, readK harg3 xk _ _ e14]
      rfl
    ipureintro
    exact congrArg (fun z => (⟨2#32, z, 0#32⟩ : Σ' (_ : BitVec 32) (_ : BitVec 32), BitVec 32)) (odd_word i)
  · have hq := mt (cond2_iff i).mpr h2
    have en : 2 * (k0_t2_loop i).trips = (i 1).val / 2 := by omega
    sl_exec
    sl_step
    rw [← en]
    isplitl [H3 H6 H8 H9 H10 H11 H12]
    · isplitl [H3]; · iexact H3
      isplitl [H6]; · iexact H6
      isplitl [H8]
      · iexists _; isplitr; swap; · iexact H8
        ipureintro; exact hL2
      isplitl [H9]
      · iexists _; isplitr; swap; · iexact H9
        ipureintro; exact hL4
      isplitl [H10]
      · iexists _; isplitr; swap; · iexact H10
        ipureintro
        exact hL6
      isplitl [H11]
      · iexists _; iexact H11
      isplitl [H12]
      · iexists _; isplitr; swap; · iexact H12
        ipureintro
        exact hL9
      ipureintro; rfl
    isplitl [H13]
    · iexists _; isplitr; swap; · iexact H13
      ipureintro
      exact (row_writes (arg13 := arg13) _ _ _).trans (pay101_eq _)
    ipureintro
    exact congrArg (fun z => (⟨2#32, z, 0#32⟩ : Σ' (_ : BitVec 32) (_ : BitVec 32), BitVec 32)) (odd_word i)

/-! ## Up to the walk -/

/-- The first two stores of the wide queries. -/
def lowW (xq : Vec F S1x256x256 .bf16) : List (View.Piece (Elt F) S256x1024 .bf16) :=
  [⟨Rect.unit (s := S256x1024) ![0, 256] S256x256.size inb_S256x1024_S256x256_0_256, k0_pay82 xq⟩,
    ⟨Rect.unit (s := S256x1024) ![0, 0] S256x256.size inb_S256x1024_S256x256_0_0, k0_pay81 xq⟩]

/-- The first part: the turned values where a batch begins, and the first two stores of the wide queries. -/
theorem part20 (E : Set ℕ) (xq : Vec F S1x256x256 .bf16) (xv : Vec F S1x4096x256 .bf16) :
    (iprop((arg2.view.loc (c : Thread nD τ) ↦[arg2.view.set]{fullShare} harg2.unread xq)
      ∗ (arg4.view.loc (c : Thread nD τ) ↦[arg4.view.set]{fullShare} harg4.unread xv)
      ∗ (∃ f, (arg8.view.loc (c : Thread nD τ) ↦[arg8.view.set]{fullShare} f))
      ∗ (∃ f, ⌜(i 1).val ≠ 0 → arg9.view.read (Elt F) f = turned xv⌝ ∗ (arg9.view.loc (c : Thread nD τ) ↦[arg9.view.set]{fullShare} f))) : sProp 𝕄)
    ⊢ wp frame (wpE (defs₀ (F := F)) Variants.none c none) E
      (k0_part20 (F := F) i arg2 harg2 arg3 harg3 arg4 harg4 arg5 harg5 arg6 harg6 arg7 harg7 arg8 harg8 arg9 harg9 arg10 harg10 arg11 harg11 arg12 harg12 arg13 harg13)
      (fun r => iprop((arg2.view.loc (c : Thread nD τ) ↦[arg2.view.set]{fullShare} harg2.unread xq)
      ∗ (arg4.view.loc (c : Thread nD τ) ↦[arg4.view.set]{fullShare} harg4.unread xv)
      ∗ (∃ f, (arg8.view.loc (c : Thread nD τ) ↦[arg8.view.set]{fullShare} arg8.view.writes (Elt F) f (lowW xq)))
      ∗ (∃ f, ⌜arg9.view.read (Elt F) f = turned xv⌝ ∗ (arg9.view.loc (c : Thread nD τ) ↦[arg9.view.set]{fullShare} f))
      ∗ ⌜r.1 = BitVec.ofNat 32 (i 1).val⌝ ∗ ⌜r.2.1 = k0_pay80 xq⌝ ∗ ⌜r.2.2.1 = iota .tc S256x256 32 [0] iota_S256x256_d0_w32⌝ ∗ ⌜r.2.2.2 = k0_pay83⌝)) := by
  rw [k0_part20_eq_skeleton]
  unfold k0_part20_skel
  iintro ⟨H2, H4, ⟨%f8, H8⟩, ⟨%f9, %h9, H9⟩⟩
  by_cases h1 : k0_cond1 i = 1#1
  · let L : LoopInv frame (wpE (defs₀ (F := F)) Variants.none c none) E k0_t1_loop.lb k0_t1_loop.ub k0_t1_loop.st (k0_t1_ok i h1) ()
        (k0_t1_body (F := F) i arg2 harg2 arg3 harg3 arg4 harg4 arg5 harg5 arg6 harg6 arg7 harg7 arg8 harg8 arg9 harg9 arg10 harg10 arg11 harg11 arg12 harg12 arg13 harg13 h1) :=
      { inv := fun k _ => inv1 (arg9 := arg9) c harg4 k xv
        step := fun k a => trip1 (arg2 := arg2) (arg3 := arg3) (arg6 := arg6) (arg5 := arg5) (arg7 := arg7) (arg8 := arg8) (arg9 := arg9) (arg10 := arg10) (arg11 := arg11) (arg12 := arg12) (arg13 := arg13) c i harg2 harg3 harg4 harg5 harg6 harg7 harg8 harg9 harg10 harg11 harg12 harg13 E h1 k xv a }
    have h0 : ∀ y : S16x256x256.Idx, (y 0).val < 0 → arg9.view.read (Elt F) f9 y = turned xv y := fun y hy => absurd hy (Nat.not_lt_zero _)
    sl_exec
    sl_step
    rw [readQ harg2 xq]
    isplitl [H2]; · iexact H2
    isplitl [H4]; · iexact H4
    isplitl [H8]; · iexists _; iexact H8
    isplitl [H9]
    · iexists _; isplitr; swap; · iexact H9
      ipureintro
      funext y
      exact hL1 y (Nat.lt_of_lt_of_eq (y 0).isLt t1_trips.symm)
    isplitr; · ipureintro; rfl
    isplitr; · ipureintro; rfl
    isplitr; · ipureintro; rfl
    ipureintro; rfl
  · have h9' := h9 (mt (cond1_iff i).mpr h1)
    sl_exec
    sl_step
    rw [readQ harg2 xq]
    isplitl [H2]; · iexact H2
    isplitl [H4]; · iexact H4
    isplitl [H8]; · iexists _; iexact H8
    isplitl [H9]
    · iexists _; isplitr; swap; · iexact H9
      ipureintro; exact h9'
    isplitr; · ipureintro; rfl
    isplitr; · ipureintro; rfl
    isplitr; · ipureintro; rfl
    ipureintro; rfl

/-- All four stores cover the wide queries. -/
theorem wide_covers (xq : Vec F S1x256x256 .bf16) (v : View sig .tc .vmem S256x1024 .bf16) (f : v.ty.Contents (Elt F)) :
    v.read (Elt F) (v.writes (Elt F) f (⟨Rect.unit ![0, 768] S256x256.size inb_S256x1024_S256x256_0_768,
        k0_pay85 (k0_pay80 xq) (iota .tc S256x256 32 [0] iota_S256x256_d0_w32)⟩
      :: ⟨Rect.unit ![0, 512] S256x256.size inb_S256x1024_S256x256_0_512, k0_pay84 (k0_pay80 xq) k0_pay83⟩
      :: lowW xq)) = wide xq := by
  refine View.read_writes_eq_canon v f _ fun y => ?_
  have hy : (y 1).val < 1024 := (y 1).isLt
  have key : ∀ (o : ℕ) (inb : ∀ a, (![0, o] : Fin 2 → ℕ) a + S256x256.size a ≤ S256x1024.size a), o ≤ (y 1).val → (y 1).val < o + 256 →
      y ∈ (Rect.unit (s := S256x1024) ![0, o] S256x256.size inb).set := fun o inb h1 h2 =>
    Rect.mem_set_unit.mpr (Fin.forall_fin_two.mpr ⟨⟨Nat.zero_le _, by have := (y 0).isLt; exact (Nat.zero_add 256).symm ▸ this⟩, ⟨h1, h2⟩⟩)
  by_cases h3 : 768 ≤ (y 1).val
  · exact ⟨_, List.mem_cons_self, key 768 inb_S256x1024_S256x256_0_768 h3 (by omega)⟩
  by_cases h2 : 512 ≤ (y 1).val
  · exact ⟨_, List.mem_cons_of_mem _ List.mem_cons_self, key 512 inb_S256x1024_S256x256_0_512 h2 (by omega)⟩
  by_cases h1 : 256 ≤ (y 1).val
  · exact ⟨_, List.mem_cons_of_mem _ (List.mem_cons_of_mem _ List.mem_cons_self), key 256 inb_S256x1024_S256x256_0_256 h1 (by omega)⟩
  · exact ⟨_, List.mem_cons_of_mem _ (List.mem_cons_of_mem _ (List.mem_cons_of_mem _ List.mem_cons_self)), key 0 inb_S256x1024_S256x256_0_0 (Nat.zero_le _) (by omega)⟩

/-- A load of all the wide queries after the four stores. -/
theorem wide_loads (xq : Vec F S1x256x256 .bf16) (v : View sig .tc .vmem S256x1024 .bf16)
    (inb : ∀ a, (![0, 0] : Fin 2 → ℕ) a + (![256, 1024] : Fin 2 → ℕ) a ≤ S256x1024.size a) :
    v.readCov (⟨Rect.unit (s := S256x1024) ![0, 768] ![256, 256] inb_S256x1024_S256x256_0_768,
        k0_pay85 (k0_pay80 xq) (iota .tc S256x256 32 [0] iota_S256x256_d0_w32)⟩
      :: ⟨Rect.unit (s := S256x1024) ![0, 512] ![256, 256] inb_S256x1024_S256x256_0_512, k0_pay84 (k0_pay80 xq) k0_pay83⟩
      :: lowW xq) (Rect.unit (s := S256x1024) ![0, 0] ![256, 1024] inb).toLoadRect = wide xq :=
  (rd_wide v _ inb).trans (wide_covers xq v _)

/-- A store of the whole output block. -/
theorem wr_out (v : View sig .tc .vmem S1x256x256 .bf16) (f : v.ty.Contents (Elt F))
    (inb' : ∀ a, (![0, 0, 0] : Fin 3 → ℕ) a + (![1, 256, 256] : Fin 3 → ℕ) a ≤ S1x256x256.size a)
    (w : (Rect.unit (s := S1x256x256) ![0, 0, 0] ![1, 256, 256] inb').shape.Idx → Elt F .bf16) (L : List (View.Piece (Elt F) S1x256x256 .bf16)) :
    v.read (Elt F) (v.writes (Elt F) f (⟨Rect.unit (s := S1x256x256) ![0, 0, 0] ![1, 256, 256] inb', w⟩ :: L)) = w :=
  View.read_writes_full v f inb' w L

/-- A load of the whole weight row. -/
theorem rd_row (v : View sig .tc .vmem S1x256 .f32) (f : v.ty.Contents (Elt F)) (inb : ∀ a, (![0, 0] : Fin 2 → ℕ) a + (![1, 256] : Fin 2 → ℕ) a ≤ S1x256.size a) :
    v.readAt (Elt F) (Rect.unit (s := S1x256) ![0, 0] ![1, 256] inb).toLoadRect f = v.read (Elt F) f := View.readAt_full v f inb

/-! ## The whole body -/

set_option maxHeartbeats 8000000 in
/-- The body leaves the model's block in the output's buffer, and the turned values in their scratch. -/
theorem body (E : Set ℕ) (xq : Vec F S1x256x256 .bf16) (xk xv : Vec F S1x4096x256 .bf16) (nw : Vec F S1x256 .f32) (ut : Vec F S256x256 .bf16) :
    (iprop((arg2.view.loc (c : Thread nD τ) ↦[arg2.view.set]{fullShare} harg2.unread xq)
      ∗ (arg3.view.loc (c : Thread nD τ) ↦[arg3.view.set]{fullShare} harg3.unread xk)
      ∗ (arg4.view.loc (c : Thread nD τ) ↦[arg4.view.set]{fullShare} harg4.unread xv)
      ∗ (arg5.view.loc (c : Thread nD τ) ↦[arg5.view.set]{fullShare} harg5.unread nw)
      ∗ (arg6.view.loc (c : Thread nD τ) ↦[arg6.view.set]{fullShare} harg6.unread ut)
      ∗ (∃ f, (arg7.view.loc (c : Thread nD τ) ↦[arg7.view.set]{fullShare} f))
      ∗ (∃ f, (arg8.view.loc (c : Thread nD τ) ↦[arg8.view.set]{fullShare} f))
      ∗ (∃ f, ⌜(i 1).val ≠ 0 → arg9.view.read (Elt F) f = turned xv⌝ ∗ (arg9.view.loc (c : Thread nD τ) ↦[arg9.view.set]{fullShare} f))
      ∗ (∃ f, (arg10.view.loc (c : Thread nD τ) ↦[arg10.view.set]{fullShare} f))
      ∗ (∃ f, (arg11.view.loc (c : Thread nD τ) ↦[arg11.view.set]{fullShare} f))
      ∗ (∃ f, (arg12.view.loc (c : Thread nD τ) ↦[arg12.view.set]{fullShare} f))
      ∗ (∃ f, (arg13.view.loc (c : Thread nD τ) ↦[arg13.view.set]{fullShare} f))) : sProp 𝕄)
    ⊢ wp frame (wpE (defs₀ (F := F)) Variants.none c none) E
      (cc0_sb_attn (F := F) i arg2 harg2 arg3 harg3 arg4 harg4 arg5 harg5 arg6 harg6 arg7 harg7 arg8 harg8 arg9 harg9 arg10 harg10 arg11 harg11 arg12 harg12 arg13 harg13)
      (fun _ => iprop((arg2.view.loc (c : Thread nD τ) ↦[arg2.view.set]{fullShare} harg2.unread xq)
      ∗ (arg3.view.loc (c : Thread nD τ) ↦[arg3.view.set]{fullShare} harg3.unread xk)
      ∗ (arg4.view.loc (c : Thread nD τ) ↦[arg4.view.set]{fullShare} harg4.unread xv)
      ∗ (arg5.view.loc (c : Thread nD τ) ↦[arg5.view.set]{fullShare} harg5.unread nw)
      ∗ (arg6.view.loc (c : Thread nD τ) ↦[arg6.view.set]{fullShare} harg6.unread ut)
      ∗ (∃ f, ⌜arg7.view.read (Elt F) f = model (i 1).val xq xk (turned xv) nw ut⌝ ∗ (arg7.view.loc (c : Thread nD τ) ↦[arg7.view.set]{fullShare} f))
      ∗ (∃ f, (arg8.view.loc (c : Thread nD τ) ↦[arg8.view.set]{fullShare} f))
      ∗ (∃ f, ⌜arg9.view.read (Elt F) f = turned xv⌝ ∗ (arg9.view.loc (c : Thread nD τ) ↦[arg9.view.set]{fullShare} f))
      ∗ (∃ f, (arg10.view.loc (c : Thread nD τ) ↦[arg10.view.set]{fullShare} f))
      ∗ (∃ f, (arg11.view.loc (c : Thread nD τ) ↦[arg11.view.set]{fullShare} f))
      ∗ (∃ f, (arg12.view.loc (c : Thread nD τ) ↦[arg12.view.set]{fullShare} f))
      ∗ (∃ f, (arg13.view.loc (c : Thread nD τ) ↦[arg13.view.set]{fullShare} f)))) := by
  rw [cc0_sb_attn_eq_skeleton]
  unfold cc0_sb_attn_skel
  simp only [k0_part19_eq_skeleton, k0_part21_eq_skeleton, k0_part22_eq_skeleton, k0_part23_eq_skeleton]
  have hlt : (i 1).val < 16 := (i 1).isLt
  obtain ⟨e5, e6, e7, e8⟩ := off5_eq i
  have hs := part20 (arg2 := arg2) (arg3 := arg3) (arg4 := arg4) (arg5 := arg5) (arg6 := arg6) (arg7 := arg7) (arg8 := arg8) (arg9 := arg9) (arg10 := arg10) (arg11 := arg11) (arg12 := arg12) (arg13 := arg13) c i harg2 harg3 harg4 harg5 harg6 harg7 harg8 harg9 harg10 harg11 harg12 harg13 E xq xv
  iintro ⟨H2, H3, H4, H5, H6, ⟨%f7, H7⟩, ⟨%f8, H8⟩, ⟨%f9, %h9, H9⟩, ⟨%f10, H10⟩, ⟨%f11, H11⟩, ⟨%f12, H12⟩, ⟨%f13, H13⟩⟩
  generalize hP : k0_part24 (F := F) i arg2 harg2 arg3 harg3 arg4 harg4 arg5 harg5 arg6 harg6 arg7 harg7 arg8 harg8 arg9 harg9 arg10 harg10 arg11 harg11 arg12 harg12 arg13 harg13 = P
  sl_exec
  obtain ⟨r1, r2, r3, r4⟩ : k0_part20_r_1 = _ ∧ k0_part20_r_2 = _ ∧ k0_part20_r_3 = _ ∧ k0_part20_r_4 = _ := ⟨hk0_part20_5, hk0_part20_6, hk0_part20_7, hk0_part20_8⟩
  subst r1 r2 r3 r4
  subst hP
  have wl : body.sl.v64 (F := F) (arg8 := arg8) xq (BitVec.ofNat 32 (i 1).val) (k0_pay80 xq) (iota .tc S256x256 32 [0] iota_S256x256_d0_w32) k0_pay83 = wide xq :=
    wide_loads xq arg8.view inb_S256x1024_S256x1024_0_0
  rw [wp_bind]
  iapply (wp_wand_r frame (wpE (defs₀ (F := F)) Variants.none c none) E)
  isplitl [H3 H6 Hk0_part20_2 Hk0_part20_4 H10 H11 H12 H13]
  · iapply (part24 (arg2 := arg2) (arg3 := arg3) (arg4 := arg4) (arg5 := arg5) (arg6 := arg6) (arg7 := arg7) (arg8 := arg8) (arg9 := arg9) (arg10 := arg10) (arg11 := arg11) (arg12 := arg12) (arg13 := arg13) c i harg2 harg3 harg4 harg5 harg6 harg7 harg8 harg9 harg10 harg11 harg12 harg13 E _ _ _ xk ut xq xv)
    unfold inv
    isplitr [H13]
    · isplitl [H3]; · iexact H3
      isplitl [H6]; · iexact H6
      isplitl [Hk0_part20_2]
      · iexists _; isplitr; swap; · iexact Hk0_part20_2
        ipureintro
        exact wide_covers xq _ _
      isplitl [Hk0_part20_4]
      · iexists _; isplitr; swap; · iexact Hk0_part20_4
        ipureintro; exact hk0_part20_3
      isplitl [H10]
      · iexists _; isplitr; swap; · iexact H10
        ipureintro
        repeat delta body.sl.r body.sl.r_1 body.sl.r_2 body.sl.r_3 body.sl.r_4 body.sl.v82 body.sl.H11_1
        simp only [diag, score, total, model, stepAcc, stepCar, rd_wide, rd_sq, cov_wide, cov_sq, cov_row, wr_wide, wr_sq, Memref.IsWhole.read_unread, wl,
          readK harg3 xk _ _ (off3_eq i), readK harg3 xk _ _ (off4_eq i), readV fk0_part20_1 hk0_part20_3 _ _ _ e5, readV fk0_part20_1 hk0_part20_3 _ _ _ e6,
          readV fk0_part20_1 hk0_part20_3 _ _ _ e7, readV fk0_part20_1 hk0_part20_3 _ _ _ e8]
        rfl
      isplitl [H11]
      · iexists _; iexact H11
      isplitl [H12]
      · iexists _; isplitr; swap; · iexact H12
        ipureintro
        repeat delta body.sl.r body.sl.r_1 body.sl.r_2 body.sl.r_3 body.sl.r_4 body.sl.v82 body.sl.H11_1
        simp only [diag, score, total, model, stepAcc, stepCar, rd_wide, rd_sq, cov_wide, cov_sq, cov_row, wr_wide, wr_sq, Memref.IsWhole.read_unread, wl,
          readK harg3 xk _ _ (off3_eq i), readK harg3 xk _ _ (off4_eq i), readV fk0_part20_1 hk0_part20_3 _ _ _ e5, readV fk0_part20_1 hk0_part20_3 _ _ _ e6,
          readV fk0_part20_1 hk0_part20_3 _ _ _ e7, readV fk0_part20_1 hk0_part20_3 _ _ _ e8]
      ipureintro
      repeat delta body.sl.r body.sl.r_1 body.sl.r_2 body.sl.r_3 body.sl.r_4 body.sl.v82 body.sl.H11_1
      simp only [diag, score, total, model, stepAcc, stepCar, rd_wide, rd_sq, cov_wide, cov_sq, cov_row, wr_wide, wr_sq, Memref.IsWhole.read_unread, wl,
          readK harg3 xk _ _ (off3_eq i), readK harg3 xk _ _ (off4_eq i), readV fk0_part20_1 hk0_part20_3 _ _ _ e5, readV fk0_part20_1 hk0_part20_3 _ _ _ e6,
          readV fk0_part20_1 hk0_part20_3 _ _ _ e7, readV fk0_part20_1 hk0_part20_3 _ _ _ e8]
    · iexists _; iexact H13
  · iintro %r ⟨Hi, ⟨%g13, %hg13, H13⟩, %hr⟩
    subst hr
    unfold inv
    icases Hi with ⟨H3, H6, ⟨%g8, %h8, H8⟩, ⟨%g9, %h9', H9⟩, ⟨%g10, %h10, H10⟩, ⟨%g11, H11⟩, ⟨%g12, %h12, H12⟩, %hcr⟩
    rcases Nat.mod_two_eq_zero_or_one (i 1).val with ho | ho
    · rw [ho]
      sl_exec
      sl_step
      isplitl [Hk0_part20_0]; · iexact Hk0_part20_0
      isplitl [H3]; · iexact H3
      isplitl [Hk0_part20_1]; · iexact Hk0_part20_1
      isplitl [H5]; · iexact H5
      isplitl [H6]; · iexact H6
      isplitl [H7]
      · iexists _; isplitr; swap; · iexact H7
        ipureintro
        repeat delta body.sl.r body.sl.r_1 body.sl.r_2 body.sl.r_3 body.sl.r_4 body.sl.v82 body.sl.H11_1
        rw [wr_out]
        simp only [model, total, ho, rd_row, rd_sq, cov_sq, Memref.IsWhole.read_unread, h10, h12]
        rfl
      isplitl [H8]; · iexists _; iexact H8
      isplitl [H9]
      · iexists _; isplitr; swap; · iexact H9
        ipureintro; exact h9'
      isplitl [H10]; · iexists _; iexact H10
      isplitl [H11]; · iexists _; iexact H11
      isplitl [H12]; · iexists _; iexact H12
      iexists _; iexact H13
    · rw [ho]
      sl_exec
      sl_step
      isplitl [Hk0_part20_0]; · iexact Hk0_part20_0
      isplitl [H3]; · iexact H3
      isplitl [Hk0_part20_1]; · iexact Hk0_part20_1
      isplitl [H5]; · iexact H5
      isplitl [H6]; · iexact H6
      isplitl [H7]
      · iexists _; isplitr; swap; · iexact H7
        ipureintro
        repeat delta body.sl.r body.sl.r_1 body.sl.r_2 body.sl.r_3 body.sl.r_4 body.sl.v82 body.sl.H11_1
        rw [wr_out]
        simp only [model, total, ho, rd_row, rd_sq, cov_sq, Memref.IsWhole.read_unread, h10, h12]
        have z0 : arg9.view.readAt (Elt F) (Rect.unit (s := S16x256x256) ![0, 0, 0] ![1, 64, 256] inb_S16x256x256_S1x64x256_0_0_0).toLoadRect g9 = vblk (turned xv) 0 0 :=
          readV g9 h9' _ 0 0 (by decide +kernel)
        have z1 : arg9.view.readAt (Elt F) (Rect.unit (s := S16x256x256) ![0, 64, 0] ![1, 64, 256] inb_S16x256x256_S1x64x256_0_64_0).toLoadRect g9 = vblk (turned xv) 0 1 :=
          readV g9 h9' _ 0 1 (by decide +kernel)
        have z2 : arg9.view.readAt (Elt F) (Rect.unit (s := S16x256x256) ![0, 128, 0] ![1, 64, 256] inb_S16x256x256_S1x64x256_0_128_0).toLoadRect g9 = vblk (turned xv) 0 2 :=
          readV g9 h9' _ 0 2 (by decide +kernel)
        have z3 : arg9.view.readAt (Elt F) (Rect.unit (s := S16x256x256) ![0, 192, 0] ![1, 64, 256] inb_S16x256x256_S1x64x256_0_192_0).toLoadRect g9 = vblk (turned xv) 0 3 :=
          readV g9 h9' _ 0 3 (by decide +kernel)
        rw [if_pos trivial]
        repeat delta body.sl.v202 body.sl.H12_1 body.sl.r_5 body.sl.r_6 body.sl.r_7 body.sl.r_8
        simp only [stepAcc, rd_sq, rd_wide, cov_sq, Memref.IsWhole.read_unread, h10, h12, z0, z1, z2, z3]
        rfl
      isplitl [H8]; · iexists _; iexact H8
      isplitl [H9]
      · iexists _; isplitr; swap; · iexact H9
        ipureintro; exact h9'
      isplitl [H10]; · iexists _; iexact H10
      isplitl [H11]; · iexists _; iexact H11
      isplitl [H12]; · iexists _; iexact H12
      iexists _; iexact H13

end Cert.SbIdeal.Hand

end
-- ==== Proof.SbPoint.lean ====
module

public import proofs.«01_k».proof.Proof.SbRun
public import proofs.«01_k».proof.Proof.Gen.SbIdeal.Frame
public import Idealize.ShloMosaic.Lib.Pipeline.ValueKit
public import Idealize.ShloMosaic.Lib.Exec
public import Idealize.ShloMosaic.Lib.Tactic
public import Idealize.ShloMosaic.Lib.Claim

/-!
# The stick-breaking kernel's run

Between points the pipeline's invariant holds the six scratch arrays; of one of them, the turned values, it says that
within a batch entry it holds that entry's values turned. With it the pipeline runs to its end, every block of the output
array what the model says.
-/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

namespace Cert.SbIdeal.Hand

open Cert.SbIdeal Cert.SbIdeal.Gen

variable {F : FTy → Type} [FloatOps F] [Named F]

local notation "𝕄" => MT nD τ sig Unit (Elt F) ℕ (UR sig nD τ) ℕ

/-! ## The run of the pipeline -/

variable (m : (ℓ : Loc nD τ sig) → Buf (Elt F) ℓ) (ρ : Dev nD → PrngReg)

theorem idx : ∀ t : Fin cfg0.N, win0_0.index t = ![(grid0.coords t 0).val, (grid0.coords t 1).val, 6]
    ∧ win0_1.index t = ![(grid0.coords t 0).val, 0, 7] ∧ win0_2.index t = ![(grid0.coords t 0).val, 0, 8]
    ∧ win0_3.index t = ![0, 0] ∧ win0_4.index t = ![0, 0]
    ∧ win0_5.index t = ![(grid0.coords t 0).val, (grid0.coords t 1).val, 0] :=
  (by decide +kernel : ∀ t : Fin grid0.N, _)

/-- A point that does not begin a batch entry has the point before it in the same one. -/
theorem same_batch : ∀ t t' : Fin cfg0.N, t'.val + 1 = t.val → (grid0.coords t 1).val ≠ 0 → grid0.coords t' 0 = grid0.coords t 0 :=
  (by decide +kernel : ∀ t t' : Fin grid0.N, t'.val + 1 = t.val → (grid0.coords t 1).val ≠ 0 → grid0.coords t' 0 = grid0.coords t 0)

/-- The block of values is the same at both. -/
theorem same_values (c : Dev nD) (t t' : Fin cfg0.N) (h : t'.val + 1 = t.val) (hq : (grid0.coords t 1).val ≠ 0) :
    (iblk m c 2 t' : Vec F S1x4096x256 .bf16) = iblk m c 2 t := by
  have e := same_batch t t' h hq
  refine funext fun y => ?_
  blk_ext [iblk, idx t, idx t', e]

/-- What the turned values' scratch is known to hold after `n` points. -/
def Turned (c : Dev nD) (n : ℕ) (d : Vec F S16x256x256 .bf16) : Prop :=
  ∀ t : Fin cfg0.N, t.val + 1 = n → d = turned (iblk m c 2 t)

/-- The scratch arrays after `n` points. -/
def Phi (c : Dev nD) (n : ℕ) : sProp 𝕄 :=
  iprop(iprop((∃ d, owns (c : Thread nD τ) (Memref.whole cc0_scratch0) fullShare d)
    ∗ (∃ d, ⌜Turned m c n d⌝ ∗ owns (c : Thread nD τ) (Memref.whole cc0_scratch1) fullShare d)
    ∗ (∃ d, owns (c : Thread nD τ) (Memref.whole cc0_scratch2) fullShare d)
    ∗ (∃ d, owns (c : Thread nD τ) (Memref.whole cc0_scratch3) fullShare d)
    ∗ (∃ d, owns (c : Thread nD τ) (Memref.whole cc0_scratch4) fullShare d)
    ∗ (∃ d, owns (c : Thread nD τ) (Memref.whole cc0_scratch5) fullShare d)) ∗ (∃ r, prngReg c r))

/-- What a point writes in its output block. -/
def outBlk (c : Dev nD) (t : Fin cfg0.N) : Vec F S1x256x256 .bf16 :=
  model (grid0.coords t 1).val (iblk m c 0 t) (iblk m c 1 t) (turned (iblk m c 2 t)) (iblk m c 3 t) (iblk m c 4 t)

/-- The proof data: inputs at their blocks, the output at the model's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk m c t
  Φ t := Phi m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_5 (c : Dev nD) (t : Fin cfg0.N) : (dats m 0 c).after 5 t = outBlk m c t := by dsimp only [dats]
theorem after_4 (c : Dev nD) (t : Fin cfg0.N) : (dats m 0 c).after 4 t = iblk m c 4 t := by dsimp only [dats]

/-- Each input's staging buffer holds its block when the body starts. -/
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t))

/-- The scratch arrays as the pipeline hands them over. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-- A buffer at named contents is one that reads them, -/
theorem owns_read (c : Dev nD) {s : Shape} {e : EltTy} {m : Memref sig .tc .vmem s e} (h : m.IsWhole) (x : Vec F s e) :
    owns (c : Thread nD τ) m fullShare x ⊢ (m.view.loc (c : Thread nD τ) ↦[m.view.set]{fullShare} h.unread x : sProp 𝕄) := by
  unfold owns
  iintro ⟨%f, %hf, H⟩
  obtain rfl := h.eq_unread hf
  iexact H

theorem read_owns (c : Dev nD) {s : Shape} {e : EltTy} {m : Memref sig .tc .vmem s e} (h : m.IsWhole) (x : Vec F s e) :
    (m.view.loc (c : Thread nD τ) ↦[m.view.set]{fullShare} h.unread x : sProp 𝕄) ⊢ owns (c : Thread nD τ) m fullShare x := by
  unfold owns
  iintro H
  iexists _; isplitr; · ipureintro; exact h.read_unread x
  iexact H

/-- and a buffer at some contents likewise. -/
theorem owns_some (c : Dev nD) {s : Shape} {e : EltTy} (m : Memref sig .tc .vmem s e) :
    (iprop(∃ d, owns (c : Thread nD τ) m fullShare d) : sProp 𝕄) ⊢ (iprop(∃ f, (m.view.loc (c : Thread nD τ) ↦[m.view.set]{fullShare} f)) : sProp 𝕄) := by
  unfold owns
  iintro ⟨%d, %f, %hf, H⟩
  iexists _; iexact H

theorem some_owns (c : Dev nD) {s : Shape} {e : EltTy} (m : Memref sig .tc .vmem s e) :
    (iprop(∃ f, (m.view.loc (c : Thread nD τ) ↦[m.view.set]{fullShare} f)) : sProp 𝕄) ⊢ (iprop(∃ d, owns (c : Thread nD τ) m fullShare d) : sProp 𝕄) := by
  unfold owns
  iintro ⟨%f, H⟩
  iexists _, _; isplitr; swap; · iexact H
  ipureintro; rfl

/-- Within a batch entry the scratch holds the entry's values turned. -/
theorem turned_before (c : Dev nD) (t : Fin cfg0.N) (d : Vec F S16x256x256 .bf16) (h : Turned m c t.val d) (hq : (grid0.coords t 1).val ≠ 0) :
    d = turned (iblk m c 2 t) := by
  have h0 : t.val ≠ 0 := fun e => hq (by rw [show t = ⟨0, by decide⟩ from Fin.ext e]; decide)
  have hlt := t.isLt
  exact (h ⟨t.val - 1, by omega⟩ (by show t.val - 1 + 1 = t.val; omega)).trans (congrArg turned (same_values m c t ⟨t.val - 1, by omega⟩ (by show t.val - 1 + 1 = t.val; omega) hq))

/-- The launch hands the scratch arrays over at some contents, -/
theorem hin (c : Dev nD) : Pipeline.ΦA spec0 c ⊢ (dats m 0 c).Φ 0 := by
  rw [show (dats m 0 c).Φ 0 = Phi m c 0 from rfl, scratch_eq]
  unfold Phi
  iintro ⟨⟨HS0, ⟨%d, HS1⟩, HS2, HS3, HS4, HS5⟩, Hg⟩
  isplitl [HS0 HS1 HS2 HS3 HS4 HS5]
  · isplitl [HS0]; · iexact HS0
    isplitl [HS1]
    · iexists d; isplitr
      · ipureintro
        exact fun t ht => absurd ht (Nat.succ_ne_zero _)
      iexact HS1
    isplitl [HS2]; · iexact HS2
    isplitl [HS3]; · iexact HS3
    isplitl [HS4]; · iexact HS4
    iexact HS5
  iexact Hg

/-- and takes them back so. -/
theorem hout (c : Dev nD) : (dats m 0 c).Φ (Fin.last cfg0.N) ⊢ Pipeline.ΦA spec0 c := by
  rw [show (dats m 0 c).Φ (Fin.last cfg0.N) = Phi m c cfg0.N from rfl, scratch_eq]
  unfold Phi
  iintro ⟨⟨HS0, ⟨%d, %hd, HS1⟩, HS2, HS3, HS4, HS5⟩, Hg⟩
  isplitl [HS0 HS1 HS2 HS3 HS4 HS5]
  · isplitl [HS0]; · iexact HS0
    isplitl [HS1]; · iexists d; iexact HS1
    isplitl [HS2]; · iexact HS2
    isplitl [HS3]; · iexact HS3
    isplitl [HS4]; · iexact HS4
    iexact HS5
  iexact Hg

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl, after_0, after_1, after_2, after_3, after_4, after_5,
    show (dats m 0 c).Φ t.succ = Phi m c (t.val + 1) from rfl, show (dats m 0 c).Φ t.castSucc = Phi m c t.val from rfl]
  have hb := body (F := F) c (grid0.coords t) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4))
    (hstage0_5 ((cfg0.slots t 5).cast nbuf0_5)) (Memref.isWhole_whole cc0_scratch0) (Memref.isWhole_whole cc0_scratch1)
    (Memref.isWhole_whole cc0_scratch2) (Memref.isWhole_whole cc0_scratch3) (Memref.isWhole_whole cc0_scratch4) (Memref.isWhole_whole cc0_scratch5)
    Set.univ (iblk m c 0 t) (iblk m c 1 t) (iblk m c 2 t) (iblk m c 3 t) (iblk m c 4 t)
  unfold Phi
  iintro ⟨⟨⟨HS0, ⟨%dt, %ht, HS1⟩, HS2, HS3, HS4, HS5⟩, Hg⟩, Ho, ⟨%d0, H0⟩, ⟨%d1, H1⟩, ⟨%d2, H2⟩, ⟨%d3, H3⟩, ⟨%d4, H4⟩, ⟨%d5, H5⟩⟩
  iapply (wp_wand_r frame (wpE (defs₀ (F := F)) Variants.none c none) Set.univ)
  isplitl [HS0 HS1 HS2 HS3 HS4 HS5 H0 H1 H2 H3 H4 H5]
  · iapply hb
    isplitl [H0]; · iapply (owns_read c _ _); iexact H0
    isplitl [H1]; · iapply (owns_read c _ _); iexact H1
    isplitl [H2]; · iapply (owns_read c _ _); iexact H2
    isplitl [H3]; · iapply (owns_read c _ _); iexact H3
    isplitl [H4]; · iapply (owns_read c _ _); iexact H4
    isplitl [H5]; · iapply (owns_some c _); iexists _; iexact H5
    isplitl [HS0]; · iapply (owns_some c _); iexact HS0
    isplitl [HS1]
    · iexists _; isplitr; swap
      · iapply (owns_read c (Memref.isWhole_whole cc0_scratch1) dt); iexact HS1
      ipureintro
      intro hq
      rw [Memref.IsWhole.read_unread]
      exact turned_before m c t dt ht hq
    isplitl [HS2]; · iapply (owns_some c _); iexact HS2
    isplitl [HS3]; · iapply (owns_some c _); iexact HS3
    isplitl [HS4]; · iapply (owns_some c _); iexact HS4
    iapply (owns_some c _); iexact HS5
  iintro %_ ⟨H0, H1, H2, H3, H4, H5, HS0, ⟨%f9, %hf9, HS1⟩, HS2, HS3, HS4, HS5⟩
  isplitl [HS0 HS1 HS2 HS3 HS4 HS5 Hg]
  · isplitl [HS0 HS1 HS2 HS3 HS4 HS5]
    · isplitl [HS0]; · iapply (some_owns c _); iexact HS0
      isplitl [HS1]
      · iexists (turned (iblk m c 2 t)); isplitr
        · ipureintro
          intro t' h'
          rw [show t' = t from Fin.ext (by omega)]
        · unfold owns
          iexists f9; isplitr; · ipureintro; exact hf9
          iexact HS1
      isplitl [HS2]; · iapply (some_owns c _); iexact HS2
      isplitl [HS3]; · iapply (some_owns c _); iexact HS3
      isplitl [HS4]; · iapply (some_owns c _); iexact HS4
      iapply (some_owns c _); iexact HS5
    iexact Hg
  isplitl [Ho]; · iexact Ho
  isplitl [H0]; · iapply (read_owns c _ _); iexact H0
  isplitl [H1]; · iapply (read_owns c _ _); iexact H1
  isplitl [H2]; · iapply (read_owns c _ _); iexact H2
  isplitl [H3]; · iapply (read_owns c _ _); iexact H3
  isplitl [H4]; · iapply (read_owns c _ _); iexact H4
  unfold owns
  iexact H5

theorem defs₀_row (t : Fin cfg0.N) :
    defs₀ (F := F) .tc cfg0.body (cfg0.bodyArgs t (cfg0.slots t)) = bodyAt0 t := by
  unfold defs₀; rw [Defs.onTc_tc]

/-- The pipeline's obligation for the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program runs to its end, every array of the pipeline at what its proof data says and every counter zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Its arguments are unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) ((θ_run defs _ _).mono (fun _ h => h.1) (run_main m ρ))

/-- The frame: it ends without fault, its arguments unchanged and its counters zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main m ρ))

end Cert.SbIdeal.Hand

end
-- ==== Proof.Frames.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.OutFfn.Frame
public import proofs.«01_k».proof.Proof.Gen.OutFfnIdeal.Frame
public import proofs.«01_k».proof.Proof.Gen.OutFfnReferenceIdeal.Run
public import proofs.«01_k».proof.Proof.Gen.InProj.Frame
public import proofs.«01_k».proof.Proof.Gen.InProjIdeal.Frame
public import proofs.«01_k».proof.Proof.Gen.InProjReferenceIdeal.Run
public import proofs.«01_k».proof.Proof.SbFrame
public import proofs.«01_k».proof.Proof.SbPoint
public import proofs.«01_k».proof.Proof.Gen.SbReferenceIdeal.Run
public import Idealize.ShloMosaic.Adequacy
public import Idealize.ShloMosaic.Init

/-!
# The frames of the four references

Each reference is a sequence of host operations with no semaphores: its run ends, leaves its arguments as they were, and
every semaphore counter is zero.
-/

@[expose] public section

noncomputable section

namespace Cert.Proof

open Idealize.ShloMosaic Idealize.SL.Sem

/-- The mixer's reference ends without fault and leaves its arguments unchanged. -/
theorem quiescent_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference of the output projection and the feed-forward part ends without fault and leaves its arguments unchanged. -/
theorem quiescent_OutFfnReferenceIdeal : Cert.quiescent_OutFfnReferenceIdeal := fun m ρ _ =>
  (θ_run Cert.OutFfnReferenceIdeal.defs _ _).mono (fun r h => ⟨fun c => (h c).2, sem_eq_zero_of_no_sems (by decide) r.2⟩)
    (Cert.OutFfnReferenceIdeal.Value.run (F := Ideal) m ρ)

/-- The input projection's reference ends without fault and leaves its arguments unchanged. -/
theorem quiescent_InProjReferenceIdeal : Cert.quiescent_InProjReferenceIdeal := fun m ρ _ =>
  (θ_run Cert.InProjReferenceIdeal.defs _ _).mono (fun r h => ⟨fun c => (h c).2.2, sem_eq_zero_of_no_sems (by decide) r.2⟩)
    (Cert.InProjReferenceIdeal.Value.run (F := Ideal) m ρ)

/-- The reference of the stick-breaking attention ends without fault and leaves its arguments unchanged. -/
theorem quiescent_SbReferenceIdeal : Cert.quiescent_SbReferenceIdeal := fun m ρ _ =>
  (θ_run Cert.SbReferenceIdeal.defs _ _).mono (fun r h => ⟨fun c => (h c).2, sem_eq_zero_of_no_sems (by decide) r.2⟩)
    (Cert.SbReferenceIdeal.Value.run (F := Ideal) m ρ)

/-- The constants the idealised stick-breaking kernel names have the values it gives them. -/
theorem preserves_Sb_SbIdeal : Cert.preserves_Sb_SbIdeal :=
  ⟨IdealRules.named_const.statement _ _ _ _ _ rfl, IdealRules.named_const.statement _ _ _ _ _ rfl, IdealRules.named_const.statement _ _ _ _ _ rfl⟩

end Cert.Proof

end
-- ==== Proof.Common.lean ====
module
public import Idealize.ShloMosaic.Lib.IdealHost
public import Idealize.ShloMosaic.Lib.Pointwise

/-!
# Functions of the layer over the extended reals

The pieces the three calls and their references share: the normalisation of a row and the gate.
-/

@[expose] public section
noncomputable section
open Idealize.ShloMosaic

namespace Cert.Layer

/-- Entry `d` of a row of 1024 divided by the square root of the mean of its squares. -/
def normE (x : Fin 1024 → EReal) (d : Fin 1024) : EReal :=
  x d * Ideal.rsqrt (Ideal.div (∑ k : Fin 1024, x k * x k) (Ideal.ofBits .f32 0x44800000#32) + Ideal.ofBits .f32 0x358637BD#32)

/-- The gate `x / (1 + exp (-x))`. -/
def siluE (x : EReal) : EReal := Ideal.div x (1 + Ideal.exp (-x))

/-- The exponential is not negative. -/
theorem exp_nonneg (x : EReal) : 0 ≤ Ideal.exp x := by
  induction x with
  | bot => exact le_rfl
  | coe r => exact EReal.coe_nonneg.mpr (Real.exp_pos r).le
  | top => exact le_top

/-- One plus an exponential is not zero. -/
theorem one_add_exp_ne_zero (x : EReal) : 1 + Ideal.exp x ≠ 0 := by
  intro e
  have h1 : (1 : EReal) ≤ 1 + Ideal.exp x := le_add_of_nonneg_right (exp_nonneg x)
  rw [e] at h1
  exact absurd h1 (by simp)

/-- The gate written with the reciprocal. -/
theorem mul_sigmoid (x : EReal) : x * Ideal.div 1 (1 + Ideal.exp (-x)) = siluE x :=
  Ideal.mul_one_div (one_add_exp_ne_zero _)

end Cert.Layer
end
-- ==== Proof.OutFfnBlocks.lean ====
module

public import proofs.«01_k».proof.Defs
public import proofs.«01_k».proof.Proof.Gen.OutFfnIdeal.Value
public import Idealize.ShloMosaic.Lib.Pipeline.ValueKit
public import Idealize.ShloMosaic.Lib.Claim
public import Idealize.ShloMosaic.Lib.Pointwise
public import proofs.«01_k».proof.Proof.Common

@[expose] public section

set_option maxRecDepth 16384

noncomputable section

open Idealize.ShloMosaic Idealize.ShloMosaic.TcCoe Idealize.SL.Sem
open Idealize.ShloMosaic.Pipeline (Dat)
open Cert.Layer

namespace Cert.OutFfnIdeal.Hand

open Cert.OutFfnIdeal Cert.OutFfnIdeal.Gen Cert.OutFfnIdeal.Value

variable (m : (ℓ : Loc nD τ sig) → Buf (Elt Ideal) ℓ)

/-- One hidden unit: the gate's unit through the gate, times the other unit. -/
def actE (h g u : Fin 1024 → EReal) : EReal := siluE (∑ k, h k * g k) * ∑ k, h k * u k

/-- The residual block as a matrix, entry by entry. -/
theorem pay2_apply (x : Vec Ideal S1x1024x1024 .f32) (r n : Fin 1024) : k0_pay2 (F := Ideal) x (ix2 r n) = x (ix3 0 r n) := by
  pointwise [k0_pay2]

/-- A weight row repeated over the rows, entry by entry. -/
theorem pay4_apply (x : Vec Ideal S1x1024 .f32) (r n : Fin 1024) : k0_pay4 (F := Ideal) x (ix2 r n) = x (ix2 0 n) := by
  pointwise [k0_pay4]

/-- The sum after the output projection, entry by entry. -/
theorem pay5_apply (a b w : FVec Ideal S1024x1024 .f32) (r n : Fin 1024) :
    k0_pay5 (F := Ideal) a b w (ix2 r n) = a (ix2 r n) + b (ix2 r n) * w (ix2 r n) := by
  pointwise [k0_pay5]

/-- The three mixers' part of the output projection, entry by entry. -/
theorem pay3_apply (v0 : Vec Ideal S1x1024x512 .bf16) (v2 : Vec Ideal S512x1024 .bf16) (v5 : Vec Ideal S1x1024x256 .bf16)
    (v7 : Vec Ideal S256x1024 .bf16) (v11 : Vec Ideal S1x1024x256 .bf16) (v13 : Vec Ideal S256x1024 .bf16) (r n : Fin 1024) :
    k0_pay3 (F := Ideal) v0 v2 v5 v7 v11 v13 (ix2 r n)
      = normE (fun n => (∑ k : Fin 512, v0 (ix3 0 r k) * v2 (ix2 k n)) + (∑ k : Fin 256, v5 (ix3 0 r k) * v7 (ix2 k n))
          + ∑ k : Fin 256, v11 (ix3 0 r k) * v13 (ix2 k n)) n := by
  pointwise [k0_pay3, normE]

/-- The normalised row, entry by entry. -/
theorem pay6_apply (a b w : FVec Ideal S1024x1024 .f32) (v : Vec Ideal S1x1024 .f32) (r n : Fin 1024) :
    k0_pay6 (F := Ideal) a b w v (ix2 r n) = normE (fun n => k0_pay5 (F := Ideal) a b w (ix2 r n)) n * v (ix2 0 n) := by
  pointwise [k0_pay6, normE]

/-- The gated part of the first columns of the feed-forward layer, entry by entry. -/
theorem pay7_apply (a b w : FVec Ideal S1024x1024 .f32) (v : Vec Ideal S1x1024 .f32) (g u : Vec Ideal S1024x1536 .bf16)
    (d : Vec Ideal S1536x1024 .bf16) (r n : Fin 1024) :
    k0_pay7 (F := Ideal) a b w v g u d (ix2 r n)
      = ∑ j : Fin 1536, actE (fun k => k0_pay6 (F := Ideal) a b w v (ix2 r k)) (fun k => g (ix2 k j)) (fun k => u (ix2 k j)) * d (ix2 j n) := by
  pointwise [k0_pay7, actE, siluE, zero_sub]

/-- The gate of the last columns, entry by entry. -/
theorem pay8_apply (a b w : FVec Ideal S1024x1024 .f32) (v : Vec Ideal S1x1024 .f32) (g : Vec Ideal S1024x1280 .bf16) (r : Fin 1024) (j : Fin 1280) :
    k0_pay8 (F := Ideal) a b w v g (ix2 r j) = ∑ k : Fin 1024, k0_pay6 (F := Ideal) a b w v (ix2 r k) * g (ix2 k j) := by
  pointwise [k0_pay8]

/-- The denominator of the gate of the last columns, entry by entry. -/
theorem pay9_apply (a b w : FVec Ideal S1024x1024 .f32) (v : Vec Ideal S1x1024 .f32) (g : Vec Ideal S1024x1280 .bf16) (r : Fin 1024) (j : Fin 1280) :
    k0_pay9 (F := Ideal) a b w v g (ix2 r j) = Ideal.exp (-(k0_pay8 (F := Ideal) a b w v g (ix2 r j))) := by
  pointwise [k0_pay9, zero_sub]

/-- The block the kernel writes, entry by entry, from the parts. -/
theorem pay1_apply (x f : FVec Ideal S1024x1024 .f32) (h : FVec Ideal S1024x1024 .bf16) (g e : FVec Ideal S1024x1280 .f32)
    (u : Vec Ideal S1024x1280 .bf16) (d : Vec Ideal S1280x1024 .bf16) (w : Vec Ideal S1x1024 .f32) (a : Fin 1) (r n : Fin 1024) :
    k0_pay1 (F := Ideal) x h f g e u d w (ix3 a r n)
      = x (ix2 r n) + normE (fun n => f (ix2 r n) + ∑ j : Fin 1280, Ideal.div (g (ix2 r j)) (1 + e (ix2 r j)) * (∑ k : Fin 1024, h (ix2 r k) * u (ix2 k j)) * d (ix2 j n)) n * w (ix2 0 n) := by
  pointwise [k0_pay1, normE]

/-! ## The call's row function -/

/-- The three mixers' rows through the output weight. -/
def mixE (ys : Fin 512 → EReal) (yb ym : Fin 256 → EReal) (wo : Fin 1024 → Fin 1024 → EReal) (n : Fin 1024) : EReal :=
  (∑ k : Fin 512, ys k * wo ⟨k.val, by omega⟩ n) + (∑ k : Fin 256, yb k * wo ⟨512 + k.val, by omega⟩ n) + ∑ k : Fin 256, ym k * wo ⟨768 + k.val, by omega⟩ n

/-- The row after the first addition. -/
def midE (x : Fin 1024 → EReal) (mix n1 : Fin 1024 → EReal) (n : Fin 1024) : EReal := x n + normE mix n * n1 n

/-- The feed-forward row, from the normalised row. -/
def ffnE (h : Fin 1024 → EReal) (wg wu : Fin 1024 → Fin 2816 → EReal) (wd : Fin 2816 → Fin 1024 → EReal) (n : Fin 1024) : EReal :=
  ∑ j : Fin 2816, actE h (fun k => wg k j) (fun k => wu k j) * wd j n

/-- The whole row. -/
def rowE (x : Fin 1024 → EReal) (ys : Fin 512 → EReal) (yb ym : Fin 256 → EReal) (wo : Fin 1024 → Fin 1024 → EReal) (n1 n2 : Fin 1024 → EReal)
    (wg wu : Fin 1024 → Fin 2816 → EReal) (wd : Fin 2816 → Fin 1024 → EReal) (n3 : Fin 1024 → EReal) (n : Fin 1024) : EReal :=
  midE x (mixE ys yb ym wo) n1 n + normE (ffnE (fun k => normE (midE x (mixE ys yb ym wo) n1) k * n2 k) wg wu wd) n * n3 n

/-- A sum over the hidden units is the sum over the first 1536 and the sum over the last 1280. -/
theorem sum_hidden (f : Fin 2816 → EReal) : ∑ j, f j = (∑ j : Fin 1536, f ⟨j.val, by omega⟩) + ∑ j : Fin 1280, f ⟨1536 + j.val, by omega⟩ :=
  Fin.sum_univ_add (a := 1536) (b := 1280) f

/-- The written block. -/
theorem out11_apply (x0 : Vec Ideal S1x1024x1024 .f32) (x1 : Vec Ideal S1x1024x512 .bf16) (x2 x3 : Vec Ideal S1x1024x256 .bf16) (x4 : Vec Ideal S1024x1024 .bf16)
    (x5 x6 : Vec Ideal S1x1024 .f32) (x7 x8 : Vec Ideal S1024x2816 .bf16) (x9 : Vec Ideal S2816x1024 .bf16) (x10 : Vec Ideal S1x1024 .f32) (a : Fin 1) (r n : Fin 1024) :
    out0_11 (F := Ideal) x0 x1 x2 x3 x4 x5 x6 x7 x8 x9 x10 (ix3 a r n)
      = rowE (fun k => x0 (ix3 0 r k)) (fun k => x1 (ix3 0 r k)) (fun k => x2 (ix3 0 r k)) (fun k => x3 (ix3 0 r k)) (fun k n => x4 (ix2 k n))
          (fun k => x5 (ix2 0 k)) (fun k => x6 (ix2 0 k)) (fun k n => x7 (ix2 k n)) (fun k n => x8 (ix2 k n)) (fun k n => x9 (ix2 k n)) (fun k => x10 (ix2 0 k)) n := by
  have e11 : ∀ r n, k0_pay11 (F := Ideal) x0 x1 x2 x3 x4 x5 x6 x7 x8 x9 x10 (ix2 r n)
      = normE (mixE (fun k => x1 (ix3 0 r k)) (fun k => x2 (ix3 0 r k)) (fun k => x3 (ix3 0 r k)) (fun k n => x4 (ix2 k n))) n := by
    intro r n
    unfold k0_pay11
    rw [pay3_apply]
    refine congrArg (fun f => normE f n) (funext fun n => ?_)
    pointwise [mixE]
  have e5 : ∀ r n, k0_pay5 (F := Ideal) (k0_pay10 x0 x1 x2 x3 x4 x5 x6 x7 x8 x9 x10) (k0_pay11 x0 x1 x2 x3 x4 x5 x6 x7 x8 x9 x10) (k0_pay12 x0 x1 x2 x3 x4 x5 x6 x7 x8 x9 x10) (ix2 r n)
      = midE (fun k => x0 (ix3 0 r k)) (mixE (fun k => x1 (ix3 0 r k)) (fun k => x2 (ix3 0 r k)) (fun k => x3 (ix3 0 r k)) (fun k n => x4 (ix2 k n))) (fun k => x5 (ix2 0 k)) n := by
    intro r n
    rw [pay5_apply, e11]
    unfold k0_pay10 k0_pay12
    rw [pay2_apply, pay4_apply]
    pointwise [midE]
  unfold out0_11
  generalize k0_pay10 x0 x1 x2 x3 x4 x5 x6 x7 x8 x9 x10 = A at *
  generalize k0_pay11 x0 x1 x2 x3 x4 x5 x6 x7 x8 x9 x10 = B at *
  generalize k0_pay12 x0 x1 x2 x3 x4 x5 x6 x7 x8 x9 x10 = C at *
  have e6 : ∀ r n, k0_pay6 (F := Ideal) A B C (View.ld x6 r0_6) (ix2 r n)
      = normE (midE (fun k => x0 (ix3 0 r k)) (mixE (fun k => x1 (ix3 0 r k)) (fun k => x2 (ix3 0 r k)) (fun k => x3 (ix3 0 r k)) (fun k n => x4 (ix2 k n))) (fun k => x5 (ix2 0 k))) n * x6 (ix2 0 n) := by
    intro r n
    rw [pay6_apply]
    simp only [e5]
    pointwise
  canon_tiles x h
  obtain ⟨a', r', n', rfl⟩ : ∃ (a : Fin 1) (r n : Fin 1024), x = ix3 a r n := ⟨_, _, _, eq_ix3 x⟩
  obtain rfl : r = r' := Fin.ext h1
  obtain rfl : n = n' := Fin.ext h2
  rw [pay1_apply, e5]
  refine congrArg₂ _ rfl (congrArg₂ _ (congrArg (fun f => normE f n) (funext fun n => ?_)) (by pointwise))
  unfold ffnE
  rw [pay7_apply, sum_hidden]
  simp only [pay9_apply, pay8_apply, e6]
  refine congrArg₂ _ ?_ ?_
  · refine Finset.sum_congr rfl fun j _ => ?_
    pointwise
  · refine Finset.sum_congr rfl fun j _ => ?_
    pointwise [actE, siluE]

/-! ## The blocks the windows hold, read in the argument arrays -/

/-- Which block each window reads or writes at each grid point. -/
theorem idx : ∀ t : Fin cfg0.N, win0_0.index t = ![(grid0.coords t 0).val, (grid0.coords t 1).val, 0] ∧ win0_1.index t = ![(grid0.coords t 0).val, (grid0.coords t 1).val, 0]
   ∧ win0_2.index t = ![(grid0.coords t 0).val, (grid0.coords t 1).val, 0] ∧ win0_3.index t = ![(grid0.coords t 0).val, (grid0.coords t 1).val, 0]
   ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0]
   ∧ win0_11.index t = ![(grid0.coords t 0).val, (grid0.coords t 1).val, 0] :=
  (by decide +kernel : ∀ t : Fin grid0.N, _)

/-- The row of the array that row `r` of the block of point `t` is. -/
def rowOf (t : Fin cfg0.N) (r : Fin 1024) : Fin 4096 :=
  ⟨(grid0.coords t 1).val * 1024 + r.val, by have h : (grid0.coords t 1).val < 4 := (grid0.coords t 1).isLt; have := r.isLt; omega⟩

/-- The batch of point `t`. -/
abbrev batchOf (t : Fin cfg0.N) : Fin 16 := ⟨(grid0.coords t 0).val, (grid0.coords t 0).isLt⟩

/-- The block of window 0 at a grid point, as a piece of the argument it reads. -/
theorem blk0 (c : Dev nD) (t : Fin cfg0.N) (r k : Fin 1024) :
    (iblk m c 0 t : Vec Ideal S1x1024x1024 .f32) (ix3 0 r k) = (m ((c : Thread nD τ).loc main_arg0) : Vec Ideal S16x4096x1024 .f32) (ix3 (batchOf t) (rowOf t r) k) := by
  blk_ext! [iblk, V, idx t, rowOf, batchOf]

/-- The block of window 1 at a grid point, as a piece of the argument it reads. -/
theorem blk1 (c : Dev nD) (t : Fin cfg0.N) (r : Fin 1024) (k : Fin 512) :
    (iblk m c 1 t : Vec Ideal S1x1024x512 .bf16) (ix3 0 r k) = (m ((c : Thread nD τ).loc main_arg1) : Vec Ideal S16x4096x512 .bf16) (ix3 (batchOf t) (rowOf t r) k) := by
  blk_ext! [iblk, V, idx t, rowOf, batchOf]

/-- The block of window 2 at a grid point, as a piece of the argument it reads. -/
theorem blk2 (c : Dev nD) (t : Fin cfg0.N) (r : Fin 1024) (k : Fin 256) :
    (iblk m c 2 t : Vec Ideal S1x1024x256 .bf16) (ix3 0 r k) = (m ((c : Thread nD τ).loc main_arg2) : Vec Ideal S16x4096x256 .bf16) (ix3 (batchOf t) (rowOf t r) k) := by
  blk_ext! [iblk, V, idx t, rowOf, batchOf]

/-- The block of window 3 at a grid point, as a piece of the argument it reads. -/
theorem blk3 (c : Dev nD) (t : Fin cfg0.N) (r : Fin 1024) (k : Fin 256) :
    (iblk m c 3 t : Vec Ideal S1x1024x256 .bf16) (ix3 0 r k) = (m ((c : Thread nD τ).loc main_arg3) : Vec Ideal S16x4096x256 .bf16) (ix3 (batchOf t) (rowOf t r) k) := by
  blk_ext! [iblk, V, idx t, rowOf, batchOf]

/-- The block of window 4 at a grid point, as a piece of the argument it reads. -/
theorem blk4 (c : Dev nD) (t : Fin cfg0.N) (k n : Fin 1024) :
    (iblk m c 4 t : Vec Ideal S1024x1024 .bf16) (ix2 k n) = (m ((c : Thread nD τ).loc main_arg4) : Vec Ideal S1024x1024 .f32) (ix2 k n) := by
  blk_ext! [iblk, V, idx t]

/-- The block of window 5 at a grid point, as a piece of the argument it reads. -/
theorem blk5 (c : Dev nD) (t : Fin cfg0.N) (k : Fin 1024) :
    (iblk m c 5 t : Vec Ideal S1x1024 .f32) (ix2 0 k) = (m ((c : Thread nD τ).loc main_arg5) : Vec Ideal S1024 .f32) (ix1 k) := by
  blk_ext! [iblk, V, idx t]

/-- The block of window 6 at a grid point, as a piece of the argument it reads. -/
theorem blk6 (c : Dev nD) (t : Fin cfg0.N) (k : Fin 1024) :
    (iblk m c 6 t : Vec Ideal S1x1024 .f32) (ix2 0 k) = (m ((c : Thread nD τ).loc main_arg6) : Vec Ideal S1024 .f32) (ix1 k) := by
  blk_ext! [iblk, V, idx t]

/-- The block of window 7 at a grid point, as a piece of the argument it reads. -/
theorem blk7 (c : Dev nD) (t : Fin cfg0.N) (k : Fin 1024) (n : Fin 2816) :
    (iblk m c 7 t : Vec Ideal S1024x2816 .bf16) (ix2 k n) = (m ((c : Thread nD τ).loc main_arg7) : Vec Ideal S1024x2816 .f32) (ix2 k n) := by
  blk_ext! [iblk, V, idx t]

/-- The block of window 8 at a grid point, as a piece of the argument it reads. -/
theorem blk8 (c : Dev nD) (t : Fin cfg0.N) (k : Fin 1024) (n : Fin 2816) :
    (iblk m c 8 t : Vec Ideal S1024x2816 .bf16) (ix2 k n) = (m ((c : Thread nD τ).loc main_arg8) : Vec Ideal S1024x2816 .f32) (ix2 k n) := by
  blk_ext! [iblk, V, idx t]

/-- The block of window 9 at a grid point, as a piece of the argument it reads. -/
theorem blk9 (c : Dev nD) (t : Fin cfg0.N) (k : Fin 2816) (n : Fin 1024) :
    (iblk m c 9 t : Vec Ideal S2816x1024 .bf16) (ix2 k n) = (m ((c : Thread nD τ).loc main_arg9) : Vec Ideal S2816x1024 .f32) (ix2 k n) := by
  blk_ext! [iblk, V, idx t]

/-- The block of window 10 at a grid point, as a piece of the argument it reads. -/
theorem blk10 (c : Dev nD) (t : Fin cfg0.N) (k : Fin 1024) :
    (iblk m c 10 t : Vec Ideal S1x1024 .f32) (ix2 0 k) = (m ((c : Thread nD τ).loc main_arg10) : Vec Ideal S1024 .f32) (ix1 k) := by
  blk_ext! [iblk, V, idx t]

end Cert.OutFfnIdeal.Hand
end
-- ==== Proof.OutFfnValue.lean ====
module

public import proofs.«01_k».proof.Proof.OutFfnBlocks
public import proofs.«01_k».proof.Proof.Gen.OutFfnReferenceIdeal.Read

@[expose] public section

set_option maxRecDepth 16384

noncomputable section

open Idealize.ShloMosaic Idealize.ShloMosaic.TcCoe Idealize.SL.Sem
open Idealize.ShloMosaic.Pipeline (Dat)
open Cert.Layer

namespace Cert.OutFfnReferenceIdeal.Hand

open Cert.OutFfnReferenceIdeal Cert.OutFfnReferenceIdeal.Read Cert.OutFfnIdeal.Hand

/-- A sum over 1024 indices as the sums over the three pieces 512, 256 and 256. -/
theorem sum_1024 (f : Fin 1024 → EReal) : ∑ j, f j = (∑ j : Fin 512, f ⟨j.val, by omega⟩) + (∑ j : Fin 256, f ⟨512 + j.val, by omega⟩) + ∑ j : Fin 256, f ⟨768 + j.val, by omega⟩ := by
  refine (Fin.sum_univ_add (a := 768) (b := 256) f).trans (congrArg₂ _ ?_ rfl)
  exact Fin.sum_univ_add (a := 512) (b := 256) fun j => f ⟨j.val, by omega⟩

/-- The reference's output projection, entry by entry. -/
theorem ref_mix (ys : Vec Ideal S16x4096x512 .bf16) (yb ym : Vec Ideal S16x4096x256 .bf16) (wo : Vec Ideal S1024x1024 .f32) (b : Fin 16) (s : Fin 4096) (n : Fin 1024) :
    val_main_v4 (F := Ideal) ys yb ym wo (ix3 b s n)
      = mixE (fun k => ys (ix3 b s k)) (fun k => yb (ix3 b s k)) (fun k => ym (ix3 b s k)) (fun k n => wo (ix2 k n)) n := by
  pointwise [val_main_v4, val_main_v3, val_main_v2, val_main_v1, val_main_v0, mixE]
  rw [sum_1024]
  refine congrArg₂ _ (congrArg₂ _ ?_ ?_) ?_ <;> refine Finset.sum_congr rfl fun j _ => congrArg₂ _ ?_ rfl
  · rw [dif_pos (by dsimp only; omega)]
  · rw [dif_neg (by dsimp only; omega), dif_pos (by dsimp only; omega)]
    exact congrArg (fun q => yb (ix3 b s q)) (Fin.ext (by simp))
  · rw [dif_neg (by dsimp only; omega), dif_neg (by dsimp only; omega)]
    exact congrArg (fun q => ym (ix3 b s q)) (Fin.ext (by dsimp only; omega))

/-- The reference's sum after the output projection, entry by entry. -/
theorem ref_mid (x : Vec Ideal S16x4096x1024 .f32) (ys : Vec Ideal S16x4096x512 .bf16) (yb ym : Vec Ideal S16x4096x256 .bf16) (wo : Vec Ideal S1024x1024 .f32) (n1 n2 : Vec Ideal S1024 .f32) (wg wu : Vec Ideal S1024x2816 .f32) (wd : Vec Ideal S2816x1024 .f32) (n3 : Vec Ideal S1024 .f32) (b : Fin 16) (s : Fin 4096) (n : Fin 1024) :
    val_main_v18 (F := Ideal) x ys yb ym wo n1 (ix3 b s n)
      = midE (fun k => x (ix3 b s k)) (fun n => val_main_v4 (F := Ideal) ys yb ym wo (ix3 b s n)) (fun k => n1 (ix1 k)) n := by
  pointwise [val_main_v5, val_main_v6, val_main_v7, val_main_v8, val_main_v9, val_main_v10, val_main_v11, val_main_v12, val_main_v13, val_main_v14, val_main_v15, val_main_v16, val_main_v17, val_main_v18, val_main_cst, val_main_cst_0, val_main_cst_1, midE, normE]

/-- The reference's normalised row, entry by entry. -/
theorem ref_h2 (x : Vec Ideal S16x4096x1024 .f32) (ys : Vec Ideal S16x4096x512 .bf16) (yb ym : Vec Ideal S16x4096x256 .bf16) (wo : Vec Ideal S1024x1024 .f32) (n1 n2 : Vec Ideal S1024 .f32) (wg wu : Vec Ideal S1024x2816 .f32) (wd : Vec Ideal S2816x1024 .f32) (n3 : Vec Ideal S1024 .f32) (b : Fin 16) (s : Fin 4096) (n : Fin 1024) :
    val_main_v31 (F := Ideal) x ys yb ym wo n1 n2 (ix3 b s n)
      = normE (fun n => val_main_v18 (F := Ideal) x ys yb ym wo n1 (ix3 b s n)) n * n2 (ix1 n) := by
  pointwise [val_main_v19, val_main_v20, val_main_v21, val_main_v22, val_main_v23, val_main_v24, val_main_v25, val_main_v26, val_main_v27, val_main_v28, val_main_v29, val_main_v30, val_main_v31, val_main_cst_2, val_main_cst_3, val_main_cst_4, normE]

/-- The reference's gated feed-forward row, entry by entry. -/
theorem ref_ffn (x : Vec Ideal S16x4096x1024 .f32) (ys : Vec Ideal S16x4096x512 .bf16) (yb ym : Vec Ideal S16x4096x256 .bf16) (wo : Vec Ideal S1024x1024 .f32) (n1 n2 : Vec Ideal S1024 .f32) (wg wu : Vec Ideal S1024x2816 .f32) (wd : Vec Ideal S2816x1024 .f32) (n3 : Vec Ideal S1024 .f32) (b : Fin 16) (s : Fin 4096) (n : Fin 1024) :
    val_main_v42 (F := Ideal) x ys yb ym wo n1 n2 wg wu wd (ix3 b s n)
      = ffnE (fun k => val_main_v31 (F := Ideal) x ys yb ym wo n1 n2 (ix3 b s k)) (fun k n => wg (ix2 k n)) (fun k n => wu (ix2 k n)) (fun k n => wd (ix2 k n)) n := by
  pointwise [val_main_v32, val_main_v33, val_main_v34, val_main_v35, val_main_v36, val_main_v37, val_main_v38, val_main_v39, val_main_v40, val_main_v41, val_main_v42, val_main_cst_5, val_main_cst_6, ffnE, actE, mul_sigmoid]

/-- The reference's result, entry by entry. -/
theorem ref_out (x : Vec Ideal S16x4096x1024 .f32) (ys : Vec Ideal S16x4096x512 .bf16) (yb ym : Vec Ideal S16x4096x256 .bf16) (wo : Vec Ideal S1024x1024 .f32) (n1 n2 : Vec Ideal S1024 .f32) (wg wu : Vec Ideal S1024x2816 .f32) (wd : Vec Ideal S2816x1024 .f32) (n3 : Vec Ideal S1024 .f32) (b : Fin 16) (s : Fin 4096) (n : Fin 1024) :
    val_main_v56 (F := Ideal) x ys yb ym wo n1 n2 wg wu wd n3 (ix3 b s n)
      = rowE (fun k => x (ix3 b s k)) (fun k => ys (ix3 b s k)) (fun k => yb (ix3 b s k)) (fun k => ym (ix3 b s k)) (fun k n => wo (ix2 k n))
          (fun k => n1 (ix1 k)) (fun k => n2 (ix1 k)) (fun k n => wg (ix2 k n)) (fun k n => wu (ix2 k n)) (fun k n => wd (ix2 k n)) (fun k => n3 (ix1 k)) n := by
  have e : val_main_v56 (F := Ideal) x ys yb ym wo n1 n2 wg wu wd n3 (ix3 b s n)
      = val_main_v18 (F := Ideal) x ys yb ym wo n1 (ix3 b s n) + normE (fun n => val_main_v42 (F := Ideal) x ys yb ym wo n1 n2 wg wu wd (ix3 b s n)) n * n3 (ix1 n) := by
    pointwise [val_main_v43, val_main_v44, val_main_v45, val_main_v46, val_main_v47, val_main_v48, val_main_v49, val_main_v50, val_main_v51, val_main_v52, val_main_v53, val_main_v54, val_main_v55, val_main_v56, val_main_cst_7, val_main_cst_8, val_main_cst_9, normE]
  rw [e]
  simp only [ref_ffn x ys yb ym wo n1 n2 wg wu wd n3, ref_h2 x ys yb ym wo n1 n2 wg wu wd n3, ref_mid x ys yb ym wo n1 n2 wg wu wd n3, ref_mix]
  rfl

end Cert.OutFfnReferenceIdeal.Hand

namespace Cert.OutFfnIdeal.Hand
open Cert.OutFfnIdeal Cert.OutFfnIdeal.Gen Cert.OutFfnIdeal.Value

variable (m : (ℓ : Loc nD τ sig) → Buf (Elt Ideal) ℓ)

/-- The array after the whole grid is the reference's result. -/
theorem final11 (c : Dev nD) : (dats m 0 c).arrAt 11 cfg0.N = Cert.OutFfnReferenceIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t hf y => ?_
  blk_simp [idx t]
  rw [after0_11]
  obtain ⟨a, r, n, rfl⟩ : ∃ (a : Fin 1) (r n : Fin 1024), y = ix3 a r n := ⟨_, _, _, eq_ix3 y⟩
  refine (out11_apply _ _ _ _ _ _ _ _ _ _ _ _ _ _).trans ?_
  have hi : (win0_11.blk t).view.emb (ix3 a r n) = ix3 (batchOf t) (rowOf t r) n := by blk_ext [idx t, rowOf, batchOf]
  rw [hi, Cert.OutFfnReferenceIdeal.Hand.ref_out]
  simp only [blk0 m c t, blk1 m c t, blk2 m c t, blk3 m c t, blk4 m c t, blk5 m c t, blk6 m c t, blk7 m c t, blk8 m c t, blk9 m c t, blk10 m c t]

end Cert.OutFfnIdeal.Hand

/-- The output projection with the feed-forward part computes what its reference computes, on the ideal numbers. -/
theorem Cert.Proof.algebraic_outFfn : Cert.algebraic_OutFfnIdeal_OutFfnReferenceIdeal := by
  pair_intro
  · run_from Cert.OutFfnIdeal.Value.run_blocks m g
  · run_from Cert.OutFfnReferenceIdeal.Value.run m' g'
    obtain ⟨h0, h1, h2, h3, h4, h5, h6, h7, h8, h9, h10⟩ := hagree c
    rw [Cert.OutFfnIdeal.Hand.final11 m c, ← h0, ← h1, ← h2, ← h3, ← h4, ← h5, ← h6, ← h7, ← h8, ← h9, ← h10]
    exact Cert.OutFfnReferenceIdeal.Read.val_main_v56_eq m' c
end
-- ==== Proof.SsdHost.lean ====
module

public import proofs.«01_k».proof.Defs
public import Idealize.ShloMosaic.Lib.Claim
public import Idealize.ShloMosaic.Lib.Pointwise
public import Idealize.ShloMosaic.Lib.Pipeline.ValueKit
public import Idealize.ShloMosaic.Lib.WordCmp
public import Idealize.ShloMosaic.Lib.Routing.Words
public import proofs.«01_k».proof.Proof.Gen.KernelIdeal.Value

@[expose] public section

set_option maxRecDepth 16384

noncomputable section

open Idealize.ShloMosaic Idealize.ShloMosaic.TcCoe Idealize.SL.Sem
open Idealize.ShloMosaic.Routing (divsi_word remsi_word)
open Idealize.ShloMosaic.Pipeline (Dat)
namespace Cert.KernelIdeal.Hand

open Cert.KernelIdeal Cert.KernelIdeal.Gen Cert.KernelIdeal.Value

variable (m : (ℓ : Loc nD τ sig) → Buf (Elt Ideal) ℓ)

/-- A comparison's bit as a number: one where it holds, zero where not. -/
theorem uitofp_ofBool (p : Prop) [Decidable p] (φ : FTy) :
    (FloatOps.uitofp (F := Ideal) φ (BitVec.ofBool (decide p)) : EReal) = if p then 1 else 0 := by
  by_cases h : p
  · rw [if_pos h, decide_eq_true h]
    show (((BitVec.ofBool true).toNat : ℝ) : EReal) = 1
    simp
  · rw [if_neg h, decide_eq_false h]
    show (((BitVec.ofBool false).toNat : ℝ) : EReal) = 0
    simp

/-- Two numbers below the word's range are equal exactly where their words are. -/
theorem cmpi_eq_word {a b : ℕ} (ha : a < 2 ^ 32) (hb : b < 2 ^ 32) :
    IntOp.cmpi CmpIPredicate.eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff, ← BitVec.toNat_inj, BitVec.toNat_ofNat, BitVec.toNat_ofNat, Nat.mod_eq_of_lt ha, Nat.mod_eq_of_lt hb]

/-- The host's quotient rounded down, on words. -/
def floorDivW (x d : BitVec 32) : BitVec 32 :=
  Scalar.select
    (IntOp.andi
      (IntOp.cmpi (w := 32) CmpIPredicate.ne (if x = 0 then 0 else if x.msb = true then -1 else 1) (if d = 0 then 0 else if d.msb = true then -1 else 1))
      (IntOp.cmpi CmpIPredicate.ne (IntOp.remsi ArithUnit.host x d) 0#32))
    (IntOp.subi (IntOp.divsi ArithUnit.host x d) 1#32)
    (IntOp.divsi ArithUnit.host x d)

/-- On small numbers it is the quotient. -/
theorem floorDivW_word {a d : ℕ} (ha : a < 2 ^ 31) (h0 : 0 < d) (hd : d < 2 ^ 31) :
    floorDivW (BitVec.ofNat 32 a) (BitVec.ofNat 32 d) = BitVec.ofNat 32 (a / d) := by
  have hz : ∀ b : ℕ, b < 2 ^ 31 → b ≠ 0 → BitVec.ofNat 32 b ≠ 0 := fun b hb h e => by
    have := congrArg BitVec.toNat e
    rw [BitVec.toNat_ofNat, Nat.mod_eq_of_lt (by omega)] at this
    exact h this
  have hs : ∀ b : ℕ, b < 2 ^ 31 → (BitVec.ofNat 32 b).msb ≠ true := fun b hb e => by
    rw [BitVec.msb_eq_decide, BitVec.toNat_ofNat, Nat.mod_eq_of_lt (by omega), decide_eq_true_iff] at e
    omega
  unfold floorDivW
  rw [divsi_word _ ha h0 hd, remsi_word _ ha h0 hd, if_neg (hz d hd (by omega)), if_neg (hs d hd), if_neg (hs a ha)]
  by_cases h : a = 0
  · subst h
    rw [Nat.zero_mod, Nat.zero_div]
    rfl
  · rw [if_neg (hz a ha h)]
    generalize BitVec.ofNat 32 (a % d) = r
    have e : IntOp.andi (IntOp.cmpi CmpIPredicate.ne (1 : BitVec 32) 1) (IntOp.cmpi CmpIPredicate.ne r 0#32) = 0#1 := by
      show (0#1 &&& _) = _
      exact BitVec.zero_and
    rw [e]
    rfl

/-- The host's remainder with the divisor's sign, on words. -/
def floorModW (x d : BitVec 32) : BitVec 32 :=
  Scalar.select
    (IntOp.andi
      (IntOp.cmpi CmpIPredicate.ne (IntOp.cmpi CmpIPredicate.slt (IntOp.remsi ArithUnit.host x d) 0#32) (IntOp.cmpi CmpIPredicate.slt d 0#32))
      (IntOp.cmpi CmpIPredicate.ne (IntOp.remsi ArithUnit.host x d) 0#32))
    (IntOp.addi (IntOp.remsi ArithUnit.host x d) d) (IntOp.remsi ArithUnit.host x d)

/-- Below 384, the remainder by 128. -/
theorem floorModW_128 (j : Fin 384) : floorModW (BitVec.ofNat 32 j.val) 128#32 = BitVec.ofNat 32 (j.val % 128) := by
  unfold floorModW
  rw [remsi_word _ (by omega) (by omega) (by omega)]
  exact (by decide +kernel : ∀ r : Fin 128, Scalar.select
    (IntOp.andi
      (IntOp.cmpi CmpIPredicate.ne (IntOp.cmpi CmpIPredicate.slt (BitVec.ofNat 32 r.val) 0#32) (IntOp.cmpi CmpIPredicate.slt 128#32 0#32))
      (IntOp.cmpi CmpIPredicate.ne (BitVec.ofNat 32 r.val) 0#32))
    (IntOp.addi (BitVec.ofNat 32 r.val) 128#32) (BitVec.ofNat 32 r.val) = BitVec.ofNat 32 r.val) ⟨j.val % 128, by omega⟩

/-- The triangle of ones the kernel is given. -/
theorem V_v6 (c : Dev nD) (i j : Fin 128) : (V m c main_v6 : Vec Ideal S128x128 .bf16) (ix2 i j) = if i.val ≤ j.val then (1 : EReal) else 0 := by
  refine (congrFun (?_ : V m c main_v6 = (?X : Vec Ideal S128x128 .bf16)) (ix2 i j)).trans ?_
  rotate_left
  · show StableHlo.after _ _ _ = _
    simp only [List.flatten_cons, List.flatten_nil, List.cons_append, List.nil_append, List.append_nil, StableHlo.after_cons, StableHlo.after_nil]
    after_results_simp
    rfl
  pointwise
  rw [show IntOp.cmpi CmpIPredicate.sle (BitVec.ofNat 32 i.val) (BitVec.ofNat 32 j.val) = BitVec.ofBool (decide (i.val ≤ j.val)) from
    (by decide +kernel : ∀ i j : Fin 128, IntOp.cmpi CmpIPredicate.sle (BitVec.ofNat 32 i.val) (BitVec.ofNat 32 j.val) = BitVec.ofBool (decide (i.val ≤ j.val))) i j]
  exact uitofp_ofBool _ _

/-- Ones where a row's head is the channel's. -/
theorem V_v15 (c : Dev nD) (i : Fin 16) (j : Fin 512) : (V m c main_v15 : Vec Ideal S16x512 .bf16) (ix2 i j) = if i.val = j.val / 64 then (1 : EReal) else 0 := by
  refine (congrFun (?_ : V m c main_v15 = (?X : Vec Ideal S16x512 .bf16)) (ix2 i j)).trans ?_
  rotate_left
  · show StableHlo.after _ _ _ = _
    simp only [List.flatten_cons, List.flatten_nil, List.cons_append, List.nil_append, List.append_nil, StableHlo.after_cons, StableHlo.after_nil]
    after_results_simp
    rfl
  simp only [StableHlo.TRef.ofBuf, StableHlo.TRef.toBuf, cast_eq, id_eq]
  pointwise
  show FloatOps.uitofp (F := Ideal) FTy.bf16 (IntOp.cmpi CmpIPredicate.eq (BitVec.ofNat 32 i.val) (floorDivW (BitVec.ofNat 32 j.val) 64#32)) = _
  rw [floorDivW_word (by omega) (by omega) (by omega), cmpi_eq_word (by omega) (by omega)]
  exact uitofp_ofBool _ _

/-- Ones where a row's head is the lane's. -/
theorem V_v23 (c : Dev nD) (i : Fin 16) (j : Fin 1024) : (V m c main_v23 : Vec Ideal S16x1024 .bf16) (ix2 i j) = if i.val = j.val / 128 then (1 : EReal) else 0 := by
  refine (congrFun (?_ : V m c main_v23 = (?X : Vec Ideal S16x1024 .bf16)) (ix2 i j)).trans ?_
  rotate_left
  · show StableHlo.after _ _ _ = _
    simp only [List.flatten_cons, List.flatten_nil, List.cons_append, List.nil_append, List.append_nil, StableHlo.after_cons, StableHlo.after_nil]
    after_results_simp
    rfl
  simp only [StableHlo.TRef.ofBuf, StableHlo.TRef.toBuf, cast_eq, id_eq]
  pointwise
  show FloatOps.uitofp (F := Ideal) FTy.bf16 (IntOp.cmpi CmpIPredicate.eq (BitVec.ofNat 32 i.val) (floorDivW (BitVec.ofNat 32 j.val) 128#32)) = _
  rw [floorDivW_word (by omega) (by omega) (by omega), cmpi_eq_word (by omega) (by omega)]
  exact uitofp_ofBool _ _

/-- Each channel's skip weight is its head's. -/
theorem V_v26 (c : Dev nD) (j : Fin 512) : (V m c main_v26 : Vec Ideal S1x512 .f32) (ix2 0 j) = (m ((c : Thread nD τ).loc main_arg6) : Vec Ideal S8 .f32) (ix1 ⟨j.val / 64, by omega⟩) := by
  refine (congrFun (?_ : V m c main_v26 = (?X : Vec Ideal S1x512 .f32)) (ix2 0 j)).trans ?_
  rotate_left
  · show StableHlo.after _ _ _ = _
    simp only [List.flatten_cons, List.flatten_nil, List.cons_append, List.nil_append, List.append_nil, StableHlo.after_cons, StableHlo.after_nil]
    after_results_simp
    rfl
  pointwise

/-- The matrix that shifts rows back by three, two and one. -/
theorem V_v42 (c : Dev nD) (i : Fin 384) (j : Fin 144) : (V m c main_v42 : Vec Ideal S384x144 .bf16) (ix2 i j) = if j.val = 13 + i.val % 128 + i.val / 128 then (1 : EReal) else 0 := by
  refine (congrFun (?_ : V m c main_v42 = (?X : Vec Ideal S384x144 .bf16)) (ix2 i j)).trans ?_
  rotate_left
  · show StableHlo.after _ _ _ = _
    simp only [List.flatten_cons, List.flatten_nil, List.cons_append, List.nil_append, List.append_nil, StableHlo.after_cons, StableHlo.after_nil]
    after_results_simp
    rfl
  simp only [StableHlo.TRef.ofBuf, StableHlo.TRef.toBuf, cast_eq, id_eq]
  pointwise
  show FloatOps.uitofp (F := Ideal) FTy.bf16 (IntOp.cmpi CmpIPredicate.eq (IntOp.addi (IntOp.subi (IntOp.addi 16#32 (floorModW (BitVec.ofNat 32 i.val) 128#32)) 3#32)
    (floorDivW (BitVec.ofNat 32 i.val) 128#32)) (BitVec.ofNat 32 j.val)) = _
  rw [floorDivW_word (by omega) (by omega) (by omega), floorModW_128,
    (by decide +kernel : ∀ i : Fin 384, IntOp.addi (IntOp.subi (IntOp.addi 16#32 (BitVec.ofNat 32 (i.val % 128))) 3#32) (BitVec.ofNat 32 (i.val / 128))
      = BitVec.ofNat 32 (13 + i.val % 128 + i.val / 128)) i, cmpi_eq_word (by omega) (by omega)]
  exact (uitofp_ofBool _ _).trans (if_congr eq_comm rfl rfl)

/-- The convolution's bias as a row. -/
theorem V_v43 (c : Dev nD) (j : Fin 1024) : (V m c main_v43 : Vec Ideal S1x1024 .f32) (ix2 0 j) = (m ((c : Thread nD τ).loc main_arg3) : Vec Ideal S1024 .f32) (ix1 j) := by
  refine (congrFun (?_ : V m c main_v43 = (?X : Vec Ideal S1x1024 .f32)) (ix2 0 j)).trans ?_
  rotate_left
  · show StableHlo.after _ _ _ = _
    simp only [List.flatten_cons, List.flatten_nil, List.cons_append, List.nil_append, List.append_nil, StableHlo.after_cons, StableHlo.after_nil]
    after_results_simp
    rfl
  pointwise

/-- The step sizes' bias as a column. -/
theorem V_v44 (c : Dev nD) (h : Fin 8) : (V m c main_v44 : Vec Ideal S8x1 .f32) (ix2 h 0) = (m ((c : Thread nD τ).loc main_arg4) : Vec Ideal S8 .f32) (ix1 h) := by
  refine (congrFun (?_ : V m c main_v44 = (?X : Vec Ideal S8x1 .f32)) (ix2 h 0)).trans ?_
  rotate_left
  · show StableHlo.after _ _ _ = _
    simp only [List.flatten_cons, List.flatten_nil, List.cons_append, List.nil_append, List.append_nil, StableHlo.after_cons, StableHlo.after_nil]
    after_results_simp
    rfl
  pointwise

/-- The heads' log rates as a column. -/
theorem V_v45 (c : Dev nD) (h : Fin 8) : (V m c main_v45 : Vec Ideal S8x1 .f32) (ix2 h 0) = (m ((c : Thread nD τ).loc main_arg5) : Vec Ideal S8 .f32) (ix1 h) := by
  refine (congrFun (?_ : V m c main_v45 = (?X : Vec Ideal S8x1 .f32)) (ix2 h 0)).trans ?_
  rotate_left
  · show StableHlo.after _ _ _ = _
    simp only [List.flatten_cons, List.flatten_nil, List.cons_append, List.nil_append, List.append_nil, StableHlo.after_cons, StableHlo.after_nil]
    after_results_simp
    rfl
  pointwise

/-- The normalisation's weights as a row. -/
theorem V_v46 (c : Dev nD) (j : Fin 512) : (V m c main_v46 : Vec Ideal S1x512 .f32) (ix2 0 j) = (m ((c : Thread nD τ).loc main_arg7) : Vec Ideal S512 .f32) (ix1 j) := by
  refine (congrFun (?_ : V m c main_v46 = (?X : Vec Ideal S1x512 .f32)) (ix2 0 j)).trans ?_
  rotate_left
  · show StableHlo.after _ _ _ = _
    simp only [List.flatten_cons, List.flatten_nil, List.cons_append, List.nil_append, List.append_nil, StableHlo.after_cons, StableHlo.after_nil]
    after_results_simp
    rfl
  pointwise

end Cert.KernelIdeal.Hand
-- ==== Proof.SsdChunk.lean ====
module

public import proofs.«01_k».proof.Defs
public import Idealize.ShloMosaic.Lib.Pipeline.ValueKit
public import Idealize.ShloMosaic.Lib.Pipeline.ReadBack
public import Idealize.ShloMosaic.Lib.WritesUnit
public import Idealize.ShloMosaic.Lib.Claim
public import Idealize.ShloMosaic.Lib.Pointwise
public import proofs.«01_k».proof.Proof.Gen.KernelIdeal.Value
public import proofs.«01_k».proof.Proof.Common

@[expose] public section

set_option maxRecDepth 16384

noncomputable section

open Idealize.ShloMosaic Idealize.ShloMosaic.TcCoe Idealize.SL.Sem
open Idealize.ShloMosaic.Pipeline (Dat)
open Cert.Layer

namespace Cert.KernelIdeal.Hand

open Cert.KernelIdeal Cert.KernelIdeal.Gen Cert.KernelIdeal.Value

/-- What one chunk of 128 positions reads: the shift matrix, the 144 projected rows that end with the chunk, the convolution's bias and
    weights, the chunk's own 128 rows, the step sizes before the softplus, their bias, the decay rates, the three constant matrices, the
    skip weights, the gate, the norm weights, and the two halves of the state before the chunk. -/
structure Chunk where
  sh : Vec Ideal S384x144 .bf16
  e : Vec Ideal S144x1024 .bf16
  cb : Vec Ideal S1x1024 .f32
  w3 : Vec Ideal S1x1024 .f32
  x : Vec Ideal S128x1024 .bf16
  w0 : Vec Ideal S1x1024 .f32
  w1 : Vec Ideal S1x1024 .f32
  w2 : Vec Ideal S1x1024 .f32
  dt : Vec Ideal S1x8x128 .f32
  bi : Vec Ideal S8x1 .f32
  al : Vec Ideal S8x1 .f32
  tri : Vec Ideal S128x128 .bf16
  e64 : Vec Ideal S16x512 .bf16
  e128 : Vec Ideal S16x1024 .bf16
  dsk : Vec Ideal S1x512 .f32
  z : Vec Ideal S1x128x512 .bf16
  nw : Vec Ideal S1x512 .f32
  st0 : Vec Ideal S1x128x256 .f32
  st1 : Vec Ideal S1x128x256 .f32

namespace Chunk

variable (k : Chunk)

/-- The first channels after the convolution and its gate. -/
def xs : FVec Ideal S128x512 .f32 := k0_pay9 (k0_pay6 k.sh k.e) (k0_pay7 k.sh k.e k.cb k.w3 k.x k.w0 k.w1) k.w2
/-- The channels that write the state. -/
def bm : FVec Ideal S128x256 .f32 := k0_pay10 (k0_pay6 k.sh k.e) (k0_pay7 k.sh k.e k.cb k.w3 k.x k.w0 k.w1) k.w2
/-- The channels that read the state. -/
def cm : FVec Ideal S128x256 .f32 := k0_pay11 (k0_pay6 k.sh k.e) (k0_pay7 k.sh k.e k.cb k.w3 k.x k.w0 k.w1) k.w2
/-- The step sizes. -/
def dtp : FVec Ideal S8x128 .f32 := k0_pay12 k.dt k.bi
/-- The running sums of the log decays. -/
def act : FVec Ideal S8x128 .f32 :=
  k0_pay19 (k0_pay14 k.tri) (k0_pay15 k.dt k.bi k.al) (k0_pay17 k.dt k.bi k.al) (k0_pay18 k.dt k.bi k.al)
/-- The step sizes, one per channel. -/
def dte : FVec Ideal S128x512 .f32 := k0_pay21 k.dtp k.e64
/-- The running sums, a lane block per head. -/
def acb : FVec Ideal S128x1024 .f32 :=
  k0_pay22 (k0_pay14 k.tri) (k0_pay15 k.dt k.bi k.al) (k0_pay17 k.dt k.bi k.al) (k0_pay18 k.dt k.bi k.al) k.e128 k.e128 k.e128
/-- The running sums of heads 0 and 1, one per channel. -/
def l0 : FVec Ideal S128x128 .f32 :=
  k0_pay24 (k0_pay14 k.tri) (k0_pay15 k.dt k.bi k.al) (k0_pay17 k.dt k.bi k.al) (k0_pay18 k.dt k.bi k.al) k.e128 k.e128 k.e128
/-- The running sums of heads 2 and 3, one per channel. -/
def l1 : FVec Ideal S128x128 .f32 :=
  k0_pay25 (k0_pay14 k.tri) (k0_pay15 k.dt k.bi k.al) (k0_pay17 k.dt k.bi k.al) (k0_pay18 k.dt k.bi k.al) k.e128 k.e128 k.e128
/-- The running sums of head 4. -/
def l2 : FVec Ideal S128x128 .f32 :=
  k0_pay26 (k0_pay14 k.tri) (k0_pay15 k.dt k.bi k.al) (k0_pay17 k.dt k.bi k.al) (k0_pay18 k.dt k.bi k.al) k.e128 k.e128 k.e128
/-- The channels times their step sizes. -/
def xdt : FVec Ideal S128x512 .f32 := k0_pay28 k.xs k.dte
/-- The same decayed to the chunk's end. -/
def xdd : FVec Ideal S128x512 .bf16 := k0_pay30 k.xs k.dte k.acb k0_pay23 k.l0 k.l1 k.l2
/-- The decay from the chunk's start. -/
def inDecay : FVec Ideal S128x512 .f32 := k0_pay31 k.acb k0_pay23 k.l0 k.l1 k.l2
/-- The decay over the whole chunk. -/
def chunkDecay : FVec Ideal S1x512 .f32 := k0_pay32 k.acb k0_pay23 k.l0 k.l1 k.l2
/-- The read and write channels' products, first half. -/
def cb0 : FVec Ideal S128x128 .f32 := k0_pay38 k.bm k.cm
/-- The read and write channels' products, second half. -/
def cb1 : FVec Ideal S128x128 .f32 := k0_pay49 (k0_pay34 k.bm) (k0_pay35 k.cm)
/-- What the state before the chunk gives, first half. -/
def off0 : FVec Ideal S128x256 .f32 := k0_pay40 k.cm k.acb k0_pay23 k.l0 k.l1 k.l2 k.st0
/-- What the state before the chunk gives, second half. -/
def off1 : FVec Ideal S128x256 .f32 := k0_pay51 k.inDecay (k0_pay48 (k0_pay35 k.cm)) k.st1
/-- Heads 0 and 1. -/
def h0 : FVec Ideal S128x128 .f32 :=
  k0_pay45 k0_pay23 k.xdt k0_pay33 k.cb0 k.off0 (k0_pay42 k.bm k.cm k.act k.acb) (k0_pay43 k.acb) (k0_pay44 k.act)
/-- Heads 2 and 3. -/
def h1 : FVec Ideal S128x128 .f32 := k0_pay46 k.act k.acb k0_pay23 k.xdt k0_pay33 k.cb0 k.off0
/-- Heads 4 and 5. -/
def h2 : FVec Ideal S128x128 .f32 :=
  k0_pay53 k.act k.acb k0_pay23 k.xdt k.inDecay k0_pay33 (k0_pay48 (k0_pay35 k.cm)) k.cb1 k.st1
/-- The gated output before its normalisation. -/
def gated : FVec Ideal S128x512 .f32 :=
  k0_pay56 k.xs k.act k.acb k0_pay23 k.xdt k0_pay33 k.h0 k.h1 k.cb1 k.off1 k.h2 (k0_pay54 k.acb) (k0_pay55 k.act) k.dsk k.z
/-- Its first half. -/
def gated0 : FVec Ideal S128x256 .f32 :=
  k0_pay57 k.xs k.act k.acb k0_pay23 k.xdt k0_pay33 k.h0 k.h1 k.cb1 k.off1 k.h2 (k0_pay54 k.acb) (k0_pay55 k.act) k.dsk k.z
/-- The sums of the first half's squares. -/
def sq0 : FVec Ideal S128x1 .f32 :=
  k0_pay58 k.xs k.act k.acb k0_pay23 k.xdt k0_pay33 k.h0 k.h1 k.cb1 k.off1 k.h2 (k0_pay54 k.acb) (k0_pay55 k.act) k.dsk k.z
/-- The chunk's output. -/
def y : FVec Ideal S1x128x512 .bf16 := k0_pay59 k.gated k.gated0 k.sq0 k.nw
/-- The state after the chunk, first half. -/
def nst0 : FVec Ideal S1x128x256 .f32 := k0_pay41 k.xs k.bm k.dte k.acb k0_pay23 k.l0 k.l1 k.l2 k.st0
/-- The state after the chunk, second half. -/
def nst1 : FVec Ideal S1x128x256 .f32 := k0_pay52 k.xdd k.chunkDecay (k0_pay47 (k0_pay34 k.bm)) k.st1

end Chunk

/-- A point's 528 rows: 16 carried from the point before, then the block's 512. -/
def extRows (carry : Vec Ideal S528x1024 .bf16) (blk : Vec Ideal S1x512x1024 .bf16) : Vec Ideal S528x1024 .bf16 := fun i =>
  if h : (i 0).val < 16 then carry i
  else blk (ix3 (0 : Fin 1) (⟨(i 0).val - 16, by have h2 : (i 0).val < 528 := (i 0).isLt; omega⟩ : Fin 512) (i 1))

/-- The 144 rows chunk `q` convolves. -/
def eAt (X : Vec Ideal S528x1024 .bf16) (q : Fin 4) : Vec Ideal S144x1024 .bf16 := fun i =>
  X (ix2 (⟨128 * q.val + (i 0).val, by have h2 : (i 0).val < 144 := (i 0).isLt; omega⟩ : Fin 528) (i 1))

/-- Chunk `q`'s own rows. -/
def xAt (X : Vec Ideal S528x1024 .bf16) (q : Fin 4) : Vec Ideal S128x1024 .bf16 := fun i =>
  X (ix2 (⟨128 * q.val + 16 + (i 0).val, by have h2 : (i 0).val < 128 := (i 0).isLt; omega⟩ : Fin 528) (i 1))

/-- Chunk `q`'s columns of the step sizes. -/
def dtAt (X : Vec Ideal S1x8x512 .f32) (q : Fin 4) : Vec Ideal S1x8x128 .f32 := fun i =>
  X (ix3 (0 : Fin 1) (i 1) (⟨128 * q.val + (i 2).val, by have h2 : (i 2).val < 128 := (i 2).isLt; omega⟩ : Fin 512))

/-- Chunk `q`'s rows of the gate. -/
def zAt (X : Vec Ideal S1x512x512 .bf16) (q : Fin 4) : Vec Ideal S1x128x512 .bf16 := fun i =>
  X (ix3 (0 : Fin 1) (⟨128 * q.val + (i 1).val, by have h2 : (i 1).val < 128 := (i 1).isLt; omega⟩ : Fin 512) (i 2))

/-- The convolution's weights at tap `k`. -/
def wAt (X : Vec Ideal S4x1024 .f32) (k : Fin 4) : Vec Ideal S1x1024 .f32 := fun i => X (ix2 k (i 1))

/-- One half of the state. -/
def stAt (X : Vec Ideal S2x128x256 .f32) (g : Fin 2) : Vec Ideal S1x128x256 .f32 := fun i => X (ix3 g (i 1) (i 2))

/-- What a grid point reads: its thirteen blocks, and what it carries from the point before. -/
structure Point where
  b0 : Vec Ideal S1x512x1024 .bf16
  b1 : Vec Ideal S1x512x512 .bf16
  b2 : Vec Ideal S1x8x512 .f32
  b3 : Vec Ideal S4x1024 .f32
  b4 : Vec Ideal S1x1024 .f32
  b5 : Vec Ideal S8x1 .f32
  b6 : Vec Ideal S8x1 .f32
  b7 : Vec Ideal S1x512 .f32
  b8 : Vec Ideal S1x512 .f32
  b9 : Vec Ideal S128x128 .bf16
  b10 : Vec Ideal S16x512 .bf16
  b11 : Vec Ideal S16x1024 .bf16
  b12 : Vec Ideal S384x144 .bf16
  carry : Vec Ideal S528x1024 .bf16
  st : Vec Ideal S2x128x256 .f32

namespace Point

variable (p : Point)

/-- Chunk `q` of the point, from the state before it. -/
def chunk (q : Fin 4) (s0 s1 : Vec Ideal S1x128x256 .f32) : Chunk :=
  ⟨p.b12, eAt (extRows p.carry p.b0) q, p.b4, wAt p.b3 3, xAt (extRows p.carry p.b0) q, wAt p.b3 0, wAt p.b3 1, wAt p.b3 2,
    dtAt p.b2 q, p.b5, p.b6, p.b9, p.b10, p.b11, p.b7, zAt p.b1 q, p.b8, s0, s1⟩

/-- The chunks one after the other. -/
def c0 : Chunk := p.chunk 0 (stAt p.st 0) (stAt p.st 1)
/-- The second chunk of the block. -/
def c1 : Chunk := p.chunk 1 p.c0.nst0 p.c0.nst1
/-- The third chunk of the block. -/
def c2 : Chunk := p.chunk 2 p.c1.nst0 p.c1.nst1
/-- The fourth chunk of the block. -/
def c3 : Chunk := p.chunk 3 p.c2.nst0 p.c2.nst1

end Point

/-! ## The loads of part of a buffer -/

/-- Reading one chunk of the step sizes. -/
theorem ld_dt (X : Vec Ideal S1x8x512 .f32) (o : ℕ) (inb) (q : Fin 4) (ho : o = 128 * q.val) :
    View.ld X (Rect.unit (s := S1x8x512) ![0, 0, o] ![1, 8, 128] inb) = dtAt X q := by
  subst ho
  funext i
  pointwise [dtAt]

/-- Reading one chunk of the gate. -/
theorem ld_z (X : Vec Ideal S1x512x512 .bf16) (o : ℕ) (inb) (q : Fin 4) (ho : o = 128 * q.val) :
    View.ld X (Rect.unit (s := S1x512x512) ![0, o, 0] ![1, 128, 512] inb) = zAt X q := by
  subst ho
  funext i
  pointwise [zAt]

/-- Reading one tap of the convolution weight. -/
theorem ld_w (X : Vec Ideal S4x1024 .f32) (o : ℕ) (inb) (k : Fin 4) (ho : o = k.val) :
    View.ld X (Rect.unit (s := S4x1024) ![o, 0] ![1, 1024] inb) = wAt X k := by
  subst ho
  funext i
  pointwise [wAt]

/-- Reading one group of the carried state. -/
theorem ld_st (X : Vec Ideal S2x128x256 .f32) (o : ℕ) (inb) (g : Fin 2) (ho : o = g.val) :
    View.ld X (Rect.unit (s := S2x128x256) ![o, 0, 0] ![1, 128, 256] inb) = stAt X g := by
  subst ho
  funext i
  pointwise [stAt]

/-- Canonical contents under the last write. -/
theorem canon_hit {S : Shape} {e : EltTy} {off size : Fin S.rank → ℕ} (inb) (w : (Rect.unit (s := S) off size inb).shape.Idx → Elt Ideal e)
    (L : List (View.Piece (Elt Ideal) S e)) (y : S.Idx) (x : (Rect.unit (s := S) off size inb).shape.Idx)
    (h : ∀ a : Fin S.rank, (y a).val = off a + (x a).val) :
    View.canon ((⟨Rect.unit (s := S) off size inb, w⟩ : View.Piece (Elt Ideal) S e) :: L) y = w x := by
  have e : y = (Rect.unit (s := S) off size inb).emb x := by
    funext a
    exact Fin.ext (by rw [h a]; show off a + (x a).val = off a + 1 * (x a).val; omega)
  rw [e]
  exact View.canon_cons_emb _ w L x

/-- Canonical contents off the last write. -/
theorem canon_miss {S : Shape} {e : EltTy} {off size : Fin S.rank → ℕ} (inb) (w : (Rect.unit (s := S) off size inb).shape.Idx → Elt Ideal e)
    (L : List (View.Piece (Elt Ideal) S e)) (y : S.Idx) (a : Fin S.rank) (h : (y a).val < off a ∨ off a + size a ≤ (y a).val) :
    View.canon ((⟨Rect.unit (s := S) off size inb, w⟩ : View.Piece (Elt Ideal) S e) :: L) y = View.canon L y := by
  refine View.canon_cons_of_not_mem _ L fun hm => ?_
  have := (Rect.mem_set_unit (inb := inb)).1 hm a
  omega

/-- The rows after the block's store: the block from row 16 on, and before it what was there. -/
theorem read_ext (carry : Vec Ideal S528x1024 .bf16) (b : Vec Ideal S1x512x1024 .bf16) (f : (View.whole cc0_scratch0).ty.Contents (Elt Ideal))
    (L : List (View.Piece (Elt Ideal) S528x1024 .bf16)) (inb) (y : S528x1024.Idx)
    (hL : (y 0).val < 16 → View.read (Elt Ideal) (View.whole cc0_scratch0) ((View.whole cc0_scratch0).writes (Elt Ideal) f L) y = carry y) :
    View.read (Elt Ideal) (View.whole cc0_scratch0) ((View.whole cc0_scratch0).writes (Elt Ideal) f
      ((⟨Rect.unit (s := S528x1024) ![16, 0] ![512, 1024] inb, k0_pay5 b⟩ : View.Piece (Elt Ideal) S528x1024 .bf16) :: L)) y = extRows carry b y := by
  by_cases h : (y 0).val < 16
  · rw [View.read_writes_cons_rows_of_not_mem _ _ inb _ _ _ rfl rfl (Or.inl h), hL h, extRows, dif_pos h]
  · have h2 : (y 0).val < 528 := (y 0).isLt
    rw [View.read_writes_cons_rows_of_mem _ _ inb _ _ y (ix2 (⟨(y 0).val - 16, by omega⟩ : Fin 512) (y 1)) rfl
      (by show (y 0).val = 16 + ((y 0).val - 16); omega) rfl, extRows, dif_neg h]
    pointwise [k0_pay5]

/-- A coordinate of a loaded rectangle's index in the buffer. -/
theorem idx_rows (n o : ℕ) (inb : ∀ a, (![o, 0] : Fin 2 → ℕ) a + (![n, 1024] : Fin 2 → ℕ) a ≤ S528x1024.size a) (r : ℕ)
    (i : (Rect.unit (s := S528x1024) ![o, 0] ![n, 1024] inb).toLoadRect.shape.Idx) (h : r + (i 0).val < 528) (ho : o = r) :
    (Rect.unit (s := S528x1024) ![o, 0] ![n, 1024] inb).toLoadRect.idx i = ix2 (⟨r + (i 0).val, h⟩ : Fin 528) (i 1) := by
  subst ho
  funext a
  match a with
  | ⟨0, _⟩ => exact Fin.ext (by show o + 1 * (i 0).val = o + (i 0).val; omega)
  | ⟨1, _⟩ => exact Fin.ext (by show 0 + 1 * (i 1).val = (i 1).val; omega)

/-- The same of the buffer's canonical contents. -/
theorem canon_ext (carry : Vec Ideal S528x1024 .bf16) (b : Vec Ideal S1x512x1024 .bf16)
    (L : List (View.Piece (Elt Ideal) S528x1024 .bf16)) (inb) (y : S528x1024.Idx)
    (hL : (y 0).val < 16 → View.canon L y = carry y) :
    View.canon ((⟨Rect.unit (s := S528x1024) ![16, 0] ![512, 1024] inb, k0_pay5 b⟩ : View.Piece (Elt Ideal) S528x1024 .bf16) :: L) y
      = extRows carry b y := by
  have h2 : (y 0).val < 528 := (y 0).isLt
  by_cases h : (y 0).val < 16
  · rw [canon_miss inb _ L y (0 : Fin 2) (Or.inl h), hL h, extRows, dif_pos h]
  · rw [canon_hit inb _ L y (ix2 (⟨(y 0).val - 16, by omega⟩ : Fin 512) (y 1)) (fun a => by
      match a with
      | ⟨0, _⟩ => show (y 0).val = 16 + ((y 0).val - 16); omega
      | ⟨1, _⟩ => show (y 1).val = 0 + (y 1).val; omega), extRows, dif_neg h]
    pointwise [k0_pay5]

/-- A chunk's 144 rows, loaded. -/
theorem cov_e (carry : Vec Ideal S528x1024 .bf16) (b : Vec Ideal S1x512x1024 .bf16)
    (L : List (View.Piece (Elt Ideal) S528x1024 .bf16)) (inb) (o : ℕ) (inb') (q : Fin 4) (ho : o = 128 * q.val)
    (hL : ∀ y : S528x1024.Idx, o ≤ (y 0).val → (y 0).val < 16 → View.canon L y = carry y) :
    View.readCov (View.whole cc0_scratch0)
      ((⟨Rect.unit (s := S528x1024) ![16, 0] ![512, 1024] inb, k0_pay5 b⟩ : View.Piece (Elt Ideal) S528x1024 .bf16) :: L)
      (Rect.unit (s := S528x1024) ![o, 0] ![144, 1024] inb').toLoadRect = eAt (extRows carry b) q := by
  rw [View.readCov_eq_canon']
  funext i
  have h2 : (i 0).val < 144 := (i 0).isLt
  have e := idx_rows 144 o inb' (128 * q.val) i (by omega) ho
  rw [e]
  exact canon_ext carry b L inb _ (hL _ (by show o ≤ 128 * q.val + (i 0).val; omega))

/-- The first chunk's 144 rows, loaded from the buffer the point before left. -/
theorem rd_e (carry : Vec Ideal S528x1024 .bf16) (b : Vec Ideal S1x512x1024 .bf16) (f : (View.whole cc0_scratch0).ty.Contents (Elt Ideal))
    (inb) (inb') (hf : View.read (Elt Ideal) (View.whole cc0_scratch0) f = carry) :
    View.ld (View.read (Elt Ideal) (View.whole cc0_scratch0) ((View.whole cc0_scratch0).writes (Elt Ideal) f
      [(⟨Rect.unit (s := S528x1024) ![16, 0] ![512, 1024] inb, k0_pay5 b⟩ : View.Piece (Elt Ideal) S528x1024 .bf16)]))
      (Rect.unit (s := S528x1024) ![0, 0] ![144, 1024] inb') = eAt (extRows carry b) 0 := by
  funext i
  have h2 : (i 0).val < 144 := (i 0).isLt
  have e := idx_rows 144 0 inb' (128 * (0 : Fin 4).val) i (by show 128 * 0 + (i 0).val < 528; omega) rfl
  dsimp only [View.ld]
  rw [e]
  exact read_ext carry b f [] inb _ fun _ => by rw [View.writes_nil, hf]

/-- A chunk's own rows, loaded. -/
theorem cov_x (carry : Vec Ideal S528x1024 .bf16) (b : Vec Ideal S1x512x1024 .bf16)
    (L : List (View.Piece (Elt Ideal) S528x1024 .bf16)) (inb) (o : ℕ) (inb') (q : Fin 4) (ho : o = 128 * q.val + 16) :
    View.readCov (View.whole cc0_scratch0)
      ((⟨Rect.unit (s := S528x1024) ![16, 0] ![512, 1024] inb, k0_pay5 b⟩ : View.Piece (Elt Ideal) S528x1024 .bf16) :: L)
      (Rect.unit (s := S528x1024) ![o, 0] ![128, 1024] inb').toLoadRect = xAt (extRows carry b) q := by
  rw [View.readCov_eq_canon']
  funext i
  have h2 : (i 0).val < 128 := (i 0).isLt
  have e := idx_rows 128 o inb' (128 * q.val + 16) i (by omega) ho
  rw [e]
  exact canon_ext carry b L inb _ (fun h => absurd h (by show ¬ 128 * q.val + 16 + (i 0).val < 16; omega))

end Cert.KernelIdeal.Hand
-- ==== Proof.SsdStages.lean ====
module

public import proofs.«01_k».proof.Defs
public import Idealize.ShloMosaic.Lib.Pipeline.ValueKit
public import Idealize.ShloMosaic.Lib.Pipeline.ReadBack
public import Idealize.ShloMosaic.Lib.WritesUnit
public import Idealize.ShloMosaic.Lib.Claim
public import Idealize.ShloMosaic.Lib.Pointwise
public import proofs.«01_k».proof.Proof.Gen.KernelIdeal.Value
public import proofs.«01_k».proof.Proof.SsdChunk

@[expose] public section

set_option maxRecDepth 16384

noncomputable section

open Idealize.ShloMosaic Idealize.ShloMosaic.TcCoe Idealize.SL.Sem
open Idealize.ShloMosaic.Pipeline (Dat)
open Cert.Layer
namespace Cert.KernelIdeal.Hand

open Cert.KernelIdeal Cert.KernelIdeal.Gen Cert.KernelIdeal.Value

/-! Each chunk of a block computes what the first does: the four differ in where the pieces are cut, so each stage is equal by unfolding. -/

/-- Chunk 1's first channels: as chunk 0 computes them. -/
theorem xs_c1 (cb : Vec Ideal S1x1024 .f32) (e : Vec Ideal S144x1024 .bf16) (sh : Vec Ideal S384x144 .bf16) (w0 : Vec Ideal S1x1024 .f32) (w1 : Vec Ideal S1x1024 .f32) (w2 : Vec Ideal S1x1024 .f32) (w3 : Vec Ideal S1x1024 .f32) (x : Vec Ideal S128x1024 .bf16) :
    k0_pay64 (k0_pay60 sh e) (k0_pay61 cb) (k0_pay62 w3 x) w0 w1 w2
      = k0_pay9 (k0_pay6 sh e) (k0_pay7 sh e cb w3 x w0 w1) w2 := by
  sl_kernel_rfl

/-- Chunk 1's writing channels: as chunk 0 computes them. -/
theorem bm_c1 (cb : Vec Ideal S1x1024 .f32) (e : Vec Ideal S144x1024 .bf16) (sh : Vec Ideal S384x144 .bf16) (w0 : Vec Ideal S1x1024 .f32) (w1 : Vec Ideal S1x1024 .f32) (w2 : Vec Ideal S1x1024 .f32) (w3 : Vec Ideal S1x1024 .f32) (x : Vec Ideal S128x1024 .bf16) :
    k0_pay65 (k0_pay60 sh e) (k0_pay61 cb) (k0_pay62 w3 x) w0 w1 w2
      = k0_pay10 (k0_pay6 sh e) (k0_pay7 sh e cb w3 x w0 w1) w2 := by
  sl_kernel_rfl

/-- Chunk 1's reading channels: as chunk 0 computes them. -/
theorem cm_c1 (cb : Vec Ideal S1x1024 .f32) (e : Vec Ideal S144x1024 .bf16) (sh : Vec Ideal S384x144 .bf16) (w0 : Vec Ideal S1x1024 .f32) (w1 : Vec Ideal S1x1024 .f32) (w2 : Vec Ideal S1x1024 .f32) (w3 : Vec Ideal S1x1024 .f32) (x : Vec Ideal S128x1024 .bf16) :
    k0_pay66 (k0_pay60 sh e) (k0_pay61 cb) (k0_pay62 w3 x) w0 w1 w2
      = k0_pay11 (k0_pay6 sh e) (k0_pay7 sh e cb w3 x w0 w1) w2 := by
  sl_kernel_rfl

/-- Chunk 1's running sums: as chunk 0 computes them. -/
theorem act_c1 (al : Vec Ideal S8x1 .f32) (bi : Vec Ideal S8x1 .f32) (dt : Vec Ideal S1x8x128 .f32) (tri : Vec Ideal S128x128 .bf16) :
    k0_pay68 (k0_pay67 dt bi) al tri
      = k0_pay19 (k0_pay14 tri) (k0_pay15 dt bi al) (k0_pay17 dt bi al) (k0_pay18 dt bi al) := by
  sl_kernel_rfl

/-- Chunk 1's step sizes, one per channel: as chunk 0 computes them. -/
theorem dte_c1 (bi : Vec Ideal S8x1 .f32) (dt : Vec Ideal S1x8x128 .f32) (e64 : Vec Ideal S16x512 .bf16) :
    k0_pay70 (k0_pay67 dt bi) e64
      = k0_pay21 (k0_pay12 dt bi) e64 := by
  sl_kernel_rfl

/-- Chunk 1's running sums, a lane block per head: as chunk 0 computes them. -/
theorem acb_c1 (al : Vec Ideal S8x1 .f32) (bi : Vec Ideal S8x1 .f32) (dt : Vec Ideal S1x8x128 .f32) (e128 : Vec Ideal S16x1024 .bf16) (tri : Vec Ideal S128x128 .bf16) :
    k0_pay78 (k0_pay75 (k0_pay67 dt bi) al tri) (k0_pay76 (k0_pay67 dt bi) al tri e128) (k0_pay77 (k0_pay67 dt bi) al tri e128) e128
      = k0_pay22 (k0_pay14 tri) (k0_pay15 dt bi al) (k0_pay17 dt bi al) (k0_pay18 dt bi al) e128 e128 e128 := by
  sl_kernel_rfl

/-- Chunk 1's lane mask: as chunk 0 computes them. -/
theorem lt_c1 :
    k0_pay79
      = k0_pay23 := by
  sl_kernel_rfl

/-- Chunk 1's causal mask: as chunk 0 computes them. -/
theorem tr_c1 :
    k0_pay86
      = k0_pay33 := by
  sl_kernel_rfl

/-- Chunk 1's channels times step sizes: as chunk 0 computes them. -/
theorem xdt_c1 (dte : FVec Ideal S128x512 .f32) (xs : FVec Ideal S128x512 .f32) :
    k0_pay81 xs dte
      = k0_pay28 xs dte := by
  sl_kernel_rfl

/-- Chunk 1's channels decayed to the end: as chunk 0 computes them. -/
theorem xdd_c1 (al : Vec Ideal S8x1 .f32) (bi : Vec Ideal S8x1 .f32) (dt : Vec Ideal S1x8x128 .f32) (dte : FVec Ideal S128x512 .f32) (e128 : Vec Ideal S16x1024 .bf16) (tri : Vec Ideal S128x128 .bf16) (xs : FVec Ideal S128x512 .f32) :
    k0_pay83 xs dte (k0_pay75 (k0_pay67 dt bi) al tri) (k0_pay76 (k0_pay67 dt bi) al tri e128) (k0_pay77 (k0_pay67 dt bi) al tri e128) e128
      = k0_pay30 xs dte (k0_pay22 (k0_pay14 tri) (k0_pay15 dt bi al) (k0_pay17 dt bi al) (k0_pay18 dt bi al) e128 e128 e128) k0_pay23 (k0_pay24 (k0_pay14 tri) (k0_pay15 dt bi al) (k0_pay17 dt bi al) (k0_pay18 dt bi al) e128 e128 e128) (k0_pay25 (k0_pay14 tri) (k0_pay15 dt bi al) (k0_pay17 dt bi al) (k0_pay18 dt bi al) e128 e128 e128) (k0_pay26 (k0_pay14 tri) (k0_pay15 dt bi al) (k0_pay17 dt bi al) (k0_pay18 dt bi al) e128 e128 e128) := by
  sl_kernel_rfl

/-- Chunk 1's decays from the start: as chunk 0 computes them. -/
theorem inDecay_c1 (al : Vec Ideal S8x1 .f32) (bi : Vec Ideal S8x1 .f32) (dt : Vec Ideal S1x8x128 .f32) (e128 : Vec Ideal S16x1024 .bf16) (tri : Vec Ideal S128x128 .bf16) :
    k0_pay84 (k0_pay75 (k0_pay67 dt bi) al tri) (k0_pay76 (k0_pay67 dt bi) al tri e128) (k0_pay77 (k0_pay67 dt bi) al tri e128) e128
      = k0_pay31 (k0_pay22 (k0_pay14 tri) (k0_pay15 dt bi al) (k0_pay17 dt bi al) (k0_pay18 dt bi al) e128 e128 e128) k0_pay23 (k0_pay24 (k0_pay14 tri) (k0_pay15 dt bi al) (k0_pay17 dt bi al) (k0_pay18 dt bi al) e128 e128 e128) (k0_pay25 (k0_pay14 tri) (k0_pay15 dt bi al) (k0_pay17 dt bi al) (k0_pay18 dt bi al) e128 e128 e128) (k0_pay26 (k0_pay14 tri) (k0_pay15 dt bi al) (k0_pay17 dt bi al) (k0_pay18 dt bi al) e128 e128 e128) := by
  sl_kernel_rfl

/-- Chunk 1's decay over the chunk: as chunk 0 computes them. -/
theorem chunkDecay_c1 (al : Vec Ideal S8x1 .f32) (bi : Vec Ideal S8x1 .f32) (dt : Vec Ideal S1x8x128 .f32) (e128 : Vec Ideal S16x1024 .bf16) (tri : Vec Ideal S128x128 .bf16) :
    k0_pay85 (k0_pay75 (k0_pay67 dt bi) al tri) (k0_pay76 (k0_pay67 dt bi) al tri e128) (k0_pay77 (k0_pay67 dt bi) al tri e128) e128
      = k0_pay32 (k0_pay22 (k0_pay14 tri) (k0_pay15 dt bi al) (k0_pay17 dt bi al) (k0_pay18 dt bi al) e128 e128 e128) k0_pay23 (k0_pay24 (k0_pay14 tri) (k0_pay15 dt bi al) (k0_pay17 dt bi al) (k0_pay18 dt bi al) e128 e128 e128) (k0_pay25 (k0_pay14 tri) (k0_pay15 dt bi al) (k0_pay17 dt bi al) (k0_pay18 dt bi al) e128 e128 e128) (k0_pay26 (k0_pay14 tri) (k0_pay15 dt bi al) (k0_pay17 dt bi al) (k0_pay18 dt bi al) e128 e128 e128) := by
  sl_kernel_rfl

/-- Chunk 1's writing channels, narrowed: as chunk 0 computes them. -/
theorem bmb_c1 (bm : FVec Ideal S128x256 .f32) :
    k0_pay87 bm
      = k0_pay34 bm := by
  sl_kernel_rfl

/-- Chunk 1's reading channels, narrowed: as chunk 0 computes them. -/
theorem cmb_c1 (cm : FVec Ideal S128x256 .f32) :
    k0_pay88 cm
      = k0_pay35 cm := by
  sl_kernel_rfl

/-- Chunk 1's first products: as chunk 0 computes them. -/
theorem cb0_c1 (bm : FVec Ideal S128x256 .f32) (cm : FVec Ideal S128x256 .f32) :
    k0_pay91 bm cm
      = k0_pay38 bm cm := by
  sl_kernel_rfl

/-- Chunk 1's first share of the state: as chunk 0 computes them. -/
theorem off0_c1 (al : Vec Ideal S8x1 .f32) (bi : Vec Ideal S8x1 .f32) (cm : FVec Ideal S128x256 .f32) (dt : Vec Ideal S1x8x128 .f32) (e128 : Vec Ideal S16x1024 .bf16) (st0 : Vec Ideal S1x128x256 .f32) (tri : Vec Ideal S128x128 .bf16) :
    k0_pay93 cm (k0_pay75 (k0_pay67 dt bi) al tri) (k0_pay76 (k0_pay67 dt bi) al tri e128) (k0_pay77 (k0_pay67 dt bi) al tri e128) e128 st0
      = k0_pay40 cm (k0_pay22 (k0_pay14 tri) (k0_pay15 dt bi al) (k0_pay17 dt bi al) (k0_pay18 dt bi al) e128 e128 e128) k0_pay23 (k0_pay24 (k0_pay14 tri) (k0_pay15 dt bi al) (k0_pay17 dt bi al) (k0_pay18 dt bi al) e128 e128 e128) (k0_pay25 (k0_pay14 tri) (k0_pay15 dt bi al) (k0_pay17 dt bi al) (k0_pay18 dt bi al) e128 e128 e128) (k0_pay26 (k0_pay14 tri) (k0_pay15 dt bi al) (k0_pay17 dt bi al) (k0_pay18 dt bi al) e128 e128 e128) st0 := by
  sl_kernel_rfl

/-- Chunk 1's heads 0 and 1: as chunk 0 computes them. -/
theorem h0_c1 (acb : FVec Ideal S128x1024 .f32) (act : FVec Ideal S8x128 .f32) (bm : FVec Ideal S128x256 .f32) (cm : FVec Ideal S128x256 .f32) (off0 : FVec Ideal S128x256 .f32) (xdt : FVec Ideal S128x512 .f32) :
    k0_pay96 act acb k0_pay23 xdt k0_pay33 (k0_pay38 bm cm) off0
      = k0_pay45 k0_pay23 xdt k0_pay33 (k0_pay38 bm cm) off0 (k0_pay42 bm cm act acb) (k0_pay43 acb) (k0_pay44 act) := by
  sl_kernel_rfl

/-- Chunk 1's heads 2 and 3: as chunk 0 computes them. -/
theorem h1_c1 (acb : FVec Ideal S128x1024 .f32) (act : FVec Ideal S8x128 .f32) (cb0 : FVec Ideal S128x128 .f32) (off0 : FVec Ideal S128x256 .f32) (xdt : FVec Ideal S128x512 .f32) :
    k0_pay99 k0_pay23 xdt off0 (k0_pay97 act acb k0_pay33 cb0) (k0_pay98 act acb k0_pay33 cb0)
      = k0_pay46 act acb k0_pay23 xdt k0_pay33 cb0 off0 := by
  sl_kernel_rfl

/-- Chunk 1's second products: as chunk 0 computes them. -/
theorem cb1_c1 (bmb : FVec Ideal S128x256 .bf16) (cmb : FVec Ideal S128x256 .bf16) :
    k0_pay102 bmb cmb
      = k0_pay49 bmb cmb := by
  sl_kernel_rfl

/-- Chunk 1's second share of the state: as chunk 0 computes them. -/
theorem off1_c1 (cmb : FVec Ideal S128x256 .bf16) (inDecay : FVec Ideal S128x512 .f32) (st1 : Vec Ideal S1x128x256 .f32) :
    k0_pay104 inDecay cmb st1
      = k0_pay51 inDecay (k0_pay48 cmb) st1 := by
  sl_kernel_rfl

/-- Chunk 1's next state, first half: as chunk 0 computes them. -/
theorem nst0_c1 (al : Vec Ideal S8x1 .f32) (bi : Vec Ideal S8x1 .f32) (bm : FVec Ideal S128x256 .f32) (dt : Vec Ideal S1x8x128 .f32) (dte : FVec Ideal S128x512 .f32) (e128 : Vec Ideal S16x1024 .bf16) (st0 : Vec Ideal S1x128x256 .f32) (tri : Vec Ideal S128x128 .bf16) (xs : FVec Ideal S128x512 .f32) :
    k0_pay95 (k0_pay94 xs bm dte (k0_pay75 (k0_pay67 dt bi) al tri) (k0_pay76 (k0_pay67 dt bi) al tri e128) (k0_pay77 (k0_pay67 dt bi) al tri e128) e128 st0)
      = k0_pay41 xs bm dte (k0_pay22 (k0_pay14 tri) (k0_pay15 dt bi al) (k0_pay17 dt bi al) (k0_pay18 dt bi al) e128 e128 e128) k0_pay23 (k0_pay24 (k0_pay14 tri) (k0_pay15 dt bi al) (k0_pay17 dt bi al) (k0_pay18 dt bi al) e128 e128 e128) (k0_pay25 (k0_pay14 tri) (k0_pay15 dt bi al) (k0_pay17 dt bi al) (k0_pay18 dt bi al) e128 e128 e128) (k0_pay26 (k0_pay14 tri) (k0_pay15 dt bi al) (k0_pay17 dt bi al) (k0_pay18 dt bi al) e128 e128 e128) st0 := by
  sl_kernel_rfl

/-- Chunk 1's next state, second half: as chunk 0 computes them. -/
theorem nst1_c1 (bmb : FVec Ideal S128x256 .bf16) (chunkDecay : FVec Ideal S1x512 .f32) (st1 : Vec Ideal S1x128x256 .f32) (xdd : FVec Ideal S128x512 .bf16) :
    k0_pay105 xdd chunkDecay bmb st1
      = k0_pay52 xdd chunkDecay (k0_pay47 bmb) st1 := by
  sl_kernel_rfl

/-- Chunk 1's output: as chunk 0 computes them. -/
theorem y_c1 (acb : FVec Ideal S128x1024 .f32) (act : FVec Ideal S8x128 .f32) (bmb : FVec Ideal S128x256 .bf16) (cmb : FVec Ideal S128x256 .bf16) (dsk : Vec Ideal S1x512 .f32) (h0 : FVec Ideal S128x128 .f32) (h1 : FVec Ideal S128x128 .f32) (inDecay : FVec Ideal S128x512 .f32) (nw : Vec Ideal S1x512 .f32) (st1 : Vec Ideal S1x128x256 .f32) (xdt : FVec Ideal S128x512 .f32) (xs : FVec Ideal S128x512 .f32) (z : Vec Ideal S1x128x512 .bf16) :
    k0_pay109 (k0_pay108 xs act acb k0_pay23 xdt k0_pay33 h0 h1 (k0_pay49 bmb cmb) (k0_pay51 inDecay (k0_pay48 cmb) st1) (k0_pay106 act acb k0_pay33 bmb cmb) (k0_pay107 act acb k0_pay33) dsk) z nw
      = k0_pay59 (k0_pay56 xs act acb k0_pay23 xdt k0_pay33 h0 h1 (k0_pay49 bmb cmb) (k0_pay51 inDecay (k0_pay48 cmb) st1) (k0_pay53 act acb k0_pay23 xdt inDecay k0_pay33 (k0_pay48 cmb) (k0_pay49 bmb cmb) st1) (k0_pay54 acb) (k0_pay55 act) dsk z) (k0_pay57 xs act acb k0_pay23 xdt k0_pay33 h0 h1 (k0_pay49 bmb cmb) (k0_pay51 inDecay (k0_pay48 cmb) st1) (k0_pay53 act acb k0_pay23 xdt inDecay k0_pay33 (k0_pay48 cmb) (k0_pay49 bmb cmb) st1) (k0_pay54 acb) (k0_pay55 act) dsk z) (k0_pay58 xs act acb k0_pay23 xdt k0_pay33 h0 h1 (k0_pay49 bmb cmb) (k0_pay51 inDecay (k0_pay48 cmb) st1) (k0_pay53 act acb k0_pay23 xdt inDecay k0_pay33 (k0_pay48 cmb) (k0_pay49 bmb cmb) st1) (k0_pay54 acb) (k0_pay55 act) dsk z) nw := by
  sl_kernel_rfl

/-- Chunk 2's first channels: as chunk 0 computes them. -/
theorem xs_c2 (cb : Vec Ideal S1x1024 .f32) (e : Vec Ideal S144x1024 .bf16) (sh : Vec Ideal S384x144 .bf16) (w0 : Vec Ideal S1x1024 .f32) (w1 : Vec Ideal S1x1024 .f32) (w2 : Vec Ideal S1x1024 .f32) (w3 : Vec Ideal S1x1024 .f32) (x : Vec Ideal S128x1024 .bf16) :
    k0_pay111 sh e cb w3 x w0 w1 w2
      = k0_pay9 (k0_pay6 sh e) (k0_pay7 sh e cb w3 x w0 w1) w2 := by
  sl_kernel_rfl

/-- Chunk 2's writing channels: as chunk 0 computes them. -/
theorem bm_c2 (cb : Vec Ideal S1x1024 .f32) (e : Vec Ideal S144x1024 .bf16) (sh : Vec Ideal S384x144 .bf16) (w0 : Vec Ideal S1x1024 .f32) (w1 : Vec Ideal S1x1024 .f32) (w2 : Vec Ideal S1x1024 .f32) (w3 : Vec Ideal S1x1024 .f32) (x : Vec Ideal S128x1024 .bf16) :
    k0_pay112 sh e cb w3 x w0 w1 w2
      = k0_pay10 (k0_pay6 sh e) (k0_pay7 sh e cb w3 x w0 w1) w2 := by
  sl_kernel_rfl

/-- Chunk 2's reading channels: as chunk 0 computes them. -/
theorem cm_c2 (cb : Vec Ideal S1x1024 .f32) (e : Vec Ideal S144x1024 .bf16) (sh : Vec Ideal S384x144 .bf16) (w0 : Vec Ideal S1x1024 .f32) (w1 : Vec Ideal S1x1024 .f32) (w2 : Vec Ideal S1x1024 .f32) (w3 : Vec Ideal S1x1024 .f32) (x : Vec Ideal S128x1024 .bf16) :
    k0_pay113 sh e cb w3 x w0 w1 w2
      = k0_pay11 (k0_pay6 sh e) (k0_pay7 sh e cb w3 x w0 w1) w2 := by
  sl_kernel_rfl

/-- Chunk 2's running sums: as chunk 0 computes them. -/
theorem act_c2 (al : Vec Ideal S8x1 .f32) (bi : Vec Ideal S8x1 .f32) (dt : Vec Ideal S1x8x128 .f32) (tri : Vec Ideal S128x128 .bf16) :
    k0_pay116 (k0_pay114 dt) bi al tri
      = k0_pay19 (k0_pay14 tri) (k0_pay15 dt bi al) (k0_pay17 dt bi al) (k0_pay18 dt bi al) := by
  sl_kernel_rfl

/-- Chunk 2's step sizes, one per channel: as chunk 0 computes them. -/
theorem dte_c2 (bi : Vec Ideal S8x1 .f32) (dt : Vec Ideal S1x8x128 .f32) (e64 : Vec Ideal S16x512 .bf16) :
    k0_pay118 (k0_pay114 dt) bi e64
      = k0_pay21 (k0_pay12 dt bi) e64 := by
  sl_kernel_rfl

/-- Chunk 2's running sums, a lane block per head: as chunk 0 computes them. -/
theorem acb_c2 (al : Vec Ideal S8x1 .f32) (bi : Vec Ideal S8x1 .f32) (dt : Vec Ideal S1x8x128 .f32) (e128 : Vec Ideal S16x1024 .bf16) (tri : Vec Ideal S128x128 .bf16) :
    k0_pay122 (k0_pay120 (k0_pay114 dt) bi al tri) (k0_pay121 (k0_pay114 dt) bi al tri) e128 e128 e128
      = k0_pay22 (k0_pay14 tri) (k0_pay15 dt bi al) (k0_pay17 dt bi al) (k0_pay18 dt bi al) e128 e128 e128 := by
  sl_kernel_rfl

/-- Chunk 2's lane mask: as chunk 0 computes them. -/
theorem lt_c2 :
    k0_pay123
      = k0_pay23 := by
  sl_kernel_rfl

/-- Chunk 2's causal mask: as chunk 0 computes them. -/
theorem tr_c2 :
    k0_pay130
      = k0_pay33 := by
  sl_kernel_rfl

/-- Chunk 2's channels times step sizes: as chunk 0 computes them. -/
theorem xdt_c2 (dte : FVec Ideal S128x512 .f32) (xs : FVec Ideal S128x512 .f32) :
    k0_pay125 xs dte
      = k0_pay28 xs dte := by
  sl_kernel_rfl

/-- Chunk 2's channels decayed to the end: as chunk 0 computes them. -/
theorem xdd_c2 (al : Vec Ideal S8x1 .f32) (bi : Vec Ideal S8x1 .f32) (dt : Vec Ideal S1x8x128 .f32) (dte : FVec Ideal S128x512 .f32) (e128 : Vec Ideal S16x1024 .bf16) (tri : Vec Ideal S128x128 .bf16) (xs : FVec Ideal S128x512 .f32) :
    k0_pay127 xs dte (k0_pay120 (k0_pay114 dt) bi al tri) (k0_pay121 (k0_pay114 dt) bi al tri) e128 e128 e128
      = k0_pay30 xs dte (k0_pay22 (k0_pay14 tri) (k0_pay15 dt bi al) (k0_pay17 dt bi al) (k0_pay18 dt bi al) e128 e128 e128) k0_pay23 (k0_pay24 (k0_pay14 tri) (k0_pay15 dt bi al) (k0_pay17 dt bi al) (k0_pay18 dt bi al) e128 e128 e128) (k0_pay25 (k0_pay14 tri) (k0_pay15 dt bi al) (k0_pay17 dt bi al) (k0_pay18 dt bi al) e128 e128 e128) (k0_pay26 (k0_pay14 tri) (k0_pay15 dt bi al) (k0_pay17 dt bi al) (k0_pay18 dt bi al) e128 e128 e128) := by
  sl_kernel_rfl

/-- Chunk 2's decays from the start: as chunk 0 computes them. -/
theorem inDecay_c2 (al : Vec Ideal S8x1 .f32) (bi : Vec Ideal S8x1 .f32) (dt : Vec Ideal S1x8x128 .f32) (e128 : Vec Ideal S16x1024 .bf16) (tri : Vec Ideal S128x128 .bf16) :
    k0_pay128 (k0_pay120 (k0_pay114 dt) bi al tri) (k0_pay121 (k0_pay114 dt) bi al tri) e128 e128 e128
      = k0_pay31 (k0_pay22 (k0_pay14 tri) (k0_pay15 dt bi al) (k0_pay17 dt bi al) (k0_pay18 dt bi al) e128 e128 e128) k0_pay23 (k0_pay24 (k0_pay14 tri) (k0_pay15 dt bi al) (k0_pay17 dt bi al) (k0_pay18 dt bi al) e128 e128 e128) (k0_pay25 (k0_pay14 tri) (k0_pay15 dt bi al) (k0_pay17 dt bi al) (k0_pay18 dt bi al) e128 e128 e128) (k0_pay26 (k0_pay14 tri) (k0_pay15 dt bi al) (k0_pay17 dt bi al) (k0_pay18 dt bi al) e128 e128 e128) := by
  sl_kernel_rfl

/-- Chunk 2's decay over the chunk: as chunk 0 computes them. -/
theorem chunkDecay_c2 (al : Vec Ideal S8x1 .f32) (bi : Vec Ideal S8x1 .f32) (dt : Vec Ideal S1x8x128 .f32) (e128 : Vec Ideal S16x1024 .bf16) (tri : Vec Ideal S128x128 .bf16) :
    k0_pay129 (k0_pay120 (k0_pay114 dt) bi al tri) (k0_pay121 (k0_pay114 dt) bi al tri) e128 e128 e128
      = k0_pay32 (k0_pay22 (k0_pay14 tri) (k0_pay15 dt bi al) (k0_pay17 dt bi al) (k0_pay18 dt bi al) e128 e128 e128) k0_pay23 (k0_pay24 (k0_pay14 tri) (k0_pay15 dt bi al) (k0_pay17 dt bi al) (k0_pay18 dt bi al) e128 e128 e128) (k0_pay25 (k0_pay14 tri) (k0_pay15 dt bi al) (k0_pay17 dt bi al) (k0_pay18 dt bi al) e128 e128 e128) (k0_pay26 (k0_pay14 tri) (k0_pay15 dt bi al) (k0_pay17 dt bi al) (k0_pay18 dt bi al) e128 e128 e128) := by
  sl_kernel_rfl

/-- Chunk 2's writing channels, narrowed: as chunk 0 computes them. -/
theorem bmb_c2 (bm : FVec Ideal S128x256 .f32) :
    k0_pay131 bm
      = k0_pay34 bm := by
  sl_kernel_rfl

/-- Chunk 2's reading channels, narrowed: as chunk 0 computes them. -/
theorem cmb_c2 (cm : FVec Ideal S128x256 .f32) :
    k0_pay132 cm
      = k0_pay35 cm := by
  sl_kernel_rfl

/-- Chunk 2's first products: as chunk 0 computes them. -/
theorem cb0_c2 (bm : FVec Ideal S128x256 .f32) (cm : FVec Ideal S128x256 .f32) :
    k0_pay135 (k0_pay133 bm) (k0_pay134 cm)
      = k0_pay38 bm cm := by
  sl_kernel_rfl

/-- Chunk 2's first share of the state: as chunk 0 computes them. -/
theorem off0_c2 (al : Vec Ideal S8x1 .f32) (bi : Vec Ideal S8x1 .f32) (cm : FVec Ideal S128x256 .f32) (dt : Vec Ideal S1x8x128 .f32) (e128 : Vec Ideal S16x1024 .bf16) (st0 : Vec Ideal S1x128x256 .f32) (tri : Vec Ideal S128x128 .bf16) :
    k0_pay137 (k0_pay31 (k0_pay22 (k0_pay14 tri) (k0_pay15 dt bi al) (k0_pay17 dt bi al) (k0_pay18 dt bi al) e128 e128 e128) k0_pay23 (k0_pay24 (k0_pay14 tri) (k0_pay15 dt bi al) (k0_pay17 dt bi al) (k0_pay18 dt bi al) e128 e128 e128) (k0_pay25 (k0_pay14 tri) (k0_pay15 dt bi al) (k0_pay17 dt bi al) (k0_pay18 dt bi al) e128 e128 e128) (k0_pay26 (k0_pay14 tri) (k0_pay15 dt bi al) (k0_pay17 dt bi al) (k0_pay18 dt bi al) e128 e128 e128)) (k0_pay134 cm) st0
      = k0_pay40 cm (k0_pay22 (k0_pay14 tri) (k0_pay15 dt bi al) (k0_pay17 dt bi al) (k0_pay18 dt bi al) e128 e128 e128) k0_pay23 (k0_pay24 (k0_pay14 tri) (k0_pay15 dt bi al) (k0_pay17 dt bi al) (k0_pay18 dt bi al) e128 e128 e128) (k0_pay25 (k0_pay14 tri) (k0_pay15 dt bi al) (k0_pay17 dt bi al) (k0_pay18 dt bi al) e128 e128 e128) (k0_pay26 (k0_pay14 tri) (k0_pay15 dt bi al) (k0_pay17 dt bi al) (k0_pay18 dt bi al) e128 e128 e128) st0 := by
  sl_kernel_rfl

/-- Chunk 2's heads 0 and 1: as chunk 0 computes them. -/
theorem h0_c2 (acb : FVec Ideal S128x1024 .f32) (act : FVec Ideal S8x128 .f32) (bm : FVec Ideal S128x256 .f32) (cm : FVec Ideal S128x256 .f32) (l0 : FVec Ideal S128x128 .f32) (l1 : FVec Ideal S128x128 .f32) (l2 : FVec Ideal S128x128 .f32) (st0 : Vec Ideal S1x128x256 .f32) (xdt : FVec Ideal S128x512 .f32) :
    k0_pay139 act acb k0_pay23 xdt (k0_pay31 acb k0_pay23 l0 l1 l2) k0_pay33 (k0_pay133 bm) (k0_pay134 cm) st0
      = k0_pay45 k0_pay23 xdt k0_pay33 (k0_pay38 bm cm) (k0_pay40 cm acb k0_pay23 l0 l1 l2 st0) (k0_pay42 bm cm act acb) (k0_pay43 acb) (k0_pay44 act) := by
  sl_kernel_rfl

/-- Chunk 2's heads 2 and 3: as chunk 0 computes them. -/
theorem h1_c2 (acb : FVec Ideal S128x1024 .f32) (act : FVec Ideal S8x128 .f32) (cb0 : FVec Ideal S128x128 .f32) (off0 : FVec Ideal S128x256 .f32) (xdt : FVec Ideal S128x512 .f32) :
    k0_pay140 act acb k0_pay23 xdt k0_pay33 cb0 off0
      = k0_pay46 act acb k0_pay23 xdt k0_pay33 cb0 off0 := by
  sl_kernel_rfl

/-- Chunk 2's second products: as chunk 0 computes them. -/
theorem cb1_c2 (bmb : FVec Ideal S128x256 .bf16) (cmb : FVec Ideal S128x256 .bf16) :
    k0_pay143 bmb cmb
      = k0_pay49 bmb cmb := by
  sl_kernel_rfl

/-- Chunk 2's second share of the state: as chunk 0 computes them. -/
theorem off1_c2 (cmb : FVec Ideal S128x256 .bf16) (inDecay : FVec Ideal S128x512 .f32) (st1 : Vec Ideal S1x128x256 .f32) :
    k0_pay145 inDecay cmb st1
      = k0_pay51 inDecay (k0_pay48 cmb) st1 := by
  sl_kernel_rfl

/-- Chunk 2's heads 4 and 5: as chunk 0 computes them. -/
theorem h2_c2 (acb : FVec Ideal S128x1024 .f32) (act : FVec Ideal S8x128 .f32) (cb1 : FVec Ideal S128x128 .f32) (cm : FVec Ideal S128x256 .f32) (l0 : FVec Ideal S128x128 .f32) (l1 : FVec Ideal S128x128 .f32) (l2 : FVec Ideal S128x128 .f32) (st1 : Vec Ideal S1x128x256 .f32) (xdt : FVec Ideal S128x512 .f32) :
    k0_pay148 act acb k0_pay23 xdt k0_pay33 cb1 (k0_pay51 (k0_pay31 acb k0_pay23 l0 l1 l2) (k0_pay48 (k0_pay35 cm)) st1)
      = k0_pay53 act acb k0_pay23 xdt (k0_pay31 acb k0_pay23 l0 l1 l2) k0_pay33 (k0_pay48 (k0_pay35 cm)) cb1 st1 := by
  sl_kernel_rfl

/-- Chunk 2's next state, first half: as chunk 0 computes them. -/
theorem nst0_c2 (al : Vec Ideal S8x1 .f32) (bi : Vec Ideal S8x1 .f32) (bm : FVec Ideal S128x256 .f32) (cb : Vec Ideal S1x1024 .f32) (dt : Vec Ideal S1x8x128 .f32) (e : Vec Ideal S144x1024 .bf16) (e128 : Vec Ideal S16x1024 .bf16) (e64 : Vec Ideal S16x512 .bf16) (sh : Vec Ideal S384x144 .bf16) (st0 : Vec Ideal S1x128x256 .f32) (tri : Vec Ideal S128x128 .bf16) (w0 : Vec Ideal S1x1024 .f32) (w1 : Vec Ideal S1x1024 .f32) (w2 : Vec Ideal S1x1024 .f32) (w3 : Vec Ideal S1x1024 .f32) (x : Vec Ideal S128x1024 .bf16) :
    k0_pay138 (k0_pay30 (k0_pay9 (k0_pay6 sh e) (k0_pay7 sh e cb w3 x w0 w1) w2) (k0_pay21 (k0_pay12 dt bi) e64) (k0_pay22 (k0_pay14 tri) (k0_pay15 dt bi al) (k0_pay17 dt bi al) (k0_pay18 dt bi al) e128 e128 e128) k0_pay23 (k0_pay24 (k0_pay14 tri) (k0_pay15 dt bi al) (k0_pay17 dt bi al) (k0_pay18 dt bi al) e128 e128 e128) (k0_pay25 (k0_pay14 tri) (k0_pay15 dt bi al) (k0_pay17 dt bi al) (k0_pay18 dt bi al) e128 e128 e128) (k0_pay26 (k0_pay14 tri) (k0_pay15 dt bi al) (k0_pay17 dt bi al) (k0_pay18 dt bi al) e128 e128 e128)) (k0_pay32 (k0_pay22 (k0_pay14 tri) (k0_pay15 dt bi al) (k0_pay17 dt bi al) (k0_pay18 dt bi al) e128 e128 e128) k0_pay23 (k0_pay24 (k0_pay14 tri) (k0_pay15 dt bi al) (k0_pay17 dt bi al) (k0_pay18 dt bi al) e128 e128 e128) (k0_pay25 (k0_pay14 tri) (k0_pay15 dt bi al) (k0_pay17 dt bi al) (k0_pay18 dt bi al) e128 e128 e128) (k0_pay26 (k0_pay14 tri) (k0_pay15 dt bi al) (k0_pay17 dt bi al) (k0_pay18 dt bi al) e128 e128 e128)) (k0_pay133 bm) st0
      = k0_pay41 (k0_pay9 (k0_pay6 sh e) (k0_pay7 sh e cb w3 x w0 w1) w2) bm (k0_pay21 (k0_pay12 dt bi) e64) (k0_pay22 (k0_pay14 tri) (k0_pay15 dt bi al) (k0_pay17 dt bi al) (k0_pay18 dt bi al) e128 e128 e128) k0_pay23 (k0_pay24 (k0_pay14 tri) (k0_pay15 dt bi al) (k0_pay17 dt bi al) (k0_pay18 dt bi al) e128 e128 e128) (k0_pay25 (k0_pay14 tri) (k0_pay15 dt bi al) (k0_pay17 dt bi al) (k0_pay18 dt bi al) e128 e128 e128) (k0_pay26 (k0_pay14 tri) (k0_pay15 dt bi al) (k0_pay17 dt bi al) (k0_pay18 dt bi al) e128 e128 e128) st0 := by
  sl_kernel_rfl

/-- Chunk 2's next state, second half: as chunk 0 computes them. -/
theorem nst1_c2 (bmb : FVec Ideal S128x256 .bf16) (chunkDecay : FVec Ideal S1x512 .f32) (st1 : Vec Ideal S1x128x256 .f32) (xdd : FVec Ideal S128x512 .bf16) :
    k0_pay147 (k0_pay146 xdd chunkDecay bmb st1)
      = k0_pay52 xdd chunkDecay (k0_pay47 bmb) st1 := by
  sl_kernel_rfl

/-- Chunk 2's output: as chunk 0 computes them. -/
theorem y_c2 (acb : FVec Ideal S128x1024 .f32) (act : FVec Ideal S8x128 .f32) (cb1 : FVec Ideal S128x128 .f32) (dsk : Vec Ideal S1x512 .f32) (h0 : FVec Ideal S128x128 .f32) (h1 : FVec Ideal S128x128 .f32) (h2 : FVec Ideal S128x128 .f32) (nw : Vec Ideal S1x512 .f32) (off1 : FVec Ideal S128x256 .f32) (xdt : FVec Ideal S128x512 .f32) (xs : FVec Ideal S128x512 .f32) (z : Vec Ideal S1x128x512 .bf16) :
    k0_pay156 (k0_pay153 xs k0_pay23 h0 h1 off1 h2 (k0_pay149 act acb k0_pay33 cb1) (k0_pay150 xdt) (k0_pay151 (F := Ideal)) dsk z) (k0_pay154 xs k0_pay23 h0 h1 off1 h2 (k0_pay149 act acb k0_pay33 cb1) (k0_pay150 xdt) (k0_pay151 (F := Ideal)) dsk z) (k0_pay155 xs k0_pay23 h0 h1 off1 h2 (k0_pay149 act acb k0_pay33 cb1) (k0_pay150 xdt) (k0_pay151 (F := Ideal)) dsk z) nw
      = k0_pay59 (k0_pay56 xs act acb k0_pay23 xdt k0_pay33 h0 h1 cb1 off1 h2 (k0_pay54 acb) (k0_pay55 act) dsk z) (k0_pay57 xs act acb k0_pay23 xdt k0_pay33 h0 h1 cb1 off1 h2 (k0_pay54 acb) (k0_pay55 act) dsk z) (k0_pay58 xs act acb k0_pay23 xdt k0_pay33 h0 h1 cb1 off1 h2 (k0_pay54 acb) (k0_pay55 act) dsk z) nw := by
  sl_kernel_rfl

/-- Chunk 3's first channels: as chunk 0 computes them. -/
theorem xs_c3 (cb : Vec Ideal S1x1024 .f32) (e : Vec Ideal S144x1024 .bf16) (sh : Vec Ideal S384x144 .bf16) (w0 : Vec Ideal S1x1024 .f32) (w1 : Vec Ideal S1x1024 .f32) (w2 : Vec Ideal S1x1024 .f32) (w3 : Vec Ideal S1x1024 .f32) (x : Vec Ideal S128x1024 .bf16) :
    k0_pay161 (k0_pay158 sh e cb w3 x w0 w1) (k0_pay159 sh e w2)
      = k0_pay9 (k0_pay6 sh e) (k0_pay7 sh e cb w3 x w0 w1) w2 := by
  sl_kernel_rfl

/-- Chunk 3's writing channels: as chunk 0 computes them. -/
theorem bm_c3 (cb : Vec Ideal S1x1024 .f32) (e : Vec Ideal S144x1024 .bf16) (sh : Vec Ideal S384x144 .bf16) (w0 : Vec Ideal S1x1024 .f32) (w1 : Vec Ideal S1x1024 .f32) (w2 : Vec Ideal S1x1024 .f32) (w3 : Vec Ideal S1x1024 .f32) (x : Vec Ideal S128x1024 .bf16) :
    k0_pay162 (k0_pay158 sh e cb w3 x w0 w1) (k0_pay159 sh e w2)
      = k0_pay10 (k0_pay6 sh e) (k0_pay7 sh e cb w3 x w0 w1) w2 := by
  sl_kernel_rfl

/-- Chunk 3's reading channels: as chunk 0 computes them. -/
theorem cm_c3 (cb : Vec Ideal S1x1024 .f32) (e : Vec Ideal S144x1024 .bf16) (sh : Vec Ideal S384x144 .bf16) (w0 : Vec Ideal S1x1024 .f32) (w1 : Vec Ideal S1x1024 .f32) (w2 : Vec Ideal S1x1024 .f32) (w3 : Vec Ideal S1x1024 .f32) (x : Vec Ideal S128x1024 .bf16) :
    k0_pay163 (k0_pay158 sh e cb w3 x w0 w1) (k0_pay159 sh e w2)
      = k0_pay11 (k0_pay6 sh e) (k0_pay7 sh e cb w3 x w0 w1) w2 := by
  sl_kernel_rfl

/-- Chunk 3's running sums: as chunk 0 computes them. -/
theorem act_c3 (al : Vec Ideal S8x1 .f32) (bi : Vec Ideal S8x1 .f32) (dt : Vec Ideal S1x8x128 .f32) (tri : Vec Ideal S128x128 .bf16) :
    k0_pay172 (k0_pay166 tri) (k0_pay169 dt bi al) (k0_pay170 dt bi al) (k0_pay171 dt bi al tri) (constant (F := Ideal) S8x128 .f32 0x00000000#32)
      = k0_pay19 (k0_pay14 tri) (k0_pay15 dt bi al) (k0_pay17 dt bi al) (k0_pay18 dt bi al) := by
  sl_kernel_rfl

/-- Chunk 3's step sizes, one per channel: as chunk 0 computes them. -/
theorem dte_c3 (bi : Vec Ideal S8x1 .f32) (dt : Vec Ideal S1x8x128 .f32) (e64 : Vec Ideal S16x512 .bf16) :
    k0_pay174 (k0_pay164 dt bi) e64
      = k0_pay21 (k0_pay12 dt bi) e64 := by
  sl_kernel_rfl

/-- Chunk 3's running sums, a lane block per head: as chunk 0 computes them. -/
theorem acb_c3 (al : Vec Ideal S8x1 .f32) (bi : Vec Ideal S8x1 .f32) (dt : Vec Ideal S1x8x128 .f32) (e128 : Vec Ideal S16x1024 .bf16) (tri : Vec Ideal S128x128 .bf16) :
    k0_pay175 (k0_pay166 tri) (k0_pay169 dt bi al) (k0_pay170 dt bi al) (k0_pay171 dt bi al tri) (constant (F := Ideal) S8x128 .f32 0x00000000#32) e128 e128 e128
      = k0_pay22 (k0_pay14 tri) (k0_pay15 dt bi al) (k0_pay17 dt bi al) (k0_pay18 dt bi al) e128 e128 e128 := by
  sl_kernel_rfl

/-- Chunk 3's lane mask: as chunk 0 computes them. -/
theorem lt_c3 :
    k0_pay176
      = k0_pay23 := by
  sl_kernel_rfl

/-- Chunk 3's causal mask: as chunk 0 computes them. -/
theorem tr_c3 :
    k0_pay187
      = k0_pay33 := by
  sl_kernel_rfl

/-- Chunk 3's running sums of heads 0 and 1: as chunk 0 computes them. -/
theorem l0_c3 (al : Vec Ideal S8x1 .f32) (bi : Vec Ideal S8x1 .f32) (dt : Vec Ideal S1x8x128 .f32) (e128 : Vec Ideal S16x1024 .bf16) (tri : Vec Ideal S128x128 .bf16) :
    k0_pay177 (k0_pay166 tri) (k0_pay169 dt bi al) (k0_pay170 dt bi al) (k0_pay171 dt bi al tri) (constant (F := Ideal) S8x128 .f32 0x00000000#32) e128 e128 e128
      = k0_pay24 (k0_pay14 tri) (k0_pay15 dt bi al) (k0_pay17 dt bi al) (k0_pay18 dt bi al) e128 e128 e128 := by
  sl_kernel_rfl

/-- Chunk 3's running sums of heads 2 and 3: as chunk 0 computes them. -/
theorem l1_c3 (al : Vec Ideal S8x1 .f32) (bi : Vec Ideal S8x1 .f32) (dt : Vec Ideal S1x8x128 .f32) (e128 : Vec Ideal S16x1024 .bf16) (tri : Vec Ideal S128x128 .bf16) :
    k0_pay178 (k0_pay166 tri) (k0_pay169 dt bi al) (k0_pay170 dt bi al) (k0_pay171 dt bi al tri) (constant (F := Ideal) S8x128 .f32 0x00000000#32) e128 e128 e128
      = k0_pay25 (k0_pay14 tri) (k0_pay15 dt bi al) (k0_pay17 dt bi al) (k0_pay18 dt bi al) e128 e128 e128 := by
  sl_kernel_rfl

/-- Chunk 3's channels times step sizes: as chunk 0 computes them. -/
theorem xdt_c3 (dte : FVec Ideal S128x512 .f32) (xs : FVec Ideal S128x512 .f32) :
    k0_pay182 xs dte
      = k0_pay28 xs dte := by
  sl_kernel_rfl

/-- Chunk 3's channels decayed to the end: as chunk 0 computes them. -/
theorem xdd_c3 (al : Vec Ideal S8x1 .f32) (bi : Vec Ideal S8x1 .f32) (dt : Vec Ideal S1x8x128 .f32) (dte : FVec Ideal S128x512 .f32) (e128 : Vec Ideal S16x1024 .bf16) (l0 : FVec Ideal S128x128 .f32) (l1 : FVec Ideal S128x128 .f32) (tri : Vec Ideal S128x128 .bf16) (xs : FVec Ideal S128x512 .f32) :
    k0_pay184 xs dte (k0_pay22 (k0_pay14 tri) (k0_pay15 dt bi al) (k0_pay17 dt bi al) (k0_pay18 dt bi al) e128 e128 e128) k0_pay23 l0 l1 (k0_pay179 (k0_pay166 tri) (k0_pay169 dt bi al) (k0_pay170 dt bi al) (k0_pay171 dt bi al tri) (constant (F := Ideal) S8x128 .f32 0x00000000#32) e128 e128 e128) (k0_pay180 (k0_pay166 tri) (k0_pay169 dt bi al) (k0_pay170 dt bi al) (k0_pay171 dt bi al tri) (constant (F := Ideal) S8x128 .f32 0x00000000#32) e128 e128 e128)
      = k0_pay30 xs dte (k0_pay22 (k0_pay14 tri) (k0_pay15 dt bi al) (k0_pay17 dt bi al) (k0_pay18 dt bi al) e128 e128 e128) k0_pay23 l0 l1 (k0_pay26 (k0_pay14 tri) (k0_pay15 dt bi al) (k0_pay17 dt bi al) (k0_pay18 dt bi al) e128 e128 e128) := by
  sl_kernel_rfl

/-- Chunk 3's decays from the start: as chunk 0 computes them. -/
theorem inDecay_c3 (al : Vec Ideal S8x1 .f32) (bi : Vec Ideal S8x1 .f32) (dt : Vec Ideal S1x8x128 .f32) (e128 : Vec Ideal S16x1024 .bf16) (l0 : FVec Ideal S128x128 .f32) (l1 : FVec Ideal S128x128 .f32) (tri : Vec Ideal S128x128 .bf16) :
    k0_pay185 (k0_pay22 (k0_pay14 tri) (k0_pay15 dt bi al) (k0_pay17 dt bi al) (k0_pay18 dt bi al) e128 e128 e128) k0_pay23 l0 l1 (k0_pay179 (k0_pay166 tri) (k0_pay169 dt bi al) (k0_pay170 dt bi al) (k0_pay171 dt bi al tri) (constant (F := Ideal) S8x128 .f32 0x00000000#32) e128 e128 e128) (k0_pay180 (k0_pay166 tri) (k0_pay169 dt bi al) (k0_pay170 dt bi al) (k0_pay171 dt bi al tri) (constant (F := Ideal) S8x128 .f32 0x00000000#32) e128 e128 e128)
      = k0_pay31 (k0_pay22 (k0_pay14 tri) (k0_pay15 dt bi al) (k0_pay17 dt bi al) (k0_pay18 dt bi al) e128 e128 e128) k0_pay23 l0 l1 (k0_pay26 (k0_pay14 tri) (k0_pay15 dt bi al) (k0_pay17 dt bi al) (k0_pay18 dt bi al) e128 e128 e128) := by
  sl_kernel_rfl

/-- Chunk 3's decay over the chunk: as chunk 0 computes them. -/
theorem chunkDecay_c3 (al : Vec Ideal S8x1 .f32) (bi : Vec Ideal S8x1 .f32) (dt : Vec Ideal S1x8x128 .f32) (e128 : Vec Ideal S16x1024 .bf16) (l0 : FVec Ideal S128x128 .f32) (l1 : FVec Ideal S128x128 .f32) (tri : Vec Ideal S128x128 .bf16) :
    k0_pay186 (k0_pay22 (k0_pay14 tri) (k0_pay15 dt bi al) (k0_pay17 dt bi al) (k0_pay18 dt bi al) e128 e128 e128) k0_pay23 l0 l1 (k0_pay179 (k0_pay166 tri) (k0_pay169 dt bi al) (k0_pay170 dt bi al) (k0_pay171 dt bi al tri) (constant (F := Ideal) S8x128 .f32 0x00000000#32) e128 e128 e128) (k0_pay180 (k0_pay166 tri) (k0_pay169 dt bi al) (k0_pay170 dt bi al) (k0_pay171 dt bi al tri) (constant (F := Ideal) S8x128 .f32 0x00000000#32) e128 e128 e128)
      = k0_pay32 (k0_pay22 (k0_pay14 tri) (k0_pay15 dt bi al) (k0_pay17 dt bi al) (k0_pay18 dt bi al) e128 e128 e128) k0_pay23 l0 l1 (k0_pay26 (k0_pay14 tri) (k0_pay15 dt bi al) (k0_pay17 dt bi al) (k0_pay18 dt bi al) e128 e128 e128) := by
  sl_kernel_rfl

/-- Chunk 3's writing channels, narrowed: as chunk 0 computes them. -/
theorem bmb_c3 (bm : FVec Ideal S128x256 .f32) :
    k0_pay188 bm
      = k0_pay34 bm := by
  sl_kernel_rfl

/-- Chunk 3's reading channels, narrowed: as chunk 0 computes them. -/
theorem cmb_c3 (cm : FVec Ideal S128x256 .f32) :
    k0_pay189 cm
      = k0_pay35 cm := by
  sl_kernel_rfl

/-- Chunk 3's first products: as chunk 0 computes them. -/
theorem cb0_c3 (bm : FVec Ideal S128x256 .f32) (cm : FVec Ideal S128x256 .f32) :
    k0_pay192 bm cm
      = k0_pay38 bm cm := by
  sl_kernel_rfl

/-- Chunk 3's first share of the state: as chunk 0 computes them. -/
theorem off0_c3 (al : Vec Ideal S8x1 .f32) (bi : Vec Ideal S8x1 .f32) (cm : FVec Ideal S128x256 .f32) (dt : Vec Ideal S1x8x128 .f32) (e128 : Vec Ideal S16x1024 .bf16) (l0 : FVec Ideal S128x128 .f32) (l1 : FVec Ideal S128x128 .f32) (st0 : Vec Ideal S1x128x256 .f32) (tri : Vec Ideal S128x128 .bf16) :
    k0_pay194 cm (k0_pay22 (k0_pay14 tri) (k0_pay15 dt bi al) (k0_pay17 dt bi al) (k0_pay18 dt bi al) e128 e128 e128) k0_pay23 l0 l1 (k0_pay179 (k0_pay166 tri) (k0_pay169 dt bi al) (k0_pay170 dt bi al) (k0_pay171 dt bi al tri) (constant (F := Ideal) S8x128 .f32 0x00000000#32) e128 e128 e128) (k0_pay180 (k0_pay166 tri) (k0_pay169 dt bi al) (k0_pay170 dt bi al) (k0_pay171 dt bi al tri) (constant (F := Ideal) S8x128 .f32 0x00000000#32) e128 e128 e128) st0
      = k0_pay40 cm (k0_pay22 (k0_pay14 tri) (k0_pay15 dt bi al) (k0_pay17 dt bi al) (k0_pay18 dt bi al) e128 e128 e128) k0_pay23 l0 l1 (k0_pay26 (k0_pay14 tri) (k0_pay15 dt bi al) (k0_pay17 dt bi al) (k0_pay18 dt bi al) e128 e128 e128) st0 := by
  sl_kernel_rfl

/-- Chunk 3's heads 0 and 1: as chunk 0 computes them. -/
theorem h0_c3 (acb : FVec Ideal S128x1024 .f32) (act : FVec Ideal S8x128 .f32) (bm : FVec Ideal S128x256 .f32) (cb0 : FVec Ideal S128x128 .f32) (cm : FVec Ideal S128x256 .f32) (off0 : FVec Ideal S128x256 .f32) (xdt : FVec Ideal S128x512 .f32) :
    k0_pay198 k0_pay23 xdt k0_pay33 cb0 off0 (k0_pay196 bm cm act acb) (k0_pay197 act acb) (Scalar.ofBits (F := Ideal) .f32 0xFF800000#32)
      = k0_pay45 k0_pay23 xdt k0_pay33 cb0 off0 (k0_pay42 bm cm act acb) (k0_pay43 acb) (k0_pay44 act) := by
  sl_kernel_rfl

/-- Chunk 3's heads 2 and 3: as chunk 0 computes them. -/
theorem h1_c3 (acb : FVec Ideal S128x1024 .f32) (act : FVec Ideal S8x128 .f32) (cb0 : FVec Ideal S128x128 .f32) (off0 : FVec Ideal S128x256 .f32) (xdt : FVec Ideal S128x512 .f32) :
    k0_pay199 act acb k0_pay23 xdt k0_pay33 cb0 off0
      = k0_pay46 act acb k0_pay23 xdt k0_pay33 cb0 off0 := by
  sl_kernel_rfl

/-- Chunk 3's second products: as chunk 0 computes them. -/
theorem cb1_c3 (bmb : FVec Ideal S128x256 .bf16) (cmb : FVec Ideal S128x256 .bf16) :
    k0_pay202 bmb cmb
      = k0_pay49 bmb cmb := by
  sl_kernel_rfl

/-- Chunk 3's second share of the state: as chunk 0 computes them. -/
theorem off1_c3 (cmb : FVec Ideal S128x256 .bf16) (inDecay : FVec Ideal S128x512 .f32) (st1 : Vec Ideal S1x128x256 .f32) :
    k0_pay204 inDecay (k0_pay201 cmb) st1
      = k0_pay51 inDecay (k0_pay48 cmb) st1 := by
  sl_kernel_rfl

/-- Chunk 3's heads 4 and 5: as chunk 0 computes them. -/
theorem h2_c3 (acb : FVec Ideal S128x1024 .f32) (act : FVec Ideal S8x128 .f32) (cb1 : FVec Ideal S128x128 .f32) (cmb : FVec Ideal S128x256 .bf16) (inDecay : FVec Ideal S128x512 .f32) (st1 : Vec Ideal S1x128x256 .f32) (xdt : FVec Ideal S128x512 .f32) :
    k0_pay206 act acb k0_pay23 xdt inDecay k0_pay33 (k0_pay201 cmb) cb1 st1
      = k0_pay53 act acb k0_pay23 xdt inDecay k0_pay33 (k0_pay48 cmb) cb1 st1 := by
  sl_kernel_rfl

/-- Chunk 3's next state, first half: as chunk 0 computes them. -/
theorem nst0_c3 (al : Vec Ideal S8x1 .f32) (bi : Vec Ideal S8x1 .f32) (bm : FVec Ideal S128x256 .f32) (dt : Vec Ideal S1x8x128 .f32) (dte : FVec Ideal S128x512 .f32) (e128 : Vec Ideal S16x1024 .bf16) (l0 : FVec Ideal S128x128 .f32) (l1 : FVec Ideal S128x128 .f32) (st0 : Vec Ideal S1x128x256 .f32) (tri : Vec Ideal S128x128 .bf16) (xs : FVec Ideal S128x512 .f32) :
    k0_pay195 xs bm dte (k0_pay22 (k0_pay14 tri) (k0_pay15 dt bi al) (k0_pay17 dt bi al) (k0_pay18 dt bi al) e128 e128 e128) k0_pay23 l0 l1 (k0_pay179 (k0_pay166 tri) (k0_pay169 dt bi al) (k0_pay170 dt bi al) (k0_pay171 dt bi al tri) (constant (F := Ideal) S8x128 .f32 0x00000000#32) e128 e128 e128) (k0_pay180 (k0_pay166 tri) (k0_pay169 dt bi al) (k0_pay170 dt bi al) (k0_pay171 dt bi al tri) (constant (F := Ideal) S8x128 .f32 0x00000000#32) e128 e128 e128) st0
      = k0_pay41 xs bm dte (k0_pay22 (k0_pay14 tri) (k0_pay15 dt bi al) (k0_pay17 dt bi al) (k0_pay18 dt bi al) e128 e128 e128) k0_pay23 l0 l1 (k0_pay26 (k0_pay14 tri) (k0_pay15 dt bi al) (k0_pay17 dt bi al) (k0_pay18 dt bi al) e128 e128 e128) st0 := by
  sl_kernel_rfl

/-- Chunk 3's next state, second half: as chunk 0 computes them. -/
theorem nst1_c3 (bmb : FVec Ideal S128x256 .bf16) (chunkDecay : FVec Ideal S1x512 .f32) (st1 : Vec Ideal S1x128x256 .f32) (xdd : FVec Ideal S128x512 .bf16) :
    k0_pay205 xdd chunkDecay (k0_pay200 bmb) st1
      = k0_pay52 xdd chunkDecay (k0_pay47 bmb) st1 := by
  sl_kernel_rfl

/-- Chunk 3's output: as chunk 0 computes them. -/
theorem y_c3 (acb : FVec Ideal S128x1024 .f32) (act : FVec Ideal S8x128 .f32) (cb1 : FVec Ideal S128x128 .f32) (dsk : Vec Ideal S1x512 .f32) (h0 : FVec Ideal S128x128 .f32) (h1 : FVec Ideal S128x128 .f32) (h2 : FVec Ideal S128x128 .f32) (nw : Vec Ideal S1x512 .f32) (off1 : FVec Ideal S128x256 .f32) (xdt : FVec Ideal S128x512 .f32) (xs : FVec Ideal S128x512 .f32) (z : Vec Ideal S1x128x512 .bf16) :
    k0_pay1 (k0_pay211 (k0_pay208 xs act acb k0_pay23 xdt k0_pay33 h0 h1 cb1 off1 h2 (k0_pay207 act acb) (Scalar.ofBits (F := Ideal) .f32 0xFF800000#32) dsk z) (k0_pay209 xs act acb k0_pay23 xdt k0_pay33 h0 h1 cb1 off1 h2 (k0_pay207 act acb) (Scalar.ofBits (F := Ideal) .f32 0xFF800000#32) dsk z) (k0_pay210 xs act acb k0_pay23 xdt k0_pay33 h0 h1 cb1 off1 h2 (k0_pay207 act acb) (Scalar.ofBits (F := Ideal) .f32 0xFF800000#32) dsk z) nw)
      = k0_pay59 (k0_pay56 xs act acb k0_pay23 xdt k0_pay33 h0 h1 cb1 off1 h2 (k0_pay54 acb) (k0_pay55 act) dsk z) (k0_pay57 xs act acb k0_pay23 xdt k0_pay33 h0 h1 cb1 off1 h2 (k0_pay54 acb) (k0_pay55 act) dsk z) (k0_pay58 xs act acb k0_pay23 xdt k0_pay33 h0 h1 cb1 off1 h2 (k0_pay54 acb) (k0_pay55 act) dsk z) nw := by
  sl_kernel_rfl

end Cert.KernelIdeal.Hand
-- ==== Proof.SsdPoint.lean ====
module

public import proofs.«01_k».proof.Defs
public import Idealize.ShloMosaic.Lib.Pipeline.ValueKit
public import Idealize.ShloMosaic.Lib.Pipeline.ReadBack
public import Idealize.ShloMosaic.Lib.WritesUnit
public import Idealize.ShloMosaic.Lib.Claim
public import Idealize.ShloMosaic.Lib.Pointwise
public import proofs.«01_k».proof.Proof.Gen.KernelIdeal.Value
public import proofs.«01_k».proof.Proof.SsdStages

@[expose] public section

set_option maxRecDepth 16384

noncomputable section

open Idealize.ShloMosaic Idealize.ShloMosaic.TcCoe Idealize.SL.Sem
open Idealize.ShloMosaic.Pipeline (Dat)
open Cert.Layer
namespace Cert.KernelIdeal.Hand

open Cert.KernelIdeal Cert.KernelIdeal.Gen Cert.KernelIdeal.Value

variable (m : (ℓ : Loc nD τ sig) → Buf (Elt Ideal) ℓ) (ρ : Dev nD → PrngReg)

/-- What grid point `t` reads, with what it carries from the point before. -/
def pt (c : Dev nD) (t : Fin cfg0.N) (carry : Vec Ideal S528x1024 .bf16) (st : Vec Ideal S2x128x256 .f32) : Point :=
  ⟨iblk m c 0 t, iblk m c 1 t, iblk m c 2 t, iblk m c 3 t, iblk m c 4 t, iblk m c 5 t, iblk m c 6 t, iblk m c 7 t, iblk m c 8 t,
    iblk m c 9 t, iblk m c 10 t, iblk m c 11 t, iblk m c 12 t, carry, st⟩

/-- A buffer filled with zeros in its first rows, read there. -/
theorem ldA_e0 (b : Vec Ideal S1x512x1024 .bf16) (inb) (inb2) (inb') (z : FVec Ideal S16x1024 .bf16) (hz : z = k0_pay3) :
    View.readCov (View.whole cc0_scratch0) [(⟨Rect.unit (s := S528x1024) ![16, 0] ![512, 1024] inb, k0_pay5 b⟩ : View.Piece (Elt Ideal) S528x1024 .bf16),
      (⟨Rect.unit (s := S528x1024) ![0, 0] ![16, 1024] inb2, z⟩ : View.Piece (Elt Ideal) S528x1024 .bf16)]
      (Rect.unit (s := S528x1024) ![0, 0] ![144, 1024] inb').toLoadRect = eAt (extRows (fun _ => 0) b) 0 := by
  subst hz
  refine cov_e (fun _ => 0) b _ inb 0 inb' 0 rfl fun y _ h => ?_
  rw [canon_hit inb2 _ [] y (ix2 (⟨(y 0).val, h⟩ : Fin 16) (y 1)) (fun a => by
    match a with
    | ⟨0, _⟩ => show (y 0).val = 0 + (y 0).val; omega
    | ⟨1, _⟩ => show (y 1).val = 0 + (y 1).val; omega)]
  pointwise [k0_pay3]

/-- A two-half state from its halves. -/
def stPair (s0 s1 : Vec Ideal S1x128x256 .f32) : Vec Ideal S2x128x256 .f32 := fun y =>
  if (y 0).val = 0 then s0 (ix3 (0 : Fin 1) (y 1) (y 2)) else s1 (ix3 (0 : Fin 1) (y 1) (y 2))

/-- The first group of a pair of states. -/
theorem stAt_stPair0 (s0 s1 : Vec Ideal S1x128x256 .f32) : stAt (stPair s0 s1) 0 = s0 := by
  funext i
  have h : (i 0).val < 1 := (i 0).isLt
  have e : ix3 (0 : Fin 1) (i 1) (i 2) = i := by
    funext a
    match a with
    | ⟨0, _⟩ => exact Fin.ext (by show 0 = (i 0).val; omega)
    | ⟨1, _⟩ => rfl
    | ⟨2, _⟩ => rfl
  exact congrArg s0 e

/-- The second group of a pair of states. -/
theorem stAt_stPair1 (s0 s1 : Vec Ideal S1x128x256 .f32) : stAt (stPair s0 s1) 1 = s1 := by
  funext i
  have h : (i 0).val < 1 := (i 0).isLt
  have e : ix3 (0 : Fin 1) (i 1) (i 2) = i := by
    funext a
    match a with
    | ⟨0, _⟩ => exact Fin.ext (by show 0 = (i 0).val; omega)
    | ⟨1, _⟩ => rfl
    | ⟨2, _⟩ => rfl
  exact congrArg s1 e

/-- The halves' last writes are the state. -/
theorem canon_pair (s0 s1 : Vec Ideal S1x128x256 .f32) (inb1) (inb0) (L : List (View.Piece (Elt Ideal) S2x128x256 .f32)) :
    View.canon ((⟨Rect.unit (s := S2x128x256) ![1, 0, 0] ![1, 128, 256] inb1, s1⟩ : View.Piece (Elt Ideal) S2x128x256 .f32)
      :: (⟨Rect.unit (s := S2x128x256) ![0, 0, 0] ![1, 128, 256] inb0, s0⟩ : View.Piece (Elt Ideal) S2x128x256 .f32) :: L) = stPair s0 s1 := by
  funext y
  have h2 : (y 0).val < 2 := (y 0).isLt
  by_cases h : (y 0).val = 0
  · rw [canon_miss inb1 _ _ y (0 : Fin 3) (Or.inl (by show (y 0).val < 1; omega)),
      canon_hit inb0 _ _ y (ix3 (0 : Fin 1) (y 1) (y 2)) (fun a => by
        match a with
        | ⟨0, _⟩ => show (y 0).val = 0 + 0; omega
        | ⟨1, _⟩ => show (y 1).val = 0 + (y 1).val; omega
        | ⟨2, _⟩ => show (y 2).val = 0 + (y 2).val; omega), stPair, if_pos h]
  · rw [canon_hit inb1 _ _ y (ix3 (0 : Fin 1) (y 1) (y 2)) (fun a => by
        match a with
        | ⟨0, _⟩ => show (y 0).val = 1 + 0; omega
        | ⟨1, _⟩ => show (y 1).val = 0 + (y 1).val; omega
        | ⟨2, _⟩ => show (y 2).val = 0 + (y 2).val; omega), stPair, if_neg h]

/-- The rows of chunk `q`, one chunk after the other. -/
def rows4 (y0 y1 y2 y3 : Vec Ideal S1x128x512 .bf16) : Vec Ideal S1x512x512 .bf16 := fun i =>
  if h : (i 1).val < 128 then y0 (ix3 (0 : Fin 1) (⟨(i 1).val, h⟩ : Fin 128) (i 2))
  else if h : (i 1).val < 256 then y1 (ix3 (0 : Fin 1) (⟨(i 1).val - 128, by omega⟩ : Fin 128) (i 2))
  else if h : (i 1).val < 384 then y2 (ix3 (0 : Fin 1) (⟨(i 1).val - 256, by omega⟩ : Fin 128) (i 2))
  else y3 (ix3 (0 : Fin 1) (⟨(i 1).val - 384, by have h2 : (i 1).val < 512 := (i 1).isLt; omega⟩ : Fin 128) (i 2))

/-- The four chunks' writes are the block. -/
theorem canon_rows4 (y0 y1 y2 y3 : Vec Ideal S1x128x512 .bf16) (inb3) (inb2) (inb1) (inb0) (L : List (View.Piece (Elt Ideal) S1x512x512 .bf16)) :
    View.canon ((⟨Rect.unit (s := S1x512x512) ![0, 384, 0] ![1, 128, 512] inb3, y3⟩ : View.Piece (Elt Ideal) S1x512x512 .bf16)
      :: (⟨Rect.unit (s := S1x512x512) ![0, 256, 0] ![1, 128, 512] inb2, y2⟩ : View.Piece (Elt Ideal) S1x512x512 .bf16)
      :: (⟨Rect.unit (s := S1x512x512) ![0, 128, 0] ![1, 128, 512] inb1, y1⟩ : View.Piece (Elt Ideal) S1x512x512 .bf16)
      :: (⟨Rect.unit (s := S1x512x512) ![0, 0, 0] ![1, 128, 512] inb0, y0⟩ : View.Piece (Elt Ideal) S1x512x512 .bf16) :: L) = rows4 y0 y1 y2 y3 := by
  funext y
  have h2 : (y 1).val < 512 := (y 1).isLt
  have h3 : (y 0).val < 1 := (y 0).isLt
  rw [rows4]
  by_cases h0 : (y 1).val < 128
  · rw [canon_miss inb3 _ _ y (1 : Fin 3) (Or.inl (by show (y 1).val < 384; omega)), canon_miss inb2 _ _ y (1 : Fin 3) (Or.inl (by show (y 1).val < 256; omega)),
      canon_miss inb1 _ _ y (1 : Fin 3) (Or.inl h0), canon_hit inb0 _ _ y (ix3 (0 : Fin 1) (⟨(y 1).val, h0⟩ : Fin 128) (y 2)) (fun a => by
        match a with
        | ⟨0, _⟩ => show (y 0).val = 0 + 0; omega
        | ⟨1, _⟩ => show (y 1).val = 0 + (y 1).val; omega
        | ⟨2, _⟩ => show (y 2).val = 0 + (y 2).val; omega), dif_pos h0]
  rw [dif_neg h0]
  by_cases h1 : (y 1).val < 256
  · rw [canon_miss inb3 _ _ y (1 : Fin 3) (Or.inl (by show (y 1).val < 384; omega)), canon_miss inb2 _ _ y (1 : Fin 3) (Or.inl h1),
      canon_hit inb1 _ _ y (ix3 (0 : Fin 1) (⟨(y 1).val - 128, by omega⟩ : Fin 128) (y 2)) (fun a => by
        match a with
        | ⟨0, _⟩ => show (y 0).val = 0 + 0; omega
        | ⟨1, _⟩ => show (y 1).val = 128 + ((y 1).val - 128); omega
        | ⟨2, _⟩ => show (y 2).val = 0 + (y 2).val; omega), dif_pos h1]
  rw [dif_neg h1]
  by_cases h4 : (y 1).val < 384
  · rw [canon_miss inb3 _ _ y (1 : Fin 3) (Or.inl h4),
      canon_hit inb2 _ _ y (ix3 (0 : Fin 1) (⟨(y 1).val - 256, by omega⟩ : Fin 128) (y 2)) (fun a => by
        match a with
        | ⟨0, _⟩ => show (y 0).val = 0 + 0; omega
        | ⟨1, _⟩ => show (y 1).val = 256 + ((y 1).val - 256); omega
        | ⟨2, _⟩ => show (y 2).val = 0 + (y 2).val; omega), dif_pos h4]
  rw [dif_neg h4, canon_hit inb3 _ _ y (ix3 (0 : Fin 1) (⟨(y 1).val - 384, by omega⟩ : Fin 128) (y 2)) (fun a => by
        match a with
        | ⟨0, _⟩ => show (y 0).val = 0 + 0; omega
        | ⟨1, _⟩ => show (y 1).val = 384 + ((y 1).val - 384); omega
        | ⟨2, _⟩ => show (y 2).val = 0 + (y 2).val; omega)]

/-- The state before a sequence's first block. -/
theorem pay4_eq : k0_pay4 (F := Ideal) = fun _ => 0 := by
  funext i
  pointwise [k0_pay4]

set_option maxHeartbeats 2000000 in
/-- The state a later block leaves. -/
theorem stB (c : Dev nD) (t : Fin cfg0.N) (h0 : ¬t.val % 8 = 0) (carry : Vec Ideal S528x1024 .bf16) (st : Vec Ideal S2x128x256 .f32)
    (hc : (outsAt0 m c (t.val - 1) (by have := t.isLt; omega)).2.1 = carry) (hs : (outsAt0 m c (t.val - 1) (by have := t.isLt; omega)).2.2 = st) :
    (outsAt0 m c t.val t.isLt).2.2 = stPair (pt m c t carry st).c3.nst0 (pt m c t carry st).c3.nst1 := by
  rw [outsAt0_B m c t h0]
  frame_open
  try simp (disch := decide) only [↓ View.readCov_skip, ↓ View.readCov_cons_toLoadRect, ↓ View.readCov_fill]
  frame_out
  simp only [hc, hs, rd_e carry _ _ _ _ (read_unread_whole _ _ _), cov_e carry _ _ _ 128 _ 1 rfl (fun _ h1 h2 => absurd h2 (by omega)),
    cov_e carry _ _ _ 256 _ 2 rfl (fun _ h1 h2 => absurd h2 (by omega)), cov_e carry _ _ _ 384 _ 3 rfl (fun _ h1 h2 => absurd h2 (by omega)),
    cov_x carry _ _ _ 16 _ 0 rfl, cov_x carry _ _ _ 144 _ 1 rfl, cov_x carry _ _ _ 272 _ 2 rfl, cov_x carry _ _ _ 400 _ 3 rfl,
    ld_dt _ 0 _ 0 rfl, ld_dt _ 128 _ 1 rfl, ld_dt _ 256 _ 2 rfl, ld_dt _ 384 _ 3 rfl,
    ld_z _ 0 _ 0 rfl, ld_z _ 128 _ 1 rfl, ld_z _ 256 _ 2 rfl, ld_z _ 384 _ 3 rfl,
    ld_w _ 0 _ 0 rfl, ld_w _ 1 _ 1 rfl, ld_w _ 2 _ 2 rfl, ld_w _ 3 _ 3 rfl, ld_st _ 0 _ 0 rfl, ld_st _ 1 _ 1 rfl, read_unread_whole]
  unfold pt
  generalize iblk m c 0 t = b0, iblk m c 1 t = b1, iblk m c 2 t = b2, iblk m c 3 t = b3, iblk m c 4 t = b4, iblk m c 5 t = b5, iblk m c 6 t = b6,
    iblk m c 7 t = b7, iblk m c 8 t = b8, iblk m c 9 t = b9, iblk m c 10 t = b10, iblk m c 11 t = b11, iblk m c 12 t = b12
  rw [canon_pair]
  simp only [xs_c1, bm_c1, cm_c1, act_c1, dte_c1, acb_c1, lt_c1, tr_c1, xdt_c1, xdd_c1, inDecay_c1, chunkDecay_c1, bmb_c1, cmb_c1, cb0_c1, off0_c1, h0_c1, h1_c1, cb1_c1, off1_c1, nst0_c1, nst1_c1, y_c1, xs_c2, bm_c2, cm_c2, act_c2, dte_c2, acb_c2, lt_c2, tr_c2, xdt_c2, xdd_c2, inDecay_c2, chunkDecay_c2, bmb_c2, cmb_c2, cb0_c2, off0_c2, h0_c2, h1_c2, cb1_c2, off1_c2, h2_c2, nst0_c2, nst1_c2, y_c2, xs_c3, bm_c3, cm_c3, act_c3, dte_c3, acb_c3, lt_c3, tr_c3, l0_c3, l1_c3, xdt_c3, xdd_c3, inDecay_c3, chunkDecay_c3, bmb_c3, cmb_c3, cb0_c3, off0_c3, h0_c3, h1_c3, cb1_c3, off1_c3, h2_c3, nst0_c3, nst1_c3, y_c3]
  sl_kernel_rfl

set_option maxHeartbeats 2000000 in
/-- The output of a later block. -/
theorem outB (c : Dev nD) (t : Fin cfg0.N) (h0 : ¬t.val % 8 = 0) (carry : Vec Ideal S528x1024 .bf16) (st : Vec Ideal S2x128x256 .f32)
    (hc : (outsAt0 m c (t.val - 1) (by have := t.isLt; omega)).2.1 = carry) (hs : (outsAt0 m c (t.val - 1) (by have := t.isLt; omega)).2.2 = st) :
    (outsAt0 m c t.val t.isLt).1 = rows4 (pt m c t carry st).c0.y (pt m c t carry st).c1.y (pt m c t carry st).c2.y (pt m c t carry st).c3.y := by
  rw [outsAt0_B m c t h0]
  frame_open
  try simp (disch := decide) only [↓ View.readCov_skip, ↓ View.readCov_cons_toLoadRect, ↓ View.readCov_fill]
  frame_out
  simp only [hc, hs, rd_e carry _ _ _ _ (read_unread_whole _ _ _), cov_e carry _ _ _ 128 _ 1 rfl (fun _ h1 h2 => absurd h2 (by omega)),
    cov_e carry _ _ _ 256 _ 2 rfl (fun _ h1 h2 => absurd h2 (by omega)), cov_e carry _ _ _ 384 _ 3 rfl (fun _ h1 h2 => absurd h2 (by omega)),
    cov_x carry _ _ _ 16 _ 0 rfl, cov_x carry _ _ _ 144 _ 1 rfl, cov_x carry _ _ _ 272 _ 2 rfl, cov_x carry _ _ _ 400 _ 3 rfl,
    ld_dt _ 0 _ 0 rfl, ld_dt _ 128 _ 1 rfl, ld_dt _ 256 _ 2 rfl, ld_dt _ 384 _ 3 rfl,
    ld_z _ 0 _ 0 rfl, ld_z _ 128 _ 1 rfl, ld_z _ 256 _ 2 rfl, ld_z _ 384 _ 3 rfl,
    ld_w _ 0 _ 0 rfl, ld_w _ 1 _ 1 rfl, ld_w _ 2 _ 2 rfl, ld_w _ 3 _ 3 rfl, ld_st _ 0 _ 0 rfl, ld_st _ 1 _ 1 rfl, read_unread_whole]
  unfold pt
  generalize iblk m c 0 t = b0, iblk m c 1 t = b1, iblk m c 2 t = b2, iblk m c 3 t = b3, iblk m c 4 t = b4, iblk m c 5 t = b5, iblk m c 6 t = b6,
    iblk m c 7 t = b7, iblk m c 8 t = b8, iblk m c 9 t = b9, iblk m c 10 t = b10, iblk m c 11 t = b11, iblk m c 12 t = b12
  rw [canon_rows4]
  simp only [xs_c1, bm_c1, cm_c1, act_c1, dte_c1, acb_c1, lt_c1, tr_c1, xdt_c1, xdd_c1, inDecay_c1, chunkDecay_c1, bmb_c1, cmb_c1, cb0_c1, off0_c1, h0_c1, h1_c1, cb1_c1, off1_c1, nst0_c1, nst1_c1, y_c1, xs_c2, bm_c2, cm_c2, act_c2, dte_c2, acb_c2, lt_c2, tr_c2, xdt_c2, xdd_c2, inDecay_c2, chunkDecay_c2, bmb_c2, cmb_c2, cb0_c2, off0_c2, h0_c2, h1_c2, cb1_c2, off1_c2, h2_c2, nst0_c2, nst1_c2, y_c2, xs_c3, bm_c3, cm_c3, act_c3, dte_c3, acb_c3, lt_c3, tr_c3, l0_c3, l1_c3, xdt_c3, xdd_c3, inDecay_c3, chunkDecay_c3, bmb_c3, cmb_c3, cb0_c3, off0_c3, h0_c3, h1_c3, cb1_c3, off1_c3, h2_c3, nst0_c3, nst1_c3, y_c3]
  sl_kernel_rfl

set_option maxHeartbeats 2000000 in
/-- The state a first block leaves. -/
theorem stA (c : Dev nD) (t : Fin cfg0.N) (h0 : t.val % 8 = 0) :
    (outsAt0 m c t.val t.isLt).2.2 = stPair (pt m c t (fun _ => 0) (fun _ => 0)).c3.nst0 (pt m c t (fun _ => 0) (fun _ => 0)).c3.nst1 := by
  rw [outsAt0_A m c t h0]
  frame_open
  try simp (disch := decide) only [↓ View.readCov_skip, ↓ View.readCov_cons_toLoadRect, ↓ View.readCov_fill]
  frame_out
  simp only [pay4_eq, ldA_e0 _ _ _ _ _ rfl, cov_e (fun _ => 0) _ _ _ 128 _ 1 rfl (fun _ h1 h2 => absurd h2 (by omega)),
    cov_e (fun _ => 0) _ _ _ 256 _ 2 rfl (fun _ h1 h2 => absurd h2 (by omega)), cov_e (fun _ => 0) _ _ _ 384 _ 3 rfl (fun _ h1 h2 => absurd h2 (by omega)),
    cov_x (fun _ => 0) _ _ _ 16 _ 0 rfl, cov_x (fun _ => 0) _ _ _ 144 _ 1 rfl, cov_x (fun _ => 0) _ _ _ 272 _ 2 rfl, cov_x (fun _ => 0) _ _ _ 400 _ 3 rfl,
    ld_dt _ 0 _ 0 rfl, ld_dt _ 128 _ 1 rfl, ld_dt _ 256 _ 2 rfl, ld_dt _ 384 _ 3 rfl,
    ld_z _ 0 _ 0 rfl, ld_z _ 128 _ 1 rfl, ld_z _ 256 _ 2 rfl, ld_z _ 384 _ 3 rfl,
    ld_w _ 0 _ 0 rfl, ld_w _ 1 _ 1 rfl, ld_w _ 2 _ 2 rfl, ld_w _ 3 _ 3 rfl, ld_st _ 0 _ 0 rfl, ld_st _ 1 _ 1 rfl]
  unfold pt
  generalize iblk m c 0 t = b0, iblk m c 1 t = b1, iblk m c 2 t = b2, iblk m c 3 t = b3, iblk m c 4 t = b4, iblk m c 5 t = b5, iblk m c 6 t = b6,
    iblk m c 7 t = b7, iblk m c 8 t = b8, iblk m c 9 t = b9, iblk m c 10 t = b10, iblk m c 11 t = b11, iblk m c 12 t = b12
  rw [canon_pair]
  simp only [xs_c1, bm_c1, cm_c1, act_c1, dte_c1, acb_c1, lt_c1, tr_c1, xdt_c1, xdd_c1, inDecay_c1, chunkDecay_c1, bmb_c1, cmb_c1, cb0_c1, off0_c1, h0_c1, h1_c1, cb1_c1, off1_c1, nst0_c1, nst1_c1, y_c1, xs_c2, bm_c2, cm_c2, act_c2, dte_c2, acb_c2, lt_c2, tr_c2, xdt_c2, xdd_c2, inDecay_c2, chunkDecay_c2, bmb_c2, cmb_c2, cb0_c2, off0_c2, h0_c2, h1_c2, cb1_c2, off1_c2, h2_c2, nst0_c2, nst1_c2, y_c2, xs_c3, bm_c3, cm_c3, act_c3, dte_c3, acb_c3, lt_c3, tr_c3, l0_c3, l1_c3, xdt_c3, xdd_c3, inDecay_c3, chunkDecay_c3, bmb_c3, cmb_c3, cb0_c3, off0_c3, h0_c3, h1_c3, cb1_c3, off1_c3, h2_c3, nst0_c3, nst1_c3, y_c3]
  sl_kernel_rfl

set_option maxHeartbeats 2000000 in
/-- The output of a first block. -/
theorem outA (c : Dev nD) (t : Fin cfg0.N) (h0 : t.val % 8 = 0) :
    (outsAt0 m c t.val t.isLt).1 = rows4 (pt m c t (fun _ => 0) (fun _ => 0)).c0.y (pt m c t (fun _ => 0) (fun _ => 0)).c1.y (pt m c t (fun _ => 0) (fun _ => 0)).c2.y (pt m c t (fun _ => 0) (fun _ => 0)).c3.y := by
  rw [outsAt0_A m c t h0]
  frame_open
  try simp (disch := decide) only [↓ View.readCov_skip, ↓ View.readCov_cons_toLoadRect, ↓ View.readCov_fill]
  frame_out
  simp only [pay4_eq, ldA_e0 _ _ _ _ _ rfl, cov_e (fun _ => 0) _ _ _ 128 _ 1 rfl (fun _ h1 h2 => absurd h2 (by omega)),
    cov_e (fun _ => 0) _ _ _ 256 _ 2 rfl (fun _ h1 h2 => absurd h2 (by omega)), cov_e (fun _ => 0) _ _ _ 384 _ 3 rfl (fun _ h1 h2 => absurd h2 (by omega)),
    cov_x (fun _ => 0) _ _ _ 16 _ 0 rfl, cov_x (fun _ => 0) _ _ _ 144 _ 1 rfl, cov_x (fun _ => 0) _ _ _ 272 _ 2 rfl, cov_x (fun _ => 0) _ _ _ 400 _ 3 rfl,
    ld_dt _ 0 _ 0 rfl, ld_dt _ 128 _ 1 rfl, ld_dt _ 256 _ 2 rfl, ld_dt _ 384 _ 3 rfl,
    ld_z _ 0 _ 0 rfl, ld_z _ 128 _ 1 rfl, ld_z _ 256 _ 2 rfl, ld_z _ 384 _ 3 rfl,
    ld_w _ 0 _ 0 rfl, ld_w _ 1 _ 1 rfl, ld_w _ 2 _ 2 rfl, ld_w _ 3 _ 3 rfl, ld_st _ 0 _ 0 rfl, ld_st _ 1 _ 1 rfl]
  unfold pt
  generalize iblk m c 0 t = b0, iblk m c 1 t = b1, iblk m c 2 t = b2, iblk m c 3 t = b3, iblk m c 4 t = b4, iblk m c 5 t = b5, iblk m c 6 t = b6,
    iblk m c 7 t = b7, iblk m c 8 t = b8, iblk m c 9 t = b9, iblk m c 10 t = b10, iblk m c 11 t = b11, iblk m c 12 t = b12
  rw [canon_rows4]
  simp only [xs_c1, bm_c1, cm_c1, act_c1, dte_c1, acb_c1, lt_c1, tr_c1, xdt_c1, xdd_c1, inDecay_c1, chunkDecay_c1, bmb_c1, cmb_c1, cb0_c1, off0_c1, h0_c1, h1_c1, cb1_c1, off1_c1, nst0_c1, nst1_c1, y_c1, xs_c2, bm_c2, cm_c2, act_c2, dte_c2, acb_c2, lt_c2, tr_c2, xdt_c2, xdd_c2, inDecay_c2, chunkDecay_c2, bmb_c2, cmb_c2, cb0_c2, off0_c2, h0_c2, h1_c2, cb1_c2, off1_c2, h2_c2, nst0_c2, nst1_c2, y_c2, xs_c3, bm_c3, cm_c3, act_c3, dte_c3, acb_c3, lt_c3, tr_c3, l0_c3, l1_c3, xdt_c3, xdd_c3, inDecay_c3, chunkDecay_c3, bmb_c3, cmb_c3, cb0_c3, off0_c3, h0_c3, h1_c3, cb1_c3, off1_c3, h2_c3, nst0_c3, nst1_c3, y_c3]
  sl_kernel_rfl

/-- What a block leaves in the buffer's first sixteen rows: its own last rows. -/
theorem canon_carry (b : Vec Ideal S1x512x1024 .bf16) (L L' : List (View.Piece (Elt Ideal) S528x1024 .bf16)) (inb) (inb2) (inb3)
    (y : S528x1024.Idx) (h : (y 0).val < 16) :
    View.canon ((⟨Rect.unit (s := S528x1024) ![0, 0] ![16, 1024] inb,
        k0_pay2 (View.readCov (View.whole cc0_scratch0)
          ((⟨Rect.unit (s := S528x1024) ![16, 0] ![512, 1024] inb2, k0_pay5 b⟩ : View.Piece (Elt Ideal) S528x1024 .bf16) :: L)
          (Rect.unit (s := S528x1024) ![512, 0] ![16, 1024] inb3).toLoadRect)⟩ : View.Piece (Elt Ideal) S528x1024 .bf16) :: L') y
      = b (ix3 (0 : Fin 1) (⟨496 + (y 0).val, by omega⟩ : Fin 512) (y 1)) := by
  rw [canon_hit inb _ L' y (ix2 (⟨(y 0).val, h⟩ : Fin 16) (y 1)) (fun a => by
    match a with
    | ⟨0, _⟩ => show (y 0).val = 0 + (y 0).val; omega
    | ⟨1, _⟩ => show (y 1).val = 0 + (y 1).val; omega), View.readCov_eq_canon']
  pointwise [k0_pay2]
  refine (canon_ext (fun _ => 0) b L inb2 _ (fun h => absurd h (by show ¬ 512 + (y 0).val < 16; omega))).trans ?_
  rw [extRows, dif_neg (by show ¬ 512 + (y 0).val < 16; omega)]
  exact congrArg b (by funext a; match a with
    | ⟨0, _⟩ => rfl
    | ⟨1, _⟩ => exact Fin.ext (by show 512 + (y 0).val - 16 = 496 + (y 0).val; omega)
    | ⟨2, _⟩ => rfl)

/-- The rows a block carries into the next. -/
theorem carry_apply (c : Dev nD) (t : Fin cfg0.N) (y : S528x1024.Idx) (h : (y 0).val < 16) :
    (outsAt0 m c t.val t.isLt).2.1 y = (iblk m c 0 t : Vec Ideal S1x512x1024 .bf16) (ix3 (0 : Fin 1) (⟨496 + (y 0).val, by omega⟩ : Fin 512) (y 1)) := by
  by_cases h0 : t.val % 8 = 0
  · rw [outsAt0_A m c t h0]
    frame_open
    try simp (disch := decide) only [↓ View.readCov_skip, ↓ View.readCov_cons_toLoadRect, ↓ View.readCov_fill]
    frame_out
    exact canon_carry _ _ _ _ _ _ y h
  · rw [outsAt0_B m c t h0]
    frame_open
    try simp (disch := decide) only [↓ View.readCov_skip, ↓ View.readCov_cons_toLoadRect, ↓ View.readCov_fill]
    frame_out
    exact canon_carry _ _ _ _ _ _ y h

end Cert.KernelIdeal.Hand
-- ==== Proof.SsdMath.lean ====
module

public import Idealize.ShloMosaic.Lib.Pointwise
public import proofs.«01_k».proof.Proof.Common

/-!
# The recurrence's arithmetic over the extended reals

Exponentials of sums that are not positive infinity, the splitting of such a number into itself and remainders, and the state of a decayed sum.
-/

@[expose] public section
noncomputable section
open Idealize.ShloMosaic

namespace Cert.Layer

/-- The logarithm of one plus an exponential is not negative. -/
theorem log_one_add_exp_nonneg (y : EReal) : 0 ≤ Ideal.log (1 + Ideal.exp y) := by
  have h (r : ℝ) (hr : 0 ≤ r) : 0 ≤ Ideal.log (1 + (r : EReal)) := by
    have e : (1 : EReal) + (r : EReal) = ((1 + r : ℝ) : EReal) := by norm_cast
    rw [e, Ideal.log_coe, if_neg (by linarith)]
    exact EReal.coe_nonneg.mpr (Real.log_nonneg (by linarith))
  induction y with
  | bot => exact h 0 le_rfl
  | coe r => exact h _ (Real.exp_pos r).le
  | top =>
    have e : (1 : EReal) + Ideal.exp ⊤ = ⊤ := by
      rw [Ideal.exp_top]; exact EReal.coe_add_top 1
    rw [e]; exact le_top

/-- The exponential of a number that is not positive infinity is not. -/
theorem exp_ne_top {a : EReal} (ha : a ≠ ⊤) : Ideal.exp a ≠ ⊤ := by
  induction a with
  | bot => exact EReal.zero_ne_top
  | coe r => exact EReal.coe_ne_top _
  | top => exact absurd rfl ha

/-- The exponential of a sum. -/
theorem exp_add {a b : EReal} (ha : a ≠ ⊤) (hb : b ≠ ⊤) : Ideal.exp (a + b) = Ideal.exp a * Ideal.exp b := by
  induction a with
  | top => exact absurd rfl ha
  | bot => rw [EReal.bot_add, Ideal.exp_bot, zero_mul]
  | coe r =>
    induction b with
    | top => exact absurd rfl hb
    | bot => rw [EReal.add_bot, Ideal.exp_bot, mul_zero]
    | coe s =>
      rw [← EReal.coe_add, Ideal.exp_coe, Ideal.exp_coe, Ideal.exp_coe, Real.exp_add, EReal.coe_mul]

/-- A number and its two remainders add up to the number. -/
theorem split3 {x : EReal} (hx : x ≠ ⊤) : x + (x - x) + ((x - x) - (x - x)) = x := by
  induction x with
  | top => exact absurd rfl hx
  | bot => rfl
  | coe r => simp only [← EReal.coe_sub, ← EReal.coe_add, sub_self, add_zero]

/-- A sum of numbers that are not positive infinity is not. -/
theorem sum_ne_top {ι : Type*} (s : Finset ι) (f : ι → EReal) (h : ∀ i ∈ s, f i ≠ ⊤) : ∑ i ∈ s, f i ≠ ⊤ := by
  classical
  induction s using Finset.induction_on with
  | empty => rw [Finset.sum_empty]; exact EReal.zero_ne_top
  | insert a s ha ih =>
    rw [Finset.sum_insert ha]
    exact EReal.add_ne_top (h a (Finset.mem_insert_self a s)) (ih fun i hi => h i (Finset.mem_insert_of_mem hi))

/-- A masked sum of a number's three pieces is the masked sum of the number. -/
theorem sum_split3 {n : ℕ} (f : Fin n → EReal) (p : Fin n → Prop) [DecidablePred p] (hf : ∀ j, f j ≠ ⊤) :
    (∑ j : Fin n, f j * (if p j then 1 else 0)) + (∑ j : Fin n, (f j - f j) * (if p j then 1 else 0))
      + (∑ j : Fin n, ((f j - f j) - (f j - f j)) * (if p j then 1 else 0)) = ∑ j : Fin n, if p j then f j else 0 := by
  rw [← Finset.sum_add_distrib, ← Finset.sum_add_distrib]
  refine Finset.sum_congr rfl fun j _ => ?_
  split
  · simp only [mul_one]; exact split3 (hf j)
  · simp only [mul_zero, add_zero]

/-- A sum over one index with a single one picks it. -/
theorem sum_pick {n : ℕ} (f : Fin n → EReal) (p : Fin n → Prop) [DecidablePred p] (a : Fin n) (h : ∀ j, p j ↔ j = a) :
    ∑ j : Fin n, f j * (if p j then 1 else 0) = f a := by
  rw [Finset.sum_eq_single a]
  · rw [if_pos ((h a).2 rfl), mul_one]
  · intro b _ hb
    rw [if_neg (fun hp => hb ((h b).1 hp)), mul_zero]
  · intro h; exact absurd (Finset.mem_univ a) h

/-- The same with the one on the left. -/
theorem sum_pick' {n : ℕ} (f : Fin n → EReal) (p : Fin n → Prop) [DecidablePred p] (a : Fin n) (h : ∀ j, p j ↔ j = a) :
    ∑ j : Fin n, (if p j then 1 else 0) * f j = f a := by
  rw [← sum_pick f p a h]
  exact Finset.sum_congr rfl fun j _ => mul_comm _ _

/-- A fold of additions over a list is the start plus the sum. -/
theorem foldl_add {ι : Type*} (l : List ι) (g : ι → EReal) (v : EReal) : l.foldl (fun r a => r + g a) v = v + (l.map g).sum := by
  induction l generalizing v with
  | nil => simp
  | cons a l ih => rw [List.foldl_cons, ih, List.map_cons, List.sum_cons, add_assoc]

/-- A sum over a window of 128 entries that ends at entry `l` is the sum of the entries up to `l`. -/
theorem sum_window (f : Fin 128 → EReal) (l : Fin 128) :
    (∑ k : Fin 128, if h : 127 ≤ l.val + k.val then f (⟨l.val + k.val - 127, by omega⟩ : Fin 128) else 0)
      = ∑ j : Fin 128, if j.val ≤ l.val then f j else 0 := by
  rw [← Finset.sum_filter]
  have e : (∑ k : Fin 128, if h : 127 ≤ l.val + k.val then f (⟨l.val + k.val - 127, by omega⟩ : Fin 128) else 0)
      = ∑ k ∈ Finset.univ.filter (fun k : Fin 128 => 127 ≤ l.val + k.val), f (⟨l.val + k.val - 127, by omega⟩ : Fin 128) := by
    rw [Finset.sum_filter]
    refine Finset.sum_congr rfl fun k _ => ?_
    split <;> rfl
  rw [e]
  refine Finset.sum_nbij' (fun k : Fin 128 => (⟨l.val + k.val - 127, by omega⟩ : Fin 128)) (fun j : Fin 128 => (⟨(j.val + 127 - l.val) % 128, by omega⟩ : Fin 128)) ?_ ?_ ?_ ?_ ?_
  · intro k hk
    simp only [Finset.mem_filter, Finset.mem_univ, true_and] at hk ⊢
    omega
  · intro j hj
    simp only [Finset.mem_filter, Finset.mem_univ, true_and] at hj ⊢
    omega
  · intro k hk
    simp only [Finset.mem_filter, Finset.mem_univ, true_and] at hk
    exact Fin.ext (by dsimp only; omega)
  · intro j hj
    simp only [Finset.mem_filter, Finset.mem_univ, true_and] at hj
    exact Fin.ext (by dsimp only; omega)
  · intro k hk; rfl

/-- A sum times a number that is neither negative nor infinite. -/
theorem sum_mul_of_nonneg {ι : Type*} (s : Finset ι) (f : ι → EReal) {e : EReal} (h0 : 0 ≤ e) (ht : e ≠ ⊤) :
    (∑ j ∈ s, f j) * e = ∑ j ∈ s, f j * e := by
  classical
  induction s using Finset.induction_on with
  | empty => rw [Finset.sum_empty, Finset.sum_empty, zero_mul]
  | insert a s ha ih => rw [Finset.sum_insert ha, Finset.sum_insert ha, EReal.right_distrib_of_nonneg_of_ne_top h0 ht, ih]

/-- A state's entry before chunk `i`: the sum over the chunks before it of what each adds, decayed through the chunks strictly between. -/
def stateSum (A cs : Fin 32 → EReal) (i : ℕ) : EReal :=
  ∑ j : Fin 32, cs j * (if j.val < i then Ideal.exp (∑ m : Fin 32, if j.val < m.val ∧ m.val < i then A m else 0) else 0)

/-- Before the first chunk it is zero. -/
theorem stateSum_zero (A cs : Fin 32 → EReal) : stateSum A cs 0 = 0 := by
  simp [stateSum]

/-- A chunk decays it and adds its own part. -/
theorem stateSum_succ (A cs : Fin 32 → EReal) (hA : ∀ m, A m ≠ ⊤) (i : Fin 32) :
    stateSum A cs (i.val + 1) = stateSum A cs i.val * Ideal.exp (A i) + cs i := by
  unfold stateSum
  rw [sum_mul_of_nonneg _ _ (exp_nonneg _) (exp_ne_top (hA i))]
  have e : cs i = ∑ j : Fin 32, if j = i then cs i else 0 := by simp
  conv_rhs => rw [e]
  rw [← Finset.sum_add_distrib]
  refine Finset.sum_congr rfl fun j _ => ?_
  rcases lt_trichotomy j.val i.val with h | h | h
  · rw [if_pos (by omega), if_pos h, if_neg (fun e => by rw [e] at h; omega), add_zero]
    have es : (∑ m : Fin 32, if j.val < m.val ∧ m.val < i.val + 1 then A m else 0)
        = (∑ m : Fin 32, if j.val < m.val ∧ m.val < i.val then A m else 0) + A i := by
      have e2 : A i = ∑ m : Fin 32, if m = i then A m else 0 := by simp
      conv_rhs => rw [e2]
      rw [← Finset.sum_add_distrib]
      refine Finset.sum_congr rfl fun m _ => ?_
      by_cases hm : m = i
      · subst hm; rw [if_pos ⟨h, by omega⟩, if_neg (by omega), if_pos rfl, zero_add]
      · have hv : m.val ≠ i.val := fun e => hm (Fin.ext e)
        rw [if_neg hm, add_zero]
        by_cases h2 : j.val < m.val ∧ m.val < i.val
        · rw [if_pos h2, if_pos (by omega)]
        · rw [if_neg h2, if_neg (by omega)]
    rw [es, exp_add _ (hA i), mul_assoc]
    refine sum_ne_top _ _ fun m _ => ?_
    split
    · exact hA m
    · exact EReal.zero_ne_top
  · obtain rfl : j = i := Fin.ext h
    rw [if_pos (by omega), if_neg (by omega), if_pos rfl, mul_zero, zero_mul, zero_add]
    have es : (∑ m : Fin 32, if j.val < m.val ∧ m.val < j.val + 1 then A m else 0) = 0 :=
      Finset.sum_eq_zero fun m _ => if_neg (by omega)
    have e0 : Ideal.exp 0 = 1 := by
      rw [show (0 : EReal) = ((0 : ℝ) : EReal) from rfl, Ideal.exp_coe, Real.exp_zero]; rfl
    rw [es, e0, mul_one]
  · rw [if_neg (by omega), if_neg (by omega), if_neg (fun e => by rw [e] at h; omega), mul_zero, zero_mul, zero_add]

end Cert.Layer
end
-- ==== Proof.SsdScan.lean ====
module

public import proofs.«01_k».proof.Proof.SsdMath

/-!
# The chunked scan over the extended reals

One chunk of 128 positions: the outputs and the next state as functions of the channels, the step sizes, the log decays and the state before.
-/

@[expose] public section
noncomputable section
open Idealize.ShloMosaic

namespace Cert.Layer

/-- The convolution of one channel: its bias, then the four taps from the oldest position to the newest. -/
def convE (b w0 w1 w2 w3 u0 u1 u2 u3 : EReal) : EReal := b + w0 * u0 + w1 * u1 + w2 * u2 + w3 * u3

/-- The same with the newest tap added first. -/
theorem convE_last_first (b w0 w1 w2 w3 u0 u1 u2 u3 : EReal) :
    b + w3 * u3 + w0 * u0 + w1 * u1 + w2 * u2 = convE b w0 w1 w2 w3 u0 u1 u2 u3 := by
  unfold convE
  rw [add_right_comm b, add_right_comm (b + w0 * u0), add_right_comm (b + w0 * u0 + w1 * u1)]

/-- The step size from its logit: the softplus. -/
def softplusE (u : EReal) : EReal := max u 0 + Ideal.log (1 + Ideal.exp (-(max u (-u))))

/-- A step size is not negative. -/
theorem softplusE_nonneg (u : EReal) : 0 ≤ softplusE u :=
  add_nonneg (le_max_right _ _) (log_one_add_exp_nonneg _)

/-- What a chunk works on: each position's 1024 gated channels, and each head's step sizes and log decays at the positions. -/
structure Scan where
  xa : Fin 128 → Fin 1024 → EReal
  dt : Fin 8 → Fin 128 → EReal
  ad : Fin 8 → Fin 128 → EReal

namespace Scan

variable (S : Scan)

/-- A channel's head. -/
def hd (c : Fin 512) : Fin 8 := ⟨c.val / 64, by omega⟩

/-- A channel's group of heads. -/
def gr (c : Fin 512) : Fin 2 := ⟨c.val / 256, by omega⟩

/-- A head's log decays summed up to a position. -/
def ac (h : Fin 8) (l : Fin 128) : EReal := ∑ j : Fin 128, if j.val ≤ l.val then S.ad h j else 0

/-- A channel's input times its step size. -/
def xdt (l : Fin 128) (c : Fin 512) : EReal := S.xa l (⟨c.val, by omega⟩ : Fin 1024) * S.dt (hd c) l

/-- What writes the state. -/
def bm (g : Fin 2) (l n : Fin 128) : EReal := S.xa l (⟨512 + (128 * g.val + n.val), by omega⟩ : Fin 1024)

/-- What reads the state. -/
def cm (g : Fin 2) (l n : Fin 128) : EReal := S.xa l (⟨768 + (128 * g.val + n.val), by omega⟩ : Fin 1024)

/-- The product of a reading position with a writing one. -/
def cb (g : Fin 2) (l s : Fin 128) : EReal := ∑ n : Fin 128, S.cm g l n * S.bm g s n

/-- The decay from position `s` to position `l` of a head, nothing where `s` is after `l`. -/
def lmat (h : Fin 8) (l s : Fin 128) : EReal :=
  Ideal.exp (if s.val ≤ l.val then S.ac h l - S.ac h s else Ideal.ofBits .f32 0xFF800000#32)

/-- What the chunk's own positions give. -/
def diag (l : Fin 128) (c : Fin 512) : EReal := ∑ s : Fin 128, S.cb (gr c) l s * S.lmat (hd c) l s * S.xdt s c

/-- What the state before the chunk gives. -/
def off (st : Fin 128 → Fin 512 → EReal) (l : Fin 128) (c : Fin 512) : EReal :=
  (∑ n : Fin 128, S.cm (gr c) l n * st n c) * Ideal.exp (S.ac (hd c) l)

/-- What the chunk adds to the state. -/
def cs (n : Fin 128) (c : Fin 512) : EReal :=
  ∑ l : Fin 128, S.bm (gr c) l n * (S.xdt l c * Ideal.exp (S.ac (hd c) 127 - S.ac (hd c) l))

/-- The state after the chunk. -/
def nst (st : Fin 128 → Fin 512 → EReal) (n : Fin 128) (c : Fin 512) : EReal :=
  st n c * Ideal.exp (S.ac (hd c) 127) + S.cs n c

/-- The gated output before its normalisation. -/
def gated (st : Fin 128 → Fin 512 → EReal) (dsk : Fin 512 → EReal) (z : Fin 128 → Fin 512 → EReal) (l : Fin 128) (c : Fin 512) : EReal :=
  (S.diag l c + S.off st l c + dsk c * S.xa l (⟨c.val, by omega⟩ : Fin 1024)) * siluE (z l c)

end Scan

/-- A row of 512 divided, in each half, by the square root of the mean of the half's squares. -/
def norm2E (x : Fin 512 → EReal) (c : Fin 512) : EReal :=
  x c * Ideal.rsqrt (Ideal.div (∑ k : Fin 256, x (⟨256 * (c.val / 256) + k.val, by omega⟩ : Fin 512) * x (⟨256 * (c.val / 256) + k.val, by omega⟩ : Fin 512))
    (Ideal.ofBits .f32 0x43800000#32) + Ideal.ofBits .f32 0x358637BD#32)

namespace Scan

variable (S : Scan)

/-- Two heads' outputs from one masked product: the half of the lanes a head does not own contributes nothing. -/
theorem diag_pair (l : Fin 128) (p : Fin 4) (g : Fin 2) (a b : Fin 8) (c : Fin 128) (C : Fin 512) (hC : C.val = 128 * p.val + c.val)
    (hg : g.val = p.val / 2) (ha : a.val = 2 * p.val) (hb : b.val = 2 * p.val + 1) :
    (∑ s : Fin 128, S.cb g l s * S.lmat a l s * if c.val < 64 then S.xdt s C else 0)
      + (∑ s : Fin 128, S.cb g l s * S.lmat b l s * if c.val < 64 then 0 else S.xdt s C) = S.diag l C := by
  have eg : gr C = g := Fin.ext (by show C.val / 256 = g.val; omega)
  by_cases h : c.val < 64
  · have eh : hd C = a := Fin.ext (by show C.val / 64 = a.val; omega)
    simp only [if_pos h, mul_zero, Finset.sum_const_zero, add_zero, diag, eg, eh]
  · have eh : hd C = b := Fin.ext (by show C.val / 64 = b.val; omega)
    simp only [if_neg h, mul_zero, Finset.sum_const_zero, zero_add, diag, eg, eh]

end Scan

end Cert.Layer
end
-- ==== Proof.SsdRead.lean ====
module

public import proofs.«01_k».proof.Defs
public import Idealize.ShloMosaic.Lib.Pipeline.ValueKit
public import Idealize.ShloMosaic.Lib.Pipeline.ReadBack
public import Idealize.ShloMosaic.Lib.WritesUnit
public import Idealize.ShloMosaic.Lib.Claim
public import Idealize.ShloMosaic.Lib.Pointwise
public import proofs.«01_k».proof.Proof.Gen.KernelIdeal.Value
public import proofs.«01_k».proof.Proof.SsdChunk
public import proofs.«01_k».proof.Proof.SsdScan

@[expose] public section

set_option maxRecDepth 16384

noncomputable section

open Idealize.ShloMosaic Idealize.ShloMosaic.TcCoe Idealize.SL.Sem
open Idealize.ShloMosaic.Pipeline (Dat)
open Cert.Layer
namespace Cert.KernelIdeal.Hand

open Cert.KernelIdeal Cert.KernelIdeal.Gen Cert.KernelIdeal.Value

variable (k : Chunk)

/-- The four constant matrices hold what their uses need: rows shifted, a triangle of ones, and a one where a column belongs to a head. -/
structure Chunk.Ok : Prop where
  sh : ∀ (i : Fin 384) (j : Fin 144), k.sh (ix2 i j) = if j.val = 13 + i.val % 128 + i.val / 128 then 1 else 0
  tri : ∀ (i j : Fin 128), k.tri (ix2 i j) = if i.val ≤ j.val then 1 else 0
  e64 : ∀ (i : Fin 16) (j : Fin 512), k.e64 (ix2 i j) = if i.val = j.val / 64 then 1 else 0
  e128 : ∀ (i : Fin 16) (j : Fin 1024), k.e128 (ix2 i j) = if i.val = j.val / 128 then 1 else 0

/-- The shifted rows. -/
theorem taps_apply (hk : k.Ok) (i : Fin 384) (ch : Fin 1024) :
    k0_pay6 k.sh k.e (ix2 i ch) = k.e (ix2 (⟨13 + i.val % 128 + i.val / 128, by omega⟩ : Fin 144) ch) := by
  pointwise [k0_pay6]
  simp only [hk.sh]
  exact sum_pick' (fun j => k.e (ix2 j ch)) _ (⟨13 + i.val % 128 + i.val / 128, by omega⟩ : Fin 144) fun j => by
    rw [Fin.ext_iff]

/-- The convolution of a row's channel. -/
def Chunk.conv (l : Fin 128) (ch : Fin 1024) : EReal :=
  convE (k.cb (ix2 0 ch)) (k.w0 (ix2 0 ch)) (k.w1 (ix2 0 ch)) (k.w2 (ix2 0 ch)) (k.w3 (ix2 0 ch))
    (k.e (ix2 (⟨13 + l.val, by omega⟩ : Fin 144) ch)) (k.e (ix2 (⟨14 + l.val, by omega⟩ : Fin 144) ch))
    (k.e (ix2 (⟨15 + l.val, by omega⟩ : Fin 144) ch)) (k.x (ix2 l ch))

/-- The step size of a head at a row. -/
def Chunk.dtE (h : Fin 8) (l : Fin 128) : EReal := softplusE (k.dt (ix3 0 h l) + k.bi (ix2 h 0))

/-- The log decay of a head at a row. -/
def Chunk.adE (h : Fin 8) (l : Fin 128) : EReal := k.dtE h l * -Ideal.exp (k.al (ix2 h 0))

/-- What the chunk scans. -/
def Chunk.scan : Scan := ⟨fun l ch => siluE (k.conv l ch), k.dtE, k.adE⟩

/-- The channels after the convolution and its gate. -/
theorem xa_apply (hk : k.Ok) (l : Fin 128) (ch : Fin 1024) :
    k0_pay8 (k0_pay6 k.sh k.e) (k0_pay7 k.sh k.e k.cb k.w3 k.x k.w0 k.w1) k.w2 (ix2 l ch) = k.scan.xa l ch := by
  have h0 : (⟨13 + l.val % 128 + l.val / 128, by omega⟩ : Fin 144) = ⟨13 + l.val, by omega⟩ := Fin.ext (by show 13 + l.val % 128 + l.val / 128 = 13 + l.val; omega)
  have h1 : (⟨13 + (128 + l.val) % 128 + (128 + l.val) / 128, by omega⟩ : Fin 144) = ⟨14 + l.val, by omega⟩ :=
    Fin.ext (by show 13 + (128 + l.val) % 128 + (128 + l.val) / 128 = 14 + l.val; omega)
  have h2 : (⟨13 + (256 + l.val) % 128 + (256 + l.val) / 128, by omega⟩ : Fin 144) = ⟨15 + l.val, by omega⟩ :=
    Fin.ext (by show 13 + (256 + l.val) % 128 + (256 + l.val) / 128 = 15 + l.val; omega)
  pointwise [k0_pay8, k0_pay7, taps_apply k hk, Chunk.scan, siluE, Chunk.conv, h0, h1, h2, zero_sub, ← convE_last_first]

/-- The first channels. -/
theorem xs_apply (hk : k.Ok) (l : Fin 128) (c : Fin 512) : k.xs (ix2 l c) = k.scan.xa l (⟨c.val, by omega⟩ : Fin 1024) := by
  pointwise [Chunk.xs, k0_pay9, xa_apply k hk]

/-- The channels that write the state. -/
theorem bm_apply (hk : k.Ok) (l : Fin 128) (c : Fin 256) : k.bm (ix2 l c) = k.scan.xa l (⟨512 + c.val, by omega⟩ : Fin 1024) := by
  pointwise [Chunk.bm, k0_pay10, xa_apply k hk]

/-- The channels that read the state. -/
theorem cm_apply (hk : k.Ok) (l : Fin 128) (c : Fin 256) : k.cm (ix2 l c) = k.scan.xa l (⟨768 + c.val, by omega⟩ : Fin 1024) := by
  pointwise [Chunk.cm, k0_pay11, xa_apply k hk]

/-- The step sizes, read. -/
theorem dtp_apply (h : Fin 8) (l : Fin 128) : k.dtp (ix2 h l) = k.dtE h l := by
  pointwise [Chunk.dtp, k0_pay12, Chunk.dtE, softplusE, zero_sub]
  rfl

/-- A step size is not negative. -/
theorem dtE_nonneg (h : Fin 8) (l : Fin 128) : 0 ≤ k.dtE h l :=
  softplusE_nonneg _

/-- A log decay is not positive infinity. -/
theorem adE_ne_top (h : Fin 8) (l : Fin 128) : k.adE h l ≠ ⊤ := by
  refine ne_top_of_le_ne_top EReal.zero_ne_top ?_
  rw [Chunk.adE, mul_neg]
  exact EReal.neg_le_zero.mpr (mul_nonneg (dtE_nonneg k h l) (exp_nonneg _))

/-- The log decays, read. -/
theorem adt_apply (h : Fin 8) (l : Fin 128) : k0_pay13 k.dt k.bi k.al (ix2 h l) = k.adE h l := by
  have e : k0_pay12 k.dt k.bi (ix2 h l) = k.dtE h l := dtp_apply k h l
  pointwise [k0_pay13, Chunk.adE, e, zero_sub]

/-- It is not positive infinity. -/
theorem Chunk.ac_ne_top (h : Fin 8) (l : Fin 128) : k.scan.ac h l ≠ ⊤ := by
  refine sum_ne_top _ _ fun j _ => ?_
  split
  · exact adE_ne_top k h j
  · exact EReal.zero_ne_top

/-- The running sums, read. -/
theorem act_apply (hk : k.Ok) (h : Fin 8) (l : Fin 128) : k.act (ix2 h l) = k.scan.ac h l := by
  pointwise [Chunk.act, k0_pay19, k0_pay14, k0_pay15, k0_pay17, k0_pay18, k0_pay16, hk.tri, adt_apply]
  exact sum_split3 (fun j => k.adE h j) (fun j : Fin 128 => j.val ≤ l.val) (fun j => adE_ne_top k h j)

/-- The step sizes, one per channel. -/
theorem dte_apply (hk : k.Ok) (l : Fin 128) (c : Fin 512) : k.dte (ix2 l c) = k.dtE (⟨c.val / 64, by omega⟩ : Fin 8) l := by
  pointwise [Chunk.dte, k0_pay21, k0_pay20, hk.e64, dtp_apply, zero_mul, Finset.sum_const_zero, add_zero]
  exact sum_pick (fun j => k.dtE j l) _ (⟨c.val / 64, by omega⟩ : Fin 8) fun j => by rw [Fin.ext_iff]

/-- The running sums, a lane block per head. -/
theorem acb_apply (hk : k.Ok) (l : Fin 128) (c : Fin 1024) : k.acb (ix2 l c) = k.scan.ac (⟨c.val / 128, by omega⟩ : Fin 8) l := by
  have e (x : Fin 8) : k0_pay19 (k0_pay14 k.tri) (k0_pay15 k.dt k.bi k.al) (k0_pay17 k.dt k.bi k.al) (k0_pay18 k.dt k.bi k.al) (ix2 x l) = k.scan.ac x l :=
    act_apply k hk x l
  pointwise [Chunk.acb, k0_pay22, k0_pay20, hk.e128, e, zero_mul, Finset.sum_const_zero, add_zero]
  rw [sum_split3 (fun j => k.scan.ac j l) (fun j : Fin 8 => j.val = c.val / 128) (fun j => Chunk.ac_ne_top k j l)]
  rw [Finset.sum_eq_single (⟨c.val / 128, by omega⟩ : Fin 8)]
  · rw [if_pos rfl]
  · intro b _ hb
    rw [if_neg (fun h => hb (Fin.ext h))]
  · intro h; exact absurd (Finset.mem_univ _) h

end Cert.KernelIdeal.Hand
-- ==== Proof.SsdHeads.lean ====
module

public import proofs.«01_k».proof.Defs
public import Idealize.ShloMosaic.Lib.Pipeline.ValueKit
public import Idealize.ShloMosaic.Lib.Pipeline.ReadBack
public import Idealize.ShloMosaic.Lib.WritesUnit
public import Idealize.ShloMosaic.Lib.Claim
public import Idealize.ShloMosaic.Lib.Pointwise
public import proofs.«01_k».proof.Proof.Gen.KernelIdeal.Value
public import proofs.«01_k».proof.Proof.SsdChunk
public import proofs.«01_k».proof.Proof.SsdRead

@[expose] public section

set_option maxRecDepth 16384

noncomputable section

open Idealize.ShloMosaic Idealize.ShloMosaic.TcCoe Idealize.SL.Sem
open Idealize.ShloMosaic.Pipeline (Dat)
open Cert.Layer
namespace Cert.KernelIdeal.Hand

open Cert.KernelIdeal Cert.KernelIdeal.Gen Cert.KernelIdeal.Value

variable (k : Chunk)

/-- A choice by a condition's bit. -/
theorem select_ite {α : Type} (p : Prop) [Decidable p] (a b : α) : Scalar.select (if p then (1 : BitVec 1) else 0) a b = if p then a else b := by
  split <;> rfl

/-- The mask of the lanes of the first of two heads. -/
theorem pay23_apply (i j : Fin 128) : k0_pay23 (ix2 i j) = if j.val < 64 then 1 else 0 := by
  pointwise [k0_pay23]
  rw [show (64#32 : BitVec 32) = BitVec.ofNat 32 64 from rfl, Idealize.ShloMosaic.WordCmp.cmpi_slt_ofNat (by have := j.isLt; omega) (by decide)]
  by_cases h : j.val < 64 <;> simp [h]

/-- The mask of the positions that are not after a position. -/
theorem pay33_apply (i j : Fin 128) : k0_pay33 (ix2 i j) = if j.val ≤ i.val then 1 else 0 := by
  pointwise [k0_pay33]
  rw [Idealize.ShloMosaic.WordCmp.cmpi_sge_ofNat (by have := i.isLt; omega) (by have := j.isLt; omega)]
  by_cases h : j.val ≤ i.val <;> simp [h]

/-- The running sums of heads 0 and 1, one per channel. -/
theorem l0_apply (hk : k.Ok) (l j : Fin 128) : k.l0 (ix2 l j) = k.scan.ac (⟨j.val / 64, by omega⟩ : Fin 8) l := by
  have e (c : Fin 1024) := acb_apply k hk l c
  simp only [Chunk.acb] at e
  pointwise [Chunk.l0, k0_pay24, e, pay23_apply, select_ite]
  split <;> exact congrArg (fun h => k.scan.ac h l) (Fin.ext (by dsimp only; omega))

/-- The running sums of heads 2 and 3, one per channel. -/
theorem l1_apply (hk : k.Ok) (l j : Fin 128) : k.l1 (ix2 l j) = k.scan.ac (⟨2 + j.val / 64, by omega⟩ : Fin 8) l := by
  have e (c : Fin 1024) := acb_apply k hk l c
  simp only [Chunk.acb] at e
  pointwise [Chunk.l1, k0_pay25, e, pay23_apply, select_ite]
  split <;> exact congrArg (fun h => k.scan.ac h l) (Fin.ext (by dsimp only; omega))

/-- The running sums of head 4. -/
theorem l2_apply (hk : k.Ok) (l j : Fin 128) : k.l2 (ix2 l j) = k.scan.ac 4 l := by
  have e (c : Fin 1024) := acb_apply k hk l c
  simp only [Chunk.acb] at e
  pointwise [Chunk.l2, k0_pay26, e]
  exact congrArg (fun h => k.scan.ac h l) (Fin.ext (by show (512 + j.val) / 128 = 4; omega))

/-- The running sums, one per channel. -/
theorem col_apply (hk : k.Ok) (l : Fin 128) (c : Fin 512) :
    k0_pay27 k.acb k0_pay23 k.l0 k.l1 k.l2 (ix2 l c) = k.scan.ac (Scan.hd c) l := by
  pointwise [k0_pay27, acb_apply k hk, pay23_apply, l0_apply k hk, l1_apply k hk, l2_apply k hk, select_ite, Scan.hd]
  repeat' split
  all_goals exact congrArg (fun h => k.scan.ac h l) (Fin.ext (by first | with_reducible rfl | (dsimp only; omega) | (show 4 = c.val / 64; omega)))

/-- The channels times their step sizes. -/
theorem xdt_apply (hk : k.Ok) (l : Fin 128) (c : Fin 512) : k.xdt (ix2 l c) = k.scan.xdt l c := by
  pointwise [Chunk.xdt, k0_pay28, xs_apply k hk, dte_apply k hk, Scan.xdt]
  rfl

/-- The read and write channels' products, first half. -/
theorem cb0_apply (hk : k.Ok) (l s : Fin 128) : k.cb0 (ix2 l s) = k.scan.cb 0 l s := by
  pointwise [Chunk.cb0, k0_pay38, k0_pay37, k0_pay36, k0_pay35, k0_pay34, cm_apply k hk, bm_apply k hk]
  refine Finset.sum_congr rfl fun n _ => congrArg₂ (fun a b => k.scan.xa l a * k.scan.xa s b) (Fin.ext ?_) (Fin.ext ?_)
  · show 768 + n.val = 768 + (128 * 0 + n.val); omega
  · show 512 + n.val = 512 + (128 * 0 + n.val); omega

/-- The read and write channels' products, second half. -/
theorem cb1_apply (hk : k.Ok) (l s : Fin 128) : k.cb1 (ix2 l s) = k.scan.cb 1 l s := by
  pointwise [Chunk.cb1, k0_pay49, k0_pay48, k0_pay47, k0_pay35, k0_pay34, cm_apply k hk, bm_apply k hk]
  rfl

/-- The state before the chunk, both halves. -/
def Chunk.stE (n : Fin 128) (c : Fin 512) : EReal :=
  if h : c.val < 256 then k.st0 (ix3 0 n (⟨c.val, h⟩ : Fin 256)) else k.st1 (ix3 0 n (⟨c.val - 256, by omega⟩ : Fin 256))

/-- What the state before the chunk gives, first half. -/
theorem off0_apply (hk : k.Ok) (l : Fin 128) (c : Fin 256) : k.off0 (ix2 l c) = k.scan.off k.stE l (⟨c.val, by omega⟩ : Fin 512) := by
  have eg : Scan.gr (⟨c.val, by omega⟩ : Fin 512) = 0 := Fin.ext (by show c.val / 256 = 0; omega)
  pointwise [Chunk.off0, k0_pay40, k0_pay39, k0_pay37, k0_pay35, k0_pay31, col_apply k hk, cm_apply k hk, Scan.off, eg]
  refine congrArg (· * _) (Finset.sum_congr rfl fun n _ => congrArg₂ (· * ·) (congrArg (k.scan.xa l) (Fin.ext ?_)) ?_)
  · show 768 + n.val = 768 + (128 * 0 + n.val); omega
  · rw [Chunk.stE, dif_pos (by show c.val < 256; omega)]

/-- What the state before the chunk gives, second half. -/
theorem off1_apply (hk : k.Ok) (l : Fin 128) (c : Fin 256) : k.off1 (ix2 l c) = k.scan.off k.stE l (⟨256 + c.val, by omega⟩ : Fin 512) := by
  have eg : Scan.gr (⟨256 + c.val, by omega⟩ : Fin 512) = 1 := Fin.ext (by show (256 + c.val) / 256 = 1; omega)
  pointwise [Chunk.off1, k0_pay51, k0_pay50, k0_pay48, k0_pay35, Chunk.inDecay, k0_pay31, col_apply k hk, cm_apply k hk, Scan.off, eg]
  refine congrArg (· * _) (Finset.sum_congr rfl fun n _ => congrArg₂ (· * ·) rfl ?_)
  rw [Chunk.stE, dif_neg (by show ¬ 256 + c.val < 256; omega)]
  exact congrArg (fun q => k.st1 (ix3 0 n q)) (Fin.ext (by show c.val = 256 + c.val - 256; omega))

/-- The state after the chunk, first half. -/
theorem nst0_apply (hk : k.Ok) (n : Fin 128) (c : Fin 256) :
    k.nst0 (ix3 0 n c) = k.scan.nst k.stE n (⟨c.val, by omega⟩ : Fin 512) := by
  have eg : Scan.gr (⟨c.val, by omega⟩ : Fin 512) = 0 := Fin.ext (by show c.val / 256 = 0; omega)
  pointwise [Chunk.nst0, k0_pay41, k0_pay39, k0_pay36, k0_pay34, k0_pay30, k0_pay28, k0_pay29, k0_pay32, col_apply k hk, bm_apply k hk,
    xs_apply k hk, dte_apply k hk, Scan.nst, Scan.cs, Scan.xdt, eg]
  refine congrArg₂ (· + ·) (congrArg (· * _) ?_) (Finset.sum_congr rfl fun l _ => congrArg₂ (· * ·) (congrArg (k.scan.xa l) (Fin.ext ?_)) rfl)
  · rw [Chunk.stE, dif_pos (by show c.val < 256; omega)]
  · show 512 + n.val = 512 + (128 * 0 + n.val); omega

/-- The state after the chunk, second half. -/
theorem nst1_apply (hk : k.Ok) (n : Fin 128) (c : Fin 256) :
    k.nst1 (ix3 0 n c) = k.scan.nst k.stE n (⟨256 + c.val, by omega⟩ : Fin 512) := by
  have eg : Scan.gr (⟨256 + c.val, by omega⟩ : Fin 512) = 1 := Fin.ext (by show (256 + c.val) / 256 = 1; omega)
  pointwise [Chunk.nst1, k0_pay52, k0_pay50, k0_pay47, k0_pay34, Chunk.xdd, Chunk.chunkDecay, k0_pay30, k0_pay28, k0_pay29, k0_pay32, col_apply k hk, bm_apply k hk,
    xs_apply k hk, dte_apply k hk, Scan.nst, Scan.cs, Scan.xdt, eg]
  refine congrArg₂ (· + ·) (congrArg (· * _) ?_) (Finset.sum_congr rfl fun l _ => congrArg₂ (· * ·) rfl rfl)
  rw [Chunk.stE, dif_neg (by show ¬ 256 + c.val < 256; omega)]
  exact congrArg (fun q => k.st1 (ix3 0 n q)) (Fin.ext (by show c.val = 256 + c.val - 256; omega))

/-- A head's decay between two positions, as the kernel's chunk computes it. -/
theorem lmat_fold (h : Fin 8) (l s : Fin 128) :
    Ideal.exp (if s.val ≤ l.val then k.scan.ac h l - k.scan.ac h s else Ideal.ofBits .f32 0xFF800000#32) = k.scan.lmat h l s := rfl

/-- Heads 0 and 1. -/
theorem h0_apply (hk : k.Ok) (l c : Fin 128) :
    k.h0 (ix2 l c) = k.scan.diag l (⟨c.val, by omega⟩ : Fin 512) + k.scan.off k.stE l (⟨c.val, by omega⟩ : Fin 512) := by
  have e0 (s : Fin 128) (h : s.val / 128 < 8) : (⟨s.val / 128, h⟩ : Fin 8) = 0 := Fin.ext (by show s.val / 128 = 0; omega)
  have e1 (s : Fin 128) (h : (128 + s.val) / 128 < 8) : (⟨(128 + s.val) / 128, h⟩ : Fin 8) = 1 := Fin.ext (by show (128 + s.val) / 128 = 1; omega)
  have ec : k0_pay38 k.bm k.cm = k.cb0 := rfl
  pointwise [Chunk.h0, k0_pay45, k0_pay42, k0_pay43, k0_pay44, ec, pay23_apply, pay33_apply, act_apply k hk, acb_apply k hk, select_ite, cb0_apply k hk,
    xdt_apply k hk, off0_apply k hk, e0, e1, lmat_fold]
  exact congrArg (· + _) (k.scan.diag_pair l 0 0 0 1 c (⟨c.val, by omega⟩ : Fin 512) (by show c.val = 128 * 0 + c.val; omega) rfl rfl rfl)

/-- Heads 2 and 3. -/
theorem h1_apply (hk : k.Ok) (l c : Fin 128) :
    k.h1 (ix2 l c) = k.scan.diag l (⟨128 + c.val, by omega⟩ : Fin 512) + k.scan.off k.stE l (⟨128 + c.val, by omega⟩ : Fin 512) := by
  have e0 (s : Fin 128) (h : (256 + s.val) / 128 < 8) : (⟨(256 + s.val) / 128, h⟩ : Fin 8) = 2 := Fin.ext (by show (256 + s.val) / 128 = 2; omega)
  have e1 (s : Fin 128) (h : (384 + s.val) / 128 < 8) : (⟨(384 + s.val) / 128, h⟩ : Fin 8) = 3 := Fin.ext (by show (384 + s.val) / 128 = 3; omega)
  pointwise [Chunk.h1, k0_pay46, pay23_apply, pay33_apply, act_apply k hk, acb_apply k hk, select_ite, cb0_apply k hk,
    xdt_apply k hk, off0_apply k hk, e0, e1, lmat_fold]
  exact congrArg (· + _) (k.scan.diag_pair l 1 0 2 3 c (⟨128 + c.val, by omega⟩ : Fin 512) rfl rfl rfl rfl)

/-- Heads 4 and 5. -/
theorem h2_apply (hk : k.Ok) (l c : Fin 128) :
    k.h2 (ix2 l c) = k.scan.diag l (⟨256 + c.val, by omega⟩ : Fin 512) + k.scan.off k.stE l (⟨256 + c.val, by omega⟩ : Fin 512) := by
  have e0 (s : Fin 128) (h : (512 + s.val) / 128 < 8) : (⟨(512 + s.val) / 128, h⟩ : Fin 8) = 4 := Fin.ext (by show (512 + s.val) / 128 = 4; omega)
  have e1 (s : Fin 128) (h : (640 + s.val) / 128 < 8) : (⟨(640 + s.val) / 128, h⟩ : Fin 8) = 5 := Fin.ext (by show (640 + s.val) / 128 = 5; omega)
  have ec : k0_pay51 k.inDecay (k0_pay48 (k0_pay35 k.cm)) k.st1 = k.off1 := rfl
  pointwise [Chunk.h2, k0_pay53, ec, pay23_apply, pay33_apply, act_apply k hk, acb_apply k hk, select_ite, cb1_apply k hk,
    xdt_apply k hk, off1_apply k hk, e0, e1, lmat_fold]
  exact congrArg (· + _) (k.scan.diag_pair l 2 1 4 5 c (⟨256 + c.val, by omega⟩ : Fin 512) rfl rfl rfl rfl)

/-- A position's skip weights and gate. -/
def Chunk.dskE (c : Fin 512) : EReal := k.dsk (ix2 0 c)

/-- The gate's channels. -/
def Chunk.zE (l : Fin 128) (c : Fin 512) : EReal := k.z (ix3 0 l c)

/-- The gated output before its normalisation. -/
theorem gated_apply (hk : k.Ok) (l : Fin 128) (c : Fin 512) : k.gated (ix2 l c) = k.scan.gated k.stE k.dskE k.zE l c := by
  have e0 (s : Fin 128) (h : (768 + s.val) / 128 < 8) : (⟨(768 + s.val) / 128, h⟩ : Fin 8) = 6 := Fin.ext (by show (768 + s.val) / 128 = 6; omega)
  have e1 (s : Fin 128) (h : (896 + s.val) / 128 < 8) : (⟨(896 + s.val) / 128, h⟩ : Fin 8) = 7 := Fin.ext (by show (896 + s.val) / 128 = 7; omega)
  pointwise [Chunk.gated, k0_pay56, k0_pay54, k0_pay55, pay23_apply, pay33_apply, act_apply k hk, acb_apply k hk, select_ite, cb1_apply k hk,
    xdt_apply k hk, off1_apply k hk, h0_apply k hk, h1_apply k hk, h2_apply k hk, xs_apply k hk, e0, e1, lmat_fold, zero_sub]
  refine congrArg₂ (· * ·) (congrArg₂ (· + ·) ?_ rfl) rfl
  have ee (a : Fin 512) (h : a = c) : k.scan.diag l a + k.scan.off k.stE l a = k.scan.diag l c + k.scan.off k.stE l c := by rw [h]
  split
  · rfl
  · split
    · exact ee _ (Fin.ext (by dsimp only; omega))
    · split
      · exact ee _ (Fin.ext (by dsimp only; omega))
      · refine (congrArg (· + _) (k.scan.diag_pair l 3 1 6 7 (⟨c.val - 128 - 128 - 128, by omega⟩ : Fin 128)
          (⟨384 + (c.val - 128 - 128 - 128), by omega⟩ : Fin 512) (by show 384 + (c.val - 128 - 128 - 128) = 384 + (c.val - 128 - 128 - 128); with_reducible rfl) rfl rfl rfl)).trans ?_
        refine congrArg₂ (fun a b => k.scan.diag l a + k.scan.off k.stE l b) (Fin.ext (by dsimp only; omega)) (Fin.ext (by dsimp only; omega))

/-- The chunk's output: the gated output normalised in its two halves, times the norm weights. -/
theorem y_apply (hk : k.Ok) (l : Fin 128) (c : Fin 512) :
    k.y (ix3 0 l c) = norm2E (fun c => k.scan.gated k.stE k.dskE k.zE l c) c * k.nw (ix2 0 c) := by
  have eg : k0_pay56 k.xs k.act k.acb k0_pay23 k.xdt k0_pay33 k.h0 k.h1 k.cb1 k.off1 k.h2 (k0_pay54 k.acb) (k0_pay55 k.act) k.dsk k.z = k.gated := rfl
  pointwise [Chunk.y, k0_pay59, Chunk.sq0, k0_pay58, k0_pay57, Chunk.gated0, eg, gated_apply k hk, norm2E]
  refine congrArg (· * _) ?_
  have ee (f : Fin 512 → EReal) (a b : Fin 512) (u v : Fin 256 → Fin 512) (h : a = b) (h2 : u = v) :
      f a * Ideal.rsqrt (Ideal.div (∑ x : Fin 256, f (u x) * f (u x)) (Ideal.ofBits .f32 0x43800000#32) + Ideal.ofBits .f32 0x358637BD#32)
        = f b * Ideal.rsqrt (Ideal.div (∑ x : Fin 256, f (v x) * f (v x)) (Ideal.ofBits .f32 0x43800000#32) + Ideal.ofBits .f32 0x358637BD#32) := by
    rw [h, h2]
  split
  · exact ee _ _ _ _ _ rfl (funext fun x => Fin.ext (by dsimp only; omega))
  · exact ee _ _ _ _ _ (Fin.ext (by dsimp only; omega)) (funext fun x => Fin.ext (by dsimp only; omega))

end Cert.KernelIdeal.Hand
-- ==== Proof.SsdRef.lean ====
module

public import proofs.«01_k».proof.Defs
public import Idealize.ShloMosaic.Lib.Pipeline.ValueKit
public import Idealize.ShloMosaic.Lib.Claim
public import Idealize.ShloMosaic.Lib.Pointwise
public import Idealize.ShloMosaic.Lib.ValueIdxRank6
public import Idealize.ShloMosaic.Lib.WordCmp
public import proofs.«01_k».proof.Proof.Gen.ReferenceIdeal.Read
public import proofs.«01_k».proof.Proof.SsdScan

@[expose] public section

set_option maxRecDepth 16384

noncomputable section

open Idealize.ShloMosaic Idealize.ShloMosaic.TcCoe Idealize.SL.Sem
open Idealize.ShloMosaic.Pipeline (Dat)
open Cert.Layer

namespace Cert.ReferenceIdeal.Hand

open Cert.ReferenceIdeal Cert.ReferenceIdeal.Gen Cert.ReferenceIdeal.Read

variable (x0 : Vec Ideal S16x4096x3072 .bf16) (x1 : Vec Ideal S16x8x4096 .f32) (x2 : Vec Ideal S4x1024 .f32) (x3 : Vec Ideal S1024 .f32)
  (x4 x5 x6 : Vec Ideal S8 .f32) (x7 : Vec Ideal S512 .f32)

/-- A position's entry of a projected channel `d` positions back, zero before the first position. -/
def prev (b : Fin 16) (ch : Fin 1024) (s d : ℕ) (hs : s < 4096) : EReal :=
  if h : d ≤ s then x0 (ix3 b (⟨s - d, by omega⟩ : Fin 4096) (⟨ch.val, by omega⟩ : Fin 3072)) else 0

/-- The position of a chunk's row. -/
def pos (i : Fin 32) (l : Fin 128) : Fin 4096 := ⟨i.val * 128 + l.val, by omega⟩

/-- The gated convolution of a channel at a position. -/
def xaE (b : Fin 16) (s : Fin 4096) (ch : Fin 1024) : EReal :=
  siluE (convE (x3 (ix1 ch)) (x2 (ix2 0 ch)) (x2 (ix2 1 ch)) (x2 (ix2 2 ch)) (x2 (ix2 3 ch))
    (prev x0 b ch s.val 3 s.isLt) (prev x0 b ch s.val 2 s.isLt) (prev x0 b ch s.val 1 s.isLt) (prev x0 b ch s.val 0 s.isLt))

/-- A head's step size at a position. -/
def dtE (b : Fin 16) (h : Fin 8) (s : Fin 4096) : EReal := softplusE (x1 (ix3 b h s) + x4 (ix1 h))

/-- What a chunk of the reference scans. -/
def scan (b : Fin 16) (i : Fin 32) : Scan :=
  ⟨fun l ch => xaE x0 x2 x3 b (pos i l) ch, fun h l => dtE x1 x4 b h (pos i l), fun h l => dtE x1 x4 b h (pos i l) * -Ideal.exp (x5 (ix1 h))⟩

/-- The host's zero. -/
theorem sitofp_zero : (FloatOps.sitofp FTy.f32 (0#32 : BitVec 32) : Ideal FTy.f32) = (0 : EReal) := by
  show ((((0#32 : BitVec 32).toInt : ℝ)) : EReal) = 0
  simp

/-- A padded entry is the entry some positions back. -/
theorem pad_prev (b : Fin 16) (ch : Fin 1024) (s d e : ℕ) (hs : s < 4096) (hd : e + d = 3) :
    (if h : 3 ≤ e + s ∧ e + s - 3 < 4096 then (x0 (ix3 b (⟨e + s - 3, h.2⟩ : Fin 4096) (⟨ch.val, by omega⟩ : Fin 3072)) : EReal)
      else FloatOps.sitofp (F := Ideal) FTy.f32 (0#32 : BitVec 32))
      = prev x0 b ch s d hs := by
  unfold prev
  by_cases h : d ≤ s
  · rw [dif_pos h, dif_pos (by omega)]
    exact congrArg (fun q => x0 (ix3 b q (⟨ch.val, by omega⟩ : Fin 3072))) (Fin.ext (by dsimp only; omega))
  · rw [dif_neg h, dif_neg (by omega)]
    exact sitofp_zero

/-- The reference's gated channels. -/
theorem v42_apply (b : Fin 16) (s : Fin 4096) (ch : Fin 1024) : val_main_v42 (F := Ideal) x0 x2 x3 (ix3 b s ch) = xaE x0 x2 x3 b s ch := by
  pointwise [val_main_v0, val_main_v1, val_main_v2, val_main_v3, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_call0_v0, val_main_cst, val_main_cst_0, val_main_c]
  rw [mul_sigmoid]
  refine congrArg siluE (congrArg₂ (· + ·) (congrArg₂ (· + ·) (congrArg₂ (· + ·) (congrArg₂ (· + ·) rfl (congrArg (_ * ·) ?_))
    (congrArg (_ * ·) ?_)) (congrArg (_ * ·) ?_)) (congrArg (_ * ·) ?_))
  · refine Eq.trans ?_ (pad_prev x0 b ch s.val 3 0 s.isLt rfl)
    simp only [zero_add]
  · exact pad_prev x0 b ch s.val 2 1 s.isLt rfl
  · exact pad_prev x0 b ch s.val 1 2 s.isLt rfl
  · rw [prev, dif_pos (Nat.zero_le _)]; rfl

/-- The reference's step sizes. -/
theorem v52_apply (b : Fin 16) (s : Fin 4096) (h : Fin 8) : val_main_v52 (F := Ideal) x1 x4 (ix3 b s h) = dtE x1 x4 b h s := by
  pointwise [val_main_v52, val_main_v51, val_main_v50, val_main_v49, val_main_v4, val_main_call1_v0, val_main_call1_v1, val_main_call1_v2, val_main_call1_v3, val_main_call1_v4, val_main_call1_v5, val_main_call1_v6, val_main_call1_v7, val_main_call1_v8, val_main_call1_v9, val_main_call1_v10, val_main_call1_v11, val_main_call1_cst]
  rw [if_neg (fun h => h rfl), Ideal.absf_def]
  rfl

/-- The head of a group. -/
def hdOf (g : Fin 2) (k : Fin 4) : Fin 8 := ⟨g.val * 4 + k.val, by omega⟩

/-- The channel of a head. -/
def colOf (g : Fin 2) (k : Fin 4) (p : Fin 64) : Fin 512 := ⟨(g.val * 4 + k.val) * 64 + p.val, by omega⟩

/-- A head's channel is the head's. -/
theorem hd_colOf (g : Fin 2) (k : Fin 4) (p : Fin 64) : Scan.hd (colOf g k p) = hdOf g k :=
  Fin.ext (by show ((g.val * 4 + k.val) * 64 + p.val) / 64 = g.val * 4 + k.val; omega)

/-- A head's channel is in the head's group. -/
theorem gr_colOf (g : Fin 2) (k : Fin 4) (p : Fin 64) : Scan.gr (colOf g k p) = g :=
  Fin.ext (by show ((g.val * 4 + k.val) * 64 + p.val) / 256 = g.val; omega)

/-- The reference's inputs times their step sizes. -/
theorem v58_apply (b : Fin 16) (i : Fin 32) (l : Fin 128) (g : Fin 2) (k : Fin 4) (p : Fin 64) :
    val_main_v58 (F := Ideal) x0 x1 x2 x3 x4 (ix6 b i l g k p) = (scan x0 x1 x2 x3 x4 x5 b i).xdt l (colOf g k p) := by
  pointwise [val_main_v55, val_main_v56, val_main_v57, val_main_v58, val_main_v44, val_main_v43, v42_apply, v52_apply, Scan.xdt, hd_colOf]
  rfl

/-- The reference's log decays. -/
theorem v63_apply (b : Fin 16) (i : Fin 32) (l : Fin 128) (g : Fin 2) (k : Fin 4) :
    val_main_v63 (F := Ideal) x1 x4 x5 (ix5 b i g k l) = (scan x0 x1 x2 x3 x4 x5 b i).ad (hdOf g k) l := by
  pointwise [val_main_v59, val_main_v60, val_main_v61, val_main_v62, val_main_v63, val_main_v53, val_main_v54, v52_apply]
  rfl

/-- The host's running sum along the last of five axes. -/
theorem window5 (x : Vec Ideal S16x32x2x4x128 .f32) (h : S16x32x2x4x128.ReduceWindows ![1, 1, 1, 1, 128] ![1, 1, 1, 1, 1] ![0, 0, 0, 0, 127] ![0, 0, 0, 0, 0] S16x32x2x4x128)
    (b : Fin 16) (i : Fin 32) (g : Fin 2) (k : Fin 4) (l : Fin 128) :
    Ideal.hostReduceWindowAdd ![1, 1, 1, 1, 128] ![1, 1, 1, 1, 1] ![0, 0, 0, 0, 127] ![0, 0, 0, 0, 0] h x 0 (ix5 b i g k l)
      = ∑ j : Fin 128, if j.val ≤ l.val then x (ix5 b i g k j) else 0 := by
  rw [← sum_window (fun j => x (ix5 b i g k j)) l]
  unfold Ideal.hostReduceWindowAdd Host.reduceWindow
  dsimp only
  rw [foldl_add, zero_add, ← Fin.sum_univ_def]
  refine Fintype.sum_equiv ((⟨5, ![1, 1, 1, 1, 128]⟩ : Shape).rowMajor.symm.trans
    ⟨fun w => (w 4 : Fin 128), fun k => (ix5 (0 : Fin 1) (0 : Fin 1) (0 : Fin 1) (0 : Fin 1) k), fun w => ?_, fun k => rfl⟩) _ _ fun n => ?_
  · funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => exact Subsingleton.elim (α := Fin 1) _ _
    | ⟨4, _⟩ => rfl
  · have hw (a : Fin 4) : ((⟨5, ![1, 1, 1, 1, 128]⟩ : Shape).rowMajor.symm n a.castSucc).val = 0 := by
      have := ((⟨5, ![1, 1, 1, 1, 128]⟩ : Shape).rowMajor.symm n a.castSucc).isLt
      match a with
      | ⟨0, _⟩ => exact Nat.lt_one_iff.1 this
      | ⟨1, _⟩ => exact Nat.lt_one_iff.1 this
      | ⟨2, _⟩ => exact Nat.lt_one_iff.1 this
      | ⟨3, _⟩ => exact Nat.lt_one_iff.1 this
    show _ = if h : 127 ≤ l.val + ((⟨5, ![1, 1, 1, 1, 128]⟩ : Shape).rowMajor.symm n 4).val then x (ix5 b i g k _) else 0
    have hw4 : ((⟨5, ![1, 1, 1, 1, 128]⟩ : Shape).rowMajor.symm n 4).val < 128 := ((⟨5, ![1, 1, 1, 1, 128]⟩ : Shape).rowMajor.symm n 4).isLt
    have hw0 := hw 0
    have hw1 := hw 1
    have hw2 := hw 2
    have hw3 := hw 3
    by_cases h : 127 ≤ l.val + ((⟨5, ![1, 1, 1, 1, 128]⟩ : Shape).rowMajor.symm n 4).val
    · rw [dif_pos h]
      refine (dif_pos fun a => ?_).trans (congrArg x (funext fun a => Fin.ext ?_))
      · match a with
        | ⟨0, _⟩ => show 0 ≤ b.val * 1 + ((⟨5, ![1, 1, 1, 1, 128]⟩ : Shape).rowMajor.symm n 0).val ∧ b.val * 1 + ((⟨5, ![1, 1, 1, 1, 128]⟩ : Shape).rowMajor.symm n 0).val - 0 < 16; have : ((⟨5, ![1, 1, 1, 1, 128]⟩ : Shape).rowMajor.symm n 0).val = 0 := hw0; omega
        | ⟨1, _⟩ => show 0 ≤ i.val * 1 + ((⟨5, ![1, 1, 1, 1, 128]⟩ : Shape).rowMajor.symm n 1).val ∧ i.val * 1 + ((⟨5, ![1, 1, 1, 1, 128]⟩ : Shape).rowMajor.symm n 1).val - 0 < 32; have : ((⟨5, ![1, 1, 1, 1, 128]⟩ : Shape).rowMajor.symm n 1).val = 0 := hw1; omega
        | ⟨2, _⟩ => show 0 ≤ g.val * 1 + ((⟨5, ![1, 1, 1, 1, 128]⟩ : Shape).rowMajor.symm n 2).val ∧ g.val * 1 + ((⟨5, ![1, 1, 1, 1, 128]⟩ : Shape).rowMajor.symm n 2).val - 0 < 2; have : ((⟨5, ![1, 1, 1, 1, 128]⟩ : Shape).rowMajor.symm n 2).val = 0 := hw2; omega
        | ⟨3, _⟩ => show 0 ≤ k.val * 1 + ((⟨5, ![1, 1, 1, 1, 128]⟩ : Shape).rowMajor.symm n 3).val ∧ k.val * 1 + ((⟨5, ![1, 1, 1, 1, 128]⟩ : Shape).rowMajor.symm n 3).val - 0 < 4; have : ((⟨5, ![1, 1, 1, 1, 128]⟩ : Shape).rowMajor.symm n 3).val = 0 := hw3; omega
        | ⟨4, _⟩ => show 127 ≤ l.val * 1 + ((⟨5, ![1, 1, 1, 1, 128]⟩ : Shape).rowMajor.symm n 4).val ∧ l.val * 1 + ((⟨5, ![1, 1, 1, 1, 128]⟩ : Shape).rowMajor.symm n 4).val - 127 < 128; omega
      · match a with
        | ⟨0, _⟩ => show b.val * 1 + ((⟨5, ![1, 1, 1, 1, 128]⟩ : Shape).rowMajor.symm n 0).val - 0 = b.val; have : ((⟨5, ![1, 1, 1, 1, 128]⟩ : Shape).rowMajor.symm n 0).val = 0 := hw0; omega
        | ⟨1, _⟩ => show i.val * 1 + ((⟨5, ![1, 1, 1, 1, 128]⟩ : Shape).rowMajor.symm n 1).val - 0 = i.val; have : ((⟨5, ![1, 1, 1, 1, 128]⟩ : Shape).rowMajor.symm n 1).val = 0 := hw1; omega
        | ⟨2, _⟩ => show g.val * 1 + ((⟨5, ![1, 1, 1, 1, 128]⟩ : Shape).rowMajor.symm n 2).val - 0 = g.val; have : ((⟨5, ![1, 1, 1, 1, 128]⟩ : Shape).rowMajor.symm n 2).val = 0 := hw2; omega
        | ⟨3, _⟩ => show k.val * 1 + ((⟨5, ![1, 1, 1, 1, 128]⟩ : Shape).rowMajor.symm n 3).val - 0 = k.val; have : ((⟨5, ![1, 1, 1, 1, 128]⟩ : Shape).rowMajor.symm n 3).val = 0 := hw3; omega
        | ⟨4, _⟩ => show l.val * 1 + ((⟨5, ![1, 1, 1, 1, 128]⟩ : Shape).rowMajor.symm n 4).val - 127 = l.val + ((⟨5, ![1, 1, 1, 1, 128]⟩ : Shape).rowMajor.symm n 4).val - 127; omega
    · rw [dif_neg h]
      refine dif_neg fun hin => h ?_
      have h4 := (hin 4).1
      change 127 ≤ l.val * 1 + ((⟨5, ![1, 1, 1, 1, 128]⟩ : Shape).rowMajor.symm n 4).val at h4
      omega

/-- The reference's running sums. -/
theorem v64_apply (b : Fin 16) (i : Fin 32) (l : Fin 128) (g : Fin 2) (k : Fin 4) :
    val_main_v64 (F := Ideal) x1 x4 x5 (ix5 b i g k l) = (scan x0 x1 x2 x3 x4 x5 b i).ac (hdOf g k) l := by
  have e0 : (val_main_call2_call0_v0 (F := Ideal)) (Shape.Idx.first h_S_) = (0 : EReal) := by
    rw [val_main_call2_call0_v0_apply, val_main_call2_call0_cst_apply]
    exact Ideal.ofBits_zero_f32
  unfold val_main_v64
  simp only [Host.reduceWindowAdd, Ideal.hostReduceWindowAdd_def]
  rw [e0, window5]
  unfold Scan.ac
  simp only [v63_apply x0 x1 x2 x3 x4 x5]

/-- The reference's products of a reading and a writing position, decayed. -/
theorem v80_apply (b : Fin 16) (i : Fin 32) (l s : Fin 128) (g : Fin 2) (k : Fin 4) : val_main_v80 (F := Ideal) x0 x1 x2 x3 x4 x5 (ix6 b i g k l s)
    = (scan x0 x1 x2 x3 x4 x5 b i).cb g l s * (scan x0 x1 x2 x3 x4 x5 b i).lmat (hdOf g k) l s := by
  pointwise [val_main_v65, val_main_v66, val_main_v67, val_main_v68, val_main_v69, val_main_v70, val_main_v71, val_main_v72, val_main_v73, val_main_v74, val_main_v75, val_main_v76, val_main_v77, val_main_v78, val_main_v79, val_main_v80, val_main_v45, val_main_v46, val_main_v47, val_main_v48, val_main_call3_v0, val_main_call3_v1, val_main_call3_v2, v42_apply,
    v64_apply x0 x1 x2 x3 x4 x5]
  rw [WordCmp.cmpi_sge_ofNat (by have := l.isLt; omega) (by have := s.isLt; omega), WordCmp.select_ofBool]
  refine congrArg₂ (· * ·) (Finset.sum_congr rfl fun n _ => congrArg₂ (fun u v => xaE x0 x2 x3 b (pos i l) u * xaE x0 x2 x3 b (pos i s) v) (Fin.ext ?_) (Fin.ext ?_)) ?_
  · show 768 + (g.val * 128 + n.val) = 768 + (128 * g.val + n.val); omega
  · show 512 + (g.val * 128 + n.val) = 512 + (128 * g.val + n.val); omega
  · by_cases h : s.val ≤ l.val <;> simp only [h, Scan.lmat] <;> rfl

/-- What a chunk's own positions give in the reference. -/
theorem v82_apply (b : Fin 16) (i : Fin 32) (l : Fin 128) (g : Fin 2) (k : Fin 4) (p : Fin 64) :
    val_main_v82 (F := Ideal) x0 x1 x2 x3 x4 x5 (ix6 b i l g k p) = (scan x0 x1 x2 x3 x4 x5 b i).diag l (colOf g k p) := by
  pointwise [val_main_v81, val_main_v82, v80_apply, v58_apply x0 x1 x2 x3 x4 x5, Scan.diag, hd_colOf, gr_colOf]
  exact Finset.sum_congr rfl fun s _ => mul_comm _ _

/-- What a chunk adds to the state in the reference. -/
theorem v91_apply (b : Fin 16) (i : Fin 32) (n : Fin 128) (g : Fin 2) (k : Fin 4) (p : Fin 64) :
    val_main_v91 (F := Ideal) x0 x1 x2 x3 x4 x5 (ix6 b i g k p n) = (scan x0 x1 x2 x3 x4 x5 b i).cs n (colOf g k p) := by
  pointwise [val_main_v75, val_main_v45, val_main_v46, val_main_v83, val_main_v84, val_main_v85, val_main_v86, val_main_v87, val_main_v88, val_main_v89, val_main_v90, val_main_v91, v42_apply, v58_apply x0 x1 x2 x3 x4 x5, v64_apply x0 x1 x2 x3 x4 x5, Scan.cs, hd_colOf, gr_colOf]
  refine Finset.sum_congr rfl fun l _ => ?_
  rw [mul_comm]
  refine congrArg₂ (· * ·) (congrArg (xaE x0 x2 x3 b (pos i l)) (Fin.ext ?_)) (mul_comm _ _)
  show 512 + (g.val * 128 + n.val) = 512 + (128 * g.val + n.val); omega

/-- The decays between chunks in the reference. -/
theorem v108_apply (b : Fin 16) (i j : Fin 32) (g : Fin 2) (k : Fin 4) : val_main_v108 (F := Ideal) x1 x4 x5 (ix5 b g k i j)
    = if j.val < i.val then Ideal.exp (∑ m : Fin 32, if j.val < m.val ∧ m.val < i.val then (scan x0 x1 x2 x3 x4 x5 b m).ac (hdOf g k) 127 else 0) else 0 := by
  have e (m : Fin 32) : val_main_v102 (F := Ideal) x1 x4 x5 (ix6 b g k i j m)
      = if j.val < m.val ∧ m.val < i.val then (scan x0 x1 x2 x3 x4 x5 b m).ac (hdOf g k) 127 else 0 := by
    pointwise [val_main_v92, val_main_v93, val_main_v94, val_main_v95, val_main_v96, val_main_v97, val_main_v98, val_main_v99, val_main_v100, val_main_v101, val_main_v102, val_main_call4_v0, val_main_call4_v1, val_main_call4_v2, val_main_call4_v3, val_main_cst_2, v64_apply x0 x1 x2 x3 x4 x5]
    rw [WordCmp.cmpi_slt_ofNat (by have := j.isLt; omega) (by have := m.isLt; omega), WordCmp.cmpi_slt_ofNat (by have := m.isLt; omega) (by have := i.isLt; omega),
      WordCmp.andi_ofBool, WordCmp.select_ofBool]
    have h0 : (id (constant (F := Ideal) S_ FTy.f32 0#32) : FVec Ideal S_ .f32) ix0 = (0 : EReal) := Ideal.ofBits_zero_f32
    rw [h0]
    by_cases h1 : j.val < m.val <;> by_cases h2 : m.val < i.val <;> simp [h1, h2]
  have e3 : val_main_v103 (F := Ideal) x1 x4 x5 (ix5 b g k i j)
      = ∑ m : Fin 32, if j.val < m.val ∧ m.val < i.val then (scan x0 x1 x2 x3 x4 x5 b m).ac (hdOf g k) 127 else 0 := by
    rw [val_main_v103_apply, val_main_cst_3_apply]
    refine (congrArg₂ (· + ·) Ideal.ofBits_zero_f32 (Finset.sum_congr rfl fun m _ => ?_)).trans (zero_add _)
    refine Eq.trans (congrArg _ ?_) (e m)
    funext a
    match a with
    | ⟨0, _⟩ => rfl | ⟨1, _⟩ => rfl | ⟨2, _⟩ => rfl | ⟨3, _⟩ => rfl | ⟨4, _⟩ => rfl | ⟨5, _⟩ => rfl
  pointwise [val_main_v104, val_main_v105, val_main_v106, val_main_v107, val_main_v108, val_main_call5_v0, val_main_call5_v1, val_main_call5_v2, val_main_cst_4, e3]
  rw [WordCmp.cmpi_slt_ofNat (by have := j.isLt; omega) (by have := i.isLt; omega), WordCmp.select_ofBool]
  have h0 : (id (constant (F := Ideal) S_ FTy.f32 0#32) : FVec Ideal S_ .f32) ix0 = (0 : EReal) := Ideal.ofBits_zero_f32
  rw [h0]
  by_cases h1 : j.val < i.val <;> simp [h1]

/-- The state before a chunk in the reference. -/
def stateE (b : Fin 16) (i : ℕ) (n : Fin 128) (c : Fin 512) : EReal :=
  stateSum (fun m => (scan x0 x1 x2 x3 x4 x5 b m).ac (Scan.hd c) 127) (fun m => (scan x0 x1 x2 x3 x4 x5 b m).cs n c) i

/-- It is what the reference's states hold. -/
theorem v109_apply (b : Fin 16) (i : Fin 32) (n : Fin 128) (g : Fin 2) (k : Fin 4) (p : Fin 64) :
    val_main_v109 (F := Ideal) x0 x1 x2 x3 x4 x5 (ix6 b g k p n i) = stateE x0 x1 x2 x3 x4 x5 b i.val n (colOf g k p) := by
  pointwise [val_main_v109, v91_apply, v108_apply x0 x1 x2 x3 x4 x5, stateE, stateSum, hd_colOf]

/-- Before the first chunk the state is zero. -/
theorem stateE_zero (b : Fin 16) : stateE x0 x1 x2 x3 x4 x5 b 0 = fun _ _ => 0 :=
  funext fun _ => funext fun _ => stateSum_zero _ _

/-- A running sum of log decays is not positive infinity. -/
theorem ac_ne_top (b : Fin 16) (m : Fin 32) (h : Fin 8) (l : Fin 128) : (scan x0 x1 x2 x3 x4 x5 b m).ac h l ≠ ⊤ := by
  refine sum_ne_top _ _ fun j _ => ?_
  split
  · refine ne_top_of_le_ne_top EReal.zero_ne_top ?_
    show dtE x1 x4 b h (pos m j) * -Ideal.exp (x5 (ix1 h)) ≤ 0
    rw [mul_neg]
    exact EReal.neg_le_zero.mpr (mul_nonneg (softplusE_nonneg _) (exp_nonneg _))
  · exact EReal.zero_ne_top

/-- A chunk's next state is the state before the next chunk. -/
theorem stateE_succ (b : Fin 16) (i : Fin 32) :
    stateE x0 x1 x2 x3 x4 x5 b (i.val + 1) = (scan x0 x1 x2 x3 x4 x5 b i).nst (stateE x0 x1 x2 x3 x4 x5 b i.val) := by
  funext n c
  exact stateSum_succ _ _ (fun m => ac_ne_top x0 x1 x2 x3 x4 x5 b m _ _) i

/-- What a chunk gives before the skip in the reference. -/
theorem v118_apply (b : Fin 16) (i : Fin 32) (l : Fin 128) (g : Fin 2) (k : Fin 4) (p : Fin 64) :
    val_main_v118 (F := Ideal) x0 x1 x2 x3 x4 x5 (ix6 b i l g k p) = (scan x0 x1 x2 x3 x4 x5 b i).diag l (colOf g k p)
      + (scan x0 x1 x2 x3 x4 x5 b i).off (stateE x0 x1 x2 x3 x4 x5 b i.val) l (colOf g k p) := by
  pointwise [val_main_v76, val_main_v47, val_main_v48, val_main_v110, val_main_v111, val_main_v112, val_main_v113, val_main_v114, val_main_v115, val_main_v116, val_main_v117, val_main_v118, v42_apply, v82_apply, v109_apply, v64_apply x0 x1 x2 x3 x4 x5, Scan.off, hd_colOf, gr_colOf]
  refine congrArg (_ + ·) (congrArg (· * _) (Finset.sum_congr rfl fun n _ => (mul_comm _ _).trans ?_))
  refine congrArg (· * _) (congrArg (xaE x0 x2 x3 b (pos i l)) (Fin.ext ?_))
  show 768 + (g.val * 128 + n.val) = 768 + (128 * g.val + n.val); omega

/-- The gated outputs of a position in the reference. -/
def gatedE (b : Fin 16) (i : Fin 32) (l : Fin 128) (c : Fin 512) : EReal :=
  (scan x0 x1 x2 x3 x4 x5 b i).gated (stateE x0 x1 x2 x3 x4 x5 b i.val) (fun c => x6 (ix1 (Scan.hd c)))
    (fun l c => x0 (ix3 b (pos i l) (⟨1024 + c.val, by omega⟩ : Fin 3072))) l c

/-- The reference's gated outputs. -/
theorem v133_apply (b : Fin 16) (i : Fin 32) (l : Fin 128) (c : Fin 512) :
    val_main_v133 (F := Ideal) x0 x1 x2 x3 x4 x5 x6 (ix3 b (pos i l) c) = gatedE x0 x1 x2 x3 x4 x5 x6 b i l c := by
  have hc : colOf (⟨c.val / 64 / 4, by omega⟩ : Fin 2) (⟨c.val / 64 % 4, by omega⟩ : Fin 4) (⟨c.val % 64, by omega⟩ : Fin 64) = c :=
    Fin.ext (by show (c.val / 64 / 4 * 4 + c.val / 64 % 4) * 64 + c.val % 64 = c.val; omega)
  have hi (h) : (⟨(pos i l).val / 128, h⟩ : Fin 32) = i := Fin.ext (by show (i.val * 128 + l.val) / 128 = i.val; omega)
  have hl (h) : (⟨(pos i l).val % 128, h⟩ : Fin 128) = l := Fin.ext (by show (i.val * 128 + l.val) % 128 = l.val; omega)
  pointwise [val_main_v119, val_main_v120, val_main_v121, val_main_v122, val_main_v123, val_main_v124, val_main_v125, val_main_v126, val_main_v127, val_main_v128, val_main_v129, val_main_v130, val_main_v131, val_main_v132, val_main_v133, val_main_v44, val_main_v43, val_main_v3, val_main_v2, val_main_cst_5, val_main_cst_6, hi, hl, v118_apply, v42_apply, hc, mul_sigmoid,
    gatedE, Scan.gated]
  rfl

/-- The reference's result at a chunk's position. -/
theorem v149_apply (b : Fin 16) (i : Fin 32) (l : Fin 128) (c : Fin 512) :
    val_main_v149 (F := Ideal) x0 x1 x2 x3 x4 x5 x6 x7 (ix3 b (pos i l) c)
      = norm2E (gatedE x0 x1 x2 x3 x4 x5 x6 b i l) c * x7 (ix1 c) := by
  pointwise [val_main_v134, val_main_v135, val_main_v136, val_main_v137, val_main_v138, val_main_v139, val_main_v140, val_main_v141, val_main_v142, val_main_v143, val_main_v144, val_main_v145, val_main_v146, val_main_v147, val_main_v148, val_main_v149, val_main_cst_7, val_main_cst_8, val_main_cst_9, v133_apply, norm2E]
  refine congrArg (· * _) (congrArg (_ * ·) (congrArg Ideal.rsqrt (congrArg (· + _) (congrArg (Ideal.div · _) (Finset.sum_congr rfl fun x _ => ?_)))))
  refine congrArg (fun q => gatedE x0 x1 x2 x3 x4 x5 x6 b i l q * gatedE x0 x1 x2 x3 x4 x5 x6 b i l q) (Fin.ext ?_)
  show c.val / 256 * 256 + x.val = 256 * (c.val / 256) + x.val; omega

end Cert.ReferenceIdeal.Hand
-- ==== Proof.SsdBlocks.lean ====
module

public import proofs.«01_k».proof.Defs
public import Idealize.ShloMosaic.Lib.Claim
public import Idealize.ShloMosaic.Lib.Pointwise
public import Idealize.ShloMosaic.Lib.Pipeline.ValueKit
public import proofs.«01_k».proof.Proof.Gen.KernelIdeal.Value
public import proofs.«01_k».proof.Proof.SsdHost
public import proofs.«01_k».proof.Proof.SsdPoint
public import proofs.«01_k».proof.Proof.SsdHeads
public import proofs.«01_k».proof.Proof.SsdRef

/-!
# The scan's blocks

What each grid point's blocks hold of the arguments, and with it: a chunk of the kernel scans what the same chunk of the reference scans.
-/

@[expose] public section

set_option maxRecDepth 16384

noncomputable section

open Idealize.ShloMosaic Idealize.ShloMosaic.TcCoe Idealize.SL.Sem
open Idealize.ShloMosaic.Pipeline (Dat)
open Cert.Layer
namespace Cert.KernelIdeal.Hand

open Cert.KernelIdeal Cert.KernelIdeal.Gen Cert.KernelIdeal.Value

variable (m : (ℓ : Loc nD τ sig) → Buf (Elt Ideal) ℓ) (c : Dev nD)

/-- The projections. -/
abbrev a0 : Vec Ideal S16x4096x3072 .bf16 := m ((c : Thread nD τ).loc main_arg0)
/-- The step sizes' logits, transposed. -/
abbrev a1 : Vec Ideal S16x8x4096 .f32 := m ((c : Thread nD τ).loc main_arg1)
/-- The convolution's weights. -/
abbrev a2 : Vec Ideal S4x1024 .f32 := m ((c : Thread nD τ).loc main_arg2)
/-- The convolution's bias. -/
abbrev a3 : Vec Ideal S1024 .f32 := m ((c : Thread nD τ).loc main_arg3)
/-- The step sizes' bias. -/
abbrev a4 : Vec Ideal S8 .f32 := m ((c : Thread nD τ).loc main_arg4)
/-- The heads' log rates. -/
abbrev a5 : Vec Ideal S8 .f32 := m ((c : Thread nD τ).loc main_arg5)
/-- The heads' skip weights. -/
abbrev a6 : Vec Ideal S8 .f32 := m ((c : Thread nD τ).loc main_arg6)
/-- The normalisation's weights. -/
abbrev a7 : Vec Ideal S512 .f32 := m ((c : Thread nD τ).loc main_arg7)

/-- Where each window's block lies at a grid point. -/
theorem idx : ∀ t : Fin cfg0.N, win0_0.index t = ![t.val / 8, t.val % 8, 0] ∧ win0_1.index t = ![t.val / 8, t.val % 8, 2]
   ∧ win0_2.index t = ![t.val / 8, 0, t.val % 8] ∧ win0_3.index t = ![0, 0] ∧ win0_4.index t = ![0, 0] ∧ win0_5.index t = ![0, 0]
   ∧ win0_6.index t = ![0, 0] ∧ win0_7.index t = ![0, 0] ∧ win0_8.index t = ![0, 0] ∧ win0_9.index t = ![0, 0]
   ∧ win0_10.index t = ![0, 0] ∧ win0_11.index t = ![0, 0] ∧ win0_12.index t = ![0, 0]
   ∧ win0_13.index t = ![t.val / 8, t.val % 8, 0] :=
  (by decide +kernel : ∀ t : Fin grid0.N, _)

/-- The sequence a grid point works on. -/
def batchOf (t : Fin cfg0.N) : Fin 16 := ⟨t.val / 8, by have h : t.val < 128 := t.isLt; omega⟩

/-- The position of a row of a grid point's block. -/
def rowOf (t : Fin cfg0.N) (r : Fin 512) : Fin 4096 := ⟨t.val % 8 * 512 + r.val, by omega⟩

/-- The channels' block. -/
theorem blk0 (t : Fin cfg0.N) (r : Fin 512) (ch : Fin 1024) :
    (iblk m c 0 t : Vec Ideal S1x512x1024 .bf16) (ix3 0 r ch) = a0 m c (ix3 (batchOf t) (rowOf t r) (⟨ch.val, by omega⟩ : Fin 3072)) := by
  blk_ext! [iblk, V, idx t, rowOf, batchOf]

/-- The gate's block. -/
theorem blk1 (t : Fin cfg0.N) (r : Fin 512) (ch : Fin 512) :
    (iblk m c 1 t : Vec Ideal S1x512x512 .bf16) (ix3 0 r ch) = a0 m c (ix3 (batchOf t) (rowOf t r) (⟨1024 + ch.val, by omega⟩ : Fin 3072)) := by
  blk_ext! [iblk, V, idx t, rowOf, batchOf]

/-- The step sizes' block. -/
theorem blk2 (t : Fin cfg0.N) (h : Fin 8) (r : Fin 512) :
    (iblk m c 2 t : Vec Ideal S1x8x512 .f32) (ix3 0 h r) = a1 m c (ix3 (batchOf t) h (rowOf t r)) := by
  blk_ext! [iblk, V, idx t, rowOf, batchOf]

/-- The convolution's weights. -/
theorem blk3 (t : Fin cfg0.N) (k : Fin 4) (ch : Fin 1024) :
    (iblk m c 3 t : Vec Ideal S4x1024 .f32) (ix2 k ch) = a2 m c (ix2 k ch) := by
  blk_ext! [iblk, V, idx t]

/-- The convolution's bias. -/
theorem blk4 (t : Fin cfg0.N) (ch : Fin 1024) :
    (iblk m c 4 t : Vec Ideal S1x1024 .f32) (ix2 0 ch) = a3 m c (ix1 ch) := by
  refine Eq.trans ?_ (V_v43 m c ch)
  blk_ext [iblk, idx t]

/-- The step sizes' bias. -/
theorem blk5 (t : Fin cfg0.N) (h : Fin 8) :
    (iblk m c 5 t : Vec Ideal S8x1 .f32) (ix2 h 0) = a4 m c (ix1 h) := by
  refine Eq.trans ?_ (V_v44 m c h)
  blk_ext [iblk, idx t]

/-- The heads' log rates. -/
theorem blk6 (t : Fin cfg0.N) (h : Fin 8) :
    (iblk m c 6 t : Vec Ideal S8x1 .f32) (ix2 h 0) = a5 m c (ix1 h) := by
  refine Eq.trans ?_ (V_v45 m c h)
  blk_ext [iblk, idx t]

/-- The channels' skip weights. -/
theorem blk7 (t : Fin cfg0.N) (ch : Fin 512) :
    (iblk m c 7 t : Vec Ideal S1x512 .f32) (ix2 0 ch) = a6 m c (ix1 (Scan.hd ch)) := by
  refine Eq.trans ?_ (V_v26 m c ch)
  blk_ext [iblk, idx t]

/-- The normalisation's weights. -/
theorem blk8 (t : Fin cfg0.N) (ch : Fin 512) :
    (iblk m c 8 t : Vec Ideal S1x512 .f32) (ix2 0 ch) = a7 m c (ix1 ch) := by
  refine Eq.trans ?_ (V_v46 m c ch)
  blk_ext [iblk, idx t]

/-- The triangle of ones. -/
theorem blk9 (t : Fin cfg0.N) (i j : Fin 128) :
    (iblk m c 9 t : Vec Ideal S128x128 .bf16) (ix2 i j) = if i.val ≤ j.val then (1 : EReal) else 0 := by
  refine Eq.trans ?_ (V_v6 m c i j)
  blk_ext [iblk, idx t]

/-- Which head a channel belongs to. -/
theorem blk10 (t : Fin cfg0.N) (i : Fin 16) (j : Fin 512) :
    (iblk m c 10 t : Vec Ideal S16x512 .bf16) (ix2 i j) = if i.val = j.val / 64 then (1 : EReal) else 0 := by
  refine Eq.trans ?_ (V_v15 m c i j)
  blk_ext [iblk, idx t]

/-- Which head a lane of the heads' rows belongs to. -/
theorem blk11 (t : Fin cfg0.N) (i : Fin 16) (j : Fin 1024) :
    (iblk m c 11 t : Vec Ideal S16x1024 .bf16) (ix2 i j) = if i.val = j.val / 128 then (1 : EReal) else 0 := by
  refine Eq.trans ?_ (V_v23 m c i j)
  blk_ext [iblk, idx t]

/-- The matrix that shifts rows. -/
theorem blk12 (t : Fin cfg0.N) (i : Fin 384) (j : Fin 144) :
    (iblk m c 12 t : Vec Ideal S384x144 .bf16) (ix2 i j) = if j.val = 13 + i.val % 128 + i.val / 128 then (1 : EReal) else 0 := by
  refine Eq.trans ?_ (V_v42 m c i j)
  blk_ext [iblk, idx t]

end Cert.KernelIdeal.Hand
-- ==== Proof.SsdSteps.lean ====
module

public import proofs.«01_k».proof.Proof.SsdBlocks

/-!
# The scan, chunk by chunk

A chunk of the kernel scans what the same chunk of the reference scans, so by induction over the chunks the carried state is the reference's
state, and each output row is the reference's.
-/

@[expose] public section

set_option maxRecDepth 16384

noncomputable section

open Idealize.ShloMosaic Idealize.ShloMosaic.TcCoe Idealize.SL.Sem
open Idealize.ShloMosaic.Pipeline (Dat)
open Cert.Layer
namespace Cert.KernelIdeal.Hand

open Cert.KernelIdeal Cert.KernelIdeal.Gen Cert.KernelIdeal.Value
open Cert.ReferenceIdeal.Hand (prev pos scan stateE gatedE xaE)

variable (m : (ℓ : Loc nD τ sig) → Buf (Elt Ideal) ℓ) (c : Dev nD)

/-- The reference's scan of a chunk, of the arguments. -/
abbrev refScan (b : Fin 16) (i : Fin 32) : Scan := scan (a0 m c) (a1 m c) (a2 m c) (a3 m c) (a4 m c) (a5 m c) b i

/-- The reference's state before a chunk, of the arguments. -/
abbrev refState (b : Fin 16) (i : ℕ) : Fin 128 → Fin 512 → EReal := stateE (a0 m c) (a1 m c) (a2 m c) (a3 m c) (a4 m c) (a5 m c) b i

/-- The chunk of the sequence that chunk `q` of a grid point is. -/
def chunkOf (t : Fin cfg0.N) (q : Fin 4) : Fin 32 := ⟨4 * (t.val % 8) + q.val, by omega⟩

/-- The row of a grid point's block that a row of its chunk `q` is. -/
def inBlock (q : Fin 4) (l : Fin 128) : Fin 512 := ⟨128 * q.val + l.val, by omega⟩

/-- A chunk's row lies at the chunk's position. -/
theorem rowOf_inBlock (t : Fin cfg0.N) (q : Fin 4) (l : Fin 128) : rowOf t (inBlock q l) = pos (chunkOf t q) l :=
  Fin.ext (by show t.val % 8 * 512 + (128 * q.val + l.val) = (4 * (t.val % 8) + q.val) * 128 + l.val; omega)

/-- What the rows carried into a block hold: the sixteen rows before the block, zeros before the first. -/
def CarryOk (t : Fin cfg0.N) (carry : Vec Ideal S528x1024 .bf16) : Prop :=
  ∀ (r : Fin 528) (ch : Fin 1024), r.val < 16 → carry (ix2 r ch)
    = if h : 16 ≤ t.val % 8 * 512 + r.val then a0 m c (ix3 (batchOf t) (⟨t.val % 8 * 512 + r.val - 16, by omega⟩ : Fin 4096) (⟨ch.val, by omega⟩ : Fin 3072)) else 0

/-- The carried rows and the block's, one after the other. -/
theorem ext_apply (t : Fin cfg0.N) (carry : Vec Ideal S528x1024 .bf16) (hc : CarryOk m c t carry) (r : Fin 528) (ch : Fin 1024) :
    extRows carry (iblk m c 0 t) (ix2 r ch)
      = if h : 16 ≤ t.val % 8 * 512 + r.val then a0 m c (ix3 (batchOf t) (⟨t.val % 8 * 512 + r.val - 16, by omega⟩ : Fin 4096) (⟨ch.val, by omega⟩ : Fin 3072)) else 0 := by
  unfold extRows
  by_cases h : r.val < 16
  · exact (dif_pos h).trans (hc r ch h)
  · refine (dif_neg h).trans ((blk0 m c t _ ch).trans ?_)
    rw [dif_pos (by omega)]
    exact congrArg (fun s => a0 m c (ix3 (batchOf t) s (⟨ch.val, by omega⟩ : Fin 3072)))
      (Fin.ext (by show t.val % 8 * 512 + (r.val - 16) = t.val % 8 * 512 + r.val - 16; omega))

/-- A row some places above a chunk's row is the entry as many positions back. -/
theorem ext_prev (t : Fin cfg0.N) (carry : Vec Ideal S528x1024 .bf16) (hc : CarryOk m c t carry) (q : Fin 4) (l : Fin 128) (d : ℕ)
    (r : Fin 528) (ch : Fin 1024) (hr : r.val + d = 128 * q.val + 16 + l.val) :
    extRows carry (iblk m c 0 t) (ix2 r ch) = prev (a0 m c) (batchOf t) ch (pos (chunkOf t q) l).val d (pos (chunkOf t q) l).isLt := by
  have hp : (pos (chunkOf t q) l).val = (4 * (t.val % 8) + q.val) * 128 + l.val := rfl
  rw [ext_apply m c t carry hc, prev]
  by_cases h : d ≤ (pos (chunkOf t q) l).val
  · rw [dif_pos h, dif_pos (by omega)]
    exact congrArg (fun s => a0 m c (ix3 (batchOf t) s (⟨ch.val, by omega⟩ : Fin 3072)))
      (Fin.ext (by show t.val % 8 * 512 + r.val - 16 = (pos (chunkOf t q) l).val - d; omega))
  · rw [dif_neg h, dif_neg (by omega)]

/-- The kernel's constant matrices are what its chunks take them for. -/
theorem chunk_ok (t : Fin cfg0.N) (carry : Vec Ideal S528x1024 .bf16) (st : Vec Ideal S2x128x256 .f32) (q : Fin 4) (s0 s1 : Vec Ideal S1x128x256 .f32) :
    ((pt m c t carry st).chunk q s0 s1).Ok :=
  ⟨blk12 m c t, blk9 m c t, blk10 m c t, blk11 m c t⟩

/-- The rows above a chunk's own, read off the block. -/
theorem chunk_e (t : Fin cfg0.N) (carry : Vec Ideal S528x1024 .bf16) (hc : CarryOk m c t carry) (q : Fin 4) (l : Fin 128) (ch : Fin 1024)
    (d : ℕ) (r : Fin 144) (hr : r.val + d = 16 + l.val) :
    eAt (extRows carry (iblk m c 0 t)) q (ix2 r ch) = prev (a0 m c) (batchOf t) ch (pos (chunkOf t q) l).val d (pos (chunkOf t q) l).isLt :=
  ext_prev m c t carry hc q l d (⟨128 * q.val + r.val, by omega⟩ : Fin 528) ch (by show 128 * q.val + r.val + d = _; omega)

/-- A chunk's own rows, read off the block. -/
theorem chunk_x (t : Fin cfg0.N) (carry : Vec Ideal S528x1024 .bf16) (hc : CarryOk m c t carry) (q : Fin 4) (l : Fin 128) (ch : Fin 1024) :
    xAt (extRows carry (iblk m c 0 t)) q (ix2 l ch) = prev (a0 m c) (batchOf t) ch (pos (chunkOf t q) l).val 0 (pos (chunkOf t q) l).isLt :=
  ext_prev m c t carry hc q l 0 (⟨128 * q.val + 16 + l.val, by omega⟩ : Fin 528) ch (by show 128 * q.val + 16 + l.val + 0 = _; omega)

/-- A chunk's gated channels are the reference's. -/
theorem chunk_xa (t : Fin cfg0.N) (carry : Vec Ideal S528x1024 .bf16) (hc : CarryOk m c t carry) (st : Vec Ideal S2x128x256 .f32) (q : Fin 4)
    (s0 s1 : Vec Ideal S1x128x256 .f32) (l : Fin 128) (ch : Fin 1024) :
    siluE (((pt m c t carry st).chunk q s0 s1).conv l ch) = xaE (a0 m c) (a2 m c) (a3 m c) (batchOf t) (pos (chunkOf t q) l) ch := by
  unfold xaE Chunk.conv
  rw [← chunk_e m c t carry hc q l ch 3 (⟨13 + l.val, by omega⟩ : Fin 144) (by show 13 + l.val + 3 = _; omega),
    ← chunk_e m c t carry hc q l ch 2 (⟨14 + l.val, by omega⟩ : Fin 144) (by show 14 + l.val + 2 = _; omega),
    ← chunk_e m c t carry hc q l ch 1 (⟨15 + l.val, by omega⟩ : Fin 144) (by show 15 + l.val + 1 = _; omega), ← chunk_x m c t carry hc q l ch,
    ← blk4 m c t ch, ← blk3 m c t 0 ch, ← blk3 m c t 1 ch, ← blk3 m c t 2 ch, ← blk3 m c t 3 ch]
  rfl

/-- A chunk's step sizes are the reference's. -/
theorem chunk_dt (t : Fin cfg0.N) (carry : Vec Ideal S528x1024 .bf16) (st : Vec Ideal S2x128x256 .f32) (q : Fin 4)
    (s0 s1 : Vec Ideal S1x128x256 .f32) (h : Fin 8) (l : Fin 128) :
    ((pt m c t carry st).chunk q s0 s1).dtE h l = Cert.ReferenceIdeal.Hand.dtE (a1 m c) (a4 m c) (batchOf t) h (pos (chunkOf t q) l) := by
  unfold Chunk.dtE Cert.ReferenceIdeal.Hand.dtE
  rw [← blk5 m c t h, ← rowOf_inBlock, ← blk2 m c t h (inBlock q l)]
  rfl

/-- A chunk's log decays are the reference's. -/
theorem chunk_ad (t : Fin cfg0.N) (carry : Vec Ideal S528x1024 .bf16) (st : Vec Ideal S2x128x256 .f32) (q : Fin 4)
    (s0 s1 : Vec Ideal S1x128x256 .f32) (h : Fin 8) (l : Fin 128) :
    ((pt m c t carry st).chunk q s0 s1).adE h l
      = Cert.ReferenceIdeal.Hand.dtE (a1 m c) (a4 m c) (batchOf t) h (pos (chunkOf t q) l) * -Ideal.exp (a5 m c (ix1 h)) := by
  unfold Chunk.adE
  rw [chunk_dt, ← blk6 m c t h]
  rfl

/-- A chunk of the kernel scans what the same chunk of the reference scans. -/
theorem chunk_scan (t : Fin cfg0.N) (carry : Vec Ideal S528x1024 .bf16) (hc : CarryOk m c t carry) (st : Vec Ideal S2x128x256 .f32) (q : Fin 4)
    (s0 s1 : Vec Ideal S1x128x256 .f32) :
    ((pt m c t carry st).chunk q s0 s1).scan = refScan m c (batchOf t) (chunkOf t q) := by
  unfold Chunk.scan refScan Cert.ReferenceIdeal.Hand.scan
  rw [funext fun l => funext fun ch => chunk_xa m c t carry hc st q s0 s1 l ch,
    show ((pt m c t carry st).chunk q s0 s1).dtE = _ from funext fun h => funext fun l => chunk_dt m c t carry st q s0 s1 h l,
    show ((pt m c t carry st).chunk q s0 s1).adE = _ from funext fun h => funext fun l => chunk_ad m c t carry st q s0 s1 h l]

/-- The halves of a state, together. -/
def comb (s0 s1 : Vec Ideal S1x128x256 .f32) (n : Fin 128) (c : Fin 512) : EReal :=
  if h : c.val < 256 then s0 (ix3 0 n (⟨c.val, h⟩ : Fin 256)) else s1 (ix3 0 n (⟨c.val - 256, by omega⟩ : Fin 256))

/-- The state after a chunk, its halves together. -/
theorem comb_next (k : Chunk) (hk : k.Ok) : comb k.nst0 k.nst1 = k.scan.nst k.stE := by
  funext n ch
  unfold comb
  by_cases h : ch.val < 256
  · rw [dif_pos h]
    exact nst0_apply k hk n ⟨ch.val, h⟩
  · rw [dif_neg h]
    exact (nst1_apply k hk n ⟨ch.val - 256, by omega⟩).trans (congrArg (k.scan.nst k.stE n) (Fin.ext (by show 256 + (ch.val - 256) = ch.val; omega)))

/-- From the reference's state before a chunk the kernel's chunk leaves the reference's state after it. -/
theorem chunk_step (t : Fin cfg0.N) (carry : Vec Ideal S528x1024 .bf16) (hc : CarryOk m c t carry) (st : Vec Ideal S2x128x256 .f32) (q : Fin 4)
    (s0 s1 : Vec Ideal S1x128x256 .f32) (hs : comb s0 s1 = refState m c (batchOf t) (4 * (t.val % 8) + q.val)) :
    comb ((pt m c t carry st).chunk q s0 s1).nst0 ((pt m c t carry st).chunk q s0 s1).nst1 = refState m c (batchOf t) (4 * (t.val % 8) + (q.val + 1)) := by
  rw [comb_next _ (chunk_ok m c t carry st q s0 s1), chunk_scan m c t carry hc]
  exact (congrArg (Scan.nst _) hs).trans
    (Cert.ReferenceIdeal.Hand.stateE_succ (a0 m c) (a1 m c) (a2 m c) (a3 m c) (a4 m c) (a5 m c) (batchOf t) (chunkOf t q)).symm

/-- From the reference's state before a chunk the kernel's chunk writes the reference's rows. -/
theorem chunk_out (t : Fin cfg0.N) (carry : Vec Ideal S528x1024 .bf16) (hc : CarryOk m c t carry) (st : Vec Ideal S2x128x256 .f32) (q : Fin 4)
    (s0 s1 : Vec Ideal S1x128x256 .f32) (hs : comb s0 s1 = refState m c (batchOf t) (4 * (t.val % 8) + q.val)) (l : Fin 128) (ch : Fin 512) :
    ((pt m c t carry st).chunk q s0 s1).y (ix3 0 l ch)
      = Cert.ReferenceIdeal.Read.val_main_v149 (F := Ideal) (a0 m c) (a1 m c) (a2 m c) (a3 m c) (a4 m c) (a5 m c) (a6 m c) (a7 m c)
        (ix3 (batchOf t) (rowOf t (inBlock q l)) ch) := by
  rw [y_apply _ (chunk_ok m c t carry st q s0 s1), rowOf_inBlock, Cert.ReferenceIdeal.Hand.v149_apply, chunk_scan m c t carry hc]
  have hz : ((pt m c t carry st).chunk q s0 s1).zE
      = fun l c' => a0 m c (ix3 (batchOf t) (pos (chunkOf t q) l) (⟨1024 + c'.val, by omega⟩ : Fin 3072)) := by
    funext l c'
    exact (blk1 m c t (inBlock q l) c').trans (by rw [rowOf_inBlock])
  have hd : ((pt m c t carry st).chunk q s0 s1).dskE = fun c' => a6 m c (ix1 (Scan.hd c')) := funext fun c' => blk7 m c t c'
  rw [hz, hd, show ((pt m c t carry st).chunk q s0 s1).stE = _ from hs]
  exact congrArg (_ * ·) (blk8 m c t ch)

end Cert.KernelIdeal.Hand
-- ==== Proof.SsdRun.lean ====
module

public import proofs.«01_k».proof.Proof.SsdSteps

/-!
# The scan, block by block

By induction over the grid points: what each carries in is right, so what it writes is the reference's block.
-/

@[expose] public section

set_option maxRecDepth 16384

noncomputable section

open Idealize.ShloMosaic Idealize.ShloMosaic.TcCoe Idealize.SL.Sem
open Idealize.ShloMosaic.Pipeline (Dat)
open Cert.Layer
namespace Cert.KernelIdeal.Hand

open Cert.KernelIdeal Cert.KernelIdeal.Gen Cert.KernelIdeal.Value

variable (m : (ℓ : Loc nD τ sig) → Buf (Elt Ideal) ℓ) (c : Dev nD)

/-- What a grid point carries in and does with it: the rows and the state it starts from, and what it leaves. -/
structure PointOk (t : Fin cfg0.N) (carry : Vec Ideal S528x1024 .bf16) (st : Vec Ideal S2x128x256 .f32) : Prop where
  carry_ok : CarryOk m c t carry
  st_ok : comb (stAt st 0) (stAt st 1) = refState m c (batchOf t) (4 * (t.val % 8))
  st_out : (outsAt0 m c t.val t.isLt).2.2 = stPair (pt m c t carry st).c3.nst0 (pt m c t carry st).c3.nst1
  out : (outsAt0 m c t.val t.isLt).1 = rows4 (pt m c t carry st).c0.y (pt m c t carry st).c1.y (pt m c t carry st).c2.y (pt m c t carry st).c3.y

variable {m c} {t : Fin cfg0.N} {carry : Vec Ideal S528x1024 .bf16} {st : Vec Ideal S2x128x256 .f32}

/-- The state before the second chunk. -/
theorem PointOk.s1 (h : PointOk m c t carry st) :
    comb (pt m c t carry st).c0.nst0 (pt m c t carry st).c0.nst1 = refState m c (batchOf t) (4 * (t.val % 8) + 1) :=
  chunk_step m c t carry h.carry_ok st 0 _ _ h.st_ok

/-- The state before the third chunk. -/
theorem PointOk.s2 (h : PointOk m c t carry st) :
    comb (pt m c t carry st).c1.nst0 (pt m c t carry st).c1.nst1 = refState m c (batchOf t) (4 * (t.val % 8) + 2) :=
  chunk_step m c t carry h.carry_ok st 1 _ _ h.s1

/-- The state before the fourth chunk. -/
theorem PointOk.s3 (h : PointOk m c t carry st) :
    comb (pt m c t carry st).c2.nst0 (pt m c t carry st).c2.nst1 = refState m c (batchOf t) (4 * (t.val % 8) + 3) :=
  chunk_step m c t carry h.carry_ok st 2 _ _ h.s2

/-- The state after the block. -/
theorem PointOk.s4 (h : PointOk m c t carry st) :
    comb (pt m c t carry st).c3.nst0 (pt m c t carry st).c3.nst1 = refState m c (batchOf t) (4 * (t.val % 8) + 4) :=
  chunk_step m c t carry h.carry_ok st 3 _ _ h.s3

/-- A block of the sequence's first block starts from nothing. -/
theorem pointOk_first (h0 : t.val % 8 = 0) : PointOk m c t (fun _ => 0) (fun _ => 0) where
  carry_ok := fun r ch hr => by rw [dif_neg (by omega)]
  st_ok := by
    rw [h0]
    refine Eq.trans ?_ (Cert.ReferenceIdeal.Hand.stateE_zero (a0 m c) (a1 m c) (a2 m c) (a3 m c) (a4 m c) (a5 m c) (batchOf t)).symm
    funext n ch
    unfold comb
    split <;> rfl
  st_out := stA m c t h0
  out := outA m c t h0

/-- A later block starts from what the block before left. -/
theorem pointOk_next (t' : Fin cfg0.N) (h0 : ¬t.val % 8 = 0) (ht : t'.val = t.val - 1) (h : PointOk m c t' carry st) :
    PointOk m c t (outsAt0 m c t'.val t'.isLt).2.1 (outsAt0 m c t'.val t'.isLt).2.2 where
  carry_ok := fun r ch hr => by
    have hb : batchOf t' = batchOf t := Fin.ext (by show t'.val / 8 = t.val / 8; omega)
    rw [dif_pos (by omega), carry_apply m c t' (ix2 r ch) hr]
    refine (blk0 m c t' (⟨496 + r.val, by omega⟩ : Fin 512) ch).trans ?_
    rw [hb]
    exact congrArg (fun s => a0 m c (ix3 (batchOf t) s (⟨ch.val, by omega⟩ : Fin 3072)))
      (Fin.ext (by show t'.val % 8 * 512 + (496 + r.val) = t.val % 8 * 512 + r.val - 16; omega))
  st_ok := by
    have hb : batchOf t' = batchOf t := Fin.ext (by show t'.val / 8 = t.val / 8; omega)
    rw [h.st_out, stAt_stPair0, stAt_stPair1, h.s4, hb, show 4 * (t'.val % 8) + 4 = 4 * (t.val % 8) by omega]
  st_out := stB m c t h0 _ _ (by congr 3; exact ht.symm) (by congr 3; exact ht.symm)
  out := outB m c t h0 _ _ (by congr 3; exact ht.symm) (by congr 3; exact ht.symm)

variable (m c)

/-- Every grid point starts from what it should. -/
theorem pointOk : ∀ (n : ℕ) (hn : n < cfg0.N), ∃ carry st, PointOk m c ⟨n, hn⟩ carry st
  | 0, hn => ⟨_, _, pointOk_first rfl⟩
  | n + 1, hn => by
    by_cases h0 : (n + 1) % 8 = 0
    · exact ⟨_, _, pointOk_first h0⟩
    · obtain ⟨carry, st, h⟩ := pointOk n (by omega)
      exact ⟨_, _, pointOk_next ⟨n, by omega⟩ h0 rfl h⟩

/-- What a grid point writes is the reference's block. -/
theorem out_apply (t : Fin cfg0.N) (r : Fin 512) (ch : Fin 512) :
    (outsAt0 m c t.val t.isLt).1 (ix3 (0 : Fin 1) r ch)
      = Cert.ReferenceIdeal.Read.val_main_v149 (F := Ideal) (a0 m c) (a1 m c) (a2 m c) (a3 m c) (a4 m c) (a5 m c) (a6 m c) (a7 m c)
        (ix3 (batchOf t) (rowOf t r) ch) := by
  obtain ⟨carry, st, h⟩ := pointOk m c t.val t.isLt
  have e (q : Fin 4) (l : Fin 128) (hl : r.val = 128 * q.val + l.val) : inBlock q l = r := Fin.ext hl.symm
  rw [h.out]
  by_cases h1 : r.val < 128
  · refine (dif_pos h1).trans ?_
    exact (chunk_out m c t carry h.carry_ok st 0 _ _ h.st_ok (⟨r.val, by omega⟩ : Fin 128) ch).trans (by rw [e 0 _ (by show r.val = 128 * 0 + (r.val); omega)])
  refine (dif_neg h1).trans ?_
  by_cases h2 : r.val < 256
  · refine (dif_pos h2).trans ?_
    exact (chunk_out m c t carry h.carry_ok st 1 _ _ h.s1 (⟨r.val - 128, by omega⟩ : Fin 128) ch).trans (by rw [e 1 _ (by show r.val = 128 * 1 + (r.val - 128); omega)])
  refine (dif_neg h2).trans ?_
  by_cases h3 : r.val < 384
  · refine (dif_pos h3).trans ?_
    exact (chunk_out m c t carry h.carry_ok st 2 _ _ h.s2 (⟨r.val - 256, by omega⟩ : Fin 128) ch).trans (by rw [e 2 _ (by show r.val = 128 * 2 + (r.val - 256); omega)])
  refine (dif_neg h3).trans ?_
  exact (chunk_out m c t carry h.carry_ok st 3 _ _ h.s3 (⟨r.val - 384, by omega⟩ : Fin 128) ch).trans (by rw [e 3 _ (by show r.val = 128 * 3 + (r.val - 384); omega)])

/-- The array after the run is the reference's result. -/
theorem final_out : (dats m 0 c).arrAt 13 cfg0.N
    = Cert.ReferenceIdeal.Read.val_main_v149 (F := Ideal) (a0 m c) (a1 m c) (a2 m c) (a3 m c) (a4 m c) (a5 m c) (a6 m c) (a7 m c) := by
  refine (dats m 0 c).arrAt_eq_of_covers 13 _ (by decide +kernel) fun t hf y => ?_
  blk_simp [idx t]
  rw [after0_13]
  obtain ⟨a, r, n, rfl⟩ : ∃ (a : Fin 1) (r : Fin 512) (n : Fin 512), y = ix3 a r n := ⟨_, _, _, eq_ix3 y⟩
  have hi : (win0_13.blk t).view.emb (ix3 a r n) = ix3 (batchOf t) (rowOf t r) n := by blk_ext [idx t, rowOf, batchOf]
  have ha : a = 0 := Subsingleton.elim _ _
  rw [hi, ha]
  exact out_apply m c t r n

end Cert.KernelIdeal.Hand
-- ==== Proof.SsdValue.lean ====
module

public import proofs.«01_k».proof.Defs
public import Idealize.ShloMosaic.Lib.Claim
public import proofs.«01_k».proof.Proof.SsdRun

/-!
# The scan's value claim
-/

@[expose] public section

set_option maxRecDepth 16384

noncomputable section

open Idealize.ShloMosaic Idealize.ShloMosaic.TcCoe Idealize.SL.Sem
open Idealize.ShloMosaic.Pipeline (Dat)
open Cert.Layer

/-- Over the reals the scan kernel computes what its reference computes. -/
theorem Cert.Proof.algebraic_ssd : Cert.algebraic_KernelIdeal_ReferenceIdeal := by
  pair_intro
  · run_from Cert.KernelIdeal.Value.run_blocks m g
  · run_from Cert.ReferenceIdeal.Value.run m' g'
    rw [Cert.KernelIdeal.Hand.final_out m c]
    simp only [Cert.KernelIdeal.Hand.a0, Cert.KernelIdeal.Hand.a1, Cert.KernelIdeal.Hand.a2, Cert.KernelIdeal.Hand.a3, Cert.KernelIdeal.Hand.a4, Cert.KernelIdeal.Hand.a5, Cert.KernelIdeal.Hand.a6, Cert.KernelIdeal.Hand.a7]
    rw [← (hagree c).1, ← (hagree c).2.1, ← (hagree c).2.2.1, ← (hagree c).2.2.2.1, ← (hagree c).2.2.2.2.1, ← (hagree c).2.2.2.2.2.1, ← (hagree c).2.2.2.2.2.2.1, ← (hagree c).2.2.2.2.2.2.2]
    exact Cert.ReferenceIdeal.Read.val_main_v149_eq (StableHlo.launchContents m' c)
end
-- ==== Proof.SbReal.lean ====
module

public import Idealize.ShloMosaic.Lib.Pointwise

@[expose] public section

noncomputable section

/-!
# The stick-breaking weights

A query `n` looks back along the keys `p < n`. Key `p` takes the share `σ(z p)` of what the keys between `p` and `n` leave,
each leaving the share `1 − σ(z p')`. `cost z` is minus the logarithm of the share a key with logit `z` leaves. The logits and
the values are extended reals: an infinite logit has a cost of its own, nought or infinity.
-/

open Idealize.ShloMosaic

namespace Cert.Stick

/-- Minus the logarithm of `1 − σ(z)`. -/
def cost (z : EReal) : EReal := Ideal.log (1 + Ideal.exp z)

variable (Z v : ℕ → EReal) (n : ℕ)

/-- The costs of the keys from `a` on that come before the query. -/
def costFrom (a : ℕ) : EReal := ∑ p ∈ Finset.Ico a 4096, if p < n then cost (Z p) else 0

/-- The weight of key `p`. -/
def weight (p : ℕ) : EReal := if p < n then Ideal.exp (Z p - cost (Z p) - costFrom Z n (p + 1)) else 0

/-- The values of the keys from `a` on, weighted. -/
def mixFrom (a : ℕ) : EReal := ∑ p ∈ Finset.Ico a 4096, weight Z n p * v p

/-- The cost of a real logit. -/
def rcost (z : ℝ) : ℝ := Real.log (1 + Real.exp z)

/-- The cost through the larger of the logit and zero. -/
theorem rcost_max (z : ℝ) : rcost z = max z 0 + Real.log (1 + Real.exp (z - max z 0 - max z 0)) := by
  unfold rcost
  have h1 : 0 < 1 + Real.exp (z - max z 0 - max z 0) := by positivity
  have e : max z 0 + Real.log (1 + Real.exp (z - max z 0 - max z 0)) = Real.log (Real.exp (max z 0) * (1 + Real.exp (z - max z 0 - max z 0))) := by
    rw [Real.log_mul (Real.exp_ne_zero _) h1.ne', Real.log_exp]
  rw [e, mul_add, mul_one, ← Real.exp_add]
  congr 1
  rcases le_total z 0 with h | h
  · rw [max_eq_right h]; simp
  · rw [max_eq_left h, show z + (z - z - z) = 0 by ring, Real.exp_zero, add_comm]

/-- The cost through the magnitude. -/
theorem rcost_abs (z : ℝ) : rcost z = max z 0 + Real.log (1 + Real.exp (-max z (-z))) := by
  rw [rcost_max]
  congr 4
  rcases le_total z 0 with h | h
  · rw [max_eq_right h, max_eq_right (by linarith : z ≤ -z)]; ring
  · rw [max_eq_left h, max_eq_left (by linarith : -z ≤ z)]; ring

/-- What a key takes, in the same terms. -/
theorem rcost_neg (z : ℝ) : rcost (-z) = rcost z - z := by
  unfold rcost
  have h : (1 : ℝ) + Real.exp z = Real.exp z * (1 + Real.exp (-z)) := by
    rw [mul_add, mul_one, ← Real.exp_add, add_neg_cancel, Real.exp_zero, add_comm]
  rw [h, Real.log_mul (Real.exp_ne_zero _) (by positivity), Real.log_exp]
  ring

/-- The unit in which the kernel counts: `1 / ln 2`. -/
def unit : ℝ := (Real.log 2)⁻¹

theorem unit_pos : 0 < unit := inv_pos.mpr (Real.log_pos (by norm_num))

/-- A power of two of a number in that unit is the exponential. -/
theorem exp2_unit (x : ℝ) : Real.rpow 2 (x * unit) = Real.exp x := by
  have h : Real.log 2 ≠ 0 := (Real.log_pos (by norm_num)).ne'
  show (2 : ℝ) ^ (x * unit) = _
  rw [Real.rpow_def_of_pos (by norm_num), unit, mul_left_comm, mul_inv_cancel₀ h, mul_one]

/-- The cost in that unit, as the kernel forms it. -/
theorem rcost_unit (z : ℝ) : max (z * unit) 0 + Real.log (1 + Real.rpow 2 (z * unit - max (z * unit) 0 - max (z * unit) 0)) * unit
    = rcost z * unit := by
  have hm : max (z * unit) 0 = max z 0 * unit := by
    rw [max_mul_of_nonneg _ _ unit_pos.le, zero_mul]
  rw [hm, ← sub_mul, ← sub_mul, exp2_unit, rcost_max, add_mul]

/-! ## The infinite logits and costs -/

theorem cost_coe (z : ℝ) : cost (z : EReal) = ((rcost z : ℝ) : EReal) := by
  unfold cost rcost
  rw [Ideal.exp_coe, ← EReal.coe_one, ← EReal.coe_add, Ideal.log_coe, if_neg (by have := Real.exp_pos z; linarith)]

theorem log_one : Ideal.log 1 = 0 := by
  rw [← EReal.coe_one, Ideal.log_coe, if_neg (by norm_num), Real.log_one, EReal.coe_zero]

theorem cost_top : cost ⊤ = ⊤ := by
  unfold cost
  rw [Ideal.exp_top, EReal.add_top_of_ne_bot (by rw [← EReal.coe_one]; exact EReal.coe_ne_bot 1), Ideal.log_top]

theorem cost_bot : cost ⊥ = 0 := by
  unfold cost
  rw [Ideal.exp_bot, add_zero, log_one]

theorem cost_nonneg (z : EReal) : 0 ≤ cost z := by
  induction z using EReal.rec with
  | bot => rw [cost_bot]
  | top => rw [cost_top]; exact le_top
  | coe z =>
    rw [cost_coe]
    refine EReal.coe_nonneg.mpr (Real.log_nonneg ?_)
    have := Real.exp_pos z
    linarith

theorem ne_bot_of_nonneg {c : EReal} (h : 0 ≤ c) : c ≠ ⊥ := fun e => by
  rw [e] at h
  exact absurd h (by simp)

/-- The kernel's unit among the extended reals. -/
def U : EReal := ((unit : ℝ) : EReal)

/-- A number that is not negative may be multiplied into a sum, -/
theorem add_mul_real (r : ℝ) (hr : 0 ≤ r) (a c : EReal) : (a + c) * (r : EReal) = a * (r : EReal) + c * (r : EReal) :=
  EReal.right_distrib_of_nonneg_of_ne_top (EReal.coe_nonneg.mpr hr) (EReal.coe_ne_top r) a c

/-- into a difference, -/
theorem sub_mul_real (r : ℝ) (hr : 0 ≤ r) (a c : EReal) : (a - c) * (r : EReal) = a * (r : EReal) - c * (r : EReal) := by
  rw [sub_eq_add_neg, add_mul_real r hr, neg_mul, ← sub_eq_add_neg]

/-- and into a sum of many. -/
theorem sum_mul_real {ι : Type*} (s : Finset ι) (f : ι → EReal) (r : ℝ) (hr : 0 ≤ r) :
    (∑ i ∈ s, f i) * (r : EReal) = ∑ i ∈ s, f i * (r : EReal) := by
  classical
  induction s using Finset.induction with
  | empty => rw [Finset.sum_empty, Finset.sum_empty, zero_mul]
  | insert a s ha ih => rw [Finset.sum_insert ha, Finset.sum_insert ha, add_mul_real r hr, ih]

theorem top_U : (⊤ : EReal) * U = ⊤ := EReal.top_mul_coe_of_pos unit_pos
theorem bot_U : (⊥ : EReal) * U = ⊥ := EReal.bot_mul_coe_of_pos unit_pos

/-- A power of two of a number in the kernel's unit is the exponential. -/
theorem exp2_U (a : EReal) : Ideal.exp2 (a * U) = Ideal.exp a := by
  induction a using EReal.rec with
  | bot => rw [bot_U]; rfl
  | top => rw [top_U]; rfl
  | coe a =>
    unfold U
    rw [← EReal.coe_mul, Ideal.exp2_coe, exp2_unit, Ideal.exp_coe]

theorem exp2_sub (a c : EReal) : Ideal.exp2 (a * U - c * U) = Ideal.exp (a - c) := by
  unfold U
  rw [← sub_mul_real _ unit_pos.le]
  exact exp2_U _

/-- The exponential of a difference. -/
theorem exp_sub (a c : EReal) (ha : a ≠ ⊤) (hc : 0 ≤ c) : Ideal.exp (a - c) = Ideal.exp a * Ideal.exp (0 - c) := by
  induction c using EReal.rec with
  | bot => exact absurd rfl (ne_bot_of_nonneg hc)
  | top =>
    rw [zero_sub, EReal.neg_top, Ideal.exp_bot, mul_zero, sub_eq_add_neg, EReal.neg_top, EReal.add_bot, Ideal.exp_bot]
  | coe c =>
    induction a using EReal.rec with
    | bot => rw [sub_eq_add_neg, EReal.bot_add, Ideal.exp_bot, zero_mul]
    | top => exact absurd rfl ha
    | coe a =>
      rw [zero_sub, ← EReal.coe_sub, ← EReal.coe_neg, Ideal.exp_coe, Ideal.exp_coe, Ideal.exp_coe, ← EReal.coe_mul, ← Real.exp_add, ← sub_eq_add_neg]

/-- The exponential of minus a cost is a real number that is not negative. -/
theorem exp_neg_real (c : EReal) (hc : 0 ≤ c) : ∃ r : ℝ, 0 ≤ r ∧ Ideal.exp (0 - c) = (r : EReal) := by
  induction c using EReal.rec with
  | bot => exact absurd rfl (ne_bot_of_nonneg hc)
  | top => exact ⟨0, le_refl 0, by rw [zero_sub, EReal.neg_top, Ideal.exp_bot, EReal.coe_zero]⟩
  | coe c => exact ⟨Real.exp (-c), (Real.exp_pos _).le, by rw [zero_sub, ← EReal.coe_neg, Ideal.exp_coe]⟩

/-- Two costs taken away at once. -/
theorem sub_add_costs (a s c : EReal) (hs : 0 ≤ s) (hc : 0 ≤ c) : a - (s + c) = a - s - c := by
  rw [sub_eq_add_neg, EReal.neg_add (.inl (ne_bot_of_nonneg hs)) (.inr (ne_bot_of_nonneg hc)), sub_eq_add_neg, sub_eq_add_neg, sub_eq_add_neg, add_assoc]

/-- A logit less its own cost is not infinity. -/
theorem less_cost (z s : EReal) (hs : 0 ≤ s) : z - cost z - s ≠ ⊤ := by
  have h : z - cost z ≠ ⊤ := by
    induction z using EReal.rec with
    | bot => rw [sub_eq_add_neg, EReal.bot_add]; exact bot_ne_top
    | top => rw [cost_top, sub_eq_add_neg, EReal.neg_top, EReal.add_bot]; exact bot_ne_top
    | coe z => rw [cost_coe, ← EReal.coe_sub]; exact EReal.coe_ne_top _
  have h2 : -s ≠ ⊤ := fun e => ne_bot_of_nonneg hs (EReal.neg_eq_top_iff.mp e)
  rw [sub_eq_add_neg]
  exact EReal.add_ne_top h h2

/-- The cost in the kernel's unit, as the kernel forms it. -/
theorem cost_U (z : EReal) : max (z * U) 0 + Ideal.log (1 + Ideal.exp2 (z * U - max (z * U) 0 - max (z * U) 0)) * U = cost z * U := by
  induction z using EReal.rec with
  | bot =>
    rw [bot_U, cost_bot, zero_mul, max_eq_right bot_le, sub_eq_add_neg, sub_eq_add_neg, EReal.bot_add, EReal.bot_add, Ideal.exp2_bot, add_zero, log_one, zero_mul, add_zero]
  | top =>
    rw [top_U, cost_top, top_U, max_eq_left le_top, sub_eq_add_neg, sub_eq_add_neg, EReal.neg_top, EReal.add_bot, Ideal.exp2_bot, add_zero, log_one, zero_mul, add_zero]
  | coe z =>
    have hm : ∀ a b : ℝ, ((max a b : ℝ) : EReal) = max (a : EReal) (b : EReal) := fun a b => EReal.coe_strictMono.monotone.map_max
    unfold U
    rw [cost_coe, ← EReal.coe_mul, ← EReal.coe_zero, ← hm, ← EReal.coe_sub, ← EReal.coe_sub, Ideal.exp2_coe, ← EReal.coe_one, ← EReal.coe_add, Ideal.log_coe,
      if_neg (by
        have : 0 < Real.rpow 2 (z * unit - max (z * unit) 0 - max (z * unit) 0) := Real.rpow_pos_of_pos (by norm_num) _
        linarith), ← EReal.coe_mul, ← EReal.coe_add, rcost_unit, EReal.coe_mul]

/-- The cost as the smooth maximum of the logit and zero. -/
theorem cost_soft (z : EReal) : max z 0 + Ideal.log1p (Ideal.exp (-max z (-z))) = cost z := by
  induction z using EReal.rec with
  | bot => rw [cost_bot, max_eq_right bot_le, EReal.neg_bot, max_eq_right bot_le, EReal.neg_top, Ideal.exp_bot, Ideal.log1p, add_zero, log_one, add_zero]
  | top => rw [cost_top, max_eq_left le_top, max_eq_left le_top, EReal.neg_top, Ideal.exp_bot, Ideal.log1p, add_zero, log_one, add_zero]
  | coe z =>
    have hm : ∀ a b : ℝ, ((max a b : ℝ) : EReal) = max (a : EReal) (b : EReal) := fun a b => EReal.coe_strictMono.monotone.map_max
    rw [cost_coe, ← EReal.coe_neg, ← EReal.coe_zero, ← hm, ← hm, ← EReal.coe_neg, Ideal.exp_coe, Ideal.log1p, ← EReal.coe_one, ← EReal.coe_add,
      Ideal.log_coe, if_neg (by have := Real.exp_pos (-max z (-z)); linarith), ← EReal.coe_add, rcost_abs]

/-- The logarithm of a key's share of what the keys between leave, as the reference forms it: the costs from the key on
    with the key's own taken out again. -/
theorem share_eq (z c : EReal) (hc : 0 ≤ c) : -cost (-z) + (-(cost z + c) - -cost z) = z - cost z - c := by
  induction z using EReal.rec with
  | bot => rw [EReal.neg_bot, cost_top, EReal.neg_top, EReal.bot_add, sub_eq_add_neg, sub_eq_add_neg, EReal.bot_add, EReal.bot_add]
  | top =>
    rw [EReal.neg_top, cost_bot, cost_top, EReal.top_add_of_ne_bot (ne_bot_of_nonneg hc), sub_eq_add_neg, sub_eq_add_neg, sub_eq_add_neg, EReal.neg_top, EReal.bot_add, EReal.add_bot, EReal.add_bot, EReal.bot_add]
  | coe z =>
    induction c using EReal.rec with
    | bot => exact absurd rfl (ne_bot_of_nonneg hc)
    | top =>
      rw [cost_coe, EReal.coe_add_top, EReal.neg_top, sub_eq_add_neg, EReal.bot_add, EReal.add_bot, sub_eq_add_neg _ (⊤ : EReal), EReal.neg_top, EReal.add_bot]
    | coe c =>
      rw [← EReal.coe_neg, cost_coe, cost_coe, ← EReal.coe_neg, ← EReal.coe_add, ← EReal.coe_neg, ← EReal.coe_neg, ← EReal.coe_sub, ← EReal.coe_sub, ← EReal.coe_sub, ← EReal.coe_add, rcost_neg]
      refine EReal.coe_eq_coe_iff.mpr ?_
      ring

/-- The negative of a sum of costs. -/
theorem neg_sum {ι : Type*} (s : Finset ι) (f : ι → EReal) (hf : ∀ i ∈ s, 0 ≤ f i) : -(∑ i ∈ s, f i) = ∑ i ∈ s, -f i := by
  classical
  induction s using Finset.induction with
  | empty => rw [Finset.sum_empty, Finset.sum_empty, neg_zero]
  | insert a s ha ih =>
    have h1 := hf a (Finset.mem_insert_self a s)
    have h2 : ∀ i ∈ s, 0 ≤ f i := fun i hi => hf i (Finset.mem_insert_of_mem hi)
    rw [Finset.sum_insert ha, Finset.sum_insert ha, EReal.neg_add (.inl (ne_bot_of_nonneg h1)) (.inr (ne_bot_of_nonneg (Finset.sum_nonneg h2))), sub_eq_add_neg, ih h2]

/-- The costs are not negative. -/
theorem ite_cost_nonneg (p : ℕ) : 0 ≤ (if p < n then cost (Z p) else 0) := by
  split
  · exact cost_nonneg _
  · exact le_refl 0

theorem costFrom_nonneg (a : ℕ) : 0 ≤ costFrom Z n a := Finset.sum_nonneg fun p _ => ite_cost_nonneg Z n p

/-- A block of 256 keys added to the costs, -/
theorem costFrom_block (j : ℕ) (hj : j < 16) :
    costFrom Z n (256 * j) = costFrom Z n (256 * (j + 1)) + ∑ k : Fin 256, if 256 * j + k.val < n then cost (Z (256 * j + k.val)) else 0 := by
  unfold costFrom
  rw [← Finset.sum_Ico_consecutive _ (by omega : 256 * j ≤ 256 * (j + 1)) (by omega : 256 * (j + 1) ≤ 4096), add_comm]
  congr 1
  rw [Finset.sum_Ico_eq_sum_range, show 256 * (j + 1) - 256 * j = 256 by omega]
  exact (Fin.sum_univ_eq_sum_range (fun k => if 256 * j + k < n then cost (Z (256 * j + k)) else 0) 256).symm

/-- and to the weighted values. -/
theorem mixFrom_block (j : ℕ) (hj : j < 16) :
    mixFrom Z v n (256 * j) = mixFrom Z v n (256 * (j + 1)) + ∑ k : Fin 256, weight Z n (256 * j + k.val) * v (256 * j + k.val) := by
  unfold mixFrom
  rw [← Finset.sum_Ico_consecutive _ (by omega : 256 * j ≤ 256 * (j + 1)) (by omega : 256 * (j + 1) ≤ 4096), add_comm]
  congr 1
  rw [Finset.sum_Ico_eq_sum_range, show 256 * (j + 1) - 256 * j = 256 by omega]
  exact (Fin.sum_univ_eq_sum_range (fun k => weight Z n (256 * j + k) * v (256 * j + k)) 256).symm

/-- The costs after a key of a block: those of the block's later keys and those of the later blocks. -/
theorem costFrom_after (j : ℕ) (hj : j < 16) (k : Fin 256) :
    costFrom Z n (256 * j + k.val + 1) = costFrom Z n (256 * (j + 1))
      + ∑ l : Fin 256, if k.val < l.val then (if 256 * j + l.val < n then cost (Z (256 * j + l.val)) else 0) else 0 := by
  have hk := k.isLt
  unfold costFrom
  rw [← Finset.sum_Ico_consecutive _ (by omega : 256 * j + k.val + 1 ≤ 256 * (j + 1)) (by omega : 256 * (j + 1) ≤ 4096), add_comm]
  congr 1
  rw [Fin.sum_univ_eq_sum_range (fun l => if k.val < l then (if 256 * j + l < n then cost (Z (256 * j + l)) else 0) else 0) 256]
  refine Eq.trans ?_ (Finset.sum_filter (fun l => k.val < l) _)
  refine Finset.sum_bij' (fun p _ => p - 256 * j) (fun l _ => 256 * j + l) ?_ ?_ ?_ ?_ ?_
  · intro p hp
    rw [Finset.mem_Ico] at hp
    rw [Finset.mem_filter, Finset.mem_range]
    omega
  · intro l hl
    rw [Finset.mem_filter, Finset.mem_range] at hl
    rw [Finset.mem_Ico]
    omega
  · intro p hp
    rw [Finset.mem_Ico] at hp
    show 256 * j + (p - 256 * j) = p
    omega
  · intro l hl
    show 256 * j + l - 256 * j = l
    omega
  · intro p hp
    rw [Finset.mem_Ico] at hp
    show _ = if 256 * j + (p - 256 * j) < n then cost (Z (256 * j + (p - 256 * j))) else 0
    rw [show 256 * j + (p - 256 * j) = p by omega]

/-- Nothing comes from the query's place on. -/
theorem costFrom_zero {a : ℕ} (h : n ≤ a) : costFrom Z n a = 0 :=
  Finset.sum_eq_zero fun p hp => if_neg (by rw [Finset.mem_Ico] at hp; omega)

theorem mixFrom_zero {a : ℕ} (h : n ≤ a) : mixFrom Z v n a = 0 :=
  Finset.sum_eq_zero fun p hp => by
    rw [Finset.mem_Ico] at hp
    rw [weight, if_neg (by omega), zero_mul]

/-! ## The layer's attention -/

/-- A key's place in the sequence. -/
def key (p : ℕ) : Fin 4096 := ⟨p % 4096, Nat.mod_lt _ (by decide)⟩

/-- The projection's columns of a head's queries, keys, and of the values. -/
def colQ (h : Fin 4) (d : Fin 64) : Fin 3072 := ⟨1536 + (h.val * 64 + d.val), by omega⟩
def colK (h : Fin 4) (d : Fin 64) : Fin 3072 := ⟨1536 + (256 + (h.val * 64 + d.val)), by omega⟩
def colV (e : Fin 256) : Fin 3072 := ⟨1536 + (512 + e.val), by omega⟩

/-- The head an output column belongs to. -/
def headOf (e : Fin 256) : Fin 4 := ⟨e.val / 64, by omega⟩

variable (P : Fin 16 → Fin 4096 → Fin 3072 → EReal)

/-- The logit of query `n` and key `p`. -/
def logit (b : Fin 16) (h : Fin 4) (n : Fin 4096) (p : ℕ) : EReal :=
  (∑ d : Fin 64, P b n (colQ h d) * P b (key p) (colK h d)) * ((1 / 8 : ℝ) : EReal)

/-- A column of the values. -/
def value (b : Fin 16) (e : Fin 256) (p : ℕ) : EReal := P b (key p) (colV e)

/-- The attention's output before the normalisation. -/
def mix (b : Fin 16) (n : Fin 4096) (e : Fin 256) : EReal := mixFrom (logit P b (headOf e) n) (value P b e) n.val 0

/-- A row divided by the root of its mean square, then weighted. -/
def rmsRow (y : Fin 256 → EReal) (w : EReal) (e : Fin 256) : EReal :=
  y e * Ideal.rsqrt (Ideal.div (∑ k : Fin 256, y k * y k) (Ideal.ofBits .f32 0x43800000#32) + Ideal.ofBits .f32 0x358637BD#32) * w

end Cert.Stick

end
-- ==== Proof.SbKer.lean ====
module

public import proofs.«01_k».proof.Proof.SbModel
public import proofs.«01_k».proof.Proof.SbReal
public import Idealize.ShloMosaic.Lib.Pipeline.ValueKit
public import Idealize.ShloMosaic.Lib.Claim
public import Idealize.ShloMosaic.Lib.Pointwise
public import Idealize.ShloMosaic.Lib.WordCmp

/-!
# What the stick-breaking kernel computes

Each of its steps, entry by entry, on the ideal numbers: the logits and costs in units of `1 / ln 2`, a block's sums of costs by
the triangle, the weights, and the walk over the key blocks from the query's own down to the first.
-/

@[expose] public section

set_option maxRecDepth 16384

noncomputable section

open Idealize.ShloMosaic Idealize.ShloMosaic.TcCoe Idealize.SL.Sem
open Cert.Stick

namespace Cert.SbIdeal.Hand

open Cert.SbIdeal Cert.SbIdeal.Gen

/-- The lane of query `i` of head `h`. -/
def lane (h : Fin 4) (i : Fin 256) : Fin 1024 := ⟨h.val * 256 + i.val, by omega⟩

/-- A column's place in its head. -/
def inHead (e : Fin 256) : Fin 64 := ⟨e.val % 64, by omega⟩

/-! ## The payloads, entry by entry -/

theorem pay17_apply (k : Vec Ideal S1x256x256 .bf16) (w : Vec Ideal S256x1024 .bf16) (r : Fin 256) (l : Fin 1024) :
    k0_pay17 (F := Ideal) k w (ix2 r l) = ∑ x : Fin 256, k (ix3 0 r x) * w (ix2 x l) := by
  pointwise [k0_pay17]

theorem pay87_apply (k : Vec Ideal S1x256x256 .bf16) (w : Vec Ideal S256x1024 .bf16) (r : Fin 256) (l : Fin 1024) :
    k0_pay87 (F := Ideal) k w (ix2 r l) = ∑ x : Fin 256, k (ix3 0 r x) * w (ix2 x l) := by
  pointwise [k0_pay87]

/-- The named constants are what they are named. -/
theorem log2e_eq : Named.named (F := Ideal) κ "log2e" (φ := .f32) 0x3FB8AA3B#32 = ((unit : ℝ) : EReal) := rfl
theorem qk_eq : Named.named (F := Ideal) κ "qk" (φ := .f32) 0x3E38AA3B#32 = ((1 / 8 * unit : ℝ) : EReal) := rfl
theorem mask_eq : Named.named (F := Ideal) κ "mask" (φ := .f32) 0xF149F2CA#32 = (⊥ : EReal) := rfl

/-- The cost as the kernel forms it. -/
theorem soft2 (z : EReal) : max (z * U) 0
    + Ideal.log (1 + FloatOps.exp2 (F := Ideal) (φ := .f32) (z * U - max (z * U) 0 - max (z * U) 0))
      * Named.named (F := Ideal) κ "log2e" (φ := .f32) 0x3FB8AA3B#32 = cost z * U := by
  show max (z * U) 0 + Ideal.log (1 + Ideal.exp2 _) * _ = _
  rw [log2e_eq]
  exact cost_U z

theorem pay18_apply (z : Vec Ideal S256x1024 .f32) (r : Fin 256) (l : Fin 1024) (a : EReal) (hz : z (ix2 r l) = a * U) :
    k0_pay18 (F := Ideal) z (ix2 r l) = cost a * U := by
  pointwise [k0_pay18]
  rw [hz, soft2]

theorem pay19_apply (z : Vec Ideal S256x1024 .f32) (u : Vec Ideal S256x256 .bf16) (r : Fin 256) (l : Fin 1024) :
    k0_pay19 (F := Ideal) z u (ix2 r l) = ∑ x : Fin 256, u (ix2 r x) * k0_pay18 (F := Ideal) z (ix2 x l) := by
  pointwise [k0_pay19]

theorem pay20_apply (z : Vec Ideal S256x1024 .f32) (u : Vec Ideal S256x256 .bf16) (r : Fin 256) (l : Fin 1024) :
    k0_pay20 (F := Ideal) z u (ix2 r l) = Ideal.exp2 (z (ix2 r l) - k0_pay18 (F := Ideal) z (ix2 r l) - k0_pay19 (F := Ideal) z u (ix2 r l)) := by
  pointwise [k0_pay20]
  rfl

theorem pay21_apply (cr : Vec Ideal S1x1024 .f32) (l : Fin 1024) : k0_pay21 (F := Ideal) cr (ix2 0 l) = Ideal.exp2 (0 - cr (ix2 0 l)) := by
  pointwise [k0_pay21]
  rfl

theorem stepCar_apply (u : Vec Ideal S256x256 .bf16) (z : Vec Ideal S256x1024 .f32) (cr : Vec Ideal S1x1024 .f32) (l : Fin 1024) :
    stepCar (F := Ideal) u z cr (ix2 0 l) = cr (ix2 0 l) + k0_pay19 (F := Ideal) z u (ix2 0 l) + k0_pay18 (F := Ideal) z (ix2 0 l) := by
  pointwise [stepCar, k0_pay24]

theorem pay22_apply (z : Vec Ideal S256x1024 .f32) (u : Vec Ideal S256x256 .bf16) (v : Vec Ideal S1x64x256 .bf16) (d : Fin 64) (i : Fin 256) :
    k0_pay22 (F := Ideal) z u v (ix2 d i) = ∑ x : Fin 256, v (ix3 0 d x) * k0_pay20 (F := Ideal) z u (ix2 x (lane 0 i)) := by
  unfold k0_pay22
  generalize k0_pay20 (F := Ideal) z u = w
  pointwise
  refine Finset.sum_congr rfl fun x _ => congrArg (fun l => v (ix3 0 d x) * w (ix2 x l)) (Fin.ext ?_)
  simp [lane]

theorem pay23_apply (V : ℕ → Vec Ideal S1x64x256 .bf16) (w : Vec Ideal S256x1024 .bf16) (lt : Vec Ideal S1x1024 .f32) (a : Vec Ideal S64x256 .f32)
    (ha : ∀ (d : Fin 64) (i : Fin 256), a (ix2 d i) = ∑ x : Fin 256, V 0 (ix3 0 d x) * w (ix2 x (lane 0 i))) (acc : Vec Ideal S256x256 .f32) (e i : Fin 256) :
    k0_pay23 (F := Ideal) w lt a (V 1) (V 2) (V 3) acc (ix2 e i) = acc (ix2 e i)
      + (∑ x : Fin 256, V (headOf e).val (ix3 0 (inHead e) x) * w (ix2 x (lane (headOf e) i))) * lt (ix2 0 (lane (headOf e) i)) := by
  generalize h1 : V 1 = v1
  generalize h2 : V 2 = v2
  generalize h3 : V 3 = v3
  pointwise [k0_pay23]
  simp only [ha]
  subst h1 h2 h3
  refine congrArg (acc (ix2 e i) + ·) ?_
  have key : ∀ (k : ℕ) (d : Fin 64) (l l' : Fin 1024), (headOf e).val = k → d = inHead e → l = lane (headOf e) i → l' = lane (headOf e) i →
      (∑ x : Fin 256, V k (ix3 0 d x) * w (ix2 x l)) * lt (ix2 0 l')
        = (∑ x : Fin 256, V (headOf e).val (ix3 0 (inHead e) x) * w (ix2 x (lane (headOf e) i))) * lt (ix2 0 (lane (headOf e) i)) := by
    rintro k d l l' rfl rfl rfl rfl; rfl
  have he := e.isLt
  split <;> [skip; split <;> [skip; split]]
  all_goals
    refine key _ _ _ _ ?_ (Fin.ext ?_) (Fin.ext ?_) (Fin.ext ?_) <;> simp only [headOf, inHead, lane] <;> first | omega | (simp only [Fin.val_zero]; omega)

theorem stepAcc_apply (V : ℕ → ℕ → Vec Ideal S1x64x256 .bf16) (u : Vec Ideal S256x256 .bf16) (j : ℕ) (z : Vec Ideal S256x1024 .f32) (cr : Vec Ideal S1x1024 .f32)
    (acc : Vec Ideal S256x256 .f32) (e i : Fin 256) :
    stepAcc (F := Ideal) V u j z cr acc (ix2 e i) = acc (ix2 e i)
      + (∑ x : Fin 256, V j (headOf e).val (ix3 0 (inHead e) x) * k0_pay20 (F := Ideal) z u (ix2 x (lane (headOf e) i))) * k0_pay21 (F := Ideal) cr (ix2 0 (lane (headOf e) i)) :=
  pay23_apply (V j) _ _ _ (fun d i => pay22_apply z u (V j 0) d i) acc e i

theorem pay90_apply (mk : IVec S256x1024 1) (z : Vec Ideal S256x1024 .f32) (r : Fin 256) (l : Fin 1024) (p : Prop) [Decidable p] (hp : mk (ix2 r l) = BitVec.ofBool (decide p))
    (a : EReal) (hz : z (ix2 r l) = a * U) : k0_pay90 (F := Ideal) mk z (ix2 r l) = (if p then cost a else 0) * U := by
  pointwise [k0_pay90]
  rw [hz, soft2, hp, WordCmp.select_ofBool]
  by_cases h : p
  · rw [if_pos (decide_eq_true h), if_pos h]
  · rw [if_neg (fun e => h (of_decide_eq_true e)), if_neg h, zero_mul]

theorem pay91_apply (mk : IVec S256x1024 1) (z : Vec Ideal S256x1024 .f32) (u : Vec Ideal S256x256 .bf16) (r : Fin 256) (l : Fin 1024) :
    k0_pay91 (F := Ideal) mk z u (ix2 r l) = ∑ x : Fin 256, u (ix2 r x) * k0_pay90 (F := Ideal) mk z (ix2 x l) := by
  pointwise [k0_pay91]

theorem pay92_apply (mk : IVec S256x1024 1) (z : Vec Ideal S256x1024 .f32) (u : Vec Ideal S256x256 .bf16) (r : Fin 256) (l : Fin 1024) (p : Prop) [Decidable p]
    (hp : mk (ix2 r l) = BitVec.ofBool (decide p)) :
    k0_pay92 (F := Ideal) mk z u (ix2 r l) = if p then Ideal.exp2 (z (ix2 r l) - k0_pay90 (F := Ideal) mk z (ix2 r l) - k0_pay91 (F := Ideal) mk z u (ix2 r l)) else 0 := by
  pointwise [k0_pay92]
  rw [hp, WordCmp.select_ofBool, mask_eq]
  by_cases h : p
  · rw [if_pos (decide_eq_true h), if_pos h]; rfl
  · rw [if_neg (fun e => h (of_decide_eq_true e)), if_neg h]; rfl

theorem pay93_apply (l : Fin 1024) : k0_pay93 (F := Ideal) (ix2 0 l) = (1 : EReal) := by
  pointwise [k0_pay93, k0_pay89]
  show Ideal.exp2 0 = 1
  rw [← EReal.coe_zero, Ideal.exp2_coe]
  simp

theorem diagAcc_apply (V : ℕ → Vec Ideal S1x64x256 .bf16) (w : Vec Ideal S256x1024 .bf16) (e i : Fin 256) :
    k0_pay95 (F := Ideal) w k0_pay93 (k0_pay94 (V 0)) (V 1) (V 2) (V 3) (ix2 e i)
      = ∑ x : Fin 256, V (headOf e).val (ix3 0 (inHead e) x) * w (ix2 x (lane (headOf e) i)) := by
  pointwise [k0_pay95, k0_pay94]
  have key : ∀ (k : ℕ) (d : Fin 64) (l l' : Fin 1024), (headOf e).val = k → d = inHead e → l = lane (headOf e) i →
      (∑ x : Fin 256, V k (ix3 0 d x) * w (ix2 x l)) * k0_pay93 (F := Ideal) (ix2 0 l')
        = ∑ x : Fin 256, V (headOf e).val (ix3 0 (inHead e) x) * w (ix2 x (lane (headOf e) i)) := by
    rintro k d l l' rfl rfl rfl; rw [pay93_apply, mul_one]
  have he := e.isLt
  split <;> [skip; split <;> [skip; split]]
  all_goals
    refine key _ _ _ _ ?_ (Fin.ext ?_) (Fin.ext ?_) <;> simp only [headOf, inHead, lane] <;> omega

theorem diagCar_apply (s cs : Vec Ideal S256x1024 .f32) (l : Fin 1024) :
    k0_pay96 (F := Ideal) k0_pay89 s cs (ix2 0 l) = cs (ix2 0 l) + s (ix2 0 l) := by
  pointwise [k0_pay96, k0_pay89]

theorem pay79_apply (x : Vec Ideal S1x256x256 .bf16) (e i : Fin 256) : k0_pay79 (F := Ideal) x (ix3 0 e i) = x (ix3 0 i e) := by
  pointwise [k0_pay79]

/-- The strict mask. -/
theorem pay86_apply (r : Fin 256) (h : Fin 4) (i : Fin 256) : k0_pay86 (ix2 r (lane h i)) = BitVec.ofBool (decide (r.val < i.val)) := by
  pointwise [k0_pay86]
  have e : IntOp.andi (BitVec.ofNat 32 (lane h i).val) 255#32 = BitVec.ofNat 32 i.val :=
    (by decide +kernel : ∀ (h : Fin 4) (i : Fin 256), IntOp.andi (BitVec.ofNat 32 (h.val * 256 + i.val)) 255#32 = BitVec.ofNat 32 i.val) h i
  rw [e, WordCmp.cmpi_slt_ofNat (by have := r.isLt; omega) (by have := i.isLt; omega)]

/-- A head's rows selected. -/
theorem sel_head (e : Fin 256) (k : ℕ) (hk : k < 4) (a : EReal) :
    Scalar.select (IntOp.andi (IntOp.cmpi .sge (BitVec.ofNat 32 e.val) (BitVec.ofNat 32 (64 * k))) (IntOp.cmpi .slt (BitVec.ofNat 32 e.val) (BitVec.ofNat 32 (64 * k + 64)))) a 0
      = if e.val / 64 = k then a else 0 := by
  have he := e.isLt
  rw [WordCmp.cmpi_sge_ofNat (by omega) (by omega), WordCmp.cmpi_slt_ofNat (by omega) (by omega), WordCmp.andi_ofBool, WordCmp.select_ofBool]
  by_cases h : e.val / 64 = k
  · rw [if_pos h, if_pos]
    rw [Bool.and_eq_true, decide_eq_true_eq, decide_eq_true_eq]
    omega
  · rw [if_neg h, if_neg]
    rw [Bool.and_eq_true, decide_eq_true_eq, decide_eq_true_eq]
    omega

/-- The wide queries, entry by entry. -/
theorem wide_apply (x : Vec Ideal S1x256x256 .bf16) (y : S256x1024.Idx) :
    wide (F := Ideal) x y = if (y 0).val / 64 = (y 1).val / 256 then x (ix3 0 ⟨(y 1).val % 256, by omega⟩ (y 0)) * ((1 / 8 * unit : ℝ) : EReal) else 0 := by
  have fin : ∀ (k : ℕ) (hk : k < 4) (e i : Fin 256), (y 0).val = e.val → (y 1).val = k * 256 + i.val →
      (if e.val / 64 = k then x (ix3 0 i e) * ((1 / 8 * unit : ℝ) : EReal) else 0)
        = if (y 0).val / 64 = (y 1).val / 256 then x (ix3 0 ⟨(y 1).val % 256, by omega⟩ (y 0)) * ((1 / 8 * unit : ℝ) : EReal) else 0 := by
    intro k hk e i h0 h1
    have hi := i.isLt
    have e0 : y 0 = e := Fin.ext h0
    have e1 : (⟨(y 1).val % 256, by omega⟩ : Fin 256) = i := Fin.ext (by show (y 1).val % 256 = i.val; omega)
    rw [e1, h0, e0, show (y 1).val / 256 = k by omega]
  unfold wide
  canon_tiles x' h
  · rw [eq_ix2 x']
    pointwise [k0_pay85, k0_pay80]
    rw [qk_eq]
    exact (sel_head (x' 0) 3 (by omega) _).trans (fin 3 (by omega) (x' 0) (x' 1) h0 (by omega))
  · rw [eq_ix2 x']
    pointwise [k0_pay84, k0_pay83, k0_pay80]
    rw [qk_eq]
    exact (sel_head (x' 0) 2 (by omega) _).trans (fin 2 (by omega) (x' 0) (x' 1) h0 (by omega))
  · rw [eq_ix2 x']
    pointwise [k0_pay82, k0_pay80]
    rw [qk_eq]
    exact (sel_head (x' 0) 1 (by omega) _).trans (fin 1 (by omega) (x' 0) (x' 1) h0 (by omega))
  · rw [eq_ix2 x']
    pointwise [k0_pay81, k0_pay80]
    rw [qk_eq]
    exact (sel_head (x' 0) 0 (by omega) _).trans (fin 0 (by omega) (x' 0) (x' 1) h0 (by omega))

/-- The last step: the accumulator turned back, normalised and weighted. -/
theorem pay2_apply (a : Vec Ideal S256x256 .f32) (w : Vec Ideal S1x256 .f32) (i e : Fin 256) :
    k0_pay2 (F := Ideal) a w (ix3 0 i e) = rmsRow (fun e => a (ix2 e i)) (w (ix2 0 e)) e := by
  pointwise [k0_pay2]
  rfl

end Cert.SbIdeal.Hand

end
-- ==== Proof.SbWalk.lean ====
module

public import proofs.«01_k».proof.Proof.SbKer

/-!
# The walk over the key blocks

After the blocks from `j` on the accumulator holds their weighted values and the carried row their costs. The query's own
block makes it so, each step takes it one block down, and at block nought the accumulator is the attention's output.
-/

@[expose] public section

set_option maxRecDepth 16384

noncomputable section

open Idealize.ShloMosaic Idealize.ShloMosaic.TcCoe Idealize.SL.Sem
open Cert.Stick

namespace Cert.SbIdeal.Hand

open Cert.SbIdeal Cert.SbIdeal.Gen

/-- The place of query `i` of block `q`. -/
def query (q : Fin 16) (i : Fin 256) : Fin 4096 := ⟨256 * q.val + i.val, by omega⟩

/-- The columns of the projection the kernel's blocks of queries, keys and values are. -/
def blkQ (r : Fin 256) : Fin 3072 := ⟨1536 + r.val, by omega⟩
def blkK (r : Fin 256) : Fin 3072 := ⟨1536 + (256 + r.val), by omega⟩

variable (P : Fin 16 → Fin 4096 → Fin 3072 → EReal) (b : Fin 16) (q : Fin 16)
variable (K : ℕ → Vec Ideal S1x256x256 .bf16) (V : ℕ → ℕ → Vec Ideal S1x64x256 .bf16) (wq : Vec Ideal S256x1024 .bf16) (ut : Vec Ideal S256x256 .bf16)

/-- What the blocks are. -/
structure Blocks : Prop where
  keys : ∀ j < 16, ∀ r x : Fin 256, K j (ix3 0 r x) = P b (key (256 * j + r.val)) (blkK x)
  values : ∀ j < 16, ∀ e r : Fin 256, V j (headOf e).val (ix3 0 (inHead e) r) = value P b e (256 * j + r.val)
  queries : ∀ (x : Fin 256) (h : Fin 4) (i : Fin 256), wq (ix2 x (lane h i))
    = if x.val / 64 = h.val then P b (query q i) (blkQ x) * ((1 / 8 * unit : ℝ) : EReal) else 0
  tri : ∀ r x : Fin 256, ut (ix2 r x) = if r.val < x.val then 1 else 0

variable {P b q K V wq ut}

/-- The logits of a query. -/
local notation "L" => logit P b

/-- A sum over a head's rows. -/
theorem sum_head (h : Fin 4) (f : Fin 256 → EReal) :
    (∑ x : Fin 256, if x.val / 64 = h.val then f x else 0) = ∑ d : Fin 64, f ⟨h.val * 64 + d.val, by omega⟩ := by
  rw [← Finset.sum_filter]
  refine Finset.sum_bij' (fun x _ => (⟨x.val % 64, by omega⟩ : Fin 64)) (fun d _ => (⟨h.val * 64 + d.val, by omega⟩ : Fin 256)) ?_ ?_ ?_ ?_ ?_
  · intro x _; exact Finset.mem_univ _
  · intro d _
    rw [Finset.mem_filter]
    refine ⟨Finset.mem_univ _, ?_⟩
    show (h.val * 64 + d.val) / 64 = h.val
    omega
  · intro x hx
    have := (Finset.mem_filter.mp hx).2
    refine Fin.ext ?_
    show h.val * 64 + x.val % 64 = x.val
    omega
  · intro d _
    refine Fin.ext ?_
    show (h.val * 64 + d.val) % 64 = d.val
    omega
  · intro x hx
    have := (Finset.mem_filter.mp hx).2
    refine congrArg f (Fin.ext ?_)
    show x.val = h.val * 64 + x.val % 64
    omega

/-- A block's keys against the wide queries: the logits, in the kernel's unit. -/
theorem scores (B : Blocks P b q K V wq ut) (j : ℕ) (hj : j < 16) (r : Fin 256) (h : Fin 4) (i : Fin 256) :
    ∑ x : Fin 256, K j (ix3 0 r x) * wq (ix2 x (lane h i)) = L h (query q i) (256 * j + r.val) * U := by
  have e : ∀ x : Fin 256, K j (ix3 0 r x) * wq (ix2 x (lane h i))
      = if x.val / 64 = h.val then P b (query q i) (blkQ x) * P b (key (256 * j + r.val)) (blkK x) * ((1 / 8 * unit : ℝ) : EReal) else 0 := fun x => by
    rw [B.keys j hj, B.queries]
    split
    · rw [← mul_assoc, mul_comm (P b (key (256 * j + r.val)) (blkK x))]
    · rw [mul_zero]
  rw [Finset.sum_congr rfl fun x _ => e x, sum_head, ← sum_mul_real _ _ _ (mul_nonneg (by norm_num) unit_pos.le), EReal.coe_mul, ← mul_assoc]
  rfl

/-- The cost of a key of block `j`, zero from the query on. -/
def costOf (Z : ℕ → EReal) (n j : ℕ) (r : Fin 256) : EReal := if 256 * j + r.val < n then cost (Z (256 * j + r.val)) else 0

/-- The costs of the keys of a block after one of them. -/
def laterCosts (Z : ℕ → EReal) (n j : ℕ) (r : Fin 256) : EReal := ∑ x : Fin 256, if r.val < x.val then costOf Z n j x else 0

theorem laterCosts_nonneg (Z : ℕ → EReal) (n j : ℕ) (r : Fin 256) : 0 ≤ laterCosts Z n j r :=
  Finset.sum_nonneg fun x _ => by
    split
    · exact ite_cost_nonneg Z n _
    · exact le_refl 0

/-- The triangle against a block's costs. -/
theorem tri_sum (B : Blocks P b q K V wq ut) (r : Fin 256) (f : Fin 256 → EReal) :
    ∑ x : Fin 256, ut (ix2 r x) * (f x * U) = (∑ x : Fin 256, if r.val < x.val then f x else 0) * U := by
  refine Eq.trans ?_ (sum_mul_real _ _ unit unit_pos.le).symm
  refine Finset.sum_congr rfl fun x _ => ?_
  rw [B.tri]
  split
  · rw [one_mul]; rfl
  · rw [zero_mul, zero_mul]

/-- The costs of a block from its first key: what the kernel adds to the carried row. -/
theorem carry_eq (Z : ℕ → EReal) (n j : ℕ) (hj : j < 16) :
    costFrom Z n (256 * j) = costFrom Z n (256 * (j + 1)) + laterCosts Z n j 0 + costOf Z n j 0 := by
  have e1 : costFrom Z n (256 * j) = costOf Z n j 0 + costFrom Z n (256 * j + 1) := by
    unfold costFrom
    exact Finset.sum_eq_sum_Ico_succ_bot (by omega) _
  have e2 := costFrom_after Z n j hj 0
  rw [e1, show 256 * j + 1 = 256 * j + (0 : Fin 256).val + 1 from rfl, e2, add_comm]
  rfl

/-- The weight of a key of block `j`, from the block's costs and those carried. -/
theorem weight_eq (Z : ℕ → EReal) (n j : ℕ) (hj : j < 16) (r : Fin 256) (hn : 256 * j + r.val < n) :
    weight Z n (256 * j + r.val) = Ideal.exp (Z (256 * j + r.val) - costOf Z n j r - laterCosts Z n j r)
      * Ideal.exp (0 - costFrom Z n (256 * (j + 1))) := by
  have e2 : costFrom Z n (256 * j + r.val + 1) = costFrom Z n (256 * (j + 1)) + laterCosts Z n j r := costFrom_after Z n j hj r
  rw [weight, if_pos hn, e2, add_comm (costFrom Z n _), sub_add_costs _ _ _ (laterCosts_nonneg Z n j r) (costFrom_nonneg Z n _),
    exp_sub _ _ (less_cost _ _ (laterCosts_nonneg Z n j r)) (costFrom_nonneg Z n _)]
  unfold costOf
  rw [if_pos hn]

variable (P b q) in
/-- What is held after the blocks from `j` on. -/
structure Good (j : ℕ) (acc : Vec Ideal S256x256 .f32) (cr : Vec Ideal S1x1024 .f32) : Prop where
  acc_eq : ∀ e i : Fin 256, acc (ix2 e i) = mixFrom (L (headOf e) (query q i)) (value P b e) (query q i).val (256 * j)
  cr_eq : ∀ (h : Fin 4) (i : Fin 256), cr (ix2 0 (lane h i)) = costFrom (L h (query q i)) (query q i).val (256 * j) * U

/-- The score block holds the logits. -/
theorem score_eq (B : Blocks P b q K V wq ut) (j : ℕ) (hj : j < 16) (r : Fin 256) (h : Fin 4) (i : Fin 256) :
    score K wq j (ix2 r (lane h i)) = L h (query q i) (256 * j + r.val) * U := by
  unfold score
  rw [pay17_apply, scores B j hj]

/-- The costs of a block below the query's. -/
theorem below_cost (B : Blocks P b q K V wq ut) (j : ℕ) (hj : j < q.val) (r : Fin 256) (h : Fin 4) (i : Fin 256) :
    k0_pay18 (F := Ideal) (score K wq j) (ix2 r (lane h i)) = costOf (L h (query q i)) (query q i).val j r * U := by
  have hq := q.isLt
  rw [pay18_apply _ _ _ _ (score_eq B j (by omega) r h i), costOf, if_pos (by show 256 * j + r.val < 256 * q.val + i.val; have := r.isLt; omega)]

/-- and their sums by the triangle. -/
theorem below_sum (B : Blocks P b q K V wq ut) (j : ℕ) (hj : j < q.val) (r : Fin 256) (h : Fin 4) (i : Fin 256) :
    k0_pay19 (F := Ideal) (score K wq j) ut (ix2 r (lane h i)) = laterCosts (L h (query q i)) (query q i).val j r * U := by
  rw [pay19_apply, Finset.sum_congr rfl fun x _ => congrArg (ut (ix2 r x) * ·) (below_cost B j hj x h i)]
  exact tri_sum B r _

/-- The exponential a weight begins with, from numbers in the kernel's unit. -/
theorem exp2_sub2 (a c s : EReal) : Ideal.exp2 (a * U - c * U - s * U) = Ideal.exp (a - c - s) := by
  rw [← exp2_sub]
  unfold U
  rw [sub_mul_real _ unit_pos.le]

/-- One step down. -/
theorem good_step (B : Blocks P b q K V wq ut) (j : ℕ) (hj : j < q.val) (acc : Vec Ideal S256x256 .f32) (cr : Vec Ideal S1x1024 .f32)
    (G : Good P b q (j + 1) acc cr) : Good P b q j (stepAcc V ut j (score K wq j) cr acc) (stepCar ut (score K wq j) cr) := by
  have hq := q.isLt
  refine ⟨fun e i => ?_, fun h i => ?_⟩
  · have hs : ∀ x : Fin 256, V j (headOf e).val (ix3 0 (inHead e) x) * k0_pay20 (F := Ideal) (score K wq j) ut (ix2 x (lane (headOf e) i))
        = value P b e (256 * j + x.val) * Ideal.exp (L (headOf e) (query q i) (256 * j + x.val) - costOf (L (headOf e) (query q i)) (query q i).val j x
            - laterCosts (L (headOf e) (query q i)) (query q i).val j x) := fun x => by
      rw [B.values j (by omega), pay20_apply, score_eq B j (by omega), below_cost B j hj, below_sum B j hj, exp2_sub2]
    have hl : k0_pay21 (F := Ideal) cr (ix2 0 (lane (headOf e) i)) = Ideal.exp (0 - costFrom (L (headOf e) (query q i)) (query q i).val (256 * (j + 1))) := by
      rw [pay21_apply, G.cr_eq, ← exp2_sub, zero_mul]
    obtain ⟨E, hE, eE⟩ := exp_neg_real _ (costFrom_nonneg (L (headOf e) (query q i)) (query q i).val (256 * (j + 1)))
    rw [stepAcc_apply, G.acc_eq, Finset.sum_congr rfl fun x _ => hs x, hl, mixFrom_block _ _ _ j (by omega)]
    refine congrArg (_ + ·) ?_
    rw [eE, sum_mul_real _ _ E hE]
    refine Finset.sum_congr rfl fun x _ => ?_
    rw [weight_eq _ _ j (by omega) x (by show 256 * j + x.val < 256 * q.val + i.val; have := x.isLt; omega), eE, mul_assoc, mul_comm]
  · rw [stepCar_apply, G.cr_eq, below_sum B j hj, below_cost B j hj, carry_eq _ _ j (by omega)]
    unfold U
    rw [add_mul_real _ unit_pos.le, add_mul_real _ unit_pos.le]

/-- The query's own block. -/
theorem good_diag (B : Blocks P b q K V wq ut) : Good P b q q.val (diag K V wq ut q.val).acc (diag K V wq ut q.val).cr := by
  have hq := q.isLt
  have hz : ∀ (r : Fin 256) (h : Fin 4) (i : Fin 256), k0_pay87 (F := Ideal) (K q.val) wq (ix2 r (lane h i)) = L h (query q i) (256 * q.val + r.val) * U :=
    fun r h i => by rw [pay87_apply, scores B q.val hq]
  have hm : ∀ (r : Fin 256) (h : Fin 4) (i : Fin 256), k0_pay86 (ix2 r (lane h i)) = BitVec.ofBool (decide (256 * q.val + r.val < (query q i).val)) := fun r h i => by
    rw [pay86_apply]
    refine congrArg BitVec.ofBool (decide_eq_decide.mpr ?_)
    show r.val < i.val ↔ 256 * q.val + r.val < 256 * q.val + i.val
    omega
  have hc : ∀ (r : Fin 256) (h : Fin 4) (i : Fin 256), k0_pay90 (F := Ideal) k0_pay86 (k0_pay87 (K q.val) wq) (ix2 r (lane h i))
      = costOf (L h (query q i)) (query q i).val q.val r * U := fun r h i => pay90_apply _ _ _ _ _ (hm r h i) _ (hz r h i)
  have hs : ∀ (r : Fin 256) (h : Fin 4) (i : Fin 256), k0_pay91 (F := Ideal) k0_pay86 (k0_pay87 (K q.val) wq) ut (ix2 r (lane h i))
      = laterCosts (L h (query q i)) (query q i).val q.val r * U := fun r h i => by
    rw [pay91_apply, Finset.sum_congr rfl fun x _ => congrArg (ut (ix2 r x) * ·) (hc x h i)]
    exact tri_sum B r _
  have hlast : ∀ i : Fin 256, (query q i).val ≤ 256 * (q.val + 1) := fun i => by
    show 256 * q.val + i.val ≤ _
    have := i.isLt
    omega
  refine ⟨fun e i => ?_, fun h i => ?_⟩
  · have hw : ∀ x : Fin 256, V q.val (headOf e).val (ix3 0 (inHead e) x) * k0_pay92 (F := Ideal) k0_pay86 (k0_pay87 (K q.val) wq) ut (ix2 x (lane (headOf e) i))
        = weight (L (headOf e) (query q i)) (query q i).val (256 * q.val + x.val) * value P b e (256 * q.val + x.val) := fun x => by
      rw [B.values q.val hq, pay92_apply _ _ _ _ _ _ (hm x (headOf e) i)]
      by_cases hn : 256 * q.val + x.val < (query q i).val
      · rw [if_pos hn, hz, hc, hs, exp2_sub2, weight_eq _ _ q.val hq x hn, costFrom_zero _ _ (hlast i), sub_zero, ← EReal.coe_zero, Ideal.exp_coe, Real.exp_zero, EReal.coe_one, mul_one, mul_comm]
      · rw [if_neg hn, mul_zero, weight, if_neg hn, zero_mul]
    refine (diagAcc_apply (V q.val) _ e i).trans ?_
    rw [Finset.sum_congr rfl fun x _ => hw x, mixFrom_block _ _ _ q.val hq, mixFrom_zero _ _ _ (hlast i), zero_add]
  · refine (diagCar_apply _ _ _).trans ?_
    rw [hs, hc, carry_eq _ _ q.val hq, costFrom_zero _ _ (hlast i), zero_add]
    unfold U
    rw [add_mul_real _ unit_pos.le]

/-- Two steps down. -/
theorem good_two (B : Blocks P b q K V wq ut) (k : ℕ) (hk : k + 1 < q.val) (s : St Ideal) (G : Good P b q (k + 2) s.acc s.cr) (hz : s.za = score K wq (k + 1)) :
    Good P b q k (two K V wq ut (k + 1) s).acc (two K V wq ut (k + 1) s).cr := by
  unfold two
  rw [hz]
  exact good_step B k (by omega) _ _ (good_step B (k + 1) hk _ _ G)

/-- The walk holds what it should after every pair of blocks, -/
theorem good_walk (B : Blocks P b q K V wq ut) : ∀ n : ℕ, 2 * n ≤ q.val →
    Good P b q (q.val - 2 * n) (walk K V wq ut q.val n).acc (walk K V wq ut q.val n).cr ∧ (walk K V wq ut q.val n).za = score K wq (q.val - 1 - 2 * n)
  | 0, _ => ⟨good_diag B, rfl⟩
  | n + 1, hn => by
    obtain ⟨G, hz⟩ := good_walk B n (by omega)
    obtain ⟨k, hk⟩ : ∃ k, q.val = 2 * n + 2 + k := ⟨q.val - (2 * n + 2), by omega⟩
    rw [show q.val - 2 * n = k + 2 by omega] at G
    rw [show q.val - 1 - 2 * n = k + 1 by omega] at hz
    have e : walk K V wq ut q.val (n + 1) = two K V wq ut (k + 1) (walk K V wq ut q.val n) := by
      show two K V wq ut (q.val - 1 - 2 * n) _ = _
      rw [show q.val - 1 - 2 * n = k + 1 by omega]
    rw [e, show q.val - 2 * (n + 1) = k by omega, show q.val - 1 - 2 * (n + 1) = k + 1 - 2 by omega]
    exact ⟨good_two B k (by omega) _ G hz, rfl⟩

/-- and at the end the whole of the attention's output. -/
theorem total_eq (B : Blocks P b q K V wq ut) (e i : Fin 256) : total K V wq ut q.val (ix2 e i) = mix P b (query q i) e := by
  obtain ⟨G, hz⟩ := good_walk B (q.val / 2) (by omega)
  unfold total mix
  split
  · next h1 =>
    rw [hz, show q.val - 1 - 2 * (q.val / 2) = 0 by omega]
    rw [show q.val - 2 * (q.val / 2) = 0 + 1 by omega] at G
    exact (good_step B 0 (by omega) _ _ G).acc_eq e i
  · next h1 =>
    rw [show q.val - 2 * (q.val / 2) = 0 by omega] at G
    exact G.acc_eq e i

end Cert.SbIdeal.Hand

end
-- ==== Proof.SbRef.lean ====
module

public import proofs.«01_k».proof.Defs
public import proofs.«01_k».proof.Proof.Gen.SbReferenceIdeal.Read
public import Idealize.ShloMosaic.Lib.Pipeline.ValueKit
public import Idealize.ShloMosaic.Lib.Claim
public import Idealize.ShloMosaic.Lib.Pointwise
public import Idealize.ShloMosaic.Lib.WordCmp
public import proofs.«01_k».proof.Proof.SbReal

@[expose] public section

set_option maxRecDepth 16384

noncomputable section

open Idealize.ShloMosaic Idealize.ShloMosaic.TcCoe Idealize.SL.Sem

namespace Cert.SbReferenceIdeal.Hand

open Cert.SbReferenceIdeal Cert.SbReferenceIdeal.Gen Cert.SbReferenceIdeal.Read

/-- A left fold of additions is a sum. -/
theorem foldl_add {N : ℕ} (g : Fin N → EReal) : ∀ (l : List (Fin N)) (a : EReal), l.foldl (fun r k => r + g k) a = a + (l.map g).sum
  | [], a => by simp
  | k :: l, a => by rw [List.foldl_cons, foldl_add g l, List.map_cons, List.sum_cons, add_assoc]

/-- A sum over a window of the whole last axis, padded behind: the sums of the entries from each place on. -/
theorem sum_from {A B C N M : ℕ} (X : (⟨4, ![A, B, C, N]⟩ : Shape).Idx → EReal)
    (hw : (⟨4, ![A, B, C, N]⟩ : Shape).ReduceWindows (![1, 1, 1, N] : Fin 4 → ℕ) ![1, 1, 1, 1] ![0, 0, 0, 0] ![0, 0, 0, M] ⟨4, ![A, B, C, N]⟩)
    (b : Fin A) (h : Fin B) (n : Fin C) (p : Fin N) :
    Ideal.hostReduceWindowAdd ![1, 1, 1, N] ![1, 1, 1, 1] ![0, 0, 0, 0] ![0, 0, 0, M] hw X 0 (ix4 b h n p)
      = ∑ k : Fin N, if hk : p.val + k.val < N then X (ix4 b h n ⟨p.val + k.val, hk⟩) else (0 : EReal) := by
  unfold Ideal.hostReduceWindowAdd Host.reduceWindow
  dsimp only
  refine (foldl_add (fun k => _) _ _).trans ?_
  rw [zero_add, ← Fin.sum_univ_def]
  refine (Equiv.sum_comp (Shape.rowMajor ⟨4, ![1, 1, 1, N]⟩) _).symm.trans ?_
  rw [sum_idx4]
  simp only [Finset.univ_unique, Finset.sum_singleton, Equiv.symm_apply_apply]
  refine Finset.sum_congr rfl fun k _ => ?_
  have hb := b.isLt
  have hh := h.isLt
  have hn := n.isLt
  by_cases hk : p.val + k.val < N
  · rw [dif_pos hk, dif_pos (fun a => by
      match a with
      | ⟨0, _⟩ => exact ⟨Nat.zero_le _, by show b.val * 1 + 0 - 0 < A; omega⟩
      | ⟨1, _⟩ => exact ⟨Nat.zero_le _, by show h.val * 1 + 0 - 0 < B; omega⟩
      | ⟨2, _⟩ => exact ⟨Nat.zero_le _, by show n.val * 1 + 0 - 0 < C; omega⟩
      | ⟨3, _⟩ => exact ⟨Nat.zero_le _, by show p.val * 1 + k.val - 0 < N; omega⟩)]
    refine congrArg X (funext fun a => Fin.ext ?_)
    match a with
    | ⟨0, _⟩ => show b.val * 1 + 0 - 0 = b.val; omega
    | ⟨1, _⟩ => show h.val * 1 + 0 - 0 = h.val; omega
    | ⟨2, _⟩ => show n.val * 1 + 0 - 0 = n.val; omega
    | ⟨3, _⟩ => show p.val * 1 + k.val - 0 = p.val + k.val; omega
  · rw [dif_neg hk, dif_neg (fun hin => hk (by
      have h3 : p.val * 1 + k.val - 0 < N := (hin (3 : Fin 4)).2
      omega))]

open Cert.Stick

/-- The smooth maximum of a number and zero, as the reference forms it. -/
theorem soft (z : EReal) : max z 0 + Ideal.log1p (Ideal.exp (-FloatOps.absf (F := Ideal) (φ := .f32) z)) = cost z := cost_soft z

variable (P : Fin 16 → Fin 4096 → Fin 3072 → EReal) (x : Vec Ideal S16x4096x3072 .bf16) (hx : ∀ b n k, x (ix3 b n k) = P b n k) (nw : Vec Ideal S256 .f32)

include hx in
/-- The reference's logits. -/
theorem v13_apply (b : Fin 16) (h : Fin 4) (n p : Fin 4096) : val_main_v13 (F := Ideal) x (ix4 b h n p) = logit P b h n p.val := by
  have e8 : Ideal.ofBits FTy.f32 1040187392#32 = (((1 : ℝ) / 8 : ℝ) : EReal) := by
    simp [Ideal.ofBits, Ideal.ieee, -EReal.coe_mul]; norm_num
  pointwise [val_main_v13, val_main_v12, val_main_v11, val_main_v10, val_main_v9, val_main_v8, val_main_v7, val_main_v6, val_main_v5, val_main_v4, val_main_v3, val_main_v2, val_main_v1, val_main_v0, val_main_cst]
  rw [e8, logit]
  refine congrArg (· * _) (Finset.sum_congr rfl fun d _ => ?_)
  rw [hx, hx]
  have ep : key p.val = p := Fin.ext (Nat.mod_eq_of_lt p.isLt)
  rw [ep]
  rfl

include hx in
/-- The logarithm of what a key leaves, zero where it is not before the query. -/
theorem v19_apply (b : Fin 16) (h : Fin 4) (n p : Fin 4096) : val_main_v19 (F := Ideal) x (ix4 b h n p)
    = -(if p.val < n.val then cost (logit P b h n p.val) else 0) := by
  pointwise [val_main_v19, val_main_v18, val_main_call1_v2, val_main_call1_v1, val_main_call1_v0, val_main_cst_0, val_main_v16, val_main_v15, val_main_v14, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v17]
  rw [v13_apply P x hx, WordCmp.cmpi_slt_ofNat (by have := p.isLt; omega) (by have := n.isLt; omega), WordCmp.select_ofBool, neg_neg, if_neg (not_not.mpr rfl), soft]
  by_cases hp : p.val < n.val
  · rw [if_pos (decide_eq_true hp), if_pos hp]
  · rw [if_neg (fun e => hp (of_decide_eq_true e)), if_neg hp, neg_zero]
    exact Ideal.ofBits_zero .f32

include hx in
/-- The logarithm of what the keys from a place on leave. -/
theorem v20_apply (b : Fin 16) (h : Fin 4) (n p : Fin 4096) : val_main_v20 (F := Ideal) x (ix4 b h n p) = -costFrom (logit P b h n) n.val p.val := by
  have e0 : val_main_call2_v0 (F := Ideal) (Shape.Idx.first h_S_) = (0 : EReal) := Ideal.ofBits_zero .f32
  unfold val_main_v20 Host.reduceWindowAdd
  rw [e0]
  generalize hX : val_main_v19 (F := Ideal) x = X
  refine (sum_from X _ b h n p).trans ?_
  subst hX
  have e : ∀ k : Fin 4096, (if hk : p.val + k.val < 4096 then val_main_v19 (F := Ideal) x (ix4 b h n ⟨p.val + k.val, hk⟩) else (0 : EReal))
      = (fun k : ℕ => if p.val + k < 4096 then -(if p.val + k < n.val then cost (logit P b h n (p.val + k)) else 0) else 0) k.val := fun k => by
    by_cases hk : p.val + k.val < 4096
    · rw [dif_pos hk, v19_apply P x hx]; dsimp only; rw [if_pos hk]
    · rw [dif_neg hk]; dsimp only; rw [if_neg hk]
  rw [Finset.sum_congr rfl fun k _ => e k, Fin.sum_univ_eq_sum_range (fun k : ℕ => if p.val + k < 4096 then -(if p.val + k < n.val then cost (logit P b h n (p.val + k)) else 0) else 0) 4096]
  unfold costFrom
  rw [neg_sum _ _ fun p _ => ite_cost_nonneg _ _ p, Finset.sum_Ico_eq_sum_range, ← Finset.sum_filter]
  refine Finset.sum_congr (Finset.ext fun k => ?_) fun _ _ => rfl
  rw [Finset.mem_filter, Finset.mem_range, Finset.mem_range]
  omega

include hx in
/-- The reference's weights. -/
theorem v25_apply (b : Fin 16) (h : Fin 4) (n p : Fin 4096) : val_main_v25 (F := Ideal) x (ix4 b h n p)
    = weight (logit P b h n) n.val p.val := by
  have e21 : val_main_v21 (F := Ideal) x (ix4 b h n p)
      = -costFrom (logit P b h n) n.val p.val - -(if p.val < n.val then cost (logit P b h n p.val) else 0) := by
    rw [val_main_v21_apply, v20_apply P x hx, v19_apply P x hx]
    rfl
  have ec : costFrom (logit P b h n) n.val p.val = (if p.val < n.val then cost (logit P b h n p.val) else 0) + costFrom (logit P b h n) n.val (p.val + 1) := by
    unfold costFrom
    exact Finset.sum_eq_sum_Ico_succ_bot p.isLt _
  pointwise [val_main_v25, val_main_v24, val_main_v23, val_main_v22, val_main_call4_v2, val_main_call4_v1, val_main_call4_v0, val_main_cst_1, val_main_v16, val_main_v15, val_main_v14, val_main_call3_v1, val_main_call3_call0_v11, val_main_call3_call0_v10, val_main_call3_call0_v9, val_main_call3_call0_v8, val_main_call3_call0_v7, val_main_call3_call0_v6, val_main_call3_call0_v5, val_main_call3_call0_v4, val_main_call3_call0_v3, val_main_call3_call0_v2, val_main_call3_call0_v1, val_main_call3_call0_v0, val_main_call3_call0_cst, val_main_call3_v0]
  rw [e21, v13_apply P x hx, WordCmp.cmpi_slt_ofNat (by have := p.isLt; omega) (by have := n.isLt; omega), WordCmp.select_ofBool, if_neg (not_not.mpr rfl), soft, ec]
  unfold weight
  by_cases hp : p.val < n.val
  · rw [if_pos (decide_eq_true hp), if_pos hp, if_pos hp, share_eq _ _ (costFrom_nonneg _ _ _)]
  · rw [if_neg (fun e => hp (of_decide_eq_true e)), if_neg hp]
    exact Ideal.ofBits_zero .f32

include hx in
/-- The reference's attention before the normalisation. -/
theorem v28_apply (b : Fin 16) (n : Fin 4096) (e : Fin 256) : val_main_v28 (F := Ideal) x (ix3 b n e) = mix P b n e := by
  pointwise [val_main_v28, val_main_v27, val_main_v26, val_main_v10, val_main_v9, val_main_v8, val_main_v1, val_main_v0]
  have ek : ∀ p : Fin 4096, val_main_v25 (F := Ideal) x (ix4 b (headOf e) n p) * x (ix3 b p (colV e))
      = (fun p : ℕ => weight (logit P b (headOf e) n) n.val p * value P b e p) p.val := fun p => by
    rw [v25_apply P x hx, hx]
    have ep : key p.val = p := Fin.ext (Nat.mod_eq_of_lt p.isLt)
    dsimp only
    rw [value, ep]
  refine (Finset.sum_congr rfl fun p _ => ek p).trans ?_
  rw [Fin.sum_univ_eq_sum_range (fun p : ℕ => weight (logit P b (headOf e) n) n.val p * value P b e p) 4096]
  unfold mix mixFrom
  rw [Finset.range_eq_Ico]

include hx in
/-- The reference's result. -/
theorem v42_apply (b : Fin 16) (n : Fin 4096) (e : Fin 256) : val_main_v42 (F := Ideal) x nw (ix3 b n e)
    = rmsRow (fun e => mix P b n e) (nw (ix1 e)) e := by
  pointwise [val_main_v42, val_main_v41, val_main_v40, val_main_v39, val_main_v38, val_main_v37, val_main_v36, val_main_v35, val_main_v34, val_main_v33, val_main_v32, val_main_v31, val_main_v30, val_main_v29]
  simp only [v28_apply P x hx]
  have e0 : val_main_cst_2 (F := Ideal) (Shape.Idx.first h_S_) = (0 : EReal) := Ideal.ofBits_zero .f32
  rw [e0, zero_add]
  rfl

end Cert.SbReferenceIdeal.Hand

end
-- ==== Proof.SbValue.lean ====
module

public import proofs.«01_k».proof.Defs
public import proofs.«01_k».proof.Proof.SbPoint
public import proofs.«01_k».proof.Proof.SbWalk
public import proofs.«01_k».proof.Proof.SbRef
public import Idealize.ShloMosaic.Lib.Pipeline.ValueKit
public import Idealize.ShloMosaic.Lib.Claim
public import Idealize.ShloMosaic.Lib.Pointwise

/-!
# The stick-breaking kernel computes its reference

The blocks of a grid point are the projection's queries, keys and values of one batch entry; the walk
over them is the attention's output, and the normalisation after it is the reference's.
-/

@[expose] public section

set_option maxRecDepth 16384

noncomputable section

open Idealize.ShloMosaic Idealize.ShloMosaic.TcCoe Idealize.SL.Sem
open Idealize.ShloMosaic.Pipeline (Dat)
open Cert.Stick

namespace Cert.SbIdeal.Hand

open Cert.SbIdeal Cert.SbIdeal.Gen

variable (m : (ℓ : Loc nD τ sig) → Buf (Elt Ideal) ℓ)

/-- The block of queries of a grid point, and its batch entry. -/
abbrev qOf (t : Fin cfg0.N) : Fin 16 := ⟨(grid0.coords t 1).val, (grid0.coords t 1).isLt⟩
abbrev batchOf (t : Fin cfg0.N) : Fin 16 := ⟨(grid0.coords t 0).val, (grid0.coords t 0).isLt⟩

/-- The projection, and the weights of the normalisation. -/
abbrev proj (c : Dev nD) : Vec Ideal S16x4096x3072 .bf16 := m ((c : Thread nD τ).loc main_arg0)
abbrev norms (c : Dev nD) : Vec Ideal S256 .f32 := m ((c : Thread nD τ).loc main_arg1)

/-- The block of queries, -/
theorem blk0 (c : Dev nD) (t : Fin cfg0.N) (i x : Fin 256) :
    (iblk m c 0 t : Vec Ideal S1x256x256 .bf16) (ix3 0 i x) = proj m c (ix3 (batchOf t) (query (qOf t) i) (blkQ x)) := by
  blk_ext! [iblk, V, idx t, query, blkQ]

/-- of all keys, -/
theorem blk1 (c : Dev nD) (t : Fin cfg0.N) (p : Fin 4096) (x : Fin 256) :
    (iblk m c 1 t : Vec Ideal S1x4096x256 .bf16) (ix3 0 p x) = proj m c (ix3 (batchOf t) p (blkK x)) := by
  blk_ext! [iblk, V, idx t, blkK]

/-- of all values, -/
theorem blk2 (c : Dev nD) (t : Fin cfg0.N) (p : Fin 4096) (x : Fin 256) :
    (iblk m c 2 t : Vec Ideal S1x4096x256 .bf16) (ix3 0 p x) = proj m c (ix3 (batchOf t) p (colV x)) := by
  blk_ext! [iblk, V, idx t, colV]

/-- of the weights, -/
theorem blk3 (c : Dev nD) (t : Fin cfg0.N) (x : Fin 256) :
    (iblk m c 3 t : Vec Ideal S1x256 .f32) (ix2 0 x) = norms m c (ix1 x) := by
  blk_ext! [iblk, V, idx t]

/-- The triangle, as the host hands it over. -/
theorem V_v6 (c : Dev nD) : V m c main_v6
    = (uitofp .bf16 (cmpi .slt (broadcastInDim S256x256 ![0, 1] bcast_S256x1_S256x256_0_1 (broadcastInDim S256x1 ![0] bcast_S256_S256x1_0 (iotaInDim S256 32 0)))
        (broadcastInDim S256x256 ![0, 1] bcast_S1x256_S256x256_0_1 (broadcastInDim S1x256 ![1] bcast_S256_S1x256_1 (iotaInDim S256 32 0)))) : FVec Ideal S256x256 .bf16) := by
  show StableHlo.after hostOps0 _ _ = _
  after_results <;> rfl

/-- and of the triangle. -/
theorem blk4 (c : Dev nD) (t : Fin cfg0.N) (r x : Fin 256) :
    (iblk m c 4 t : Vec Ideal S256x256 .bf16) (ix2 r x) = if r.val < x.val then (1 : EReal) else 0 := by
  have e : (iblk m c 4 t : Vec Ideal S256x256 .bf16) (ix2 r x) = (V m c main_v6 : Vec Ideal S256x256 .bf16) (ix2 r x) := by
    blk_ext [iblk, idx t]
  rw [e, V_v6]
  pointwise
  rw [WordCmp.cmpi_slt_ofNat (by have := r.isLt; omega) (by have := x.isLt; omega)]
  by_cases h : r.val < x.val
  · rw [if_pos h, decide_eq_true h]
    show (((1#1 : BitVec 1).toNat : ℝ) : EReal) = 1
    norm_num
  · rw [if_neg h, decide_eq_false h]
    show (((0#1 : BitVec 1).toNat : ℝ) : EReal) = 0
    norm_num

/-- Key block `j`. -/
theorem kblk_apply (x : Vec Ideal S1x4096x256 .bf16) (j : ℕ) (hj : j < 16) (r e : Fin 256) :
    kblk (F := Ideal) x j (ix3 0 r e) = x (ix3 0 (key (256 * j + r.val)) e) := by
  unfold kblk
  refine congrArg x (funext fun a => Fin.ext ?_)
  match a with
  | ⟨0, _⟩ => rfl
  | ⟨1, _⟩ =>
    show 256 * (j % 16) + 1 * r.val = (256 * j + r.val) % 4096
    omega
  | ⟨2, _⟩ =>
    show 0 + 1 * e.val = e.val
    omega

/-- The turned values of block `j`, one head. -/
theorem vblk_apply (x : Vec Ideal S1x4096x256 .bf16) (j : ℕ) (hj : j < 16) (e r : Fin 256) :
    vblk (turned (F := Ideal) x) j (headOf e).val (ix3 0 (inHead e) r) = x (ix3 0 (key (256 * j + r.val)) e) := by
  have e1 : vblk (turned (F := Ideal) x) j (headOf e).val (ix3 0 (inHead e) r) = turned (F := Ideal) x (ix3 (⟨j, hj⟩ : Fin 16) e r) := by
    unfold vblk
    refine congrArg (turned (F := Ideal) x) (funext fun a => Fin.ext ?_)
    match a with
    | ⟨0, _⟩ =>
      show j % 16 + 1 * 0 = j
      omega
    | ⟨1, _⟩ =>
      show 64 * ((e.val / 64) % 4) + 1 * (e.val % 64) = e.val
      omega
    | ⟨2, _⟩ =>
      show 0 + 1 * r.val = r.val
      omega
  have e2 : inBlk (ix3 (⟨j, hj⟩ : Fin 16) e r) = ix3 0 e r := by blk_ext [inBlk]
  rw [e1]
  unfold turned
  rw [e2, pay79_apply]
  exact kblk_apply x j hj r e

/-- The projection, by coordinates. -/
abbrev P (c : Dev nD) (b : Fin 16) (n : Fin 4096) (k : Fin 3072) : EReal := proj m c (ix3 b n k)

/-- What the blocks of a grid point are. -/
theorem blocks (c : Dev nD) (t : Fin cfg0.N) :
    Blocks (P m c) (batchOf t) (qOf t) (kblk (iblk m c 1 t : Vec Ideal S1x4096x256 .bf16)) (vblk (turned (F := Ideal) (iblk m c 2 t)))
      (wide (F := Ideal) (iblk m c 0 t)) (iblk m c 4 t) where
  keys j hj r x := by rw [kblk_apply _ j hj, blk1]
  values j hj e r := by rw [vblk_apply _ j hj, blk2]; rfl
  queries x h i := by
    have eh : (lane h i).val / 256 = h.val := by unfold lane; have := i.isLt; dsimp only; omega
    have ei : (⟨(lane h i).val % 256, by omega⟩ : Fin 256) = i := Fin.ext (by unfold lane; have := i.isLt; dsimp only; omega)
    refine (wide_apply _ _).trans ?_
    show (if x.val / 64 = (lane h i).val / 256 then (show EReal from (iblk m c 0 t : Vec Ideal S1x256x256 .bf16) (ix3 0 ⟨(lane h i).val % 256, by omega⟩ x)) * ((1 / 8 * unit : ℝ) : EReal) else 0) = _
    rw [eh, ei, blk0]
  tri r x := blk4 m c t r x

/-- The output array after the whole grid is the reference's result. -/
theorem final5 (c : Dev nD) :
    (dats m 0 c).arrAt 5 cfg0.N = Cert.SbReferenceIdeal.Read.val_main_v42 (F := Ideal) (proj m c) (norms m c) := by
  refine (dats m 0 c).arrAt_eq_of_covers 5 _ (by decide +kernel) fun t hf y => ?_
  blk_simp [idx t]
  rw [after_5]
  obtain ⟨a, i, e, rfl⟩ : ∃ (a : Fin 1) (i : Fin 256) (e : Fin 256), y = ix3 a i e := ⟨_, _, _, eq_ix3 y⟩
  obtain rfl : a = 0 := Subsingleton.elim _ _
  have hi : (win0_5.blk t).view.emb (ix3 0 i e) = ix3 (batchOf t) (query (qOf t) i) e := by blk_ext [idx t, query]
  rw [hi, Cert.SbReferenceIdeal.Hand.v42_apply (P m c) _ (fun _ _ _ => rfl)]
  unfold outBlk model
  refine (pay2_apply _ _ i e).trans ?_
  rw [blk3]
  refine congrArg (fun f => rmsRow f _ e) (funext fun e => ?_)
  exact total_eq (blocks m c t) e i

variable (ρ : Dev nD → PrngReg)

/-- The run, with the output array named and the arguments unchanged. -/
theorem run_value : θ_run defs (onTc (τ := τ) (main (F := Ideal))) ⟨m, fun _ => 0, ρ⟩ fun r => ∀ c : Dev nD,
      r.2.mem ((c : Thread nD τ).loc main_v8) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h.1.1 c).1 5, h.2 c⟩) (θ_run_and (run_main m ρ) (unchanged m ρ))

end Cert.SbIdeal.Hand

/-- The stick-breaking attention computes what its reference computes, on the ideal numbers. -/
theorem Cert.Proof.algebraic_sb : Cert.algebraic_SbIdeal_SbReferenceIdeal := by
  pair_intro
  · run_from Cert.SbIdeal.Hand.run_value m g
  · run_from Cert.SbReferenceIdeal.Value.run m' g'
    rw [Cert.SbIdeal.Hand.final5 m c]
    unfold Cert.SbIdeal.Hand.proj Cert.SbIdeal.Hand.norms
    rw [← (hagree c).1, ← (hagree c).2]
    exact Cert.SbReferenceIdeal.Read.val_main_v42_eq m' c

end
-- ==== Proof.InProjValue.lean ====
module

public import proofs.«01_k».proof.Defs
public import proofs.«01_k».proof.Proof.Gen.InProjIdeal.Value
public import proofs.«01_k».proof.Proof.Gen.InProjReferenceIdeal.Read
public import Idealize.ShloMosaic.Lib.Pipeline.ValueKit
public import Idealize.ShloMosaic.Lib.Claim
public import Idealize.ShloMosaic.Lib.Pointwise
public import proofs.«01_k».proof.Proof.Common

@[expose] public section

set_option maxRecDepth 16384

noncomputable section

open Idealize.ShloMosaic Idealize.ShloMosaic.TcCoe Idealize.SL.Sem
open Idealize.ShloMosaic.Pipeline (Dat)
open Cert.Layer

namespace Cert.InProjIdeal.Hand

open Cert.InProjIdeal Cert.InProjIdeal.Gen Cert.InProjIdeal.Value

variable (m : (ℓ : Loc nD τ sig) → Buf (Elt Ideal) ℓ) (ρ : Dev nD → PrngReg)

/-- One normalised element: the value times the inverse root of the row's mean square, times the weight. -/
def rmsE (x : Fin 1024 → EReal) (w : EReal) (d : Fin 1024) : EReal :=
  normE x d * w

/-- The normalised row the kernel forms, entry by entry. -/
theorem pay2_apply (x : Vec Ideal S1x1024x1024 .f32) (w : Vec Ideal S1x1024 .f32) (r : Fin 1024) (d : Fin 1024) :
    k0_pay2 (F := Ideal) x w (ix2 r d) = rmsE (fun k => x (ix3 0 r k)) (w (ix2 0 d)) d := by
  pointwise [k0_pay2]
  rfl

/-- The first block the kernel writes, entry by entry: the row against the weight block. -/
theorem out4_apply (x0 : Vec Ideal S1x1024x1024 .f32) (x1 : Vec Ideal S1x1024 .f32) (x2 : Vec Ideal S1024x3072 .bf16) (x3 : Vec Ideal S8x1024 .bf16)
    (y : S1x1024x3072.Idx) : out0_4 (F := Ideal) x0 x1 x2 x3 y
      = ∑ k : Fin 1024, rmsE (fun k => x0 (ix3 0 (y 1) k)) (x1 (ix2 0 k)) k * x2 (ix2 k (y 2)) := by
  unfold out0_4 k0_pay11
  canon_tiles x h
  all_goals (pointwise [k0_pay3, k0_pay4, k0_pay5, k0_pay6, k0_pay7, k0_pay8, k0_pay9, k0_pay2, rmsE, normE]; blk_point)

/-- The second block the kernel writes, entry by entry: the transposed eight columns. -/
theorem out5_apply (x0 : Vec Ideal S1x1024x1024 .f32) (x1 : Vec Ideal S1x1024 .f32) (x2 : Vec Ideal S1024x3072 .bf16) (x3 : Vec Ideal S8x1024 .bf16)
    (y : S1x8x1024.Idx) : out0_5 (F := Ideal) x0 x1 x2 x3 y
      = ∑ k : Fin 1024, x3 (ix2 (y 1) k) * rmsE (fun k => x0 (ix3 0 (y 2) k)) (x1 (ix2 0 k)) k := by
  unfold out0_5 k0_pay11
  canon_tiles x h
  all_goals (pointwise [k0_pay10, k0_pay1, k0_pay2, rmsE, normE]; blk_point)

/-- Which block each window reads or writes at each grid point. -/
theorem idx : ∀ t : Fin cfg0.N, win0_0.index t = ![(grid0.coords t 0).val, (grid0.coords t 1).val, 0] ∧ win0_1.index t = ![0, 0]
   ∧ win0_2.index t = ![0, 0] ∧ win0_3.index t = ![0, 0]
   ∧ win0_4.index t = ![(grid0.coords t 0).val, (grid0.coords t 1).val, 0] ∧ win0_5.index t = ![(grid0.coords t 0).val, 0, (grid0.coords t 1).val] :=
  (by decide +kernel : ∀ t : Fin grid0.N, _)

open Cert.InProjReferenceIdeal.Read in
/-- The reference's projection, entry by entry. -/
theorem ref_v13 (x : Vec Ideal S16x4096x1024 .f32) (nw : Vec Ideal S1024 .f32) (W : Vec Ideal S1024x3080 .f32) (b : Fin 16) (s : Fin 4096) (n : Fin 3080) :
    val_main_v13 (F := Ideal) x nw W (ix3 b s n)
      = ∑ k : Fin 1024, rmsE (fun k => x (ix3 b s k)) (nw (ix1 k)) k * W (ix2 k n) := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, rmsE, normE]

/-- The weight matrix without its last eight columns, as the host hands it over. -/
theorem V_v4 (c : Dev nD) : V m c main_v4
    = (truncf .bf16 (concatenate S1024x3072 1 [⟨S1024x1024, extractStridedSlice S1024x1024 ![0, 512] (m ((c : Thread nD τ).loc main_arg2)) slices_S1024x3080_S1024x1024_0_512⟩,
        ⟨S1024x512, extractStridedSlice S1024x512 ![0, 0] (m ((c : Thread nD τ).loc main_arg2)) slices_S1024x3080_S1024x512_0_0⟩,
        ⟨S1024x1536, extractStridedSlice S1024x1536 ![0, 1544] (m ((c : Thread nD τ).loc main_arg2)) slices_S1024x3080_S1024x1536_0_1544⟩] concatenates_S1024x1024_S1024x512_S1024x1536_S1024x3072_d1) bitsLt_bf16_f32 : FVec Ideal S1024x3072 .bf16) := by
  show StableHlo.after hostOps0 _ _ = _
  after_results <;> rfl

/-- The last eight columns of the weight matrix, transposed, as the host hands them over. -/
theorem V_v7 (c : Dev nD) : V m c main_v7
    = (shapeCast S1x1024 (m ((c : Thread nD τ).loc main_arg1)) shapeCasts_S1024_S1x1024 : FVec Ideal S1x1024 .f32) := by
  show StableHlo.after hostOps0 _ _ = _
  after_results <;> rfl

/-- The normalisation weight as one row. -/
theorem V_v8 (c : Dev nD) : V m c main_v8
    = (transpose S8x1024 [1, 0] (truncf .bf16 (extractStridedSlice S1024x8 ![0, 1536] (m ((c : Thread nD τ).loc main_arg2)) slices_S1024x3080_S1024x8_0_1536) bitsLt_bf16_f32) transposes_S1024x8_S8x1024_1_0 : FVec Ideal S8x1024 .bf16) := by
  show StableHlo.after hostOps0 _ _ = _
  after_results <;> rfl

/-- The column of the input weight that the printed weight holds at its column `n`: the groups are stored in another
    order, and the eight columns of the step sizes are left out. -/
def colOf (n : Fin 3072) : Fin 3080 :=
  ⟨if n.val < 1024 then n.val + 512 else if n.val < 1536 then n.val - 1024 else n.val + 8, by have := n.isLt; split <;> [skip; split] <;> omega⟩

/-- The row of the array that row `r` of the block of point `t` is. -/
def rowOf (t : Fin cfg0.N) (r : Fin 1024) : Fin 4096 :=
  ⟨(grid0.coords t 1).val * 1024 + r.val, by have h : (grid0.coords t 1).val < 4 := (grid0.coords t 1).isLt; have := r.isLt; omega⟩

/-- The batch entry of a grid point. -/
abbrev batchOf (t : Fin cfg0.N) : Fin 16 := ⟨(grid0.coords t 0).val, (grid0.coords t 0).isLt⟩

/-- The block of the input at a grid point. -/
theorem blk0 (c : Dev nD) (t : Fin cfg0.N) (r k : Fin 1024) :
    (iblk m c 0 t : Vec Ideal S1x1024x1024 .f32) (ix3 0 r k) = (m ((c : Thread nD τ).loc main_arg0) : Vec Ideal S16x4096x1024 .f32) (ix3 (batchOf t) (rowOf t r) k) := by
  blk_ext! [iblk, V, idx t, rowOf, batchOf]

/-- The block of the normalisation weight. -/
theorem blk1 (c : Dev nD) (t : Fin cfg0.N) (k : Fin 1024) :
    (iblk m c 1 t : Vec Ideal S1x1024 .f32) (ix2 0 k) = (m ((c : Thread nD τ).loc main_arg1) : Vec Ideal S1024 .f32) (ix1 k) := by
  blk_ext! [iblk, V, idx t]

/-- The block of the first weight columns. -/
theorem blk2 (c : Dev nD) (t : Fin cfg0.N) (k : Fin 1024) (n : Fin 3072) :
    (iblk m c 2 t : Vec Ideal S1024x3072 .bf16) (ix2 k n) = (m ((c : Thread nD τ).loc main_arg2) : Vec Ideal S1024x3080 .f32) (ix2 k (colOf n)) := by
  have e : (iblk m c 2 t : Vec Ideal S1024x3072 .bf16) (ix2 k n) = (V m c main_v4 : Vec Ideal S1024x3072 .bf16) (ix2 k n) := by
    blk_ext [iblk, idx t]
  rw [e, V_v4]
  pointwise
  split <;> [skip; split] <;> (blk_ext [colOf]; repeat' split) <;> omega

/-- The block of the last eight weight columns. -/
theorem blk3 (c : Dev nD) (t : Fin cfg0.N) (h : Fin 8) (k : Fin 1024) :
    (iblk m c 3 t : Vec Ideal S8x1024 .bf16) (ix2 h k) = (m ((c : Thread nD τ).loc main_arg2) : Vec Ideal S1024x3080 .f32) (ix2 k ⟨1536 + h.val, by omega⟩) := by
  blk_ext! [iblk, V, idx t]

open Cert.InProjReferenceIdeal.Read in
/-- The reference's first result, entry by entry. -/
theorem ref_v20 (x : Vec Ideal S16x4096x1024 .f32) (nw : Vec Ideal S1024 .f32) (W : Vec Ideal S1024x3080 .f32) (b : Fin 16) (s : Fin 4096) (n : Fin 3072) :
    val_main_v20 (F := Ideal) x nw W (ix3 b s n) = val_main_v13 (F := Ideal) x nw W (ix3 b s (colOf n)) := by
  pointwise [val_main_v20, val_main_v19, val_main_v18, val_main_v17, val_main_v15, val_main_v14]
  repeat' split
  all_goals refine congrArg (fun q => val_main_v13 (F := Ideal) x nw W (ix3 b s q)) (Fin.ext ?_)
  all_goals (simp only [colOf]; repeat' split) <;> omega

open Cert.InProjReferenceIdeal.Read in
/-- The reference's second result, entry by entry. -/
theorem ref_v21 (x : Vec Ideal S16x4096x1024 .f32) (nw : Vec Ideal S1024 .f32) (W : Vec Ideal S1024x3080 .f32) (b : Fin 16) (h : Fin 8) (s : Fin 4096) :
    val_main_v21 (F := Ideal) x nw W (ix3 b h s) = val_main_v13 (F := Ideal) x nw W (ix3 b s ⟨1536 + h.val, by omega⟩) := by
  pointwise [val_main_v21, val_main_v16]

/-- The first array after the whole grid is the reference's first result. -/
theorem final4 (c : Dev nD) : (dats m 0 c).arrAt 4 cfg0.N = Cert.InProjReferenceIdeal.Read.val_main_v20 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp [idx t]
  rw [after0_4]
  refine (out4_apply _ _ _ _ _).trans ?_
  obtain ⟨a, r, n, rfl⟩ : ∃ (a : Fin 1) (r : Fin 1024) (n : Fin 3072), y = ix3 a r n := ⟨_, _, _, eq_ix3 y⟩
  have hi : (win0_4.blk t).view.emb (ix3 a r n) = ix3 (batchOf t) (rowOf t r) n := by blk_ext [idx t, rowOf, batchOf]
  rw [hi, ref_v20, ref_v13]
  refine Finset.sum_congr rfl fun k _ => ?_
  refine congrArg₂ _ (congrArg₂ (fun f w => rmsE f w k) (funext fun k => blk0 m c t r k) (blk1 m c t k)) (blk2 m c t k n)

/-- The second array after the whole grid is the reference's second result. -/
theorem final5 (c : Dev nD) : (dats m 0 c).arrAt 5 cfg0.N = Cert.InProjReferenceIdeal.Read.val_main_v21 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp [idx t]
  rw [after0_5]
  refine (out5_apply _ _ _ _ _).trans ?_
  obtain ⟨a, h, r, rfl⟩ : ∃ (a : Fin 1) (h : Fin 8) (r : Fin 1024), y = ix3 a h r := ⟨_, _, _, eq_ix3 y⟩
  have hi : (win0_5.blk t).view.emb (ix3 a h r) = ix3 (batchOf t) h (rowOf t r) := by blk_ext [idx t, rowOf, batchOf]
  rw [hi, ref_v21, ref_v13]
  refine Finset.sum_congr rfl fun k _ => ?_
  rw [mul_comm]
  refine congrArg₂ _ (congrArg₂ (fun f w => rmsE f w k) (funext fun k => blk0 m c t r k) (blk1 m c t k)) (blk3 m c t h k)

end Cert.InProjIdeal.Hand

/-- The input projection computes what its reference computes, on the ideal numbers. -/
theorem Cert.Proof.algebraic_inProj : Cert.algebraic_InProjIdeal_InProjReferenceIdeal := by
  pair_intro
  · run_from Cert.InProjIdeal.Value.run_blocks m g
  · run_from Cert.InProjReferenceIdeal.Value.run m' g'
    rw [Cert.InProjIdeal.Hand.final4 m c, ← (hagree c).1, ← (hagree c).2.1, ← (hagree c).2.2]
    exact Cert.InProjReferenceIdeal.Read.val_main_v20_eq m' c
    rw [Cert.InProjIdeal.Hand.final5 m c]
    exact Cert.InProjReferenceIdeal.Read.val_main_v21_eq _ _ _
end
-- ==== Proof.lean ====
module

public import proofs.«01_k».proof.Defs
public import proofs.«01_k».proof.Proof.Frames
public import proofs.«01_k».proof.Proof.OutFfnValue
public import proofs.«01_k».proof.Proof.SsdValue
public import proofs.«01_k».proof.Proof.SbValue
public import proofs.«01_k».proof.Proof.InProjValue
public import Idealize.ShloMosaic.Adequacy
public import Idealize.ShloMosaic.Init

@[expose] public section

noncomputable section

namespace Cert.Proof

open Idealize.ShloMosaic Idealize.SL.Sem Cert.Kernel

/-- The claims, together. -/
theorem claim : Cert.Claim :=
  ⟨Cert.Kernel.Gen.facts, Cert.KernelIdeal.Gen.facts, Cert.ReferenceIdeal.Gen.facts, Cert.OutFfn.Gen.facts, Cert.OutFfnIdeal.Gen.facts,
    Cert.OutFfnReferenceIdeal.Gen.facts, Cert.InProj.Gen.facts, Cert.InProjIdeal.Gen.facts, Cert.InProjReferenceIdeal.Gen.facts,
    Cert.Sb.Gen.facts, Cert.SbIdeal.Gen.facts, Cert.SbReferenceIdeal.Gen.facts,
    fun m ρ _ => Cert.Kernel.Gen.frame m ρ, fun m ρ _ => Cert.KernelIdeal.Gen.frame m ρ, quiescent_ReferenceIdeal,
    fun m ρ _ => Cert.OutFfn.Gen.frame m ρ, fun m ρ _ => Cert.OutFfnIdeal.Gen.frame m ρ, quiescent_OutFfnReferenceIdeal,
    fun m ρ _ => Cert.InProj.Gen.frame m ρ, fun m ρ _ => Cert.InProjIdeal.Gen.frame m ρ, quiescent_InProjReferenceIdeal,
    fun m ρ _ => Cert.Sb.Hand.frame m ρ, fun m ρ _ => Cert.SbIdeal.Hand.frame m ρ, quiescent_SbReferenceIdeal,
    trivial, algebraic_ssd, trivial, algebraic_outFfn, trivial, algebraic_inProj, preserves_Sb_SbIdeal, algebraic_sb⟩

end Cert.Proof

end
